-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_RefIdeal (m : (ℓ : Loc Cert.RefIdeal.nD Cert.RefIdeal.τ Cert.RefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_RefInIdeal (m : (ℓ : Loc Cert.RefInIdeal.nD Cert.RefInIdeal.τ Cert.RefInIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_RefMlpIdeal (m : (ℓ : Loc Cert.RefMlpIdeal.nD Cert.RefMlpIdeal.τ Cert.RefMlpIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_RefIdeal [hRefIdeal : Cert.RefIdeal.Facts] : Prop :=
  ∀ (m : (ℓ : Loc Cert.RefIdeal.nD Cert.RefIdeal.τ Cert.RefIdeal.sig) → Buf (Elt Ideal) ℓ) (g : Dev Cert.RefIdeal.nD → PrngReg), Pre_RefIdeal m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4)
      ∧ r.2.mem ((c.tc : Thread Cert.RefIdeal.nD Cert.RefIdeal.τ).loc Cert.RefIdeal.main_arg5) = m ((c.tc : Thread Cert.RefIdeal.nD Cert.RefIdeal.τ).loc Cert.RefIdeal.main_arg5)
      ∧ r.2.mem ((c.tc : Thread Cert.RefIdeal.nD Cert.RefIdeal.τ).loc Cert.RefIdeal.main_arg6) = m ((c.tc : Thread Cert.RefIdeal.nD Cert.RefIdeal.τ).loc Cert.RefIdeal.main_arg6)
      ∧ r.2.mem ((c.tc : Thread Cert.RefIdeal.nD Cert.RefIdeal.τ).loc Cert.RefIdeal.main_arg7) = m ((c.tc : Thread Cert.RefIdeal.nD Cert.RefIdeal.τ).loc Cert.RefIdeal.main_arg7)
      ∧ r.2.mem ((c.tc : Thread Cert.RefIdeal.nD Cert.RefIdeal.τ).loc Cert.RefIdeal.main_arg8) = m ((c.tc : Thread Cert.RefIdeal.nD Cert.RefIdeal.τ).loc Cert.RefIdeal.main_arg8)
      ∧ r.2.mem ((c.tc : Thread Cert.RefIdeal.nD Cert.RefIdeal.τ).loc Cert.RefIdeal.main_arg9) = m ((c.tc : Thread Cert.RefIdeal.nD Cert.RefIdeal.τ).loc Cert.RefIdeal.main_arg9))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8)
      ∧ r.2.mem ((c.tc : Thread Cert.Inproj.nD Cert.Inproj.τ).loc Cert.Inproj.main_arg9) = m ((c.tc : Thread Cert.Inproj.nD Cert.Inproj.τ).loc Cert.Inproj.main_arg9)
      ∧ r.2.mem ((c.tc : Thread Cert.Inproj.nD Cert.Inproj.τ).loc Cert.Inproj.main_arg10) = m ((c.tc : Thread Cert.Inproj.nD Cert.Inproj.τ).loc Cert.Inproj.main_arg10)
      ∧ r.2.mem ((c.tc : Thread Cert.Inproj.nD Cert.Inproj.τ).loc Cert.Inproj.main_arg11) = m ((c.tc : Thread Cert.Inproj.nD Cert.Inproj.τ).loc Cert.Inproj.main_arg11))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
      ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
      ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11))
      ∧ r.2.sem = fun _ => 0)

def quiescent_RefInIdeal [hRefInIdeal : Cert.RefInIdeal.Facts] : Prop :=
  ∀ (m : (ℓ : Loc Cert.RefInIdeal.nD Cert.RefInIdeal.τ Cert.RefInIdeal.sig) → Buf (Elt Ideal) ℓ) (g : Dev Cert.RefInIdeal.nD → PrngReg), Pre_RefInIdeal m →
    θ_run (Cert.RefInIdeal.defs (F := Ideal)) (onTc (τ := Cert.RefInIdeal.τ) (Cert.RefInIdeal.main (F := Ideal))) ⟨m, fun _ => 0, g⟩ (fun r => (∀ c : Dev Cert.RefInIdeal.nD,
      r.2.mem ((c.tc : Thread Cert.RefInIdeal.nD Cert.RefInIdeal.τ).loc Cert.RefInIdeal.main_arg0) = m ((c.tc : Thread Cert.RefInIdeal.nD Cert.RefInIdeal.τ).loc Cert.RefInIdeal.main_arg0)
      ∧ r.2.mem ((c.tc : Thread Cert.RefInIdeal.nD Cert.RefInIdeal.τ).loc Cert.RefInIdeal.main_arg1) = m ((c.tc : Thread Cert.RefInIdeal.nD Cert.RefInIdeal.τ).loc Cert.RefInIdeal.main_arg1)
      ∧ r.2.mem ((c.tc : Thread Cert.RefInIdeal.nD Cert.RefInIdeal.τ).loc Cert.RefInIdeal.main_arg2) = m ((c.tc : Thread Cert.RefInIdeal.nD Cert.RefInIdeal.τ).loc Cert.RefInIdeal.main_arg2)
      ∧ r.2.mem ((c.tc : Thread Cert.RefInIdeal.nD Cert.RefInIdeal.τ).loc Cert.RefInIdeal.main_arg3) = m ((c.tc : Thread Cert.RefInIdeal.nD Cert.RefInIdeal.τ).loc Cert.RefInIdeal.main_arg3)
      ∧ r.2.mem ((c.tc : Thread Cert.RefInIdeal.nD Cert.RefInIdeal.τ).loc Cert.RefInIdeal.main_arg4) = m ((c.tc : Thread Cert.RefInIdeal.nD Cert.RefInIdeal.τ).loc Cert.RefInIdeal.main_arg4)
      ∧ r.2.mem ((c.tc : Thread Cert.RefInIdeal.nD Cert.RefInIdeal.τ).loc Cert.RefInIdeal.main_arg5) = m ((c.tc : Thread Cert.RefInIdeal.nD Cert.RefInIdeal.τ).loc Cert.RefInIdeal.main_arg5)
      ∧ r.2.mem ((c.tc : Thread Cert.RefInIdeal.nD Cert.RefInIdeal.τ).loc Cert.RefInIdeal.main_arg6) = m ((c.tc : Thread Cert.RefInIdeal.nD Cert.RefInIdeal.τ).loc Cert.RefInIdeal.main_arg6)
      ∧ r.2.mem ((c.tc : Thread Cert.RefInIdeal.nD Cert.RefInIdeal.τ).loc Cert.RefInIdeal.main_arg7) = m ((c.tc : Thread Cert.RefInIdeal.nD Cert.RefInIdeal.τ).loc Cert.RefInIdeal.main_arg7)
      ∧ r.2.mem ((c.tc : Thread Cert.RefInIdeal.nD Cert.RefInIdeal.τ).loc Cert.RefInIdeal.main_arg8) = m ((c.tc : Thread Cert.RefInIdeal.nD Cert.RefInIdeal.τ).loc Cert.RefInIdeal.main_arg8)
      ∧ r.2.mem ((c.tc : Thread Cert.RefInIdeal.nD Cert.RefInIdeal.τ).loc Cert.RefInIdeal.main_arg9) = m ((c.tc : Thread Cert.RefInIdeal.nD Cert.RefInIdeal.τ).loc Cert.RefInIdeal.main_arg9)
      ∧ r.2.mem ((c.tc : Thread Cert.RefInIdeal.nD Cert.RefInIdeal.τ).loc Cert.RefInIdeal.main_arg10) = m ((c.tc : Thread Cert.RefInIdeal.nD Cert.RefInIdeal.τ).loc Cert.RefInIdeal.main_arg10)
      ∧ r.2.mem ((c.tc : Thread Cert.RefInIdeal.nD Cert.RefInIdeal.τ).loc Cert.RefInIdeal.main_arg11) = m ((c.tc : Thread Cert.RefInIdeal.nD Cert.RefInIdeal.τ).loc Cert.RefInIdeal.main_arg11))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9))
      ∧ r.2.sem = fun _ => 0)

def quiescent_RefMlpIdeal [hRefMlpIdeal : Cert.RefMlpIdeal.Facts] : Prop :=
  ∀ (m : (ℓ : Loc Cert.RefMlpIdeal.nD Cert.RefMlpIdeal.τ Cert.RefMlpIdeal.sig) → Buf (Elt Ideal) ℓ) (g : Dev Cert.RefMlpIdeal.nD → PrngReg), Pre_RefMlpIdeal m →
    θ_run (Cert.RefMlpIdeal.defs (F := Ideal)) (onTc (τ := Cert.RefMlpIdeal.τ) (Cert.RefMlpIdeal.main (F := Ideal))) ⟨m, fun _ => 0, g⟩ (fun r => (∀ c : Dev Cert.RefMlpIdeal.nD,
      r.2.mem ((c.tc : Thread Cert.RefMlpIdeal.nD Cert.RefMlpIdeal.τ).loc Cert.RefMlpIdeal.main_arg0) = m ((c.tc : Thread Cert.RefMlpIdeal.nD Cert.RefMlpIdeal.τ).loc Cert.RefMlpIdeal.main_arg0)
      ∧ r.2.mem ((c.tc : Thread Cert.RefMlpIdeal.nD Cert.RefMlpIdeal.τ).loc Cert.RefMlpIdeal.main_arg1) = m ((c.tc : Thread Cert.RefMlpIdeal.nD Cert.RefMlpIdeal.τ).loc Cert.RefMlpIdeal.main_arg1)
      ∧ r.2.mem ((c.tc : Thread Cert.RefMlpIdeal.nD Cert.RefMlpIdeal.τ).loc Cert.RefMlpIdeal.main_arg2) = m ((c.tc : Thread Cert.RefMlpIdeal.nD Cert.RefMlpIdeal.τ).loc Cert.RefMlpIdeal.main_arg2)
      ∧ r.2.mem ((c.tc : Thread Cert.RefMlpIdeal.nD Cert.RefMlpIdeal.τ).loc Cert.RefMlpIdeal.main_arg3) = m ((c.tc : Thread Cert.RefMlpIdeal.nD Cert.RefMlpIdeal.τ).loc Cert.RefMlpIdeal.main_arg3)
      ∧ r.2.mem ((c.tc : Thread Cert.RefMlpIdeal.nD Cert.RefMlpIdeal.τ).loc Cert.RefMlpIdeal.main_arg4) = m ((c.tc : Thread Cert.RefMlpIdeal.nD Cert.RefMlpIdeal.τ).loc Cert.RefMlpIdeal.main_arg4)
      ∧ r.2.mem ((c.tc : Thread Cert.RefMlpIdeal.nD Cert.RefMlpIdeal.τ).loc Cert.RefMlpIdeal.main_arg5) = m ((c.tc : Thread Cert.RefMlpIdeal.nD Cert.RefMlpIdeal.τ).loc Cert.RefMlpIdeal.main_arg5)
      ∧ r.2.mem ((c.tc : Thread Cert.RefMlpIdeal.nD Cert.RefMlpIdeal.τ).loc Cert.RefMlpIdeal.main_arg6) = m ((c.tc : Thread Cert.RefMlpIdeal.nD Cert.RefMlpIdeal.τ).loc Cert.RefMlpIdeal.main_arg6)
      ∧ r.2.mem ((c.tc : Thread Cert.RefMlpIdeal.nD Cert.RefMlpIdeal.τ).loc Cert.RefMlpIdeal.main_arg7) = m ((c.tc : Thread Cert.RefMlpIdeal.nD Cert.RefMlpIdeal.τ).loc Cert.RefMlpIdeal.main_arg7)
      ∧ r.2.mem ((c.tc : Thread Cert.RefMlpIdeal.nD Cert.RefMlpIdeal.τ).loc Cert.RefMlpIdeal.main_arg8) = m ((c.tc : Thread Cert.RefMlpIdeal.nD Cert.RefMlpIdeal.τ).loc Cert.RefMlpIdeal.main_arg8)
      ∧ r.2.mem ((c.tc : Thread Cert.RefMlpIdeal.nD Cert.RefMlpIdeal.τ).loc Cert.RefMlpIdeal.main_arg9) = m ((c.tc : Thread Cert.RefMlpIdeal.nD Cert.RefMlpIdeal.τ).loc Cert.RefMlpIdeal.main_arg9))
      ∧ r.2.sem = fun _ => 0)

def preserves_Kernel_KernelIdeal : Prop :=
  IdealRules.named_const.Statement Cert.KernelIdeal.κ "mask" .f32 0xF149F2CA#32 ⊥

def algebraic_KernelIdeal_RefIdeal [hKernelIdeal : Cert.KernelIdeal.Facts] [hRefIdeal : Cert.RefIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.RefIdeal.nD Cert.RefIdeal.τ Cert.RefIdeal.sig) → Buf (Elt Ideal) ℓ) (g' : Dev Cert.RefIdeal.nD → PrngReg), Pre_KernelIdeal m →
    (∀ c : Dev Cert.KernelIdeal.nD,
      m' ((c.tc : Thread Cert.RefIdeal.nD Cert.RefIdeal.τ).loc Cert.RefIdeal.main_arg0) = m ((c.tc : Thread Cert.KernelIdeal.nD Cert.KernelIdeal.τ).loc Cert.KernelIdeal.main_arg0)
      ∧ m' ((c.tc : Thread Cert.RefIdeal.nD Cert.RefIdeal.τ).loc Cert.RefIdeal.main_arg1) = m ((c.tc : Thread Cert.KernelIdeal.nD Cert.KernelIdeal.τ).loc Cert.KernelIdeal.main_arg1)
      ∧ m' ((c.tc : Thread Cert.RefIdeal.nD Cert.RefIdeal.τ).loc Cert.RefIdeal.main_arg2) = m ((c.tc : Thread Cert.KernelIdeal.nD Cert.KernelIdeal.τ).loc Cert.KernelIdeal.main_arg2)
      ∧ m' ((c.tc : Thread Cert.RefIdeal.nD Cert.RefIdeal.τ).loc Cert.RefIdeal.main_arg3) = m ((c.tc : Thread Cert.KernelIdeal.nD Cert.KernelIdeal.τ).loc Cert.KernelIdeal.main_arg3)
      ∧ m' ((c.tc : Thread Cert.RefIdeal.nD Cert.RefIdeal.τ).loc Cert.RefIdeal.main_arg4) = m ((c.tc : Thread Cert.KernelIdeal.nD Cert.KernelIdeal.τ).loc Cert.KernelIdeal.main_arg4)
      ∧ m' ((c.tc : Thread Cert.RefIdeal.nD Cert.RefIdeal.τ).loc Cert.RefIdeal.main_arg5) = m ((c.tc : Thread Cert.KernelIdeal.nD Cert.KernelIdeal.τ).loc Cert.KernelIdeal.main_arg5)
      ∧ m' ((c.tc : Thread Cert.RefIdeal.nD Cert.RefIdeal.τ).loc Cert.RefIdeal.main_arg6) = m ((c.tc : Thread Cert.KernelIdeal.nD Cert.KernelIdeal.τ).loc Cert.KernelIdeal.main_arg6)
      ∧ m' ((c.tc : Thread Cert.RefIdeal.nD Cert.RefIdeal.τ).loc Cert.RefIdeal.main_arg7) = m ((c.tc : Thread Cert.KernelIdeal.nD Cert.KernelIdeal.τ).loc Cert.KernelIdeal.main_arg7)
      ∧ m' ((c.tc : Thread Cert.RefIdeal.nD Cert.RefIdeal.τ).loc Cert.RefIdeal.main_arg8) = m ((c.tc : Thread Cert.KernelIdeal.nD Cert.KernelIdeal.τ).loc Cert.KernelIdeal.main_arg8)
      ∧ m' ((c.tc : Thread Cert.RefIdeal.nD Cert.RefIdeal.τ).loc Cert.RefIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.RefIdeal.defs (F := Ideal)) (onTc (τ := Cert.RefIdeal.τ) (Cert.RefIdeal.main (F := Ideal))) ⟨m', fun _ => 0, g'⟩ (fun r => ∀ c : Dev Cert.RefIdeal.nD,
          r.2.mem ((c.tc : Thread Cert.RefIdeal.nD Cert.RefIdeal.τ).loc Cert.RefIdeal.main_v179) = v0 c
          ∧ r.2.mem ((c.tc : Thread Cert.RefIdeal.nD Cert.RefIdeal.τ).loc Cert.RefIdeal.main_arg0) = m' ((c.tc : Thread Cert.RefIdeal.nD Cert.RefIdeal.τ).loc Cert.RefIdeal.main_arg0)
          ∧ r.2.mem ((c.tc : Thread Cert.RefIdeal.nD Cert.RefIdeal.τ).loc Cert.RefIdeal.main_arg1) = m' ((c.tc : Thread Cert.RefIdeal.nD Cert.RefIdeal.τ).loc Cert.RefIdeal.main_arg1)
          ∧ r.2.mem ((c.tc : Thread Cert.RefIdeal.nD Cert.RefIdeal.τ).loc Cert.RefIdeal.main_arg2) = m' ((c.tc : Thread Cert.RefIdeal.nD Cert.RefIdeal.τ).loc Cert.RefIdeal.main_arg2)
          ∧ r.2.mem ((c.tc : Thread Cert.RefIdeal.nD Cert.RefIdeal.τ).loc Cert.RefIdeal.main_arg3) = m' ((c.tc : Thread Cert.RefIdeal.nD Cert.RefIdeal.τ).loc Cert.RefIdeal.main_arg3)
          ∧ r.2.mem ((c.tc : Thread Cert.RefIdeal.nD Cert.RefIdeal.τ).loc Cert.RefIdeal.main_arg4) = m' ((c.tc : Thread Cert.RefIdeal.nD Cert.RefIdeal.τ).loc Cert.RefIdeal.main_arg4)
          ∧ r.2.mem ((c.tc : Thread Cert.RefIdeal.nD Cert.RefIdeal.τ).loc Cert.RefIdeal.main_arg5) = m' ((c.tc : Thread Cert.RefIdeal.nD Cert.RefIdeal.τ).loc Cert.RefIdeal.main_arg5)
          ∧ r.2.mem ((c.tc : Thread Cert.RefIdeal.nD Cert.RefIdeal.τ).loc Cert.RefIdeal.main_arg6) = m' ((c.tc : Thread Cert.RefIdeal.nD Cert.RefIdeal.τ).loc Cert.RefIdeal.main_arg6)
          ∧ r.2.mem ((c.tc : Thread Cert.RefIdeal.nD Cert.RefIdeal.τ).loc Cert.RefIdeal.main_arg7) = m' ((c.tc : Thread Cert.RefIdeal.nD Cert.RefIdeal.τ).loc Cert.RefIdeal.main_arg7)
          ∧ r.2.mem ((c.tc : Thread Cert.RefIdeal.nD Cert.RefIdeal.τ).loc Cert.RefIdeal.main_arg8) = m' ((c.tc : Thread Cert.RefIdeal.nD Cert.RefIdeal.τ).loc Cert.RefIdeal.main_arg8)
          ∧ r.2.mem ((c.tc : Thread Cert.RefIdeal.nD Cert.RefIdeal.τ).loc Cert.RefIdeal.main_arg9) = m' ((c.tc : Thread Cert.RefIdeal.nD Cert.RefIdeal.τ).loc Cert.RefIdeal.main_arg9))

def preserves_Inproj_InprojIdeal : Prop :=
  True

def algebraic_InprojIdeal_RefInIdeal [hInprojIdeal : Cert.InprojIdeal.Facts] [hRefInIdeal : Cert.RefInIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.RefInIdeal.nD Cert.RefInIdeal.τ Cert.RefInIdeal.sig) → Buf (Elt Ideal) ℓ) (g' : Dev Cert.RefInIdeal.nD → PrngReg), Pre_InprojIdeal m →
    (∀ c : Dev Cert.InprojIdeal.nD,
      m' ((c.tc : Thread Cert.RefInIdeal.nD Cert.RefInIdeal.τ).loc Cert.RefInIdeal.main_arg0) = m ((c.tc : Thread Cert.InprojIdeal.nD Cert.InprojIdeal.τ).loc Cert.InprojIdeal.main_arg0)
      ∧ m' ((c.tc : Thread Cert.RefInIdeal.nD Cert.RefInIdeal.τ).loc Cert.RefInIdeal.main_arg1) = m ((c.tc : Thread Cert.InprojIdeal.nD Cert.InprojIdeal.τ).loc Cert.InprojIdeal.main_arg1)
      ∧ m' ((c.tc : Thread Cert.RefInIdeal.nD Cert.RefInIdeal.τ).loc Cert.RefInIdeal.main_arg2) = m ((c.tc : Thread Cert.InprojIdeal.nD Cert.InprojIdeal.τ).loc Cert.InprojIdeal.main_arg2)
      ∧ m' ((c.tc : Thread Cert.RefInIdeal.nD Cert.RefInIdeal.τ).loc Cert.RefInIdeal.main_arg3) = m ((c.tc : Thread Cert.InprojIdeal.nD Cert.InprojIdeal.τ).loc Cert.InprojIdeal.main_arg3)
      ∧ m' ((c.tc : Thread Cert.RefInIdeal.nD Cert.RefInIdeal.τ).loc Cert.RefInIdeal.main_arg4) = m ((c.tc : Thread Cert.InprojIdeal.nD Cert.InprojIdeal.τ).loc Cert.InprojIdeal.main_arg4)
      ∧ m' ((c.tc : Thread Cert.RefInIdeal.nD Cert.RefInIdeal.τ).loc Cert.RefInIdeal.main_arg5) = m ((c.tc : Thread Cert.InprojIdeal.nD Cert.InprojIdeal.τ).loc Cert.InprojIdeal.main_arg5)
      ∧ m' ((c.tc : Thread Cert.RefInIdeal.nD Cert.RefInIdeal.τ).loc Cert.RefInIdeal.main_arg6) = m ((c.tc : Thread Cert.InprojIdeal.nD Cert.InprojIdeal.τ).loc Cert.InprojIdeal.main_arg6)
      ∧ m' ((c.tc : Thread Cert.RefInIdeal.nD Cert.RefInIdeal.τ).loc Cert.RefInIdeal.main_arg7) = m ((c.tc : Thread Cert.InprojIdeal.nD Cert.InprojIdeal.τ).loc Cert.InprojIdeal.main_arg7)
      ∧ m' ((c.tc : Thread Cert.RefInIdeal.nD Cert.RefInIdeal.τ).loc Cert.RefInIdeal.main_arg8) = m ((c.tc : Thread Cert.InprojIdeal.nD Cert.InprojIdeal.τ).loc Cert.InprojIdeal.main_arg8)
      ∧ m' ((c.tc : Thread Cert.RefInIdeal.nD Cert.RefInIdeal.τ).loc Cert.RefInIdeal.main_arg9) = m ((c.tc : Thread Cert.InprojIdeal.nD Cert.InprojIdeal.τ).loc Cert.InprojIdeal.main_arg9)
      ∧ m' ((c.tc : Thread Cert.RefInIdeal.nD Cert.RefInIdeal.τ).loc Cert.RefInIdeal.main_arg10) = m ((c.tc : Thread Cert.InprojIdeal.nD Cert.InprojIdeal.τ).loc Cert.InprojIdeal.main_arg10)
      ∧ m' ((c.tc : Thread Cert.RefInIdeal.nD Cert.RefInIdeal.τ).loc Cert.RefInIdeal.main_arg11) = m ((c.tc : Thread Cert.InprojIdeal.nD Cert.InprojIdeal.τ).loc Cert.InprojIdeal.main_arg11)) →
    ∃ (v0 : (c : Dev Cert.InprojIdeal.nD) → Buf (Elt Ideal) ((c.tc : Thread Cert.InprojIdeal.nD Cert.InprojIdeal.τ).loc Cert.InprojIdeal.main_v5_0)) (v1 : (c : Dev Cert.InprojIdeal.nD) → Buf (Elt Ideal) ((c.tc : Thread Cert.InprojIdeal.nD Cert.InprojIdeal.τ).loc Cert.InprojIdeal.main_v5_1)) (v2 : (c : Dev Cert.InprojIdeal.nD) → Buf (Elt Ideal) ((c.tc : Thread Cert.InprojIdeal.nD Cert.InprojIdeal.τ).loc Cert.InprojIdeal.main_v5_2)) (v3 : (c : Dev Cert.InprojIdeal.nD) → Buf (Elt Ideal) ((c.tc : Thread Cert.InprojIdeal.nD Cert.InprojIdeal.τ).loc Cert.InprojIdeal.main_v5_3)) (v4 : (c : Dev Cert.InprojIdeal.nD) → Buf (Elt Ideal) ((c.tc : Thread Cert.InprojIdeal.nD Cert.InprojIdeal.τ).loc Cert.InprojIdeal.main_v5_4)) (v5 : (c : Dev Cert.InprojIdeal.nD) → Buf (Elt Ideal) ((c.tc : Thread Cert.InprojIdeal.nD Cert.InprojIdeal.τ).loc Cert.InprojIdeal.main_v5_5)) (v6 : (c : Dev Cert.InprojIdeal.nD) → Buf (Elt Ideal) ((c.tc : Thread Cert.InprojIdeal.nD Cert.InprojIdeal.τ).loc Cert.InprojIdeal.main_v5_6)) (v7 : (c : Dev Cert.InprojIdeal.nD) → Buf (Elt Ideal) ((c.tc : Thread Cert.InprojIdeal.nD Cert.InprojIdeal.τ).loc Cert.InprojIdeal.main_v5_7)) (v8 : (c : Dev Cert.InprojIdeal.nD) → Buf (Elt Ideal) ((c.tc : Thread Cert.InprojIdeal.nD Cert.InprojIdeal.τ).loc Cert.InprojIdeal.main_v5_8)) (v9 : (c : Dev Cert.InprojIdeal.nD) → Buf (Elt Ideal) ((c.tc : Thread Cert.InprojIdeal.nD Cert.InprojIdeal.τ).loc Cert.InprojIdeal.main_v5_9)) (v10 : (c : Dev Cert.InprojIdeal.nD) → Buf (Elt Ideal) ((c.tc : Thread Cert.InprojIdeal.nD Cert.InprojIdeal.τ).loc Cert.InprojIdeal.main_v5_10)) (v11 : (c : Dev Cert.InprojIdeal.nD) → Buf (Elt Ideal) ((c.tc : Thread Cert.InprojIdeal.nD Cert.InprojIdeal.τ).loc Cert.InprojIdeal.main_v5_11)) (v12 : (c : Dev Cert.InprojIdeal.nD) → Buf (Elt Ideal) ((c.tc : Thread Cert.InprojIdeal.nD Cert.InprojIdeal.τ).loc Cert.InprojIdeal.main_v5_12)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v5_0) = v0 c
          ∧ r.2.mem ((c.tc : Thread Cert.InprojIdeal.nD Cert.InprojIdeal.τ).loc Cert.InprojIdeal.main_v5_1) = v1 c
          ∧ r.2.mem ((c.tc : Thread Cert.InprojIdeal.nD Cert.InprojIdeal.τ).loc Cert.InprojIdeal.main_v5_2) = v2 c
          ∧ r.2.mem ((c.tc : Thread Cert.InprojIdeal.nD Cert.InprojIdeal.τ).loc Cert.InprojIdeal.main_v5_3) = v3 c
          ∧ r.2.mem ((c.tc : Thread Cert.InprojIdeal.nD Cert.InprojIdeal.τ).loc Cert.InprojIdeal.main_v5_4) = v4 c
          ∧ r.2.mem ((c.tc : Thread Cert.InprojIdeal.nD Cert.InprojIdeal.τ).loc Cert.InprojIdeal.main_v5_5) = v5 c
          ∧ r.2.mem ((c.tc : Thread Cert.InprojIdeal.nD Cert.InprojIdeal.τ).loc Cert.InprojIdeal.main_v5_6) = v6 c
          ∧ r.2.mem ((c.tc : Thread Cert.InprojIdeal.nD Cert.InprojIdeal.τ).loc Cert.InprojIdeal.main_v5_7) = v7 c
          ∧ r.2.mem ((c.tc : Thread Cert.InprojIdeal.nD Cert.InprojIdeal.τ).loc Cert.InprojIdeal.main_v5_8) = v8 c
          ∧ r.2.mem ((c.tc : Thread Cert.InprojIdeal.nD Cert.InprojIdeal.τ).loc Cert.InprojIdeal.main_v5_9) = v9 c
          ∧ r.2.mem ((c.tc : Thread Cert.InprojIdeal.nD Cert.InprojIdeal.τ).loc Cert.InprojIdeal.main_v5_10) = v10 c
          ∧ r.2.mem ((c.tc : Thread Cert.InprojIdeal.nD Cert.InprojIdeal.τ).loc Cert.InprojIdeal.main_v5_11) = v11 c
          ∧ r.2.mem ((c.tc : Thread Cert.InprojIdeal.nD Cert.InprojIdeal.τ).loc Cert.InprojIdeal.main_v5_12) = v12 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
          ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
          ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
          ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11))
      ∧ θ_run (Cert.RefInIdeal.defs (F := Ideal)) (onTc (τ := Cert.RefInIdeal.τ) (Cert.RefInIdeal.main (F := Ideal))) ⟨m', fun _ => 0, g'⟩ (fun r => ∀ c : Dev Cert.RefInIdeal.nD,
          r.2.mem ((c.tc : Thread Cert.RefInIdeal.nD Cert.RefInIdeal.τ).loc Cert.RefInIdeal.main_v95) = v0 c
          ∧ r.2.mem ((c.tc : Thread Cert.RefInIdeal.nD Cert.RefInIdeal.τ).loc Cert.RefInIdeal.main_v96) = v1 c
          ∧ r.2.mem ((c.tc : Thread Cert.RefInIdeal.nD Cert.RefInIdeal.τ).loc Cert.RefInIdeal.main_v97) = v2 c
          ∧ r.2.mem ((c.tc : Thread Cert.RefInIdeal.nD Cert.RefInIdeal.τ).loc Cert.RefInIdeal.main_v98) = v3 c
          ∧ r.2.mem ((c.tc : Thread Cert.RefInIdeal.nD Cert.RefInIdeal.τ).loc Cert.RefInIdeal.main_v99) = v4 c
          ∧ r.2.mem ((c.tc : Thread Cert.RefInIdeal.nD Cert.RefInIdeal.τ).loc Cert.RefInIdeal.main_v100) = v5 c
          ∧ r.2.mem ((c.tc : Thread Cert.RefInIdeal.nD Cert.RefInIdeal.τ).loc Cert.RefInIdeal.main_v101) = v6 c
          ∧ r.2.mem ((c.tc : Thread Cert.RefInIdeal.nD Cert.RefInIdeal.τ).loc Cert.RefInIdeal.main_v90) = v7 c
          ∧ r.2.mem ((c.tc : Thread Cert.RefInIdeal.nD Cert.RefInIdeal.τ).loc Cert.RefInIdeal.main_v103) = v8 c
          ∧ r.2.mem ((c.tc : Thread Cert.RefInIdeal.nD Cert.RefInIdeal.τ).loc Cert.RefInIdeal.main_v105) = v9 c
          ∧ r.2.mem ((c.tc : Thread Cert.RefInIdeal.nD Cert.RefInIdeal.τ).loc Cert.RefInIdeal.main_v107) = v10 c
          ∧ r.2.mem ((c.tc : Thread Cert.RefInIdeal.nD Cert.RefInIdeal.τ).loc Cert.RefInIdeal.main_v109) = v11 c
          ∧ r.2.mem ((c.tc : Thread Cert.RefInIdeal.nD Cert.RefInIdeal.τ).loc Cert.RefInIdeal.main_v111) = v12 c
          ∧ r.2.mem ((c.tc : Thread Cert.RefInIdeal.nD Cert.RefInIdeal.τ).loc Cert.RefInIdeal.main_arg0) = m' ((c.tc : Thread Cert.RefInIdeal.nD Cert.RefInIdeal.τ).loc Cert.RefInIdeal.main_arg0)
          ∧ r.2.mem ((c.tc : Thread Cert.RefInIdeal.nD Cert.RefInIdeal.τ).loc Cert.RefInIdeal.main_arg1) = m' ((c.tc : Thread Cert.RefInIdeal.nD Cert.RefInIdeal.τ).loc Cert.RefInIdeal.main_arg1)
          ∧ r.2.mem ((c.tc : Thread Cert.RefInIdeal.nD Cert.RefInIdeal.τ).loc Cert.RefInIdeal.main_arg2) = m' ((c.tc : Thread Cert.RefInIdeal.nD Cert.RefInIdeal.τ).loc Cert.RefInIdeal.main_arg2)
          ∧ r.2.mem ((c.tc : Thread Cert.RefInIdeal.nD Cert.RefInIdeal.τ).loc Cert.RefInIdeal.main_arg3) = m' ((c.tc : Thread Cert.RefInIdeal.nD Cert.RefInIdeal.τ).loc Cert.RefInIdeal.main_arg3)
          ∧ r.2.mem ((c.tc : Thread Cert.RefInIdeal.nD Cert.RefInIdeal.τ).loc Cert.RefInIdeal.main_arg4) = m' ((c.tc : Thread Cert.RefInIdeal.nD Cert.RefInIdeal.τ).loc Cert.RefInIdeal.main_arg4)
          ∧ r.2.mem ((c.tc : Thread Cert.RefInIdeal.nD Cert.RefInIdeal.τ).loc Cert.RefInIdeal.main_arg5) = m' ((c.tc : Thread Cert.RefInIdeal.nD Cert.RefInIdeal.τ).loc Cert.RefInIdeal.main_arg5)
          ∧ r.2.mem ((c.tc : Thread Cert.RefInIdeal.nD Cert.RefInIdeal.τ).loc Cert.RefInIdeal.main_arg6) = m' ((c.tc : Thread Cert.RefInIdeal.nD Cert.RefInIdeal.τ).loc Cert.RefInIdeal.main_arg6)
          ∧ r.2.mem ((c.tc : Thread Cert.RefInIdeal.nD Cert.RefInIdeal.τ).loc Cert.RefInIdeal.main_arg7) = m' ((c.tc : Thread Cert.RefInIdeal.nD Cert.RefInIdeal.τ).loc Cert.RefInIdeal.main_arg7)
          ∧ r.2.mem ((c.tc : Thread Cert.RefInIdeal.nD Cert.RefInIdeal.τ).loc Cert.RefInIdeal.main_arg8) = m' ((c.tc : Thread Cert.RefInIdeal.nD Cert.RefInIdeal.τ).loc Cert.RefInIdeal.main_arg8)
          ∧ r.2.mem ((c.tc : Thread Cert.RefInIdeal.nD Cert.RefInIdeal.τ).loc Cert.RefInIdeal.main_arg9) = m' ((c.tc : Thread Cert.RefInIdeal.nD Cert.RefInIdeal.τ).loc Cert.RefInIdeal.main_arg9)
          ∧ r.2.mem ((c.tc : Thread Cert.RefInIdeal.nD Cert.RefInIdeal.τ).loc Cert.RefInIdeal.main_arg10) = m' ((c.tc : Thread Cert.RefInIdeal.nD Cert.RefInIdeal.τ).loc Cert.RefInIdeal.main_arg10)
          ∧ r.2.mem ((c.tc : Thread Cert.RefInIdeal.nD Cert.RefInIdeal.τ).loc Cert.RefInIdeal.main_arg11) = m' ((c.tc : Thread Cert.RefInIdeal.nD Cert.RefInIdeal.τ).loc Cert.RefInIdeal.main_arg11))

def preserves_Mlp_MlpIdeal : Prop :=
  True

def algebraic_MlpIdeal_RefMlpIdeal [hMlpIdeal : Cert.MlpIdeal.Facts] [hRefMlpIdeal : Cert.RefMlpIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.RefMlpIdeal.nD Cert.RefMlpIdeal.τ Cert.RefMlpIdeal.sig) → Buf (Elt Ideal) ℓ) (g' : Dev Cert.RefMlpIdeal.nD → PrngReg), Pre_MlpIdeal m →
    (∀ c : Dev Cert.MlpIdeal.nD,
      m' ((c.tc : Thread Cert.RefMlpIdeal.nD Cert.RefMlpIdeal.τ).loc Cert.RefMlpIdeal.main_arg0) = m ((c.tc : Thread Cert.MlpIdeal.nD Cert.MlpIdeal.τ).loc Cert.MlpIdeal.main_arg0)
      ∧ m' ((c.tc : Thread Cert.RefMlpIdeal.nD Cert.RefMlpIdeal.τ).loc Cert.RefMlpIdeal.main_arg1) = m ((c.tc : Thread Cert.MlpIdeal.nD Cert.MlpIdeal.τ).loc Cert.MlpIdeal.main_arg1)
      ∧ m' ((c.tc : Thread Cert.RefMlpIdeal.nD Cert.RefMlpIdeal.τ).loc Cert.RefMlpIdeal.main_arg2) = m ((c.tc : Thread Cert.MlpIdeal.nD Cert.MlpIdeal.τ).loc Cert.MlpIdeal.main_arg2)
      ∧ m' ((c.tc : Thread Cert.RefMlpIdeal.nD Cert.RefMlpIdeal.τ).loc Cert.RefMlpIdeal.main_arg3) = m ((c.tc : Thread Cert.MlpIdeal.nD Cert.MlpIdeal.τ).loc Cert.MlpIdeal.main_arg3)
      ∧ m' ((c.tc : Thread Cert.RefMlpIdeal.nD Cert.RefMlpIdeal.τ).loc Cert.RefMlpIdeal.main_arg4) = m ((c.tc : Thread Cert.MlpIdeal.nD Cert.MlpIdeal.τ).loc Cert.MlpIdeal.main_arg4)
      ∧ m' ((c.tc : Thread Cert.RefMlpIdeal.nD Cert.RefMlpIdeal.τ).loc Cert.RefMlpIdeal.main_arg5) = m ((c.tc : Thread Cert.MlpIdeal.nD Cert.MlpIdeal.τ).loc Cert.MlpIdeal.main_arg5)
      ∧ m' ((c.tc : Thread Cert.RefMlpIdeal.nD Cert.RefMlpIdeal.τ).loc Cert.RefMlpIdeal.main_arg6) = m ((c.tc : Thread Cert.MlpIdeal.nD Cert.MlpIdeal.τ).loc Cert.MlpIdeal.main_arg6)
      ∧ m' ((c.tc : Thread Cert.RefMlpIdeal.nD Cert.RefMlpIdeal.τ).loc Cert.RefMlpIdeal.main_arg7) = m ((c.tc : Thread Cert.MlpIdeal.nD Cert.MlpIdeal.τ).loc Cert.MlpIdeal.main_arg7)
      ∧ m' ((c.tc : Thread Cert.RefMlpIdeal.nD Cert.RefMlpIdeal.τ).loc Cert.RefMlpIdeal.main_arg8) = m ((c.tc : Thread Cert.MlpIdeal.nD Cert.MlpIdeal.τ).loc Cert.MlpIdeal.main_arg8)
      ∧ m' ((c.tc : Thread Cert.RefMlpIdeal.nD Cert.RefMlpIdeal.τ).loc Cert.RefMlpIdeal.main_arg9) = m ((c.tc : Thread Cert.MlpIdeal.nD Cert.MlpIdeal.τ).loc Cert.MlpIdeal.main_arg9)) →
    ∃ (v0 : (c : Dev Cert.MlpIdeal.nD) → Buf (Elt Ideal) ((c.tc : Thread Cert.MlpIdeal.nD Cert.MlpIdeal.τ).loc Cert.MlpIdeal.main_v0)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v0) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9))
      ∧ θ_run (Cert.RefMlpIdeal.defs (F := Ideal)) (onTc (τ := Cert.RefMlpIdeal.τ) (Cert.RefMlpIdeal.main (F := Ideal))) ⟨m', fun _ => 0, g'⟩ (fun r => ∀ c : Dev Cert.RefMlpIdeal.nD,
          r.2.mem ((c.tc : Thread Cert.RefMlpIdeal.nD Cert.RefMlpIdeal.τ).loc Cert.RefMlpIdeal.main_v46) = v0 c
          ∧ r.2.mem ((c.tc : Thread Cert.RefMlpIdeal.nD Cert.RefMlpIdeal.τ).loc Cert.RefMlpIdeal.main_arg0) = m' ((c.tc : Thread Cert.RefMlpIdeal.nD Cert.RefMlpIdeal.τ).loc Cert.RefMlpIdeal.main_arg0)
          ∧ r.2.mem ((c.tc : Thread Cert.RefMlpIdeal.nD Cert.RefMlpIdeal.τ).loc Cert.RefMlpIdeal.main_arg1) = m' ((c.tc : Thread Cert.RefMlpIdeal.nD Cert.RefMlpIdeal.τ).loc Cert.RefMlpIdeal.main_arg1)
          ∧ r.2.mem ((c.tc : Thread Cert.RefMlpIdeal.nD Cert.RefMlpIdeal.τ).loc Cert.RefMlpIdeal.main_arg2) = m' ((c.tc : Thread Cert.RefMlpIdeal.nD Cert.RefMlpIdeal.τ).loc Cert.RefMlpIdeal.main_arg2)
          ∧ r.2.mem ((c.tc : Thread Cert.RefMlpIdeal.nD Cert.RefMlpIdeal.τ).loc Cert.RefMlpIdeal.main_arg3) = m' ((c.tc : Thread Cert.RefMlpIdeal.nD Cert.RefMlpIdeal.τ).loc Cert.RefMlpIdeal.main_arg3)
          ∧ r.2.mem ((c.tc : Thread Cert.RefMlpIdeal.nD Cert.RefMlpIdeal.τ).loc Cert.RefMlpIdeal.main_arg4) = m' ((c.tc : Thread Cert.RefMlpIdeal.nD Cert.RefMlpIdeal.τ).loc Cert.RefMlpIdeal.main_arg4)
          ∧ r.2.mem ((c.tc : Thread Cert.RefMlpIdeal.nD Cert.RefMlpIdeal.τ).loc Cert.RefMlpIdeal.main_arg5) = m' ((c.tc : Thread Cert.RefMlpIdeal.nD Cert.RefMlpIdeal.τ).loc Cert.RefMlpIdeal.main_arg5)
          ∧ r.2.mem ((c.tc : Thread Cert.RefMlpIdeal.nD Cert.RefMlpIdeal.τ).loc Cert.RefMlpIdeal.main_arg6) = m' ((c.tc : Thread Cert.RefMlpIdeal.nD Cert.RefMlpIdeal.τ).loc Cert.RefMlpIdeal.main_arg6)
          ∧ r.2.mem ((c.tc : Thread Cert.RefMlpIdeal.nD Cert.RefMlpIdeal.τ).loc Cert.RefMlpIdeal.main_arg7) = m' ((c.tc : Thread Cert.RefMlpIdeal.nD Cert.RefMlpIdeal.τ).loc Cert.RefMlpIdeal.main_arg7)
          ∧ r.2.mem ((c.tc : Thread Cert.RefMlpIdeal.nD Cert.RefMlpIdeal.τ).loc Cert.RefMlpIdeal.main_arg8) = m' ((c.tc : Thread Cert.RefMlpIdeal.nD Cert.RefMlpIdeal.τ).loc Cert.RefMlpIdeal.main_arg8)
          ∧ r.2.mem ((c.tc : Thread Cert.RefMlpIdeal.nD Cert.RefMlpIdeal.τ).loc Cert.RefMlpIdeal.main_arg9) = m' ((c.tc : Thread Cert.RefMlpIdeal.nD Cert.RefMlpIdeal.τ).loc Cert.RefMlpIdeal.main_arg9))

def Claim : Prop :=
  ∃ (hKernel : Cert.Kernel.Facts) (hKernelIdeal : Cert.KernelIdeal.Facts) (hRefIdeal : Cert.RefIdeal.Facts) (hInproj : Cert.Inproj.Facts) (hInprojIdeal : Cert.InprojIdeal.Facts) (hRefInIdeal : Cert.RefInIdeal.Facts) (hMlp : Cert.Mlp.Facts) (hMlpIdeal : Cert.MlpIdeal.Facts) (hRefMlpIdeal : Cert.RefMlpIdeal.Facts),
    quiescent_Kernel (hKernel := hKernel)
    ∧ quiescent_KernelIdeal (hKernelIdeal := hKernelIdeal)
    ∧ quiescent_RefIdeal (hRefIdeal := hRefIdeal)
    ∧ quiescent_Inproj (hInproj := hInproj)
    ∧ quiescent_InprojIdeal (hInprojIdeal := hInprojIdeal)
    ∧ quiescent_RefInIdeal (hRefInIdeal := hRefInIdeal)
    ∧ quiescent_Mlp (hMlp := hMlp)
    ∧ quiescent_MlpIdeal (hMlpIdeal := hMlpIdeal)
    ∧ quiescent_RefMlpIdeal (hRefMlpIdeal := hRefMlpIdeal)
    ∧ preserves_Kernel_KernelIdeal
    ∧ algebraic_KernelIdeal_RefIdeal (hKernelIdeal := hKernelIdeal) (hRefIdeal := hRefIdeal)
    ∧ preserves_Inproj_InprojIdeal
    ∧ algebraic_InprojIdeal_RefInIdeal (hInprojIdeal := hInprojIdeal) (hRefInIdeal := hRefInIdeal)
    ∧ preserves_Mlp_MlpIdeal
    ∧ algebraic_MlpIdeal_RefMlpIdeal (hMlpIdeal := hMlpIdeal) (hRefMlpIdeal := hRefMlpIdeal)
-- ==== Kernel.lean ====
abbrev S8 : Shape := ⟨1, ![8]⟩
abbrev S32768x512 : Shape := ⟨2, ![32768, 512]⟩
abbrev S128x512x256 : Shape := ⟨3, ![128, 512, 256]⟩
abbrev S16x8x512 : Shape := ⟨3, ![16, 8, 512]⟩
abbrev S32768x256 : Shape := ⟨2, ![32768, 256]⟩
abbrev S256x128x128 : Shape := ⟨3, ![256, 128, 128]⟩
abbrev S2048x512 : Shape := ⟨2, ![2048, 512]⟩
abbrev S8x512x256 : Shape := ⟨3, ![8, 512, 256]⟩
abbrev S1x8x512 : Shape := ⟨3, ![1, 8, 512]⟩
abbrev S2048x256 : Shape := ⟨2, ![2048, 256]⟩
abbrev S16x128x128 : Shape := ⟨3, ![16, 128, 128]⟩
abbrev S8x2048x128 : Shape := ⟨3, ![8, 2048, 128]⟩
abbrev S8x8x96x256 : Shape := ⟨4, ![8, 8, 96, 256]⟩
abbrev S256x256 : Shape := ⟨2, ![256, 256]⟩
abbrev S5x8x256x256 : Shape := ⟨4, ![5, 8, 256, 256]⟩
abbrev S2x192x256 : Shape := ⟨3, ![2, 192, 256]⟩
abbrev S2x16x96x256 : Shape := ⟨4, ![2, 16, 96, 256]⟩
abbrev S5x192x256 : Shape := ⟨3, ![5, 192, 256]⟩
abbrev S256x128 : Shape := ⟨2, ![256, 128]⟩
abbrev S8x256 : Shape := ⟨2, ![8, 256]⟩
abbrev S8x128 : Shape := ⟨2, ![8, 128]⟩
abbrev S192x256 : Shape := ⟨2, ![192, 256]⟩
abbrev S64x128 : Shape := ⟨2, ![64, 128]⟩
abbrev S16x256 : Shape := ⟨2, ![16, 256]⟩
abbrev S1 : Shape := ⟨1, ![1]⟩
abbrev S1x192x256 : Shape := ⟨3, ![1, 192, 256]⟩
abbrev S1x64x128 : Shape := ⟨3, ![1, 64, 128]⟩
abbrev S64x256 : Shape := ⟨2, ![64, 256]⟩
abbrev S1x1x64x256 : Shape := ⟨4, ![1, 1, 64, 256]⟩
abbrev S1x1x16x256 : Shape := ⟨4, ![1, 1, 16, 256]⟩
abbrev S1x256 : Shape := ⟨2, ![1, 256]⟩
abbrev S1x64x256 : Shape := ⟨3, ![1, 64, 256]⟩
abbrev S256 : Shape := ⟨1, ![256]⟩
abbrev S1x256x128 : Shape := ⟨3, ![1, 256, 128]⟩
abbrev S1x8x128 : Shape := ⟨3, ![1, 8, 128]⟩
abbrev S1x1x256x256 : Shape := ⟨4, ![1, 1, 256, 256]⟩
abbrev S128x128 : Shape := ⟨2, ![128, 128]⟩
abbrev S128x256 : Shape := ⟨2, ![128, 256]⟩
abbrev S1x128x256 : Shape := ⟨3, ![1, 128, 256]⟩
abbrev S192x128 : Shape := ⟨2, ![192, 128]⟩
abbrev S1x1x80x256 : Shape := ⟨4, ![1, 1, 80, 256]⟩
abbrev S80x256 : Shape := ⟨2, ![80, 256]⟩

abbrev nBuf : Space → Nat
  | .hbm => 12
  | .vmem => 25
  | .smem => 3
  | _ => 0

abbrev bufTy : (tb : Table) → Fin (tcTables nBuf tb) → BufTy
  | .hbm, ⟨0, _⟩ => ⟨S8, .f32⟩
  | .hbm, ⟨1, _⟩ => ⟨S8, .f32⟩
  | .hbm, ⟨2, _⟩ => ⟨S8, .f32⟩
  | .hbm, ⟨3, _⟩ => ⟨S32768x512, .bf16⟩
  | .hbm, ⟨4, _⟩ => ⟨S32768x512, .bf16⟩
  | .hbm, ⟨5, _⟩ => ⟨S128x512x256, .bf16⟩
  | .hbm, ⟨6, _⟩ => ⟨S16x8x512, .f32⟩
  | .hbm, ⟨7, _⟩ => ⟨S32768x512, .bf16⟩
  | .hbm, ⟨8, _⟩ => ⟨S32768x256, .bf16⟩
  | .hbm, ⟨9, _⟩ => ⟨S256x128x128, .bf16⟩
  | .hbm, ⟨10, _⟩ => ⟨S32768x512, .bf16⟩
  | .hbm, ⟨11, _⟩ => ⟨S32768x512, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S8x512x256, .bf16⟩
  | .local _ .vmem, ⟨5, _⟩ => ⟨S8x512x256, .bf16⟩
  | .local _ .vmem, ⟨6, _⟩ => ⟨S1x8x512, .f32⟩
  | .local _ .vmem, ⟨7, _⟩ => ⟨S1x8x512, .f32⟩
  | .local _ .vmem, ⟨8, _⟩ => ⟨S2048x512, .bf16⟩
  | .local _ .vmem, ⟨9, _⟩ => ⟨S2048x512, .bf16⟩
  | .local _ .vmem, ⟨10, _⟩ => ⟨S2048x256, .bf16⟩
  | .local _ .vmem, ⟨11, _⟩ => ⟨S2048x256, .bf16⟩
  | .local _ .vmem, ⟨12, _⟩ => ⟨S16x128x128, .bf16⟩
  | .local _ .vmem, ⟨13, _⟩ => ⟨S16x128x128, .bf16⟩
  | .local _ .vmem, ⟨14, _⟩ => ⟨S2048x512, .bf16⟩
  | .local _ .vmem, ⟨15, _⟩ => ⟨S2048x512, .bf16⟩
  | .local _ .vmem, ⟨16, _⟩ => ⟨S2048x512, .bf16⟩
  | .local _ .vmem, ⟨17, _⟩ => ⟨S2048x512, .bf16⟩
  | .local _ .vmem, ⟨18, _⟩ => ⟨S8x2048x128, .bf16⟩
  | .local _ .vmem, ⟨19, _⟩ => ⟨S8x8x96x256, .bf16⟩
  | .local _ .vmem, ⟨20, _⟩ => ⟨S256x256, .f32⟩
  | .local _ .vmem, ⟨21, _⟩ => ⟨S5x8x256x256, .f32⟩
  | .local _ .vmem, ⟨22, _⟩ => ⟨S2x192x256, .f32⟩
  | .local _ .vmem, ⟨23, _⟩ => ⟨S2x16x96x256, .bf16⟩
  | .local _ .vmem, ⟨24, _⟩ => ⟨S5x192x256, .f32⟩
  | .local _ .smem, ⟨0, _⟩ => ⟨S8, .f32⟩
  | .local _ .smem, ⟨1, _⟩ => ⟨S8, .f32⟩
  | .local _ .smem, ⟨2, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![16], ![false]⟩

def k0_off1 (i : grid0.Coords) (c0_i32_241 : BitVec 32) : Fin 3 → Nat :=
  let arg0 : BitVec 32 := BitVec.ofNat 32 (i 0).val
  let c0_i32 : BitVec 32 := 0#32
  let v0 : BitVec 32 := Scalar.minsi arg0 c0_i32
  let v274 : BitVec 32 := Scalar.addi c0_i32_241 v0
  let v275 : Index := Scalar.indexCast v274
  let c0_242 : Index := 0#32
  let c0_243 : Index := 0#32
  ![v275.toNat, 0, 0]
def k0_off2 (i : grid0.Coords) (c0_i32_584 : BitVec 32) : Fin 4 → Nat :=
  let c0_585 : Index := 0#32
  let arg0 : BitVec 32 := BitVec.ofNat 32 (i 0).val
  let c0_i32 : BitVec 32 := 0#32
  let v0 : BitVec 32 := Scalar.minsi arg0 c0_i32
  let v756 : BitVec 32 := Scalar.addi c0_i32_584 v0
  let v757 : Index := Scalar.indexCast v756
  let c0_586 : Index := 0#32
  let c0_587 : Index := 0#32
  ![0, v757.toNat, 0, 0]
def k0_off3 (i : grid0.Coords) (c1_i32_663 : BitVec 32) : Fin 3 → Nat :=
  let arg0 : BitVec 32 := BitVec.ofNat 32 (i 0).val
  let c0_i32 : BitVec 32 := 0#32
  let v0 : BitVec 32 := Scalar.minsi arg0 c0_i32
  let v870 : BitVec 32 := Scalar.addi c1_i32_663 v0
  let v871 : Index := Scalar.indexCast v870
  let c0_664 : Index := 0#32
  let c0_665 : Index := 0#32
  ![v871.toNat, 0, 0]
def k0_off4 (i : grid0.Coords) (c2_i32_676 : BitVec 32) : Fin 3 → Nat :=
  let arg0 : BitVec 32 := BitVec.ofNat 32 (i 0).val
  let c0_i32 : BitVec 32 := 0#32
  let v0 : BitVec 32 := Scalar.minsi arg0 c0_i32
  let v892 : BitVec 32 := Scalar.addi c2_i32_676 v0
  let v893 : Index := Scalar.indexCast v892
  let c0_677 : Index := 0#32
  let c0_678 : Index := 0#32
  ![v893.toNat, 0, 0]
def k0_off5 (i : grid0.Coords) (c0_i32_736 : BitVec 32) : Fin 4 → Nat :=
  let c1_737 : Index := 1#32
  let arg0 : BitVec 32 := BitVec.ofNat 32 (i 0).val
  let c0_i32 : BitVec 32 := 0#32
  let v0 : BitVec 32 := Scalar.minsi arg0 c0_i32
  let v1074 : BitVec 32 := Scalar.addi c0_i32_736 v0
  let v1075 : Index := Scalar.indexCast v1074
  let c0_738 : Index := 0#32
  let c0_739 : Index := 0#32
  ![1, v1075.toNat, 0, 0]
def k0_off6 (i : grid0.Coords) (c0_i32_949 : BitVec 32) : Fin 4 → Nat :=
  let c2_950 : Index := 2#32
  let arg0 : BitVec 32 := BitVec.ofNat 32 (i 0).val
  let c0_i32 : BitVec 32 := 0#32
  let v0 : BitVec 32 := Scalar.minsi arg0 c0_i32
  let v1466 : BitVec 32 := Scalar.addi c0_i32_949 v0
  let v1467 : Index := Scalar.indexCast v1466
  let c0_951 : Index := 0#32
  let c0_952 : Index := 0#32
  ![2, v1467.toNat, 0, 0]
def k0_off7 (i : grid0.Coords) (c0_i32_1184 : BitVec 32) : Fin 4 → Nat :=
  let c3_1185 : Index := 3#32
  let arg0 : BitVec 32 := BitVec.ofNat 32 (i 0).val
  let c0_i32 : BitVec 32 := 0#32
  let v0 : BitVec 32 := Scalar.minsi arg0 c0_i32
  let v1910 : BitVec 32 := Scalar.addi c0_i32_1184 v0
  let v1911 : Index := Scalar.indexCast v1910
  let c0_1186 : Index := 0#32
  let c0_1187 : Index := 0#32
  ![3, v1911.toNat, 0, 0]
def k0_off8 (i : grid0.Coords) (c0_i32_1379 : BitVec 32) : Fin 4 → Nat :=
  let c4_1380 : Index := 4#32
  let arg0 : BitVec 32 := BitVec.ofNat 32 (i 0).val
  let c0_i32 : BitVec 32 := 0#32
  let v0 : BitVec 32 := Scalar.minsi arg0 c0_i32
  let v2272 : BitVec 32 := Scalar.addi c0_i32_1379 v0
  let v2273 : Index := Scalar.indexCast v2272
  let c0_1381 : Index := 0#32
  let c0_1382 : Index := 0#32
  ![4, v2273.toNat, 0, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "mask" => some ⊥
  | _ => none
-- ==== RefIdeal.lean ====
abbrev S8 : Shape := ⟨1, ![8]⟩
abbrev S32768x512 : Shape := ⟨2, ![32768, 512]⟩
abbrev S128x512x256 : Shape := ⟨3, ![128, 512, 256]⟩
abbrev S16x8x512 : Shape := ⟨3, ![16, 8, 512]⟩
abbrev S32768x256 : Shape := ⟨2, ![32768, 256]⟩
abbrev S256x128x128 : Shape := ⟨3, ![256, 128, 128]⟩
abbrev S16x16x128x2x2x2x64 : Shape := ⟨7, ![16, 16, 128, 2, 2, 2, 64]⟩
abbrev S16x16x128x2x2x64 : Shape := ⟨6, ![16, 16, 128, 2, 2, 64]⟩
abbrev S16x16x2x64x128 : Shape := ⟨5, ![16, 16, 2, 64, 128]⟩
abbrev S2x2x2 : Shape := ⟨3, ![2, 2, 2]⟩
abbrev S16x16x128x1x2x2x64 : Shape := ⟨7, ![16, 16, 128, 1, 2, 2, 64]⟩
abbrev S16x16x128x1x2x64 : Shape := ⟨6, ![16, 16, 128, 1, 2, 64]⟩
abbrev S16x16x128x2x64 : Shape := ⟨5, ![16, 16, 128, 2, 64]⟩
abbrev S16x16x1x64x128 : Shape := ⟨5, ![16, 16, 1, 64, 128]⟩
abbrev S16x16x64x128 : Shape := ⟨4, ![16, 16, 64, 128]⟩
abbrev S1x2x2 : Shape := ⟨3, ![1, 2, 2]⟩
abbrev S2x2 : Shape := ⟨2, ![2, 2]⟩
abbrev S16x1x128x2x64 : Shape := ⟨5, ![16, 1, 128, 2, 64]⟩
abbrev S_ : Shape := ⟨0, ![]⟩
abbrev S16x15x128x2x64 : Shape := ⟨5, ![16, 15, 128, 2, 64]⟩
abbrev S16x16x256x2x64 : Shape := ⟨5, ![16, 16, 256, 2, 64]⟩
abbrev S16x1x64x128 : Shape := ⟨4, ![16, 1, 64, 128]⟩
abbrev S16x15x64x128 : Shape := ⟨4, ![16, 15, 64, 128]⟩
abbrev S16x16x64x256 : Shape := ⟨4, ![16, 16, 64, 256]⟩
abbrev S16x16x2x256x128x2 : Shape := ⟨6, ![16, 16, 2, 256, 128, 2]⟩
abbrev S16x16x2x2x128x256 : Shape := ⟨6, ![16, 16, 2, 2, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1 : Shape := ⟨2, ![16, 1]⟩
abbrev S16x256 : Shape := ⟨2, ![16, 256]⟩
abbrev S1x128x256 : Shape := ⟨3, ![1, 128, 256]⟩
abbrev S16x1x256 : Shape := ⟨3, ![16, 1, 256]⟩
abbrev S16x128x256 : Shape := ⟨3, ![16, 128, 256]⟩
abbrev S1x1x2x2x1x1 : Shape := ⟨6, ![1, 1, 2, 2, 1, 1]⟩
abbrev S1x1x1x1x128x256 : Shape := ⟨6, ![1, 1, 1, 1, 128, 256]⟩
abbrev S1x1x2x2x128x256 : Shape := ⟨6, ![1, 1, 2, 2, 128, 256]⟩
abbrev S1x16x1x1x128x256 : Shape := ⟨6, ![1, 16, 1, 1, 128, 256]⟩
abbrev S16x16x2x2x128 : Shape := ⟨5, ![16, 16, 2, 2, 128]⟩
abbrev S16x16x2x2x128x1 : Shape := ⟨6, ![16, 16, 2, 2, 128, 1]⟩
abbrev S16x16x2x2x128x64 : Shape := ⟨6, ![16, 16, 2, 2, 128, 64]⟩
abbrev S16x16x1x2x2x128x64 : Shape := ⟨7, ![16, 16, 1, 2, 2, 128, 64]⟩
abbrev S16x16x2x2x2x128x64 : Shape := ⟨7, ![16, 16, 2, 2, 2, 128, 64]⟩

abbrev nBuf : Space → Nat
  | .hbm => 222
  | .vmem => 0
  | .smem => 0
  | _ => 0

abbrev hbmTy0_0 (i : Nat) : BufTy := match i % 128 with
  | 0 => ⟨S8, .f32⟩
  | 1 => ⟨S8, .f32⟩
  | 2 => ⟨S8, .f32⟩
  | 3 => ⟨S32768x512, .bf16⟩
  | 4 => ⟨S32768x512, .bf16⟩
  | 5 => ⟨S128x512x256, .bf16⟩
  | 6 => ⟨S16x8x512, .f32⟩
  | 7 => ⟨S32768x512, .bf16⟩
  | 8 => ⟨S32768x256, .bf16⟩
  | 9 => ⟨S256x128x128, .bf16⟩
  | 10 => ⟨S32768x512, .f32⟩
  | 11 => ⟨S16x16x128x2x2x2x64, .f32⟩
  | 12 => ⟨S32768x256, .f32⟩
  | 13 => ⟨S16x16x128x2x2x64, .f32⟩
  | 14 => ⟨S256x128x128, .f32⟩
  | 15 => ⟨S16x16x2x64x128, .f32⟩
  | 16 => ⟨S2x2x2, .f32⟩
  | 17 => ⟨S2x2x2, .f32⟩
  | 18 => ⟨S16x16x128x1x2x2x64, .f32⟩
  | 19 => ⟨S16x16x128x2x2x64, .f32⟩
  | 20 => ⟨S16x16x128x1x2x64, .f32⟩
  | 21 => ⟨S16x16x128x2x64, .f32⟩
  | 22 => ⟨S16x16x1x64x128, .f32⟩
  | 23 => ⟨S16x16x64x128, .f32⟩
  | 24 => ⟨S1x2x2, .f32⟩
  | 25 => ⟨S2x2, .f32⟩
  | 26 => ⟨S1x2x2, .f32⟩
  | 27 => ⟨S2x2, .f32⟩
  | 28 => ⟨S16x1x128x2x64, .f32⟩
  | 29 => ⟨S_, .f32⟩
  | 30 => ⟨S16x1x128x2x64, .f32⟩
  | 31 => ⟨S16x15x128x2x64, .f32⟩
  | 32 => ⟨S16x16x128x2x64, .f32⟩
  | 33 => ⟨S16x16x256x2x64, .f32⟩
  | 34 => ⟨S16x1x64x128, .f32⟩
  | 35 => ⟨S_, .f32⟩
  | 36 => ⟨S16x1x64x128, .f32⟩
  | 37 => ⟨S16x15x64x128, .f32⟩
  | 38 => ⟨S16x16x64x128, .f32⟩
  | 39 => ⟨S16x16x64x256, .f32⟩
  | 40 => ⟨S16x16x2x256x128x2, .f32⟩
  | 41 => ⟨S16x16x2x2x128x256, .f32⟩
  | 42 => ⟨S128, .i32⟩
  | 43 => ⟨S128x1, .i32⟩
  | 44 => ⟨S256, .i32⟩
  | 45 => ⟨S1x256, .i32⟩
  | 46 => ⟨S128x256, .i32⟩
  | 47 => ⟨S128x256, .i32⟩
  | 48 => ⟨S128x256, .i32⟩
  | 49 => ⟨S_, .i32⟩
  | 50 => ⟨S128x256, .i32⟩
  | 51 => ⟨S128x256, .i32⟩
  | 52 => ⟨S16, .i32⟩
  | 53 => ⟨S16x1, .i32⟩
  | 54 => ⟨S_, .i32⟩
  | 55 => ⟨S16x1, .i32⟩
  | 56 => ⟨S16x1, .i32⟩
  | 57 => ⟨S_, .i32⟩
  | 58 => ⟨S16x1, .i32⟩
  | 59 => ⟨S16x1, .i32⟩
  | 60 => ⟨S256, .i32⟩
  | 61 => ⟨S1x256, .i32⟩
  | 62 => ⟨S16x256, .i32⟩
  | 63 => ⟨S16x256, .i32⟩
  | 64 => ⟨S16x256, .i32⟩
  | 65 => ⟨S_, .i32⟩
  | 66 => ⟨S128x256, .i32⟩
  | 67 => ⟨S128x256, .i1⟩
  | 68 => ⟨S_, .i32⟩
  | 69 => ⟨S128x256, .i32⟩
  | 70 => ⟨S128x256, .i1⟩
  | 71 => ⟨S128x256, .i1⟩
  | 72 => ⟨S1x128x256, .i1⟩
  | 73 => ⟨S_, .i32⟩
  | 74 => ⟨S16x256, .i32⟩
  | 75 => ⟨S16x256, .i1⟩
  | 76 => ⟨S16x1x256, .i1⟩
  | 77 => ⟨S16x128x256, .i1⟩
  | 78 => ⟨S16x128x256, .i1⟩
  | 79 => ⟨S16x128x256, .i1⟩
  | 80 => ⟨S1x1x2x2x1x1, .f32⟩
  | 81 => ⟨S128x256, .f32⟩
  | 82 => ⟨S1x1x1x1x128x256, .f32⟩
  | 83 => ⟨S1x1x2x2x128x256, .f32⟩
  | 84 => ⟨S1x1x2x2x128x256, .f32⟩
  | 85 => ⟨S1x1x2x2x128x256, .f32⟩
  | 86 => ⟨S16x16x2x2x128x256, .f32⟩
  | 87 => ⟨S16x16x2x2x128x256, .f32⟩
  | 88 => ⟨S1x16x1x1x128x256, .i1⟩
  | 89 => ⟨S_, .f32⟩
  | 90 => ⟨S_, .f32⟩
  | 91 => ⟨S16x16x2x2x128x256, .i1⟩
  | 92 => ⟨S16x16x2x2x128x256, .f32⟩
  | 93 => ⟨S16x16x2x2x128x256, .f32⟩
  | 94 => ⟨S1x1x2x2x1x1, .f32⟩
  | 95 => ⟨S_, .f32⟩
  | 96 => ⟨S16x16x2x2x128, .f32⟩
  | 97 => ⟨S16x16x2x2x128x1, .f32⟩
  | 98 => ⟨S16x16x2x2x128x1, .f32⟩
  | 99 => ⟨S16x16x2x2x128x1, .f32⟩
  | 100 => ⟨S16x16x2x2x128x256, .f32⟩
  | 101 => ⟨S16x16x2x2x128x256, .f32⟩
  | 102 => ⟨S_, .f32⟩
  | 103 => ⟨S16x16x2x2x128x256, .f32⟩
  | 104 => ⟨S16x16x2x2x128x256, .f32⟩
  | 105 => ⟨S16x16x2x2x128x64, .f32⟩
  | 106 => ⟨S_, .f32⟩
  | 107 => ⟨S16x16x2x2x128, .f32⟩
  | 108 => ⟨S16x16x2x2x128x1, .f32⟩
  | 109 => ⟨S16x16x2x2x128x1, .f32⟩
  | 110 => ⟨S16x16x2x2x128x1, .f32⟩
  | 111 => ⟨S_, .f32⟩
  | 112 => ⟨S16x16x2x2x128x1, .f32⟩
  | 113 => ⟨S16x16x2x2x128x1, .f32⟩
  | 114 => ⟨S16x16x2x2x128x1, .f32⟩
  | 115 => ⟨S16x16x2x2x128x64, .f32⟩
  | 116 => ⟨S16x16x2x2x128x64, .f32⟩
  | 117 => ⟨S16x16x128x1x2x2x64, .f32⟩
  | 118 => ⟨S16x16x128x2x2x64, .f32⟩
  | 119 => ⟨S16x16x128x1x2x64, .f32⟩
  | 120 => ⟨S16x16x128x2x64, .f32⟩
  | 121 => ⟨S16x16x1x64x128, .f32⟩
  | 122 => ⟨S16x16x64x128, .f32⟩
  | 123 => ⟨S1x2x2, .f32⟩
  | 124 => ⟨S2x2, .f32⟩
  | 125 => ⟨S1x2x2, .f32⟩
  | 126 => ⟨S2x2, .f32⟩
  | 127 => ⟨S16x1x128x2x64, .f32⟩
  | _ => ⟨S8, .f32⟩

abbrev hbmTy0_1 (i : Nat) : BufTy := match i % 128 with
  | 0 => ⟨S_, .f32⟩
  | 1 => ⟨S16x1x128x2x64, .f32⟩
  | 2 => ⟨S16x15x128x2x64, .f32⟩
  | 3 => ⟨S16x16x128x2x64, .f32⟩
  | 4 => ⟨S16x16x256x2x64, .f32⟩
  | 5 => ⟨S16x1x64x128, .f32⟩
  | 6 => ⟨S_, .f32⟩
  | 7 => ⟨S16x1x64x128, .f32⟩
  | 8 => ⟨S16x15x64x128, .f32⟩
  | 9 => ⟨S16x16x64x128, .f32⟩
  | 10 => ⟨S16x16x64x256, .f32⟩
  | 11 => ⟨S16x16x2x256x128x2, .f32⟩
  | 12 => ⟨S16x16x2x2x128x256, .f32⟩
  | 13 => ⟨S128, .i32⟩
  | 14 => ⟨S128x1, .i32⟩
  | 15 => ⟨S256, .i32⟩
  | 16 => ⟨S1x256, .i32⟩
  | 17 => ⟨S128x256, .i32⟩
  | 18 => ⟨S128x256, .i32⟩
  | 19 => ⟨S128x256, .i32⟩
  | 20 => ⟨S_, .i32⟩
  | 21 => ⟨S128x256, .i32⟩
  | 22 => ⟨S128x256, .i32⟩
  | 23 => ⟨S16, .i32⟩
  | 24 => ⟨S16x1, .i32⟩
  | 25 => ⟨S_, .i32⟩
  | 26 => ⟨S16x1, .i32⟩
  | 27 => ⟨S16x1, .i32⟩
  | 28 => ⟨S_, .i32⟩
  | 29 => ⟨S16x1, .i32⟩
  | 30 => ⟨S16x1, .i32⟩
  | 31 => ⟨S256, .i32⟩
  | 32 => ⟨S1x256, .i32⟩
  | 33 => ⟨S16x256, .i32⟩
  | 34 => ⟨S16x256, .i32⟩
  | 35 => ⟨S16x256, .i32⟩
  | 36 => ⟨S_, .i32⟩
  | 37 => ⟨S128x256, .i32⟩
  | 38 => ⟨S128x256, .i1⟩
  | 39 => ⟨S_, .i32⟩
  | 40 => ⟨S128x256, .i32⟩
  | 41 => ⟨S128x256, .i1⟩
  | 42 => ⟨S128x256, .i1⟩
  | 43 => ⟨S1x128x256, .i1⟩
  | 44 => ⟨S_, .i32⟩
  | 45 => ⟨S16x256, .i32⟩
  | 46 => ⟨S16x256, .i1⟩
  | 47 => ⟨S16x1x256, .i1⟩
  | 48 => ⟨S16x128x256, .i1⟩
  | 49 => ⟨S16x128x256, .i1⟩
  | 50 => ⟨S16x128x256, .i1⟩
  | 51 => ⟨S1x1x2x2x1x1, .f32⟩
  | 52 => ⟨S128x256, .f32⟩
  | 53 => ⟨S1x1x1x1x128x256, .f32⟩
  | 54 => ⟨S1x1x2x2x128x256, .f32⟩
  | 55 => ⟨S1x1x2x2x128x256, .f32⟩
  | 56 => ⟨S1x1x2x2x128x256, .f32⟩
  | 57 => ⟨S16x16x2x2x128x256, .f32⟩
  | 58 => ⟨S16x16x2x2x128x256, .f32⟩
  | 59 => ⟨S1x16x1x1x128x256, .i1⟩
  | 60 => ⟨S_, .f32⟩
  | 61 => ⟨S_, .f32⟩
  | 62 => ⟨S16x16x2x2x128x256, .i1⟩
  | 63 => ⟨S16x16x2x2x128x256, .f32⟩
  | 64 => ⟨S16x16x2x2x128x256, .f32⟩
  | 65 => ⟨S1x1x2x2x1x1, .f32⟩
  | 66 => ⟨S_, .f32⟩
  | 67 => ⟨S16x16x2x2x128, .f32⟩
  | 68 => ⟨S16x16x2x2x128x1, .f32⟩
  | 69 => ⟨S16x16x2x2x128x1, .f32⟩
  | 70 => ⟨S16x16x2x2x128x1, .f32⟩
  | 71 => ⟨S16x16x2x2x128x256, .f32⟩
  | 72 => ⟨S16x16x2x2x128x256, .f32⟩
  | 73 => ⟨S_, .f32⟩
  | 74 => ⟨S16x16x2x2x128x256, .f32⟩
  | 75 => ⟨S16x16x2x2x128x256, .f32⟩
  | 76 => ⟨S16x16x2x2x128x64, .f32⟩
  | 77 => ⟨S_, .f32⟩
  | 78 => ⟨S16x16x2x2x128, .f32⟩
  | 79 => ⟨S16x16x2x2x128x1, .f32⟩
  | 80 => ⟨S16x16x2x2x128x1, .f32⟩
  | 81 => ⟨S16x16x2x2x128x1, .f32⟩
  | 82 => ⟨S_, .f32⟩
  | 83 => ⟨S16x16x2x2x128x1, .f32⟩
  | 84 => ⟨S16x16x2x2x128x1, .f32⟩
  | 85 => ⟨S16x16x2x2x128x1, .f32⟩
  | 86 => ⟨S16x16x2x2x128x64, .f32⟩
  | 87 => ⟨S16x16x2x2x128x64, .f32⟩
  | 88 => ⟨S16x16x1x2x2x128x64, .f32⟩
  | 89 => ⟨S16x16x1x2x2x128x64, .f32⟩
  | 90 => ⟨S16x16x2x2x2x128x64, .f32⟩
  | 91 => ⟨S16x16x128x2x2x2x64, .f32⟩
  | 92 => ⟨S32768x512, .f32⟩
  | 93 => ⟨S32768x512, .bf16⟩
  | _ => ⟨S8, .f32⟩

abbrev hbmTy (i : Nat) : BufTy := match i / 128 with
  | 0 => hbmTy0_0 i
  | 1 => hbmTy0_1 i
  | _ => ⟨S8, .f32⟩

abbrev bufTy : (tb : Table) → Fin (tcTables nBuf tb) → BufTy
  | .hbm, ⟨i, _⟩ => hbmTy i
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_1 : Ref sig .tc := ⟨.hbm, 54, rfl⟩
abbrev main_v41 : Ref sig .tc := ⟨.hbm, 55, rfl⟩
abbrev main_v42 : Ref sig .tc := ⟨.hbm, 56, rfl⟩
abbrev main_c_2 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_3 : Ref sig .tc := ⟨.hbm, 65, rfl⟩
abbrev main_v50 : Ref sig .tc := ⟨.hbm, 66, rfl⟩
abbrev main_v51 : Ref sig .tc := ⟨.hbm, 67, rfl⟩
abbrev main_c_4 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_c_5 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_6 : Ref sig .tc := ⟨.hbm, 89, rfl⟩
abbrev main_call0_v0 : Ref sig .tc := ⟨.hbm, 90, rfl⟩
abbrev main_call0_v1 : Ref sig .tc := ⟨.hbm, 91, rfl⟩
abbrev main_call0_v2 : Ref sig .tc := ⟨.hbm, 92, rfl⟩
abbrev main_v71 : Ref sig .tc := ⟨.hbm, 93, rfl⟩
abbrev main_v72 : Ref sig .tc := ⟨.hbm, 94, rfl⟩
abbrev main_cst_7 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_8 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_9 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_10 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_cst_11 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_cst_12 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_c_13 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_c_14 : Ref sig .tc := ⟨.hbm, 153, rfl⟩
abbrev main_v124 : Ref sig .tc := ⟨.hbm, 154, rfl⟩
abbrev main_v125 : Ref sig .tc := ⟨.hbm, 155, rfl⟩
abbrev main_c_15 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_c_16 : Ref sig .tc := ⟨.hbm, 164, rfl⟩
abbrev main_v133 : Ref sig .tc := ⟨.hbm, 165, rfl⟩
abbrev main_v134 : Ref sig .tc := ⟨.hbm, 166, rfl⟩
abbrev main_c_17 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_c_18 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_cst_19 : Ref sig .tc := ⟨.hbm, 188, rfl⟩
abbrev main_call1_v0 : Ref sig .tc := ⟨.hbm, 189, rfl⟩
abbrev main_call1_v1 : Ref sig .tc := ⟨.hbm, 190, rfl⟩
abbrev main_call1_v2 : Ref sig .tc := ⟨.hbm, 191, rfl⟩
abbrev main_v154 : Ref sig .tc := ⟨.hbm, 192, rfl⟩
abbrev main_v155 : Ref sig .tc := ⟨.hbm, 193, rfl⟩
abbrev main_cst_20 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_cst_21 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_cst_22 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_cst_23 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩

abbrev nD : Nat := 1
abbrev τ : Topo := Topo.v7x

variable {F : FTy → Type} [FloatOps F]
-- ==== Inproj.lean ====
abbrev S32768x1024 : Shape := ⟨2, ![32768, 1024]⟩
abbrev S1x1024 : Shape := ⟨2, ![1, 1024]⟩
abbrev S1024x4352 : Shape := ⟨2, ![1024, 4352]⟩
abbrev S1x512 : Shape := ⟨2, ![1, 512]⟩
abbrev S1x128 : Shape := ⟨2, ![1, 128]⟩
abbrev S512x1024 : Shape := ⟨2, ![512, 1024]⟩
abbrev S1024x1024 : Shape := ⟨2, ![1024, 1024]⟩
abbrev S1024x4096 : Shape := ⟨2, ![1024, 4096]⟩
abbrev S4096x1024 : Shape := ⟨2, ![4096, 1024]⟩
abbrev S32x16x1024 : Shape := ⟨3, ![32, 16, 1024]⟩
abbrev S32x32x1024 : Shape := ⟨3, ![32, 32, 1024]⟩
abbrev S32x32x4096 : Shape := ⟨3, ![32, 32, 4096]⟩
abbrev S32x128x1024 : Shape := ⟨3, ![32, 128, 1024]⟩
abbrev S32768x512 : Shape := ⟨2, ![32768, 512]⟩
abbrev S32768x256 : Shape := ⟨2, ![32768, 256]⟩
abbrev S32768x2048 : Shape := ⟨2, ![32768, 2048]⟩
abbrev S128x512x256 : Shape := ⟨3, ![128, 512, 256]⟩
abbrev S256x128x128 : Shape := ⟨3, ![256, 128, 128]⟩
abbrev S32x4x512 : Shape := ⟨3, ![32, 4, 512]⟩
abbrev S1x16x1024 : Shape := ⟨3, ![1, 16, 1024]⟩
abbrev S1x32x1024 : Shape := ⟨3, ![1, 32, 1024]⟩
abbrev S1x32x4096 : Shape := ⟨3, ![1, 32, 4096]⟩
abbrev S1x128x1024 : Shape := ⟨3, ![1, 128, 1024]⟩
abbrev S1024x512 : Shape := ⟨2, ![1024, 512]⟩
abbrev S1024x256 : Shape := ⟨2, ![1024, 256]⟩
abbrev S1024x2048 : Shape := ⟨2, ![1024, 2048]⟩
abbrev S4x512x256 : Shape := ⟨3, ![4, 512, 256]⟩
abbrev S8x128x128 : Shape := ⟨3, ![8, 128, 128]⟩
abbrev S1x4x512 : Shape := ⟨3, ![1, 4, 512]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S512 : Shape := ⟨1, ![512]⟩
abbrev S1x1x512 : Shape := ⟨3, ![1, 1, 512]⟩
abbrev S256x2048 : Shape := ⟨2, ![256, 2048]⟩
abbrev S256x256 : Shape := ⟨2, ![256, 256]⟩
abbrev S512x256 : Shape := ⟨2, ![512, 256]⟩
abbrev S1x512x256 : Shape := ⟨3, ![1, 512, 256]⟩
abbrev S128x256 : Shape := ⟨2, ![128, 256]⟩
abbrev S128x128 : Shape := ⟨2, ![128, 128]⟩
abbrev S1x128x128 : Shape := ⟨3, ![1, 128, 128]⟩

abbrev nBuf : Space → Nat
  | .hbm => 30
  | .vmem => 44
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x4352, .bf16⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x128, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024x4096, .f32⟩
  | .hbm, ⟨11, _⟩ => ⟨S4096x1024, .f32⟩
  | .hbm, ⟨12, _⟩ => ⟨S32x16x1024, .f32⟩
  | .hbm, ⟨13, _⟩ => ⟨S32x16x1024, .f32⟩
  | .hbm, ⟨14, _⟩ => ⟨S32x32x1024, .f32⟩
  | .hbm, ⟨15, _⟩ => ⟨S32x32x4096, .f32⟩
  | .hbm, ⟨16, _⟩ => ⟨S32x128x1024, .f32⟩
  | .hbm, ⟨17, _⟩ => ⟨S32768x512, .bf16⟩
  | .hbm, ⟨18, _⟩ => ⟨S32768x512, .bf16⟩
  | .hbm, ⟨19, _⟩ => ⟨S32768x512, .bf16⟩
  | .hbm, ⟨20, _⟩ => ⟨S32768x256, .bf16⟩
  | .hbm, ⟨21, _⟩ => ⟨S32768x2048, .bf16⟩
  | .hbm, ⟨22, _⟩ => ⟨S128x512x256, .bf16⟩
  | .hbm, ⟨23, _⟩ => ⟨S256x128x128, .bf16⟩
  | .hbm, ⟨24, _⟩ => ⟨S32x4x512, .f32⟩
  | .hbm, ⟨25, _⟩ => ⟨S32x16x1024, .bf16⟩
  | .hbm, ⟨26, _⟩ => ⟨S32x16x1024, .bf16⟩
  | .hbm, ⟨27, _⟩ => ⟨S32x32x1024, .bf16⟩
  | .hbm, ⟨28, _⟩ => ⟨S32x32x4096, .bf16⟩
  | .hbm, ⟨29, _⟩ => ⟨S32x128x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4352, .bf16⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x128, .f32⟩
  | .local _ .vmem, ⟨8, _⟩ => ⟨S1x16x1024, .f32⟩
  | .local _ .vmem, ⟨9, _⟩ => ⟨S1x16x1024, .f32⟩
  | .local _ .vmem, ⟨10, _⟩ => ⟨S1x16x1024, .f32⟩
  | .local _ .vmem, ⟨11, _⟩ => ⟨S1x16x1024, .f32⟩
  | .local _ .vmem, ⟨12, _⟩ => ⟨S1x32x1024, .f32⟩
  | .local _ .vmem, ⟨13, _⟩ => ⟨S1x32x1024, .f32⟩
  | .local _ .vmem, ⟨14, _⟩ => ⟨S1x32x4096, .f32⟩
  | .local _ .vmem, ⟨15, _⟩ => ⟨S1x32x4096, .f32⟩
  | .local _ .vmem, ⟨16, _⟩ => ⟨S1x128x1024, .f32⟩
  | .local _ .vmem, ⟨17, _⟩ => ⟨S1x128x1024, .f32⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S1024x256, .bf16⟩
  | .local _ .vmem, ⟨25, _⟩ => ⟨S1024x256, .bf16⟩
  | .local _ .vmem, ⟨26, _⟩ => ⟨S1024x2048, .bf16⟩
  | .local _ .vmem, ⟨27, _⟩ => ⟨S1024x2048, .bf16⟩
  | .local _ .vmem, ⟨28, _⟩ => ⟨S4x512x256, .bf16⟩
  | .local _ .vmem, ⟨29, _⟩ => ⟨S4x512x256, .bf16⟩
  | .local _ .vmem, ⟨30, _⟩ => ⟨S8x128x128, .bf16⟩
  | .local _ .vmem, ⟨31, _⟩ => ⟨S8x128x128, .bf16⟩
  | .local _ .vmem, ⟨32, _⟩ => ⟨S1x4x512, .f32⟩
  | .local _ .vmem, ⟨33, _⟩ => ⟨S1x4x512, .f32⟩
  | .local _ .vmem, ⟨34, _⟩ => ⟨S1x16x1024, .bf16⟩
  | .local _ .vmem, ⟨35, _⟩ => ⟨S1x16x1024, .bf16⟩
  | .local _ .vmem, ⟨36, _⟩ => ⟨S1x16x1024, .bf16⟩
  | .local _ .vmem, ⟨37, _⟩ => ⟨S1x16x1024, .bf16⟩
  | .local _ .vmem, ⟨38, _⟩ => ⟨S1x32x1024, .bf16⟩
  | .local _ .vmem, ⟨39, _⟩ => ⟨S1x32x1024, .bf16⟩
  | .local _ .vmem, ⟨40, _⟩ => ⟨S1x32x4096, .bf16⟩
  | .local _ .vmem, ⟨41, _⟩ => ⟨S1x32x4096, .bf16⟩
  | .local _ .vmem, ⟨42, _⟩ => ⟨S1x128x1024, .bf16⟩
  | .local _ .vmem, ⟨43, _⟩ => ⟨S1x128x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v5_3 : Ref sig .tc := ⟨.hbm, 20, rfl⟩
abbrev main_v5_4 : Ref sig .tc := ⟨.hbm, 21, rfl⟩
abbrev main_v5_5 : Ref sig .tc := ⟨.hbm, 22, rfl⟩
abbrev main_v5_6 : Ref sig .tc := ⟨.hbm, 23, rfl⟩
abbrev main_v5_7 : Ref sig .tc := ⟨.hbm, 24, rfl⟩
abbrev main_v5_8 : Ref sig .tc := ⟨.hbm, 25, rfl⟩
abbrev main_v5_9 : Ref sig .tc := ⟨.hbm, 26, rfl⟩
abbrev main_v5_10 : Ref sig .tc := ⟨.hbm, 27, rfl⟩
abbrev main_v5_11 : Ref sig .tc := ⟨.hbm, 28, rfl⟩
abbrev main_v5_12 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_stg23_0 : Ref sig .tc := ⟨.vmem, 40, rfl⟩
abbrev cc0_stg23_1 : Ref sig .tc := ⟨.vmem, 41, rfl⟩
abbrev cc0_stg24_0 : Ref sig .tc := ⟨.vmem, 42, rfl⟩
abbrev cc0_stg24_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc0_sem22_0 : DmaSem sig := 38
abbrev cc0_sem22_1 : DmaSem sig := 39
abbrev cc0_sem23_0 : DmaSem sig := 40
abbrev cc0_sem23_1 : DmaSem sig := 41
abbrev cc0_sem24_0 : DmaSem sig := 42
abbrev cc0_sem24_1 : DmaSem sig := 43

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4352 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x16x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x32x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x128x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x4x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x16x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x16x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x32x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x32x4096 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x128x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== RefInIdeal.lean ====
abbrev S32768x1024 : Shape := ⟨2, ![32768, 1024]⟩
abbrev S1x1024 : Shape := ⟨2, ![1, 1024]⟩
abbrev S1024x4352 : Shape := ⟨2, ![1024, 4352]⟩
abbrev S1x512 : Shape := ⟨2, ![1, 512]⟩
abbrev S1x128 : Shape := ⟨2, ![1, 128]⟩
abbrev S512x1024 : Shape := ⟨2, ![512, 1024]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S32768x4352 : Shape := ⟨2, ![32768, 4352]⟩
abbrev S32768x512 : Shape := ⟨2, ![32768, 512]⟩
abbrev S32768x8x64 : Shape := ⟨3, ![32768, 8, 64]⟩
abbrev S32768x8 : Shape := ⟨2, ![32768, 8]⟩
abbrev S32768x8x1 : Shape := ⟨3, ![32768, 8, 1]⟩
abbrev S32768x128 : Shape := ⟨2, ![32768, 128]⟩
abbrev S32768x2x64 : Shape := ⟨3, ![32768, 2, 64]⟩
abbrev S32768x2 : Shape := ⟨2, ![32768, 2]⟩
abbrev S32768x2x1 : Shape := ⟨3, ![32768, 2, 1]⟩
abbrev S32768x2048 : Shape := ⟨2, ![32768, 2048]⟩
abbrev S32768x64 : Shape := ⟨2, ![32768, 64]⟩
abbrev S32768x256 : Shape := ⟨2, ![32768, 256]⟩
abbrev S128x256x512 : Shape := ⟨3, ![128, 256, 512]⟩
abbrev S128x512 : Shape := ⟨2, ![128, 512]⟩
abbrev S32x4x512 : Shape := ⟨3, ![32, 4, 512]⟩
abbrev S128x512x256 : Shape := ⟨3, ![128, 512, 256]⟩
abbrev S256x128x128 : Shape := ⟨3, ![256, 128, 128]⟩
abbrev S32x16x1024 : Shape := ⟨3, ![32, 16, 1024]⟩
abbrev S32x32x1024 : Shape := ⟨3, ![32, 32, 1024]⟩
abbrev S32x32x4096 : Shape := ⟨3, ![32, 32, 4096]⟩
abbrev S32x128x1024 : Shape := ⟨3, ![32, 128, 1024]⟩

abbrev nBuf : Space → Nat
  | .hbm => 143
  | .vmem => 0
  | .smem => 0
  | _ => 0

abbrev hbmTy0_0 (i : Nat) : BufTy := match i % 128 with
  | 0 => ⟨S32768x1024, .f32⟩
  | 1 => ⟨S1x1024, .f32⟩
  | 2 => ⟨S1024x4352, .bf16⟩
  | 3 => ⟨S1x512, .f32⟩
  | 4 => ⟨S1x512, .f32⟩
  | 5 => ⟨S1x512, .f32⟩
  | 6 => ⟨S1x128, .f32⟩
  | 7 => ⟨S512x1024, .f32⟩
  | 8 => ⟨S512x1024, .f32⟩
  | 9 => ⟨S1024x1024, .f32⟩
  | 10 => ⟨S1024x4096, .f32⟩
  | 11 => ⟨S4096x1024, .f32⟩
  | 12 => ⟨S32768x1024, .f32⟩
  | 13 => ⟨S_, .f32⟩
  | 14 => ⟨S32768, .f32⟩
  | 15 => ⟨S32768x1, .f32⟩
  | 16 => ⟨S_, .f32⟩
  | 17 => ⟨S32768x1, .f32⟩
  | 18 => ⟨S32768x1, .f32⟩
  | 19 => ⟨S_, .f32⟩
  | 20 => ⟨S32768x1, .f32⟩
  | 21 => ⟨S32768x1, .f32⟩
  | 22 => ⟨S32768x1, .f32⟩
  | 23 => ⟨S32768x1024, .f32⟩
  | 24 => ⟨S32768x1024, .f32⟩
  | 25 => ⟨S32768x1024, .f32⟩
  | 26 => ⟨S32768x1024, .f32⟩
  | 27 => ⟨S1024x4352, .f32⟩
  | 28 => ⟨S32768x4352, .f32⟩
  | 29 => ⟨S32768x512, .f32⟩
  | 30 => ⟨S32768x8x64, .f32⟩
  | 31 => ⟨S32768x8x64, .f32⟩
  | 32 => ⟨S_, .f32⟩
  | 33 => ⟨S32768x8, .f32⟩
  | 34 => ⟨S32768x8x1, .f32⟩
  | 35 => ⟨S_, .f32⟩
  | 36 => ⟨S32768x8x1, .f32⟩
  | 37 => ⟨S32768x8x1, .f32⟩
  | 38 => ⟨S_, .f32⟩
  | 39 => ⟨S32768x8x1, .f32⟩
  | 40 => ⟨S32768x8x1, .f32⟩
  | 41 => ⟨S32768x8x1, .f32⟩
  | 42 => ⟨S32768x8x64, .f32⟩
  | 43 => ⟨S32768x8x64, .f32⟩
  | 44 => ⟨S32768x512, .f32⟩
  | 45 => ⟨S32768x512, .f32⟩
  | 46 => ⟨S32768x512, .f32⟩
  | 47 => ⟨S_, .f32⟩
  | 48 => ⟨S32768x512, .f32⟩
  | 49 => ⟨S32768x512, .f32⟩
  | 50 => ⟨S32768x512, .f32⟩
  | 51 => ⟨S32768x8x64, .f32⟩
  | 52 => ⟨S32768x8x64, .f32⟩
  | 53 => ⟨S_, .f32⟩
  | 54 => ⟨S32768x8, .f32⟩
  | 55 => ⟨S32768x8x1, .f32⟩
  | 56 => ⟨S_, .f32⟩
  | 57 => ⟨S32768x8x1, .f32⟩
  | 58 => ⟨S32768x8x1, .f32⟩
  | 59 => ⟨S_, .f32⟩
  | 60 => ⟨S32768x8x1, .f32⟩
  | 61 => ⟨S32768x8x1, .f32⟩
  | 62 => ⟨S32768x8x1, .f32⟩
  | 63 => ⟨S32768x8x64, .f32⟩
  | 64 => ⟨S32768x8x64, .f32⟩
  | 65 => ⟨S32768x512, .f32⟩
  | 66 => ⟨S32768x512, .f32⟩
  | 67 => ⟨S32768x512, .f32⟩
  | 68 => ⟨S32768x512, .f32⟩
  | 69 => ⟨S32768x512, .f32⟩
  | 70 => ⟨S32768x8x64, .f32⟩
  | 71 => ⟨S32768x8x64, .f32⟩
  | 72 => ⟨S_, .f32⟩
  | 73 => ⟨S32768x8, .f32⟩
  | 74 => ⟨S32768x8x1, .f32⟩
  | 75 => ⟨S_, .f32⟩
  | 76 => ⟨S32768x8x1, .f32⟩
  | 77 => ⟨S32768x8x1, .f32⟩
  | 78 => ⟨S_, .f32⟩
  | 79 => ⟨S32768x8x1, .f32⟩
  | 80 => ⟨S32768x8x1, .f32⟩
  | 81 => ⟨S32768x8x1, .f32⟩
  | 82 => ⟨S32768x8x64, .f32⟩
  | 83 => ⟨S32768x8x64, .f32⟩
  | 84 => ⟨S32768x512, .f32⟩
  | 85 => ⟨S32768x512, .f32⟩
  | 86 => ⟨S32768x512, .f32⟩
  | 87 => ⟨S_, .f32⟩
  | 88 => ⟨S32768x512, .f32⟩
  | 89 => ⟨S32768x512, .f32⟩
  | 90 => ⟨S32768x128, .f32⟩
  | 91 => ⟨S32768x2x64, .f32⟩
  | 92 => ⟨S32768x2x64, .f32⟩
  | 93 => ⟨S_, .f32⟩
  | 94 => ⟨S32768x2, .f32⟩
  | 95 => ⟨S32768x2x1, .f32⟩
  | 96 => ⟨S_, .f32⟩
  | 97 => ⟨S32768x2x1, .f32⟩
  | 98 => ⟨S32768x2x1, .f32⟩
  | 99 => ⟨S_, .f32⟩
  | 100 => ⟨S32768x2x1, .f32⟩
  | 101 => ⟨S32768x2x1, .f32⟩
  | 102 => ⟨S32768x2x1, .f32⟩
  | 103 => ⟨S32768x2x64, .f32⟩
  | 104 => ⟨S32768x2x64, .f32⟩
  | 105 => ⟨S32768x128, .f32⟩
  | 106 => ⟨S32768x128, .f32⟩
  | 107 => ⟨S32768x128, .f32⟩
  | 108 => ⟨S32768x128, .f32⟩
  | 109 => ⟨S32768x2048, .f32⟩
  | 110 => ⟨S32768x64, .f32⟩
  | 111 => ⟨S32768x64, .f32⟩
  | 112 => ⟨S32768x64, .f32⟩
  | 113 => ⟨S32768x64, .f32⟩
  | 114 => ⟨S32768x256, .f32⟩
  | 115 => ⟨S128x256x512, .f32⟩
  | 116 => ⟨S_, .f32⟩
  | 117 => ⟨S128x512, .f32⟩
  | 118 => ⟨S_, .f32⟩
  | 119 => ⟨S128x512, .f32⟩
  | 120 => ⟨S128x512, .f32⟩
  | 121 => ⟨S32x4x512, .f32⟩
  | 122 => ⟨S128x256x512, .f32⟩
  | 123 => ⟨S128x512x256, .f32⟩
  | 124 => ⟨S256x128x128, .f32⟩
  | 125 => ⟨S256x128x128, .f32⟩
  | 126 => ⟨S32768x512, .bf16⟩
  | 127 => ⟨S32768x512, .bf16⟩
  | _ => ⟨S32768x1024, .f32⟩

abbrev hbmTy0_1 (i : Nat) : BufTy := match i % 128 with
  | 0 => ⟨S32768x512, .bf16⟩
  | 1 => ⟨S32768x256, .bf16⟩
  | 2 => ⟨S32768x2048, .bf16⟩
  | 3 => ⟨S128x512x256, .bf16⟩
  | 4 => ⟨S256x128x128, .bf16⟩
  | 5 => ⟨S32x16x1024, .f32⟩
  | 6 => ⟨S32x16x1024, .bf16⟩
  | 7 => ⟨S32x16x1024, .f32⟩
  | 8 => ⟨S32x16x1024, .bf16⟩
  | 9 => ⟨S32x32x1024, .f32⟩
  | 10 => ⟨S32x32x1024, .bf16⟩
  | 11 => ⟨S32x32x4096, .f32⟩
  | 12 => ⟨S32x32x4096, .bf16⟩
  | 13 => ⟨S32x128x1024, .f32⟩
  | 14 => ⟨S32x128x1024, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_13 : Ref sig .tc := ⟨.hbm, 93, rfl⟩
abbrev main_v67 : Ref sig .tc := ⟨.hbm, 94, rfl⟩
abbrev main_v68 : Ref sig .tc := ⟨.hbm, 95, rfl⟩
abbrev main_cst_14 : Ref sig .tc := ⟨.hbm, 96, rfl⟩
abbrev main_v69 : Ref sig .tc := ⟨.hbm, 97, rfl⟩
abbrev main_v70 : Ref sig .tc := ⟨.hbm, 98, rfl⟩
abbrev main_cst_15 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_16 : Ref sig .tc := ⟨.hbm, 116, rfl⟩
abbrev main_v87 : Ref sig .tc := ⟨.hbm, 117, rfl⟩
abbrev main_cst_17 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩

abbrev nD : Nat := 1
abbrev τ : Topo := Topo.v7x

variable {F : FTy → Type} [FloatOps F]
-- ==== Mlp.lean ====
abbrev S32768x1024 : Shape := ⟨2, ![32768, 1024]⟩
abbrev S32768x512 : Shape := ⟨2, ![32768, 512]⟩
abbrev S32768x2048 : Shape := ⟨2, ![32768, 2048]⟩
abbrev S512x1024 : Shape := ⟨2, ![512, 1024]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x2048, .bf16⟩
  | .hbm, ⟨4, _⟩ => ⟨S512x1024, .bf16⟩
  | .hbm, ⟨5, _⟩ => ⟨S512x1024, .bf16⟩
  | .hbm, ⟨6, _⟩ => ⟨S1024x1024, .bf16⟩
  | .hbm, ⟨7, _⟩ => ⟨S1x1024, .f32⟩
  | .hbm, ⟨8, _⟩ => ⟨S1024x4096, .bf16⟩
  | .hbm, ⟨9, _⟩ => ⟨S4096x1024, .bf16⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x4096, .bf16⟩
  | .local _ .vmem, ⟨13, _⟩ => ⟨S4096x1024, .bf16⟩
  | .local _ .vmem, ⟨14, _⟩ => ⟨S512x1024, .f32⟩
  | .local _ .vmem, ⟨15, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== RefMlpIdeal.lean ====
abbrev S32768x1024 : Shape := ⟨2, ![32768, 1024]⟩
abbrev S32768x512 : Shape := ⟨2, ![32768, 512]⟩
abbrev S32768x2048 : Shape := ⟨2, ![32768, 2048]⟩
abbrev S512x1024 : Shape := ⟨2, ![512, 1024]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S32768x4096 : Shape := ⟨2, ![32768, 4096]⟩

abbrev nBuf : Space → Nat
  | .hbm => 66
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x2048, .bf16⟩
  | .hbm, ⟨4, _⟩ => ⟨S512x1024, .bf16⟩
  | .hbm, ⟨5, _⟩ => ⟨S512x1024, .bf16⟩
  | .hbm, ⟨6, _⟩ => ⟨S1024x1024, .bf16⟩
  | .hbm, ⟨7, _⟩ => ⟨S1x1024, .f32⟩
  | .hbm, ⟨8, _⟩ => ⟨S1024x4096, .bf16⟩
  | .hbm, ⟨9, _⟩ => ⟨S4096x1024, .bf16⟩
  | .hbm, ⟨10, _⟩ => ⟨S32768x1024, .bf16⟩
  | .hbm, ⟨11, _⟩ => ⟨S32768x1024, .f32⟩
  | .hbm, ⟨12, _⟩ => ⟨S32768x1024, .bf16⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S_, .f32⟩
  | .hbm, ⟨17, _⟩ => ⟨S32768x1024, .f32⟩
  | .hbm, ⟨18, _⟩ => ⟨S32768x1024, .f32⟩
  | .hbm, ⟨19, _⟩ => ⟨S_, .f32⟩
  | .hbm, ⟨20, _⟩ => ⟨S32768x1024, .f32⟩
  | .hbm, ⟨21, _⟩ => ⟨S32768x1024, .f32⟩
  | .hbm, ⟨22, _⟩ => ⟨S32768x512, .f32⟩
  | .hbm, ⟨23, _⟩ => ⟨S512x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768x1024, .f32⟩
  | .hbm, ⟨30, _⟩ => ⟨S32768x1024, .f32⟩
  | .hbm, ⟨31, _⟩ => ⟨S_, .f32⟩
  | .hbm, ⟨32, _⟩ => ⟨S32768x1024, .f32⟩
  | .hbm, ⟨33, _⟩ => ⟨S32768x1024, .f32⟩
  | .hbm, ⟨34, _⟩ => ⟨S32768x512, .f32⟩
  | .hbm, ⟨35, _⟩ => ⟨S512x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S1024x1024, .f32⟩
  | .hbm, ⟨40, _⟩ => ⟨S32768x1024, .f32⟩
  | .hbm, ⟨41, _⟩ => ⟨S32768x1024, .f32⟩
  | .hbm, ⟨42, _⟩ => ⟨S32768x1024, .f32⟩
  | .hbm, ⟨43, _⟩ => ⟨S_, .f32⟩
  | .hbm, ⟨44, _⟩ => ⟨S32768, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S32768x1, .f32⟩
  | .hbm, ⟨53, _⟩ => ⟨S32768x1024, .f32⟩
  | .hbm, ⟨54, _⟩ => ⟨S32768x1024, .f32⟩
  | .hbm, ⟨55, _⟩ => ⟨S32768x1024, .f32⟩
  | .hbm, ⟨56, _⟩ => ⟨S32768x1024, .f32⟩
  | .hbm, ⟨57, _⟩ => ⟨S1024x4096, .f32⟩
  | .hbm, ⟨58, _⟩ => ⟨S32768x4096, .f32⟩
  | .hbm, ⟨59, _⟩ => ⟨S_, .f32⟩
  | .hbm, ⟨60, _⟩ => ⟨S32768x4096, .f32⟩
  | .hbm, ⟨61, _⟩ => ⟨S32768x4096, .f32⟩
  | .hbm, ⟨62, _⟩ => ⟨S32768x4096, .f32⟩
  | .hbm, ⟨63, _⟩ => ⟨S4096x1024, .f32⟩
  | .hbm, ⟨64, _⟩ => ⟨S32768x1024, .f32⟩
  | .hbm, ⟨65, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_call0_cst : Ref sig .tc := ⟨.hbm, 59, rfl⟩
abbrev main_call0_v0 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Proof.InRef.lean ====
/- The reference of the input projection, in named stages over variables: the normalised rows, their projection, the
    norm of each head, and the arrays the attentions take. -/
module

public import proofs.«01_k».proof.Proof.Gen.RefInIdeal.Run
public import Idealize.ShloMosaic.Lib.Pointwise

@[expose] public section

set_option maxRecDepth 16384

noncomputable section

namespace Cert.RefInIdeal.Stages

open Cert.RefInIdeal Cert.RefInIdeal.Gen Idealize.ShloMosaic Idealize.ShloMosaic.TcCoe Idealize.SL.Sem

/-- The RMS norm of every row of `x`, with its gain. -/
def normed (x : FVec Ideal S32768x1024 .f32) (gn : FVec Ideal S1x1024 .f32) : FVec Ideal S32768x1024 .f32 :=
  mulf (mulf x (broadcastInDim S32768x1024 ![0, 1] bcast_S32768x1_S32768x1024_0_1
      (Host.rsqrt (addf (Host.divf (broadcastInDim S32768x1 ![0] bcast_S32768_S32768x1_0
          (Host.reduceAdd (mulf x x) (constant S_ .f32 0x00000000#32) reducesTo_S32768x1024_S32768_d1 h_S_))
          (broadcastInDim S32768x1 ![] bcast_S_S32768x1 (constant S_ .f32 0x44800000#32)))
        (broadcastInDim S32768x1 ![] bcast_S_S32768x1 (constant S_ .f32 0x358637BD#32))))))
    (broadcastInDim S32768x1024 ![0, 1] bcast_S1x1024_S32768x1024_0_1 gn)

/-- The projection of the normalised rows by the whole combined weight. -/
def proj (h : FVec Ideal S32768x1024 .f32) (w : FVec Ideal S1024x4352 .bf16) : FVec Ideal S32768x4352 .f32 :=
  Host.dotGeneral dot_S32768x1024_S1024x4352_S32768x4352_1_0_0_1_n_n none h (extf .f32 w bitsLt_bf16_f32)

/-- The RMS norm of each of eight heads of 64 columns, times the columns' gains. -/
def heads8 (y : FVec Ideal S32768x512 .f32) (g : FVec Ideal S1x512 .f32) : FVec Ideal S32768x512 .f32 :=
  mulf (shapeCast S32768x512 (mulf (shapeCast S32768x8x64 y shapeCasts_S32768x512_S32768x8x64)
      (broadcastInDim S32768x8x64 ![0, 1, 2] bcast_S32768x8x1_S32768x8x64_0_1_2
        (Host.rsqrt (addf (Host.divf (broadcastInDim S32768x8x1 ![0, 1] bcast_S32768x8_S32768x8x1_0_1
            (Host.reduceAdd (mulf (shapeCast S32768x8x64 y shapeCasts_S32768x512_S32768x8x64) (shapeCast S32768x8x64 y shapeCasts_S32768x512_S32768x8x64))
              (constant S_ .f32 0x00000000#32) reducesTo_S32768x8x64_S32768x8_d2 h_S_))
            (broadcastInDim S32768x8x1 ![] bcast_S_S32768x8x1 (constant S_ .f32 0x42800000#32)))
          (broadcastInDim S32768x8x1 ![] bcast_S_S32768x8x1 (constant S_ .f32 0x358637BD#32))))))
      shapeCasts_S32768x8x64_S32768x512)
    (broadcastInDim S32768x512 ![0, 1] bcast_S1x512_S32768x512_0_1 g)

/-- The same of two heads. -/
def heads2 (y : FVec Ideal S32768x128 .f32) (g : FVec Ideal S1x128 .f32) : FVec Ideal S32768x128 .f32 :=
  mulf (shapeCast S32768x128 (mulf (shapeCast S32768x2x64 y shapeCasts_S32768x128_S32768x2x64)
      (broadcastInDim S32768x2x64 ![0, 1, 2] bcast_S32768x2x1_S32768x2x64_0_1_2
        (Host.rsqrt (addf (Host.divf (broadcastInDim S32768x2x1 ![0, 1] bcast_S32768x2_S32768x2x1_0_1
            (Host.reduceAdd (mulf (shapeCast S32768x2x64 y shapeCasts_S32768x128_S32768x2x64) (shapeCast S32768x2x64 y shapeCasts_S32768x128_S32768x2x64))
              (constant S_ .f32 0x00000000#32) reducesTo_S32768x2x64_S32768x2_d2 h_S_))
            (broadcastInDim S32768x2x1 ![] bcast_S_S32768x2x1 (constant S_ .f32 0x42800000#32)))
          (broadcastInDim S32768x2x1 ![] bcast_S_S32768x2x1 (constant S_ .f32 0x358637BD#32))))))
      shapeCasts_S32768x2x64_S32768x128)
    (broadcastInDim S32768x128 ![0, 1] bcast_S1x128_S32768x128_0_1 g)

/-- The queries: eight normalised heads, scaled. -/
def queries (y : FVec Ideal S32768x512 .f32) (g : FVec Ideal S1x512 .f32) : FVec Ideal S32768x512 .bf16 :=
  truncf .bf16 (mulf (heads8 y g) (broadcastInDim S32768x512 ![] bcast_S_S32768x512 (constant S_ .f32 0x3E38AA3B#32))) bitsLt_bf16_f32

/-- The first branch's keys, block by block of 256 rows, each block's mean. -/
def means (k : FVec Ideal S32768x512 .f32) : FVec Ideal S32x4x512 .f32 :=
  shapeCast S32x4x512 (Host.divf (Host.reduceAdd (shapeCast S128x256x512 k shapeCasts_S32768x512_S128x256x512) (constant S_ .f32 0x00000000#32)
    reducesTo_S128x256x512_S128x512_d1 h_S_) (broadcastInDim S128x512 ![] bcast_S_S128x512 (constant S_ .f32 0x43800000#32))) shapeCasts_S128x512_S32x4x512

/-- The second branch's keys, each of the two heads twice over. -/
def twice (k : FVec Ideal S32768x128 .f32) : FVec Ideal S32768x256 .bf16 :=
  truncf .bf16 (concatenate S32768x256 1 [⟨S32768x64, extractStridedSlice S32768x64 ![0, 0] k slices_S32768x128_S32768x64_0_0⟩,
    ⟨S32768x64, extractStridedSlice S32768x64 ![0, 0] k slices_S32768x128_S32768x64_0_0⟩,
    ⟨S32768x64, extractStridedSlice S32768x64 ![0, 64] k slices_S32768x128_S32768x64_0_64⟩,
    ⟨S32768x64, extractStridedSlice S32768x64 ![0, 64] k slices_S32768x128_S32768x64_0_64⟩] concatenates_S32768x64_S32768x64_S32768x64_S32768x64_S32768x256_d1) bitsLt_bf16_f32

/-- The first branch's values, block by block of 256 rows, transposed. -/
def valuesA (v : FVec Ideal S32768x512 .f32) : FVec Ideal S128x512x256 .bf16 :=
  truncf .bf16 (transpose S128x512x256 [0, 2, 1] (shapeCast S128x256x512 v shapeCasts_S32768x512_S128x256x512) transposes_S128x256x512_S128x512x256_0_2_1) bitsLt_bf16_f32

/-- The second branch's values, block by block of 128 rows, transposed. -/
def valuesB (v : FVec Ideal S32768x128 .f32) : FVec Ideal S256x128x128 .bf16 :=
  truncf .bf16 (transpose S256x128x128 [0, 2, 1] (shapeCast S256x128x128 v shapeCasts_S32768x128_S256x128x128) transposes_S256x128x128_S256x128x128_0_2_1) bitsLt_bf16_f32

/-- Columns 0 to 511 of the projection: the first branch's queries. -/
def colsQA (p : FVec Ideal S32768x4352 .f32) : FVec Ideal S32768x512 .f32 := extractStridedSlice S32768x512 ![0, 0] p slices_S32768x4352_S32768x512_0_0

/-- Columns 512 to 1023: the first branch's keys. -/
def colsKA (p : FVec Ideal S32768x4352 .f32) : FVec Ideal S32768x512 .f32 := extractStridedSlice S32768x512 ![0, 512] p slices_S32768x4352_S32768x512_0_512

/-- Columns 1024 to 1535: the first branch's values. -/
def colsVA (p : FVec Ideal S32768x4352 .f32) : FVec Ideal S32768x512 .f32 := extractStridedSlice S32768x512 ![0, 1024] p slices_S32768x4352_S32768x512_0_1024

/-- Columns 1536 to 2047: the second branch's queries. -/
def colsQB (p : FVec Ideal S32768x4352 .f32) : FVec Ideal S32768x512 .f32 := extractStridedSlice S32768x512 ![0, 1536] p slices_S32768x4352_S32768x512_0_1536

/-- Columns 2048 to 2175: the second branch's keys. -/
def colsKB (p : FVec Ideal S32768x4352 .f32) : FVec Ideal S32768x128 .f32 := extractStridedSlice S32768x128 ![0, 2048] p slices_S32768x4352_S32768x128_0_2048

/-- Columns 2176 to 2303: the second branch's values. -/
def colsVB (p : FVec Ideal S32768x4352 .f32) : FVec Ideal S32768x128 .f32 := extractStridedSlice S32768x128 ![0, 2176] p slices_S32768x4352_S32768x128_0_2176

/-- Columns 2304 to 4351: the gates. -/
def gates (p : FVec Ideal S32768x4352 .f32) : FVec Ideal S32768x2048 .bf16 :=
  truncf .bf16 (extractStridedSlice S32768x2048 ![0, 2304] p slices_S32768x4352_S32768x2048_0_2304) bitsLt_bf16_f32

end Cert.RefInIdeal.Stages

end
-- ==== Proof.InBody.lean ====
/- What one 256-row part of a block of the input projection computes: the normalised rows, and the norm of each head
    of the projected columns, read at an element, are the reference's at the row that the part's row stands for. -/
module

public import proofs.«01_k».proof.Proof.Gen.InprojIdeal.Skeleton
public import proofs.«01_k».proof.Proof.InRef
public import Idealize.ShloMosaic.Lib.Pipeline.ValueKit

@[expose] public section

set_option maxRecDepth 16384

noncomputable section

namespace Cert.InprojIdeal.Block

open Cert.InprojIdeal Cert.InprojIdeal.Gen Idealize.ShloMosaic Idealize.ShloMosaic.TcCoe Idealize.SL.Sem
open Cert.RefInIdeal (S32768x128)
open Cert.RefInIdeal.Stages (normed proj heads8 heads2)

/-- The lanes of a pair of heads that belong to the first of the two. -/
def first : IVec S256x128 1 := cmpi .slt (iota .tc S256x128 32 [1] iota_S256x128_d1_w32) (broadcast S256x128 64#32)

/-- The sum of `v` over all lanes, in each row. -/
def lanes (v : FVec Ideal S256x128 .f32) : FVec Ideal S256x128 .f32 :=
  broadcastTo S256x128 (shapeCast S256x1 (shapeCast S256x1 (multiReduction .add [1] S256 v 0x00000000#32 reduces_S256x128_S256 (.inl rfl) rfl)
    shapeCasts_S256_S256x1) shapeCasts_S256x1_S256x1) broadcasts_S256x1_S256x128

/-- The norms of a pair of heads: each head's 64 lanes divided by the root of their mean square. -/
def pair (y : FVec Ideal S256x128 .f32) : FVec Ideal S256x128 .f32 :=
  mulf y (rsqrt (addf (mulf (select first
      (lanes (select first (mulf y y) (broadcast S256x128 (Scalar.ofBits (F := Ideal) .f32 0x00000000#32))))
      (lanes (select first (broadcast S256x128 (Scalar.ofBits (F := Ideal) .f32 0x00000000#32)) (mulf y y))))
    (broadcast S256x128 (Scalar.ofBits (F := Ideal) .f32 0x3C800000#32))) (broadcast S256x128 (Scalar.ofBits (F := Ideal) .f32 0x358637BD#32))))

/-- The norms of eight heads, pair by pair, times the columns' gains. -/
def heads (y : FVec Ideal S256x512 .f32) (g : FVec Ideal S1x512 .f32) : FVec Ideal S256x512 .f32 :=
  mulf (concatenate S256x512 1 [⟨S256x128, pair (extractStridedSlice S256x128 ![0, 0] y slices_S256x512_o0_0_S256x128)⟩,
      ⟨S256x128, pair (extractStridedSlice S256x128 ![0, 128] y slices_S256x512_o0_128_S256x128)⟩,
      ⟨S256x128, pair (extractStridedSlice S256x128 ![0, 256] y slices_S256x512_o0_256_S256x128)⟩,
      ⟨S256x128, pair (extractStridedSlice S256x128 ![0, 384] y slices_S256x512_o0_384_S256x128)⟩]
      concatenates_S256x128_S256x128_S256x128_S256x128_S256x512_d1)
    (broadcastTo S256x512 g broadcasts_S1x512_S256x512)

/-- The lane's bit: 1 in the first 64 lanes, 0 in the others. -/
theorem bit : ∀ l : Fin 128, IntOp.cmpi CmpIPredicate.slt (BitVec.ofNat 32 l) 64#32 = if l.val < 64 then 1#1 else 0#1 := by
  decide +kernel

/-- The constant the mean divides by. -/
theorem w64 : Ideal.ofBits FTy.f32 1115684864#32 = ((64 : ℝ) : EReal) := by
  simp [Ideal.ofBits, Ideal.ieee, -EReal.coe_mul]; norm_num

/-- The constant the kernel multiplies by instead, its reciprocal. -/
theorem winv64 : Ideal.ofBits FTy.f32 1015021568#32 = ((1 / 64 : ℝ) : EReal) := by
  simp [Ideal.ofBits, Ideal.ieee, -EReal.coe_mul]; norm_num

/-- A head's norm at lane `l` of a pair of heads: the lane over the root of the mean square of its head's 64 lanes. -/
theorem pair_at (y : FVec Ideal S256x128 .f32) (r : Fin 256) (l : Fin 128) :
    pair y (ix2 r l) = y (ix2 r l) * Ideal.rsqrt (Ideal.div (∑ d : Fin 64, y (ix2 r ⟨l / 64 * 64 + d, by omega⟩) * y (ix2 r ⟨l / 64 * 64 + d, by omega⟩))
      (Ideal.ofBits FTy.f32 1115684864#32) + Ideal.ofBits FTy.f32 897988541#32) := by
  pointwise [pair, lanes, first]
  rw [w64, winv64, Ideal.div_coe (by norm_num : (64 : ℝ) ≠ 0)]
  simp only [bit]
  rw [Fin.sum_univ_tiles 2 64 rfl, Fin.sum_univ_tiles 2 64 rfl]
  simp only [Fin.sum_univ_two, Fin.val_zero, Fin.val_one]
  by_cases h : l.val < 64
  · have e : l.val / 64 = 0 := by omega
    simp [h, e, Scalar.select]
  · have e : l.val / 64 = 1 := by omega
    simp [h, e, Scalar.select]

/-- The RMS norm of row `r` of the part is the reference's of row `R`. -/
theorem normed_at (x : FVec Ideal S32768x1024 .f32) (gn : FVec Ideal S1x1024 .f32) (xb : FVec Ideal S256x1024 .f32)
    (r : Fin 256) (R : Fin 32768) (hx : ∀ k : Fin 1024, xb (ix2 r k) = x (ix2 R k)) (l : Fin 1024) :
    k0_pay8 (F := Ideal) xb gn (ix2 r l) = normed x gn (ix2 R l) := by
  pointwise [k0_pay8, normed, hx]

/-- The norms of the eight heads at row `r` of the part are the reference's at row `R`, if the projected columns are. -/
theorem heads_at (y : FVec Ideal S256x512 .f32) (Y : FVec Ideal S32768x512 .f32) (g : FVec Ideal S1x512 .f32)
    (r : Fin 256) (R : Fin 32768) (hy : ∀ k : Fin 512, y (ix2 r k) = Y (ix2 R k)) (l : Fin 512) :
    heads y g (ix2 r l) = heads8 Y g (ix2 R l) := by
  pointwise [heads, heads8, pair_at, hy]
  have key : ∀ (a : Fin 512) (f : Fin 64 → Fin 512) (F : Fin 64 → Fin 512), a.val = l.val → (∀ x, (f x).val = (F x).val) →
      Y (ix2 R a) * Ideal.rsqrt (Ideal.div (∑ x, Y (ix2 R (f x)) * Y (ix2 R (f x))) (Ideal.ofBits FTy.f32 1115684864#32) + Ideal.ofBits FTy.f32 897988541#32)
      = Y (ix2 R l) * Ideal.rsqrt (Ideal.div (∑ x, Y (ix2 R (F x)) * Y (ix2 R (F x))) (Ideal.ofBits FTy.f32 1115684864#32) + Ideal.ofBits FTy.f32 897988541#32) := by
    intro a f F ha hf
    rw [Fin.ext ha, funext fun x => Fin.ext (hf x)]
  congr 1
  have hl := l.isLt
  by_cases h0 : l.val < 128
  · rw [dif_pos h0]
  rw [dif_neg h0]
  by_cases h1 : l.val - 128 < 128
  · rw [dif_pos h1]
    exact key _ _ _ (by simp <;> omega) (fun x => by simp <;> omega)
  rw [dif_neg h1]
  by_cases h2 : l.val - 128 - 128 < 128
  · rw [dif_pos h2]
    exact key _ _ _ (by simp <;> omega) (fun x => by simp <;> omega)
  rw [dif_neg h2]
  exact key _ _ _ (by simp <;> omega) (fun x => by simp <;> omega)

/-- The second branch's keys of a part: the norms of its two heads, times their gains. -/
def heads₂ (y : FVec Ideal S256x128 .f32) (g : FVec Ideal S1x128 .f32) : FVec Ideal S256x128 .f32 :=
  mulf (pair y) (broadcastTo S256x128 g broadcasts_S1x128_S256x128)

/-- Two heads' norms at row `r` of the part are the reference's at row `R`. -/
theorem heads₂_at (y : FVec Ideal S256x128 .f32) (Y : FVec Ideal S32768x128 .f32) (g : FVec Ideal S1x128 .f32)
    (r : Fin 256) (R : Fin 32768) (hy : ∀ k : Fin 128, y (ix2 r k) = Y (ix2 R k)) (l : Fin 128) :
    heads₂ y g (ix2 r l) = heads2 Y g (ix2 R l) := by
  pointwise [heads₂, heads2, pair_at, hy]

/-- Each of two heads twice over. -/
def double (k : FVec Ideal S256x128 .f32) : FVec Ideal S256x256 .bf16 :=
  truncf .bf16 (concatenate S256x256 1 [⟨S256x128, select first k (dynamicRotate 1 64#32 none k rotates_S256x128_d1)⟩,
    ⟨S256x128, select first (dynamicRotate 1 64#32 none k rotates_S256x128_d1) k⟩] concatenates_S256x128_S256x128_S256x256_d1) bitsLt_bf16_f32

/-- The doubled keys at row `r` of the part are the reference's at row `R`. -/
theorem double_at (k : FVec Ideal S256x128 .f32) (K : FVec Ideal S32768x128 .f32) (r : Fin 256) (R : Fin 32768)
    (hk : ∀ l : Fin 128, k (ix2 r l) = K (ix2 R l)) (l : Fin 256) : double k (ix2 r l) = Cert.RefInIdeal.Stages.twice K (ix2 R l) := by
  pointwise [double, first, Cert.RefInIdeal.Stages.twice, hk]
  have hl := l.isLt
  have b1 : ∀ h : l.val < 128, IntOp.cmpi CmpIPredicate.slt (BitVec.ofNat 32 l.val) 64#32 = if l.val < 64 then 1#1 else 0#1 :=
    fun h => bit ⟨l.val, h⟩
  have b2 : ∀ h : l.val - 128 < 128, IntOp.cmpi CmpIPredicate.slt (BitVec.ofNat 32 (l.val - 128)) 64#32 = if l.val - 128 < 64 then 1#1 else 0#1 :=
    fun h => bit ⟨l.val - 128, h⟩
  have key : ∀ a b : Fin 128, a.val = b.val → K (ix2 R a) = K (ix2 R b) := fun a b h => by rw [Fin.ext h]
  by_cases h0 : l.val < 64
  · rw [dif_pos (by omega), dif_pos h0, b1 (by omega), if_pos h0]
    exact key _ _ (by simp)
  rw [dif_neg h0]
  by_cases h1 : l.val < 128
  · rw [dif_pos h1, dif_pos (by omega), b1 h1, if_neg h0]
    exact key _ _ (by simp <;> omega)
  rw [dif_neg h1, dif_neg (by omega), b2 (by omega)]
  by_cases h2 : l.val - 128 < 64
  · rw [dif_pos (by omega), if_pos h2]
    exact key _ _ (by simp <;> omega)
  · rw [dif_neg (by omega), if_neg h2]
    exact key _ _ (by simp <;> omega)

/-- The product of a part's normalised rows with 512 columns of the weight. -/
def dot (h : FVec Ideal S256x1024 .bf16) (w : FVec Ideal S1024x512 .bf16) : FVec Ideal S256x512 .f32 :=
  matmul dot_S256x1024_S1024x512_S256x512_1_0_0_1_n_n none h w (constant S256x512 .f32 0x00000000#32)

/-- A part's queries: the norms of its projected heads, scaled. -/
def queries (h : FVec Ideal S256x1024 .bf16) (w : FVec Ideal S1024x512 .bf16) (g : FVec Ideal S1x512 .f32) : FVec Ideal S256x512 .bf16 :=
  truncf .bf16 (mulf (heads (dot h w) g) (broadcast S256x512 (Scalar.ofBits (F := Ideal) .f32 0x3E38AA3B#32))) bitsLt_bf16_f32

/-- A part's keys of the first branch. -/
def keys (h : FVec Ideal S256x1024 .bf16) (w : FVec Ideal S1024x512 .bf16) (g : FVec Ideal S1x512 .f32) : FVec Ideal S256x512 .bf16 :=
  truncf .bf16 (heads (dot h w) g) bitsLt_bf16_f32

/-- The mean of a part's keys. -/
def mean (h : FVec Ideal S256x1024 .bf16) (w : FVec Ideal S1024x512 .bf16) (g : FVec Ideal S1x512 .f32) : FVec Ideal S1x1x512 .f32 :=
  shapeCast S1x1x512 (mulf (shapeCast S1x512 (multiReduction .add [0] S512 (heads (dot h w) g) 0x00000000#32 reduces_S256x512_S512 (.inl rfl) rfl) shapeCasts_S512_S1x512)
    (broadcast S1x512 (Scalar.ofBits (F := Ideal) .f32 0x3B800000#32))) shapeCasts_S1x512_S1x1x512

/-- A part's keys of the second branch, doubled. -/
def keys₂ (h : FVec Ideal S256x1024 .bf16) (w : FVec Ideal S1024x256 .bf16) (g : FVec Ideal S1x128 .f32) : FVec Ideal S256x256 .bf16 :=
  double (heads₂ (extractStridedSlice S256x128 ![0, 0] (k0_pay41 (F := Ideal) h w) slices_S256x256_o0_0_S256x128) g)

section Rows

variable (x : FVec Ideal S32768x1024 .f32) (gn : FVec Ideal S1x1024 .f32) (W : FVec Ideal S1024x4352 .bf16)
  (xb : FVec Ideal S256x1024 .f32) (r : Fin 256) (R : Fin 32768) (hx : ∀ k : Fin 1024, xb (ix2 r k) = x (ix2 R k))

include hx

/-- The first branch's queries of a part are the reference's. -/
theorem queriesA_at (w : FVec Ideal S1024x512 .bf16) (g : FVec Ideal S1x512 .f32) (hw : ∀ (k : Fin 1024) (l : Fin 512), w (ix2 k l) = W (ix2 k ⟨l, by omega⟩))
    (l : Fin 512) : queries (k0_pay8 (F := Ideal) xb gn) w g (ix2 r l)
      = Cert.RefInIdeal.Stages.queries (Cert.RefInIdeal.Stages.colsQA (proj (normed x gn) W)) g (ix2 R l) := by
  have hd : ∀ k : Fin 512, dot (k0_pay8 (F := Ideal) xb gn) w (ix2 r k) = Cert.RefInIdeal.Stages.colsQA (proj (normed x gn) W) (ix2 R k) := fun k => by
    pointwise [dot, Cert.RefInIdeal.Stages.colsQA, proj, normed_at x gn xb r R hx, hw]
  pointwise [queries, Cert.RefInIdeal.Stages.queries, heads_at _ _ g r R hd]

/-- The second branch's queries of a part are the reference's. -/
theorem queriesB_at (w : FVec Ideal S1024x512 .bf16) (g : FVec Ideal S1x512 .f32) (hw : ∀ (k : Fin 1024) (l : Fin 512), w (ix2 k l) = W (ix2 k ⟨1536 + l, by omega⟩))
    (l : Fin 512) : queries (k0_pay8 (F := Ideal) xb gn) w g (ix2 r l)
      = Cert.RefInIdeal.Stages.queries (Cert.RefInIdeal.Stages.colsQB (proj (normed x gn) W)) g (ix2 R l) := by
  have hd : ∀ k : Fin 512, dot (k0_pay8 (F := Ideal) xb gn) w (ix2 r k) = Cert.RefInIdeal.Stages.colsQB (proj (normed x gn) W) (ix2 R k) := fun k => by
    pointwise [dot, Cert.RefInIdeal.Stages.colsQB, proj, normed_at x gn xb r R hx, hw]
  pointwise [queries, Cert.RefInIdeal.Stages.queries, heads_at _ _ g r R hd]

/-- The first branch's keys of a part, before the cast, are the reference's. -/
theorem headsA_at (w : FVec Ideal S1024x512 .bf16) (g : FVec Ideal S1x512 .f32) (hw : ∀ (k : Fin 1024) (l : Fin 512), w (ix2 k l) = W (ix2 k ⟨512 + l, by omega⟩))
    (l : Fin 512) : heads (dot (k0_pay8 (F := Ideal) xb gn) w) g (ix2 r l)
      = heads8 (Cert.RefInIdeal.Stages.colsKA (proj (normed x gn) W)) g (ix2 R l) := by
  have hd : ∀ k : Fin 512, dot (k0_pay8 (F := Ideal) xb gn) w (ix2 r k) = Cert.RefInIdeal.Stages.colsKA (proj (normed x gn) W) (ix2 R k) := fun k => by
    pointwise [dot, Cert.RefInIdeal.Stages.colsKA, proj, normed_at x gn xb r R hx, hw]
  exact heads_at _ _ g r R hd l

/-- The gates of a part are the reference's. -/
theorem gates_at (w : FVec Ideal S1024x2048 .bf16) (hw : ∀ (k : Fin 1024) (l : Fin 2048), w (ix2 k l) = W (ix2 k ⟨2304 + l, by omega⟩))
    (l : Fin 2048) : k0_pay40 (F := Ideal) (k0_pay8 xb gn) w (ix2 r l) = Cert.RefInIdeal.Stages.gates (proj (normed x gn) W) (ix2 R l) := by
  pointwise [k0_pay40, Cert.RefInIdeal.Stages.gates, proj, normed_at x gn xb r R hx, hw]

/-- The second branch's doubled keys of a part are the reference's. -/
theorem keys₂_at (w : FVec Ideal S1024x256 .bf16) (g : FVec Ideal S1x128 .f32) (hw : ∀ (k : Fin 1024) (l : Fin 256), w (ix2 k l) = W (ix2 k ⟨2048 + l, by omega⟩))
    (l : Fin 256) : keys₂ (k0_pay8 (F := Ideal) xb gn) w g (ix2 r l)
      = Cert.RefInIdeal.Stages.twice (heads2 (Cert.RefInIdeal.Stages.colsKB (proj (normed x gn) W)) g) (ix2 R l) := by
  have hd : ∀ k : Fin 128, extractStridedSlice S256x128 ![0, 0] (k0_pay41 (F := Ideal) (k0_pay8 xb gn) w) slices_S256x256_o0_0_S256x128 (ix2 r k)
      = Cert.RefInIdeal.Stages.colsKB (proj (normed x gn) W) (ix2 R k) := fun k => by
    pointwise [k0_pay41, Cert.RefInIdeal.Stages.colsKB, proj, normed_at x gn xb r R hx, hw]
  exact double_at _ _ r R (fun k => heads₂_at _ _ g r R hd k) l

end Rows

end Cert.InprojIdeal.Block

end
-- ==== Proof.InBodyT.lean ====
/- The transposed values and the mean keys of one 256-row part of the input projection's block, read at an element. -/
module

public import proofs.«01_k».proof.Proof.InBody

@[expose] public section

set_option maxRecDepth 16384

noncomputable section

namespace Cert.InprojIdeal.Block

open Cert.InprojIdeal Cert.InprojIdeal.Gen Idealize.ShloMosaic Idealize.ShloMosaic.TcCoe Idealize.SL.Sem
open Cert.RefInIdeal (S32768x128 S128x256x512)
open Cert.RefInIdeal.Stages (normed proj heads8 heads2)

/-- The constant the mean over a block's rows divides by. -/
theorem w256 : Ideal.ofBits FTy.f32 0x43800000#32 = ((256 : ℝ) : EReal) := by
  rw [show Ideal.ofBits FTy.f32 0x43800000#32 = Ideal.ofBits FTy.f32 0x43800000#32 from rfl]
  simp [Ideal.ofBits, Ideal.ieee, -EReal.coe_mul]; norm_num

/-- The constant the kernel multiplies by instead, its reciprocal. -/
theorem winv256 : Ideal.ofBits FTy.f32 0x3B800000#32 = ((1 / 256 : ℝ) : EReal) := by
  simp [Ideal.ofBits, Ideal.ieee, -EReal.coe_mul]; norm_num

/-- A part's transposed values of the first branch: column `c` of row `r` is the reference's, in the array of blocks
    `n` of 256 rows. -/
theorem valuesA_at (x : FVec Ideal S32768x1024 .f32) (gn : FVec Ideal S1x1024 .f32) (W : FVec Ideal S1024x4352 .bf16)
    (xb : FVec Ideal S256x1024 .f32) (n : Fin 128) (hx : ∀ (r : Fin 256) (k : Fin 1024), xb (ix2 r k) = x (ix2 ⟨n * 256 + r, by omega⟩ k))
    (w : FVec Ideal S1024x512 .bf16) (hw : ∀ (k : Fin 1024) (l : Fin 512), w (ix2 k l) = W (ix2 k ⟨1024 + l, by omega⟩))
    (c : Fin 512) (r : Fin 256) :
    k0_pay43 (F := Ideal) (k0_pay8 xb gn) w (constant S256x512 .f32 0x00000000#32) (ix3 0 c r)
      = Cert.RefInIdeal.Stages.valuesA (Cert.RefInIdeal.Stages.colsVA (proj (normed x gn) W)) (ix3 n c r) := by
  have hh : ∀ k : Fin 1024, k0_pay8 (F := Ideal) xb gn (ix2 r k) = normed x gn (ix2 ⟨n * 256 + r, by omega⟩ k) := fun k =>
    normed_at x gn xb r _ (hx r) k
  pointwise [k0_pay43, Cert.RefInIdeal.Stages.valuesA, Cert.RefInIdeal.Stages.colsVA, proj, hh, hw]

/-- The same of the second branch, rows 0 to 127 of the part, in the array of blocks of 128 rows. -/
theorem valuesB0_at (x : FVec Ideal S32768x1024 .f32) (gn : FVec Ideal S1x1024 .f32) (W : FVec Ideal S1024x4352 .bf16)
    (xb : FVec Ideal S256x1024 .f32) (n : Fin 128) (hx : ∀ (r : Fin 256) (k : Fin 1024), xb (ix2 r k) = x (ix2 ⟨n * 256 + r, by omega⟩ k))
    (w : FVec Ideal S1024x256 .bf16) (hw : ∀ (k : Fin 1024) (l : Fin 256), w (ix2 k l) = W (ix2 k ⟨2048 + l, by omega⟩))
    (c : Fin 128) (r : Fin 128) :
    k0_pay45 (F := Ideal) (k0_pay41 (k0_pay8 xb gn) w) (ix3 0 c r)
      = Cert.RefInIdeal.Stages.valuesB (Cert.RefInIdeal.Stages.colsVB (proj (normed x gn) W)) (ix3 ⟨2 * n, by omega⟩ c r) := by
  have hh : ∀ k : Fin 1024, k0_pay8 (F := Ideal) xb gn (ix2 ⟨r, by omega⟩ k) = normed x gn (ix2 ⟨2 * n * 128 + r, by omega⟩ k) := fun k =>
    normed_at x gn xb _ _ (fun k => (hx _ k).trans (by congr 2; apply Fin.ext; show n.val * 256 + r.val = 2 * n.val * 128 + r.val; omega)) k
  pointwise [k0_pay45, k0_pay44, k0_pay41, Cert.RefInIdeal.Stages.valuesB, Cert.RefInIdeal.Stages.colsVB, proj, hh, hw]
  exact Finset.sum_congr rfl fun k _ => by rw [show (⟨2048 + (128 + c.val), by omega⟩ : Fin 4352) = ⟨2176 + c.val, by omega⟩ from Fin.ext (by show 2048 + (128 + c.val) = 2176 + c.val; omega)]

/-- The same of the second branch, rows 128 to 255 of the part. -/
theorem valuesB1_at (x : FVec Ideal S32768x1024 .f32) (gn : FVec Ideal S1x1024 .f32) (W : FVec Ideal S1024x4352 .bf16)
    (xb : FVec Ideal S256x1024 .f32) (n : Fin 128) (hx : ∀ (r : Fin 256) (k : Fin 1024), xb (ix2 r k) = x (ix2 ⟨n * 256 + r, by omega⟩ k))
    (w : FVec Ideal S1024x256 .bf16) (hw : ∀ (k : Fin 1024) (l : Fin 256), w (ix2 k l) = W (ix2 k ⟨2048 + l, by omega⟩))
    (c : Fin 128) (r : Fin 128) :
    k0_pay46 (F := Ideal) (k0_pay41 (k0_pay8 xb gn) w) (ix3 0 c r)
      = Cert.RefInIdeal.Stages.valuesB (Cert.RefInIdeal.Stages.colsVB (proj (normed x gn) W)) (ix3 ⟨2 * n + 1, by omega⟩ c r) := by
  have hh : ∀ k : Fin 1024, k0_pay8 (F := Ideal) xb gn (ix2 ⟨128 + r, by omega⟩ k) = normed x gn (ix2 ⟨(2 * n + 1) * 128 + r, by omega⟩ k) := fun k =>
    normed_at x gn xb _ _ (fun k => (hx _ k).trans (by congr 2; apply Fin.ext; show n.val * 256 + (128 + r.val) = (2 * n.val + 1) * 128 + r.val; omega)) k
  pointwise [k0_pay46, k0_pay44, k0_pay41, Cert.RefInIdeal.Stages.valuesB, Cert.RefInIdeal.Stages.colsVB, proj, hh, hw]
  exact Finset.sum_congr rfl fun k _ => by rw [show (⟨2048 + (128 + c.val), by omega⟩ : Fin 4352) = ⟨2176 + c.val, by omega⟩ from Fin.ext (by show 2048 + (128 + c.val) = 2176 + c.val; omega)]

/-- The mean key of a part is the reference's of the block of rows it stands for. -/
theorem mean_at (x : FVec Ideal S32768x1024 .f32) (gn : FVec Ideal S1x1024 .f32) (W : FVec Ideal S1024x4352 .bf16)
    (xb : FVec Ideal S256x1024 .f32) (t : Fin 32) (s : Fin 4) (hx : ∀ (r : Fin 256) (k : Fin 1024), xb (ix2 r k) = x (ix2 ⟨(t * 4 + s) * 256 + r, by omega⟩ k))
    (w : FVec Ideal S1024x512 .bf16) (g : FVec Ideal S1x512 .f32) (hw : ∀ (k : Fin 1024) (l : Fin 512), w (ix2 k l) = W (ix2 k ⟨512 + l, by omega⟩))
    (l : Fin 512) :
    mean (k0_pay8 (F := Ideal) xb gn) w g (ix3 0 0 l)
      = Cert.RefInIdeal.Stages.means (heads8 (Cert.RefInIdeal.Stages.colsKA (proj (normed x gn) W)) g) (ix3 t s l) := by
  have hh : ∀ r : Fin 256, heads (dot (k0_pay8 (F := Ideal) xb gn) w) g (ix2 r l)
      = heads8 (Cert.RefInIdeal.Stages.colsKA (proj (normed x gn) W)) g (ix2 ⟨(t * 4 + s) * 256 + r, by omega⟩ l) := fun r =>
    headsA_at x gn W xb r _ (hx r) w g hw l
  pointwise [mean, Cert.RefInIdeal.Stages.means, hh]
  rw [w256, winv256, Ideal.div_coe (by norm_num : (256 : ℝ) ≠ 0)]

end Cert.InprojIdeal.Block

end
-- ==== Proof.InArray.lean ====
/- What the row arrays of the input projection hold after the run: the queries, the keys and the gates of the reference. -/
module

public import proofs.«01_k».proof.Proof.InBodyT
public import proofs.«01_k».proof.Proof.Gen.InprojIdeal.Frame
public import Idealize.ShloMosaic.Lib.Pipeline.ValueKit

@[expose] public section

set_option maxRecDepth 16384

noncomputable section

namespace Cert.InprojIdeal.Array

open Cert.InprojIdeal Cert.InprojIdeal.Gen Idealize.ShloMosaic Idealize.ShloMosaic.TcCoe Idealize.SL.Sem
open Idealize.ShloMosaic.Pipeline (Dat)
open Cert.RefInIdeal (S32768x128)
open Cert.RefInIdeal.Stages (normed proj heads8 heads2)
open Cert.InprojIdeal.Block

/-- Where the windows stand at grid point `t`: the rows at block `t`, the weights and the gains at their start, the
    outputs at block `t`. -/
theorem idx : ∀ t : Fin cfg0.N, t.val < 32 ∧ win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0, 0] ∧ win0_8.index t = ![t.val, 0, 0] ∧ win0_9.index t = ![t.val, 0, 0] ∧ win0_10.index t = ![t.val, 0, 0]
    ∧ win0_11.index t = ![t.val, 0, 0] ∧ win0_12.index t = ![t.val, 0] ∧ win0_13.index t = ![t.val, 0] ∧ win0_14.index t = ![t.val, 0]
    ∧ win0_15.index t = ![t.val, 0] ∧ win0_16.index t = ![t.val, 0] ∧ win0_17.index t = ![t.val, 0, 0] ∧ win0_18.index t = ![t.val, 0, 0]
    ∧ win0_19.index t = ![t.val, 0, 0] ∧ win0_20.index t = ![t.val, 0, 0] ∧ win0_21.index t = ![t.val, 0, 0] ∧ win0_22.index t = ![t.val, 0, 0]
    ∧ win0_23.index t = ![t.val, 0, 0] ∧ win0_24.index t = ![t.val, 0, 0] :=
  (by decide +kernel : ∀ t : Fin grid0.N, _)

section Blocks

variable (X : FVec Ideal S32768x1024 .f32) (t : Fin 32)
variable (x0 : Vec Ideal S1024x1024 .f32) (x1 : Vec Ideal S1x1024 .f32) (x2 : Vec Ideal S1024x4352 .bf16)
  (x3 x4 x5 : Vec Ideal S1x512 .f32) (x6 : Vec Ideal S1x128 .f32) (x7 x8 : Vec Ideal S1x16x1024 .f32)
  (x9 : Vec Ideal S1x32x1024 .f32) (x10 : Vec Ideal S1x32x4096 .f32) (x11 : Vec Ideal S1x128x1024 .f32)
variable (hx : ∀ (r k : Fin 1024), x0 (ix2 r k) = X (ix2 ⟨t * 1024 + r, by omega⟩ k))

include hx

/-- Rows 0 to 255 of a block. -/
theorem hrow0 (r : Fin 256) (k : Fin 1024) : View.ld x0 r0_4 (ix2 r k) = X (ix2 ⟨(t * 4 + 0) * 256 + r, by omega⟩ k) := by
  rw [show (⟨(t * 4 + 0) * 256 + r, by omega⟩ : Fin 32768) = ⟨t * 1024 + (⟨r, by omega⟩ : Fin 1024), by simp only []; omega⟩ from
    Fin.ext (by simp only []; omega), ← hx]
  pointwise

/-- Rows 256 to 511 of a block. -/
theorem hrow1 (r : Fin 256) (k : Fin 1024) : View.ld x0 r0_6 (ix2 r k) = X (ix2 ⟨(t * 4 + 1) * 256 + r, by omega⟩ k) := by
  rw [show (⟨(t * 4 + 1) * 256 + r, by omega⟩ : Fin 32768) = ⟨t * 1024 + (⟨256 + r, by omega⟩ : Fin 1024), by simp only []; omega⟩ from
    Fin.ext (by simp only []; omega), ← hx]
  pointwise

/-- Rows 512 to 767 of a block. -/
theorem hrow2 (r : Fin 256) (k : Fin 1024) : View.ld x0 r0_7 (ix2 r k) = X (ix2 ⟨(t * 4 + 2) * 256 + r, by omega⟩ k) := by
  rw [show (⟨(t * 4 + 2) * 256 + r, by omega⟩ : Fin 32768) = ⟨t * 1024 + (⟨512 + r, by omega⟩ : Fin 1024), by simp only []; omega⟩ from
    Fin.ext (by simp only []; omega), ← hx]
  pointwise

/-- Rows 768 to 1023 of a block. -/
theorem hrow3 (r : Fin 256) (k : Fin 1024) : View.ld x0 r0_8 (ix2 r k) = X (ix2 ⟨(t * 4 + 3) * 256 + r, by omega⟩ k) := by
  rw [show (⟨(t * 4 + 3) * 256 + r, by omega⟩ : Fin 32768) = ⟨t * 1024 + (⟨768 + r, by omega⟩ : Fin 1024), by simp only []; omega⟩ from
    Fin.ext (by simp only []; omega), ← hx]
  pointwise

/-- A block's queries of the first branch. -/
theorem block12 (r : Fin 1024) (l : Fin 512) : out0_12 (F := Ideal) x0 x1 x2 x3 x4 x5 x6 x7 x8 x9 x10 x11 (ix2 r l)
    = Cert.RefInIdeal.Stages.queries (Cert.RefInIdeal.Stages.colsQA (proj (normed X x1) x2)) x3 (ix2 ⟨t * 1024 + r, by omega⟩ l) := by
  have e : out0_12 (F := Ideal) x0 x1 x2 x3 x4 x5 x6 x7 x8 x9 x10 x11
      = View.canon [⟨r0_38, queries (k0_pay8 (View.ld x0 r0_8) x1) (View.ld x2 r0_9) x3⟩,
        ⟨r0_31, queries (k0_pay8 (View.ld x0 r0_7) x1) (View.ld x2 r0_9) x3⟩,
        ⟨r0_24, queries (k0_pay8 (View.ld x0 r0_6) x1) (View.ld x2 r0_9) x3⟩,
        ⟨r0_11, queries (k0_pay8 (View.ld x0 r0_4) x1) (View.ld x2 r0_9) x3⟩] := by
    have e1 : View.ld x1 r0_5 = x1 := by frame_out
    have e3 : View.ld x3 r0_10 = x3 := by frame_out
    conv_rhs => rw [← e1, ← e3]
    rfl
  rw [e]
  canon_tiles x h
  all_goals
    obtain ⟨r', l', rfl⟩ : ∃ (r' : Fin 256) (l' : Fin 512), x = ix2 r' l' := ⟨x 0, x 1, eq_ix2 x⟩
    obtain rfl : l = l' := Fin.ext h1
    refine queriesA_at X x1 x2 _ r' ⟨t * 1024 + r, by omega⟩ ?_ _ _ ?_ l
    · intro k
      rw [← hx]
      pointwise
      exact congrArg (fun i => x0 (ix2 i k)) (Fin.ext h0.symm)
    · intro k l
      pointwise

/-- A block's keys of the first branch. -/
theorem block13 (r : Fin 1024) (l : Fin 512) : out0_13 (F := Ideal) x0 x1 x2 x3 x4 x5 x6 x7 x8 x9 x10 x11 (ix2 r l)
    = truncf .bf16 (heads8 (Cert.RefInIdeal.Stages.colsKA (proj (normed X x1) x2)) x4) bitsLt_bf16_f32 (ix2 ⟨t * 1024 + r, by omega⟩ l) := by
  have e : out0_13 (F := Ideal) x0 x1 x2 x3 x4 x5 x6 x7 x8 x9 x10 x11
      = View.canon [⟨r0_38, keys (k0_pay8 (View.ld x0 r0_8) x1) (View.ld x2 r0_12) x4⟩,
        ⟨r0_31, keys (k0_pay8 (View.ld x0 r0_7) x1) (View.ld x2 r0_12) x4⟩,
        ⟨r0_24, keys (k0_pay8 (View.ld x0 r0_6) x1) (View.ld x2 r0_12) x4⟩,
        ⟨r0_11, keys (k0_pay8 (View.ld x0 r0_4) x1) (View.ld x2 r0_12) x4⟩] := by
    have e1 : View.ld x1 r0_5 = x1 := by frame_out
    have e3 : View.ld x4 r0_10 = x4 := by frame_out
    conv_rhs => rw [← e1, ← e3]
    rfl
  rw [e]
  canon_tiles x h
  all_goals
    obtain ⟨r', l', rfl⟩ : ∃ (r' : Fin 256) (l' : Fin 512), x = ix2 r' l' := ⟨x 0, x 1, eq_ix2 x⟩
    obtain rfl : l = l' := Fin.ext h1
    refine headsA_at X x1 x2 _ r' ⟨t * 1024 + r, by omega⟩ ?_ _ _ ?_ l
    · intro k
      rw [← hx]
      pointwise
      exact congrArg (fun i => x0 (ix2 i k)) (Fin.ext h0.symm)
    · intro k l
      pointwise

/-- A block's queries of the second branch. -/
theorem block14 (r : Fin 1024) (l : Fin 512) : out0_14 (F := Ideal) x0 x1 x2 x3 x4 x5 x6 x7 x8 x9 x10 x11 (ix2 r l)
    = Cert.RefInIdeal.Stages.queries (Cert.RefInIdeal.Stages.colsQB (proj (normed X x1) x2)) x5 (ix2 ⟨t * 1024 + r, by omega⟩ l) := by
  have e : out0_14 (F := Ideal) x0 x1 x2 x3 x4 x5 x6 x7 x8 x9 x10 x11
      = View.canon [⟨r0_38, queries (k0_pay8 (View.ld x0 r0_8) x1) (View.ld x2 r0_14) x5⟩,
        ⟨r0_31, queries (k0_pay8 (View.ld x0 r0_7) x1) (View.ld x2 r0_14) x5⟩,
        ⟨r0_24, queries (k0_pay8 (View.ld x0 r0_6) x1) (View.ld x2 r0_14) x5⟩,
        ⟨r0_11, queries (k0_pay8 (View.ld x0 r0_4) x1) (View.ld x2 r0_14) x5⟩] := by
    have e1 : View.ld x1 r0_5 = x1 := by frame_out
    have e3 : View.ld x5 r0_10 = x5 := by frame_out
    conv_rhs => rw [← e1, ← e3]
    rfl
  rw [e]
  canon_tiles x h
  all_goals
    obtain ⟨r', l', rfl⟩ : ∃ (r' : Fin 256) (l' : Fin 512), x = ix2 r' l' := ⟨x 0, x 1, eq_ix2 x⟩
    obtain rfl : l = l' := Fin.ext h1
    refine queriesB_at X x1 x2 _ r' ⟨t * 1024 + r, by omega⟩ ?_ _ _ ?_ l
    · intro k
      rw [← hx]
      pointwise
      exact congrArg (fun i => x0 (ix2 i k)) (Fin.ext h0.symm)
    · intro k l
      pointwise

/-- A block's keys of the second branch. -/
theorem block15 (r : Fin 1024) (l : Fin 256) : out0_15 (F := Ideal) x0 x1 x2 x3 x4 x5 x6 x7 x8 x9 x10 x11 (ix2 r l)
    = Cert.RefInIdeal.Stages.twice (heads2 (Cert.RefInIdeal.Stages.colsKB (proj (normed X x1) x2)) x6) (ix2 ⟨t * 1024 + r, by omega⟩ l) := by
  have e : out0_15 (F := Ideal) x0 x1 x2 x3 x4 x5 x6 x7 x8 x9 x10 x11
      = View.canon [⟨r0_41, keys₂ (k0_pay8 (View.ld x0 r0_8) x1) (View.ld x2 r0_17) x6⟩,
        ⟨r0_34, keys₂ (k0_pay8 (View.ld x0 r0_7) x1) (View.ld x2 r0_17) x6⟩,
        ⟨r0_27, keys₂ (k0_pay8 (View.ld x0 r0_6) x1) (View.ld x2 r0_17) x6⟩,
        ⟨r0_19, keys₂ (k0_pay8 (View.ld x0 r0_4) x1) (View.ld x2 r0_17) x6⟩] := by
    have e1 : View.ld x1 r0_5 = x1 := by frame_out
    have e3 : View.ld x6 r0_18 = x6 := by frame_out
    conv_rhs => rw [← e1, ← e3]
    rfl
  rw [e]
  canon_tiles x h
  all_goals
    obtain ⟨r', l', rfl⟩ : ∃ (r' : Fin 256) (l' : Fin 256), x = ix2 r' l' := ⟨x 0, x 1, eq_ix2 x⟩
    obtain rfl : l = l' := Fin.ext h1
    refine keys₂_at X x1 x2 _ r' ⟨t * 1024 + r, by omega⟩ ?_ _ _ ?_ l
    · intro k
      rw [← hx]
      pointwise
      exact congrArg (fun i => x0 (ix2 i k)) (Fin.ext h0.symm)
    · intro k l
      pointwise

/-- A block's gates. -/
theorem block16 (r : Fin 1024) (l : Fin 2048) : out0_16 (F := Ideal) x0 x1 x2 x3 x4 x5 x6 x7 x8 x9 x10 x11 (ix2 r l)
    = Cert.RefInIdeal.Stages.gates (proj (normed X x1) x2) (ix2 ⟨t * 1024 + r, by omega⟩ l) := by
  have e : out0_16 (F := Ideal) x0 x1 x2 x3 x4 x5 x6 x7 x8 x9 x10 x11
      = View.canon [⟨r0_40, k0_pay40 (k0_pay8 (View.ld x0 r0_8) x1) (View.ld x2 r0_15)⟩,
        ⟨r0_33, k0_pay40 (k0_pay8 (View.ld x0 r0_7) x1) (View.ld x2 r0_15)⟩,
        ⟨r0_26, k0_pay40 (k0_pay8 (View.ld x0 r0_6) x1) (View.ld x2 r0_15)⟩,
        ⟨r0_16, k0_pay40 (k0_pay8 (View.ld x0 r0_4) x1) (View.ld x2 r0_15)⟩] := by
    have e1 : View.ld x1 r0_5 = x1 := by frame_out
    conv_rhs => rw [← e1]
    rfl
  rw [e]
  canon_tiles x h
  all_goals
    obtain ⟨r', l', rfl⟩ : ∃ (r' : Fin 256) (l' : Fin 2048), x = ix2 r' l' := ⟨x 0, x 1, eq_ix2 x⟩
    obtain rfl : l = l' := Fin.ext h1
    refine gates_at X x1 x2 _ r' ⟨t * 1024 + r, by omega⟩ ?_ _ ?_ l
    · intro k
      rw [← hx]
      pointwise
      exact congrArg (fun i => x0 (ix2 i k)) (Fin.ext h0.symm)
    · intro k l
      pointwise

/-- A block's transposed values of the first branch. -/
theorem block17 (n : Fin 4) (c : Fin 512) (r : Fin 256) : out0_17 (F := Ideal) x0 x1 x2 x3 x4 x5 x6 x7 x8 x9 x10 x11 (ix3 n c r)
    = Cert.RefInIdeal.Stages.valuesA (Cert.RefInIdeal.Stages.colsVA (proj (normed X x1) x2)) (ix3 ⟨t * 4 + n, by omega⟩ c r) := by
  have e : out0_17 (F := Ideal) x0 x1 x2 x3 x4 x5 x6 x7 x8 x9 x10 x11
      = View.canon [⟨r0_42, k0_pay43 (k0_pay8 (View.ld x0 r0_8) x1) (View.ld x2 r0_20) (constant S256x512 .f32 0x00000000#32)⟩,
        ⟨r0_35, k0_pay43 (k0_pay8 (View.ld x0 r0_7) x1) (View.ld x2 r0_20) (constant S256x512 .f32 0x00000000#32)⟩,
        ⟨r0_28, k0_pay43 (k0_pay8 (View.ld x0 r0_6) x1) (View.ld x2 r0_20) (constant S256x512 .f32 0x00000000#32)⟩,
        ⟨r0_21, k0_pay43 (k0_pay8 (View.ld x0 r0_4) x1) (View.ld x2 r0_20) (constant S256x512 .f32 0x00000000#32)⟩] := by
    have e1 : View.ld x1 r0_5 = x1 := by frame_out
    conv_rhs => rw [← e1]
    rfl
  rw [e]
  canon_tiles x h
  · obtain ⟨a, c', r', rfl⟩ : ∃ (a : Fin 1) (c' : Fin 512) (r' : Fin 256), x = ix3 a c' r' := ⟨x 0, x 1, x 2, eq_ix3 x⟩
    obtain rfl : a = 0 := Subsingleton.elim _ _
    obtain rfl : c = c' := Fin.ext h1
    obtain rfl : r = r' := Fin.ext h2
    obtain rfl : n = 3 := Fin.ext h0
    exact valuesA_at X x1 x2 _ ⟨t * 4 + 3, by omega⟩ (hrow3 X t x0 hx) _ (fun k l => by pointwise) c r
  · obtain ⟨a, c', r', rfl⟩ : ∃ (a : Fin 1) (c' : Fin 512) (r' : Fin 256), x = ix3 a c' r' := ⟨x 0, x 1, x 2, eq_ix3 x⟩
    obtain rfl : a = 0 := Subsingleton.elim _ _
    obtain rfl : c = c' := Fin.ext h1
    obtain rfl : r = r' := Fin.ext h2
    obtain rfl : n = 2 := Fin.ext h0
    exact valuesA_at X x1 x2 _ ⟨t * 4 + 2, by omega⟩ (hrow2 X t x0 hx) _ (fun k l => by pointwise) c r
  · obtain ⟨a, c', r', rfl⟩ : ∃ (a : Fin 1) (c' : Fin 512) (r' : Fin 256), x = ix3 a c' r' := ⟨x 0, x 1, x 2, eq_ix3 x⟩
    obtain rfl : a = 0 := Subsingleton.elim _ _
    obtain rfl : c = c' := Fin.ext h1
    obtain rfl : r = r' := Fin.ext h2
    obtain rfl : n = 1 := Fin.ext h0
    exact valuesA_at X x1 x2 _ ⟨t * 4 + 1, by omega⟩ (hrow1 X t x0 hx) _ (fun k l => by pointwise) c r
  · obtain ⟨a, c', r', rfl⟩ : ∃ (a : Fin 1) (c' : Fin 512) (r' : Fin 256), x = ix3 a c' r' := ⟨x 0, x 1, x 2, eq_ix3 x⟩
    obtain rfl : a = 0 := Subsingleton.elim _ _
    obtain rfl : c = c' := Fin.ext h1
    obtain rfl : r = r' := Fin.ext h2
    obtain rfl : n = 0 := Fin.ext h0
    exact valuesA_at X x1 x2 _ ⟨t * 4 + 0, by omega⟩ (hrow0 X t x0 hx) _ (fun k l => by pointwise) c r

/-- A block's transposed values of the second branch. -/
theorem block18 (n : Fin 8) (c : Fin 128) (r : Fin 128) : out0_18 (F := Ideal) x0 x1 x2 x3 x4 x5 x6 x7 x8 x9 x10 x11 (ix3 n c r)
    = Cert.RefInIdeal.Stages.valuesB (Cert.RefInIdeal.Stages.colsVB (proj (normed X x1) x2)) (ix3 ⟨t * 8 + n, by omega⟩ c r) := by
  have e : out0_18 (F := Ideal) x0 x1 x2 x3 x4 x5 x6 x7 x8 x9 x10 x11
      = View.canon [⟨r0_44, k0_pay46 (k0_pay41 (k0_pay8 (View.ld x0 r0_8) x1) (View.ld x2 r0_17))⟩,
        ⟨r0_43, k0_pay45 (k0_pay41 (k0_pay8 (View.ld x0 r0_8) x1) (View.ld x2 r0_17))⟩,
        ⟨r0_37, k0_pay46 (k0_pay41 (k0_pay8 (View.ld x0 r0_7) x1) (View.ld x2 r0_17))⟩,
        ⟨r0_36, k0_pay45 (k0_pay41 (k0_pay8 (View.ld x0 r0_7) x1) (View.ld x2 r0_17))⟩,
        ⟨r0_30, k0_pay46 (k0_pay41 (k0_pay8 (View.ld x0 r0_6) x1) (View.ld x2 r0_17))⟩,
        ⟨r0_29, k0_pay45 (k0_pay41 (k0_pay8 (View.ld x0 r0_6) x1) (View.ld x2 r0_17))⟩,
        ⟨r0_23, k0_pay46 (k0_pay41 (k0_pay8 (View.ld x0 r0_4) x1) (View.ld x2 r0_17))⟩,
        ⟨r0_22, k0_pay45 (k0_pay41 (k0_pay8 (View.ld x0 r0_4) x1) (View.ld x2 r0_17))⟩] := by
    have e1 : View.ld x1 r0_5 = x1 := by frame_out
    conv_rhs => rw [← e1]
    rfl
  rw [e]
  canon_tiles x h
  · obtain ⟨a, c', r', rfl⟩ : ∃ (a : Fin 1) (c' : Fin 128) (r' : Fin 128), x = ix3 a c' r' := ⟨x 0, x 1, x 2, eq_ix3 x⟩
    obtain rfl : a = 0 := Subsingleton.elim _ _
    obtain rfl : c = c' := Fin.ext h1
    obtain rfl : r = r' := Fin.ext h2
    obtain rfl : n = 7 := Fin.ext h0
    refine (valuesB1_at X x1 x2 _ ⟨t * 4 + 3, by omega⟩ (hrow3 X t x0 hx) _ (fun k l => by pointwise) c r).trans ?_
    exact congrArg (fun i => Cert.RefInIdeal.Stages.valuesB (Cert.RefInIdeal.Stages.colsVB (proj (normed X x1) x2)) (ix3 i c r)) (Fin.ext (by simp; omega))
  · obtain ⟨a, c', r', rfl⟩ : ∃ (a : Fin 1) (c' : Fin 128) (r' : Fin 128), x = ix3 a c' r' := ⟨x 0, x 1, x 2, eq_ix3 x⟩
    obtain rfl : a = 0 := Subsingleton.elim _ _
    obtain rfl : c = c' := Fin.ext h1
    obtain rfl : r = r' := Fin.ext h2
    obtain rfl : n = 6 := Fin.ext h0
    refine (valuesB0_at X x1 x2 _ ⟨t * 4 + 3, by omega⟩ (hrow3 X t x0 hx) _ (fun k l => by pointwise) c r).trans ?_
    exact congrArg (fun i => Cert.RefInIdeal.Stages.valuesB (Cert.RefInIdeal.Stages.colsVB (proj (normed X x1) x2)) (ix3 i c r)) (Fin.ext (by simp; omega))
  · obtain ⟨a, c', r', rfl⟩ : ∃ (a : Fin 1) (c' : Fin 128) (r' : Fin 128), x = ix3 a c' r' := ⟨x 0, x 1, x 2, eq_ix3 x⟩
    obtain rfl : a = 0 := Subsingleton.elim _ _
    obtain rfl : c = c' := Fin.ext h1
    obtain rfl : r = r' := Fin.ext h2
    obtain rfl : n = 5 := Fin.ext h0
    refine (valuesB1_at X x1 x2 _ ⟨t * 4 + 2, by omega⟩ (hrow2 X t x0 hx) _ (fun k l => by pointwise) c r).trans ?_
    exact congrArg (fun i => Cert.RefInIdeal.Stages.valuesB (Cert.RefInIdeal.Stages.colsVB (proj (normed X x1) x2)) (ix3 i c r)) (Fin.ext (by simp; omega))
  · obtain ⟨a, c', r', rfl⟩ : ∃ (a : Fin 1) (c' : Fin 128) (r' : Fin 128), x = ix3 a c' r' := ⟨x 0, x 1, x 2, eq_ix3 x⟩
    obtain rfl : a = 0 := Subsingleton.elim _ _
    obtain rfl : c = c' := Fin.ext h1
    obtain rfl : r = r' := Fin.ext h2
    obtain rfl : n = 4 := Fin.ext h0
    refine (valuesB0_at X x1 x2 _ ⟨t * 4 + 2, by omega⟩ (hrow2 X t x0 hx) _ (fun k l => by pointwise) c r).trans ?_
    exact congrArg (fun i => Cert.RefInIdeal.Stages.valuesB (Cert.RefInIdeal.Stages.colsVB (proj (normed X x1) x2)) (ix3 i c r)) (Fin.ext (by simp; omega))
  · obtain ⟨a, c', r', rfl⟩ : ∃ (a : Fin 1) (c' : Fin 128) (r' : Fin 128), x = ix3 a c' r' := ⟨x 0, x 1, x 2, eq_ix3 x⟩
    obtain rfl : a = 0 := Subsingleton.elim _ _
    obtain rfl : c = c' := Fin.ext h1
    obtain rfl : r = r' := Fin.ext h2
    obtain rfl : n = 3 := Fin.ext h0
    refine (valuesB1_at X x1 x2 _ ⟨t * 4 + 1, by omega⟩ (hrow1 X t x0 hx) _ (fun k l => by pointwise) c r).trans ?_
    exact congrArg (fun i => Cert.RefInIdeal.Stages.valuesB (Cert.RefInIdeal.Stages.colsVB (proj (normed X x1) x2)) (ix3 i c r)) (Fin.ext (by simp; omega))
  · obtain ⟨a, c', r', rfl⟩ : ∃ (a : Fin 1) (c' : Fin 128) (r' : Fin 128), x = ix3 a c' r' := ⟨x 0, x 1, x 2, eq_ix3 x⟩
    obtain rfl : a = 0 := Subsingleton.elim _ _
    obtain rfl : c = c' := Fin.ext h1
    obtain rfl : r = r' := Fin.ext h2
    obtain rfl : n = 2 := Fin.ext h0
    refine (valuesB0_at X x1 x2 _ ⟨t * 4 + 1, by omega⟩ (hrow1 X t x0 hx) _ (fun k l => by pointwise) c r).trans ?_
    exact congrArg (fun i => Cert.RefInIdeal.Stages.valuesB (Cert.RefInIdeal.Stages.colsVB (proj (normed X x1) x2)) (ix3 i c r)) (Fin.ext (by simp; omega))
  · obtain ⟨a, c', r', rfl⟩ : ∃ (a : Fin 1) (c' : Fin 128) (r' : Fin 128), x = ix3 a c' r' := ⟨x 0, x 1, x 2, eq_ix3 x⟩
    obtain rfl : a = 0 := Subsingleton.elim _ _
    obtain rfl : c = c' := Fin.ext h1
    obtain rfl : r = r' := Fin.ext h2
    obtain rfl : n = 1 := Fin.ext h0
    refine (valuesB1_at X x1 x2 _ ⟨t * 4 + 0, by omega⟩ (hrow0 X t x0 hx) _ (fun k l => by pointwise) c r).trans ?_
    exact congrArg (fun i => Cert.RefInIdeal.Stages.valuesB (Cert.RefInIdeal.Stages.colsVB (proj (normed X x1) x2)) (ix3 i c r)) (Fin.ext (by simp; omega))
  · obtain ⟨a, c', r', rfl⟩ : ∃ (a : Fin 1) (c' : Fin 128) (r' : Fin 128), x = ix3 a c' r' := ⟨x 0, x 1, x 2, eq_ix3 x⟩
    obtain rfl : a = 0 := Subsingleton.elim _ _
    obtain rfl : c = c' := Fin.ext h1
    obtain rfl : r = r' := Fin.ext h2
    obtain rfl : n = 0 := Fin.ext h0
    refine (valuesB0_at X x1 x2 _ ⟨t * 4 + 0, by omega⟩ (hrow0 X t x0 hx) _ (fun k l => by pointwise) c r).trans ?_
    exact congrArg (fun i => Cert.RefInIdeal.Stages.valuesB (Cert.RefInIdeal.Stages.colsVB (proj (normed X x1) x2)) (ix3 i c r)) (Fin.ext (by simp; omega))

/-- A block's mean keys. -/
theorem block19 (s : Fin 4) (l : Fin 512) : out0_19 (F := Ideal) x0 x1 x2 x3 x4 x5 x6 x7 x8 x9 x10 x11 (ix3 0 s l)
    = Cert.RefInIdeal.Stages.means (heads8 (Cert.RefInIdeal.Stages.colsKA (proj (normed X x1) x2)) x4) (ix3 t s l) := by
  have e : out0_19 (F := Ideal) x0 x1 x2 x3 x4 x5 x6 x7 x8 x9 x10 x11
      = View.canon [⟨r0_39, mean (k0_pay8 (View.ld x0 r0_8) x1) (View.ld x2 r0_12) x4⟩,
        ⟨r0_32, mean (k0_pay8 (View.ld x0 r0_7) x1) (View.ld x2 r0_12) x4⟩,
        ⟨r0_25, mean (k0_pay8 (View.ld x0 r0_6) x1) (View.ld x2 r0_12) x4⟩,
        ⟨r0_13, mean (k0_pay8 (View.ld x0 r0_4) x1) (View.ld x2 r0_12) x4⟩] := by
    have e1 : View.ld x1 r0_5 = x1 := by frame_out
    have e3 : View.ld x4 r0_10 = x4 := by frame_out
    conv_rhs => rw [← e1, ← e3]
    rfl
  rw [e]
  canon_tiles x h
  · obtain ⟨a, b, l', rfl⟩ : ∃ (a b : Fin 1) (l' : Fin 512), x = ix3 a b l' := ⟨x 0, x 1, x 2, eq_ix3 x⟩
    obtain rfl : a = 0 := Subsingleton.elim _ _
    obtain rfl : b = 0 := Subsingleton.elim _ _
    obtain rfl : l = l' := Fin.ext h2
    obtain rfl : s = 3 := Fin.ext h1
    exact mean_at X x1 x2 _ t 3 (hrow3 X t x0 hx) _ _ (fun k l => by pointwise) l
  · obtain ⟨a, b, l', rfl⟩ : ∃ (a b : Fin 1) (l' : Fin 512), x = ix3 a b l' := ⟨x 0, x 1, x 2, eq_ix3 x⟩
    obtain rfl : a = 0 := Subsingleton.elim _ _
    obtain rfl : b = 0 := Subsingleton.elim _ _
    obtain rfl : l = l' := Fin.ext h2
    obtain rfl : s = 2 := Fin.ext h1
    exact mean_at X x1 x2 _ t 2 (hrow2 X t x0 hx) _ _ (fun k l => by pointwise) l
  · obtain ⟨a, b, l', rfl⟩ : ∃ (a b : Fin 1) (l' : Fin 512), x = ix3 a b l' := ⟨x 0, x 1, x 2, eq_ix3 x⟩
    obtain rfl : a = 0 := Subsingleton.elim _ _
    obtain rfl : b = 0 := Subsingleton.elim _ _
    obtain rfl : l = l' := Fin.ext h2
    obtain rfl : s = 1 := Fin.ext h1
    exact mean_at X x1 x2 _ t 1 (hrow1 X t x0 hx) _ _ (fun k l => by pointwise) l
  · obtain ⟨a, b, l', rfl⟩ : ∃ (a b : Fin 1) (l' : Fin 512), x = ix3 a b l' := ⟨x 0, x 1, x 2, eq_ix3 x⟩
    obtain rfl : a = 0 := Subsingleton.elim _ _
    obtain rfl : b = 0 := Subsingleton.elim _ _
    obtain rfl : l = l' := Fin.ext h2
    obtain rfl : s = 0 := Fin.ext h1
    exact mean_at X x1 x2 _ t 0 (hrow0 X t x0 hx) _ _ (fun k l => by pointwise) l

end Blocks

variable (m : (ℓ : Loc nD τ sig) → Buf (Elt Ideal) ℓ)

/-- Window 1's block is its whole array, at every grid point. -/
theorem whole1 (c : Dev nD) (t : Fin cfg0.N) : iblk m c 1 t = m ((c : Thread nD τ).loc main_arg1) := by
  blk_ext! [iblk, V, idx t]

/-- Window 2's block is its whole array, at every grid point. -/
theorem whole2 (c : Dev nD) (t : Fin cfg0.N) : iblk m c 2 t = m ((c : Thread nD τ).loc main_arg2) := by
  blk_ext! [iblk, V, idx t]

/-- Window 3's block is its whole array, at every grid point. -/
theorem whole3 (c : Dev nD) (t : Fin cfg0.N) : iblk m c 3 t = m ((c : Thread nD τ).loc main_arg3) := by
  blk_ext! [iblk, V, idx t]

/-- Window 4's block is its whole array, at every grid point. -/
theorem whole4 (c : Dev nD) (t : Fin cfg0.N) : iblk m c 4 t = m ((c : Thread nD τ).loc main_arg4) := by
  blk_ext! [iblk, V, idx t]

/-- Window 5's block is its whole array, at every grid point. -/
theorem whole5 (c : Dev nD) (t : Fin cfg0.N) : iblk m c 5 t = m ((c : Thread nD τ).loc main_arg5) := by
  blk_ext! [iblk, V, idx t]

/-- Window 6's block is its whole array, at every grid point. -/
theorem whole6 (c : Dev nD) (t : Fin cfg0.N) : iblk m c 6 t = m ((c : Thread nD τ).loc main_arg6) := by
  blk_ext! [iblk, V, idx t]

/-- The first branch's queries after the run. -/
theorem final12 (c : Dev nD) : (dats m 0 c).arrAt 12 (cfgs 0).N
    = Cert.RefInIdeal.Stages.queries (Cert.RefInIdeal.Stages.colsQA (proj (normed (m ((c : Thread nD τ).loc main_arg0)) (m ((c : Thread nD τ).loc main_arg1))) (m ((c : Thread nD τ).loc main_arg2)))) (m ((c : Thread nD τ).loc main_arg3)) := by
  refine (dats m 0 c).arrAt_eq_of_covers 12 _ (by decide +kernel) fun t _ y => ?_
  blk_simp
  rw [after0_12, whole1 m c t, whole2 m c t, whole3 m c t, whole4 m c t, whole5 m c t, whole6 m c t]
  obtain ⟨r, l, rfl⟩ : ∃ (r : Fin 1024) (l : Fin 512), y = ix2 r l := ⟨y 0, y 1, eq_ix2 y⟩
  have ht : t.val < 32 := (idx t).1
  have e : (((View.whole main_v5_0).slice (win0_12.rect t)).emb (ix2 r l)) = (ix2 (⟨t.val * 1024 + r.val, by omega⟩ : Fin 32768) l : S32768x512.Idx) := by
    blk_ext [idx t]
  rw [e]
  exact block12 (m ((c : Thread nD τ).loc main_arg0)) ⟨t, ht⟩ _ _ _ _ _ _ _ _ _ _ _ _ (fun r k => by blk_ext [iblk, V, idx t]) r l

/-- The first branch's keys after the run. -/
theorem final13 (c : Dev nD) : (dats m 0 c).arrAt 13 (cfgs 0).N
    = truncf .bf16 (heads8 (Cert.RefInIdeal.Stages.colsKA (proj (normed (m ((c : Thread nD τ).loc main_arg0)) (m ((c : Thread nD τ).loc main_arg1))) (m ((c : Thread nD τ).loc main_arg2)))) (m ((c : Thread nD τ).loc main_arg4))) bitsLt_bf16_f32 := by
  refine (dats m 0 c).arrAt_eq_of_covers 13 _ (by decide +kernel) fun t _ y => ?_
  blk_simp
  rw [after0_13, whole1 m c t, whole2 m c t, whole3 m c t, whole4 m c t, whole5 m c t, whole6 m c t]
  obtain ⟨r, l, rfl⟩ : ∃ (r : Fin 1024) (l : Fin 512), y = ix2 r l := ⟨y 0, y 1, eq_ix2 y⟩
  have ht : t.val < 32 := (idx t).1
  have e : (((View.whole main_v5_1).slice (win0_13.rect t)).emb (ix2 r l)) = (ix2 (⟨t.val * 1024 + r.val, by omega⟩ : Fin 32768) l : S32768x512.Idx) := by
    blk_ext [idx t]
  rw [e]
  exact block13 (m ((c : Thread nD τ).loc main_arg0)) ⟨t, ht⟩ _ _ _ _ _ _ _ _ _ _ _ _ (fun r k => by blk_ext [iblk, V, idx t]) r l

/-- The second branch's queries after the run. -/
theorem final14 (c : Dev nD) : (dats m 0 c).arrAt 14 (cfgs 0).N
    = Cert.RefInIdeal.Stages.queries (Cert.RefInIdeal.Stages.colsQB (proj (normed (m ((c : Thread nD τ).loc main_arg0)) (m ((c : Thread nD τ).loc main_arg1))) (m ((c : Thread nD τ).loc main_arg2)))) (m ((c : Thread nD τ).loc main_arg5)) := by
  refine (dats m 0 c).arrAt_eq_of_covers 14 _ (by decide +kernel) fun t _ y => ?_
  blk_simp
  rw [after0_14, whole1 m c t, whole2 m c t, whole3 m c t, whole4 m c t, whole5 m c t, whole6 m c t]
  obtain ⟨r, l, rfl⟩ : ∃ (r : Fin 1024) (l : Fin 512), y = ix2 r l := ⟨y 0, y 1, eq_ix2 y⟩
  have ht : t.val < 32 := (idx t).1
  have e : (((View.whole main_v5_2).slice (win0_14.rect t)).emb (ix2 r l)) = (ix2 (⟨t.val * 1024 + r.val, by omega⟩ : Fin 32768) l : S32768x512.Idx) := by
    blk_ext [idx t]
  rw [e]
  exact block14 (m ((c : Thread nD τ).loc main_arg0)) ⟨t, ht⟩ _ _ _ _ _ _ _ _ _ _ _ _ (fun r k => by blk_ext [iblk, V, idx t]) r l

/-- The second branch's doubled keys after the run. -/
theorem final15 (c : Dev nD) : (dats m 0 c).arrAt 15 (cfgs 0).N
    = Cert.RefInIdeal.Stages.twice (heads2 (Cert.RefInIdeal.Stages.colsKB (proj (normed (m ((c : Thread nD τ).loc main_arg0)) (m ((c : Thread nD τ).loc main_arg1))) (m ((c : Thread nD τ).loc main_arg2)))) (m ((c : Thread nD τ).loc main_arg6))) := by
  refine (dats m 0 c).arrAt_eq_of_covers 15 _ (by decide +kernel) fun t _ y => ?_
  blk_simp
  rw [after0_15, whole1 m c t, whole2 m c t, whole3 m c t, whole4 m c t, whole5 m c t, whole6 m c t]
  obtain ⟨r, l, rfl⟩ : ∃ (r : Fin 1024) (l : Fin 256), y = ix2 r l := ⟨y 0, y 1, eq_ix2 y⟩
  have ht : t.val < 32 := (idx t).1
  have e : (((View.whole main_v5_3).slice (win0_15.rect t)).emb (ix2 r l)) = (ix2 (⟨t.val * 1024 + r.val, by omega⟩ : Fin 32768) l : S32768x256.Idx) := by
    blk_ext [idx t]
  rw [e]
  exact block15 (m ((c : Thread nD τ).loc main_arg0)) ⟨t, ht⟩ _ _ _ _ _ _ _ _ _ _ _ _ (fun r k => by blk_ext [iblk, V, idx t]) r l

/-- The gates after the run. -/
theorem final16 (c : Dev nD) : (dats m 0 c).arrAt 16 (cfgs 0).N
    = Cert.RefInIdeal.Stages.gates (proj (normed (m ((c : Thread nD τ).loc main_arg0)) (m ((c : Thread nD τ).loc main_arg1))) (m ((c : Thread nD τ).loc main_arg2))) := by
  refine (dats m 0 c).arrAt_eq_of_covers 16 _ (by decide +kernel) fun t _ y => ?_
  blk_simp
  rw [after0_16, whole1 m c t, whole2 m c t, whole3 m c t, whole4 m c t, whole5 m c t, whole6 m c t]
  obtain ⟨r, l, rfl⟩ : ∃ (r : Fin 1024) (l : Fin 2048), y = ix2 r l := ⟨y 0, y 1, eq_ix2 y⟩
  have ht : t.val < 32 := (idx t).1
  have e : (((View.whole main_v5_4).slice (win0_16.rect t)).emb (ix2 r l)) = (ix2 (⟨t.val * 1024 + r.val, by omega⟩ : Fin 32768) l : S32768x2048.Idx) := by
    blk_ext [idx t]
  rw [e]
  exact block16 (m ((c : Thread nD τ).loc main_arg0)) ⟨t, ht⟩ _ _ _ _ _ _ _ _ _ _ _ _ (fun r k => by blk_ext [iblk, V, idx t]) r l

/-- The first branch's transposed values after the run. -/
theorem final17 (c : Dev nD) : (dats m 0 c).arrAt 17 (cfgs 0).N
    = Cert.RefInIdeal.Stages.valuesA (Cert.RefInIdeal.Stages.colsVA (proj (normed (m ((c : Thread nD τ).loc main_arg0)) (m ((c : Thread nD τ).loc main_arg1))) (m ((c : Thread nD τ).loc main_arg2)))) := by
  refine (dats m 0 c).arrAt_eq_of_covers 17 _ (by decide +kernel) fun t _ y => ?_
  blk_simp
  rw [after0_17, whole1 m c t, whole2 m c t, whole3 m c t, whole4 m c t, whole5 m c t, whole6 m c t]
  obtain ⟨a, b, l, rfl⟩ : ∃ (a : Fin 4) (b : Fin 512) (l : Fin 256), y = ix3 a b l := ⟨y 0, y 1, y 2, eq_ix3 y⟩
  have ht : t.val < 32 := (idx t).1
  have e : (((View.whole main_v5_5).slice (win0_17.rect t)).emb (ix3 a b l)) = (ix3 (⟨t.val * 4 + a.val, by omega⟩ : Fin 128) b l : S128x512x256.Idx) := by
    blk_ext [idx t]
  rw [e]
  exact block17 (m ((c : Thread nD τ).loc main_arg0)) ⟨t, ht⟩ _ _ _ _ _ _ _ _ _ _ _ _ (fun r k => by blk_ext [iblk, V, idx t]) a b l

/-- The second branch's transposed values after the run. -/
theorem final18 (c : Dev nD) : (dats m 0 c).arrAt 18 (cfgs 0).N
    = Cert.RefInIdeal.Stages.valuesB (Cert.RefInIdeal.Stages.colsVB (proj (normed (m ((c : Thread nD τ).loc main_arg0)) (m ((c : Thread nD τ).loc main_arg1))) (m ((c : Thread nD τ).loc main_arg2)))) := by
  refine (dats m 0 c).arrAt_eq_of_covers 18 _ (by decide +kernel) fun t _ y => ?_
  blk_simp
  rw [after0_18, whole1 m c t, whole2 m c t, whole3 m c t, whole4 m c t, whole5 m c t, whole6 m c t]
  obtain ⟨a, b, l, rfl⟩ : ∃ (a : Fin 8) (b : Fin 128) (l : Fin 128), y = ix3 a b l := ⟨y 0, y 1, y 2, eq_ix3 y⟩
  have ht : t.val < 32 := (idx t).1
  have e : (((View.whole main_v5_6).slice (win0_18.rect t)).emb (ix3 a b l)) = (ix3 (⟨t.val * 8 + a.val, by omega⟩ : Fin 256) b l : S256x128x128.Idx) := by
    blk_ext [idx t]
  rw [e]
  exact block18 (m ((c : Thread nD τ).loc main_arg0)) ⟨t, ht⟩ _ _ _ _ _ _ _ _ _ _ _ _ (fun r k => by blk_ext [iblk, V, idx t]) a b l

/-- The mean keys after the run. -/
theorem final19 (c : Dev nD) : (dats m 0 c).arrAt 19 (cfgs 0).N
    = Cert.RefInIdeal.Stages.means (heads8 (Cert.RefInIdeal.Stages.colsKA (proj (normed (m ((c : Thread nD τ).loc main_arg0)) (m ((c : Thread nD τ).loc main_arg1))) (m ((c : Thread nD τ).loc main_arg2)))) (m ((c : Thread nD τ).loc main_arg4))) := by
  refine (dats m 0 c).arrAt_eq_of_covers 19 _ (by decide +kernel) fun t _ y => ?_
  blk_simp
  rw [after0_19, whole1 m c t, whole2 m c t, whole3 m c t, whole4 m c t, whole5 m c t, whole6 m c t]
  obtain ⟨a, b, l, rfl⟩ : ∃ (a : Fin 1) (b : Fin 4) (l : Fin 512), y = ix3 a b l := ⟨y 0, y 1, y 2, eq_ix3 y⟩
  have ht : t.val < 32 := (idx t).1
  obtain rfl : a = 0 := Subsingleton.elim _ _
  have e : (((View.whole main_v5_7).slice (win0_19.rect t)).emb (ix3 0 b l)) = (ix3 (⟨t.val, by omega⟩ : Fin 32) b l : S32x4x512.Idx) := by
    blk_ext [idx t]
  rw [e]
  exact block19 (m ((c : Thread nD τ).loc main_arg0)) ⟨t, ht⟩ _ _ _ _ _ _ _ _ _ _ _ _ (fun r k => by blk_ext [iblk, V, idx t]) b l

end Cert.InprojIdeal.Array

end
-- ==== Proof.InWeights.lean ====
/- What the cast weights hold after the run: the arguments, cast, as slabs of rows. -/
module

public import proofs.«01_k».proof.Proof.Gen.InprojIdeal.Frame
public import Idealize.ShloMosaic.Lib.Pipeline.ValueKit
public import proofs.«01_k».proof.Proof.InArray

@[expose] public section

set_option maxRecDepth 16384

noncomputable section

namespace Cert.InprojIdeal.Array

open Cert.InprojIdeal Cert.InprojIdeal.Gen Idealize.ShloMosaic Idealize.ShloMosaic.TcCoe Idealize.SL.Sem
open Idealize.ShloMosaic.Pipeline (Dat)

/-- A weight of 512 rows, cast, as 32 slabs of 16 rows. -/
def slabs16x1024 (w : FVec Ideal S512x1024 .f32) : FVec Ideal S32x16x1024 .bf16 :=
  truncf .bf16 (shapeCast S32x16x1024 w shapeCasts_S512x1024_S32x16x1024) bitsLt_bf16_f32

/-- A weight of 1024 rows, cast, as 32 slabs of 32 rows. -/
def slabs32x1024 (w : FVec Ideal S1024x1024 .f32) : FVec Ideal S32x32x1024 .bf16 :=
  truncf .bf16 (shapeCast S32x32x1024 w shapeCasts_S1024x1024_S32x32x1024) bitsLt_bf16_f32

/-- A weight of 1024 rows, cast, as 32 slabs of 32 rows. -/
def slabs32x4096 (w : FVec Ideal S1024x4096 .f32) : FVec Ideal S32x32x4096 .bf16 :=
  truncf .bf16 (shapeCast S32x32x4096 w shapeCasts_S1024x4096_S32x32x4096) bitsLt_bf16_f32

/-- A weight of 4096 rows, cast, as 32 slabs of 128 rows. -/
def slabs128x1024 (w : FVec Ideal S4096x1024 .f32) : FVec Ideal S32x128x1024 .bf16 :=
  truncf .bf16 (shapeCast S32x128x1024 w shapeCasts_S4096x1024_S32x128x1024) bitsLt_bf16_f32

/-- Row `r` of slab `n` is row `16 n + r`. -/
theorem row16x1024 (w : FVec Ideal S512x1024 .f32) (n : Fin 32) (r : Fin 16) (l : Fin 1024) :
    shapeCast S32x16x1024 w shapeCasts_S512x1024_S32x16x1024 (ix3 n r l) = w (ix2 ⟨n * 16 + r, by omega⟩ l) := by
  pointwise

/-- Row `r` of slab `n` is row `32 n + r`. -/
theorem row32x1024 (w : FVec Ideal S1024x1024 .f32) (n : Fin 32) (r : Fin 32) (l : Fin 1024) :
    shapeCast S32x32x1024 w shapeCasts_S1024x1024_S32x32x1024 (ix3 n r l) = w (ix2 ⟨n * 32 + r, by omega⟩ l) := by
  pointwise

/-- Row `r` of slab `n` is row `32 n + r`. -/
theorem row32x4096 (w : FVec Ideal S1024x4096 .f32) (n : Fin 32) (r : Fin 32) (l : Fin 4096) :
    shapeCast S32x32x4096 w shapeCasts_S1024x4096_S32x32x4096 (ix3 n r l) = w (ix2 ⟨n * 32 + r, by omega⟩ l) := by
  pointwise

/-- Row `r` of slab `n` is row `128 n + r`. -/
theorem row128x1024 (w : FVec Ideal S4096x1024 .f32) (n : Fin 32) (r : Fin 128) (l : Fin 1024) :
    shapeCast S32x128x1024 w shapeCasts_S4096x1024_S32x128x1024 (ix3 n r l) = w (ix2 ⟨n * 128 + r, by omega⟩ l) := by
  pointwise

variable (m : (ℓ : Loc nD τ sig) → Buf (Elt Ideal) ℓ)

/-- The reshaped weight 7, as the call finds it. -/
theorem host0 (c : Dev nD) : (V m c main_v0 : FVec Ideal S32x16x1024 .f32)
    = shapeCast S32x16x1024 (m ((c : Thread nD τ).loc main_arg7) : FVec Ideal S512x1024 .f32) shapeCasts_S512x1024_S32x16x1024 := rfl

/-- The reshaped weight 8, as the call finds it. -/
theorem host1 (c : Dev nD) : (V m c main_v1 : FVec Ideal S32x16x1024 .f32)
    = shapeCast S32x16x1024 (m ((c : Thread nD τ).loc main_arg8) : FVec Ideal S512x1024 .f32) shapeCasts_S512x1024_S32x16x1024 := rfl

/-- The reshaped weight 9, as the call finds it. -/
theorem host2 (c : Dev nD) : (V m c main_v2 : FVec Ideal S32x32x1024 .f32)
    = shapeCast S32x32x1024 (m ((c : Thread nD τ).loc main_arg9) : FVec Ideal S1024x1024 .f32) shapeCasts_S1024x1024_S32x32x1024 := rfl

/-- The reshaped weight 10, as the call finds it. -/
theorem host3 (c : Dev nD) : (V m c main_v3 : FVec Ideal S32x32x4096 .f32)
    = shapeCast S32x32x4096 (m ((c : Thread nD τ).loc main_arg10) : FVec Ideal S1024x4096 .f32) shapeCasts_S1024x4096_S32x32x4096 := rfl

/-- The reshaped weight 11, as the call finds it. -/
theorem host4 (c : Dev nD) : (V m c main_v4 : FVec Ideal S32x128x1024 .f32)
    = shapeCast S32x128x1024 (m ((c : Thread nD τ).loc main_arg11) : FVec Ideal S4096x1024 .f32) shapeCasts_S4096x1024_S32x128x1024 := rfl

/-- Window 7's block at grid point `t` is the `t`-th slab of the argument's rows. -/
theorem slab0 (c : Dev nD) (t : Fin cfg0.N) (b : Fin 16) (l : Fin 1024) : iblk m c 7 t (ix3 0 b l)
    = (m ((c : Thread nD τ).loc main_arg7) : FVec Ideal S512x1024 .f32) (ix2 ⟨t.val * 16 + b.val, by have := (idx t).1; omega⟩ l) := by
  have hb : iblk m c 7 t (ix3 0 b l) = (V m c main_v0 : FVec Ideal S32x16x1024 .f32) (ix3 ⟨t.val, (idx t).1⟩ b l) := by
    blk_ext [iblk, idx t]
  rw [hb, host0 m c]
  exact row16x1024 _ ⟨t.val, (idx t).1⟩ b l

/-- Window 8's block at grid point `t` is the `t`-th slab of the argument's rows. -/
theorem slab1 (c : Dev nD) (t : Fin cfg0.N) (b : Fin 16) (l : Fin 1024) : iblk m c 8 t (ix3 0 b l)
    = (m ((c : Thread nD τ).loc main_arg8) : FVec Ideal S512x1024 .f32) (ix2 ⟨t.val * 16 + b.val, by have := (idx t).1; omega⟩ l) := by
  have hb : iblk m c 8 t (ix3 0 b l) = (V m c main_v1 : FVec Ideal S32x16x1024 .f32) (ix3 ⟨t.val, (idx t).1⟩ b l) := by
    blk_ext [iblk, idx t]
  rw [hb, host1 m c]
  exact row16x1024 _ ⟨t.val, (idx t).1⟩ b l

/-- Window 9's block at grid point `t` is the `t`-th slab of the argument's rows. -/
theorem slab2 (c : Dev nD) (t : Fin cfg0.N) (b : Fin 32) (l : Fin 1024) : iblk m c 9 t (ix3 0 b l)
    = (m ((c : Thread nD τ).loc main_arg9) : FVec Ideal S1024x1024 .f32) (ix2 ⟨t.val * 32 + b.val, by have := (idx t).1; omega⟩ l) := by
  have hb : iblk m c 9 t (ix3 0 b l) = (V m c main_v2 : FVec Ideal S32x32x1024 .f32) (ix3 ⟨t.val, (idx t).1⟩ b l) := by
    blk_ext [iblk, idx t]
  rw [hb, host2 m c]
  exact row32x1024 _ ⟨t.val, (idx t).1⟩ b l

/-- Window 10's block at grid point `t` is the `t`-th slab of the argument's rows. -/
theorem slab3 (c : Dev nD) (t : Fin cfg0.N) (b : Fin 32) (l : Fin 4096) : iblk m c 10 t (ix3 0 b l)
    = (m ((c : Thread nD τ).loc main_arg10) : FVec Ideal S1024x4096 .f32) (ix2 ⟨t.val * 32 + b.val, by have := (idx t).1; omega⟩ l) := by
  have hb : iblk m c 10 t (ix3 0 b l) = (V m c main_v3 : FVec Ideal S32x32x4096 .f32) (ix3 ⟨t.val, (idx t).1⟩ b l) := by
    blk_ext [iblk, idx t]
  rw [hb, host3 m c]
  exact row32x4096 _ ⟨t.val, (idx t).1⟩ b l

/-- Window 11's block at grid point `t` is the `t`-th slab of the argument's rows. -/
theorem slab4 (c : Dev nD) (t : Fin cfg0.N) (b : Fin 128) (l : Fin 1024) : iblk m c 11 t (ix3 0 b l)
    = (m ((c : Thread nD τ).loc main_arg11) : FVec Ideal S4096x1024 .f32) (ix2 ⟨t.val * 128 + b.val, by have := (idx t).1; omega⟩ l) := by
  have hb : iblk m c 11 t (ix3 0 b l) = (V m c main_v4 : FVec Ideal S32x128x1024 .f32) (ix3 ⟨t.val, (idx t).1⟩ b l) := by
    blk_ext [iblk, idx t]
  rw [hb, host4 m c]
  exact row128x1024 _ ⟨t.val, (idx t).1⟩ b l

/-- Weight 7 after the run: the argument, cast, as 32 slabs of rows. -/
theorem final20 (c : Dev nD) : (dats m 0 c).arrAt 20 (cfgs 0).N
    = slabs16x1024 (m ((c : Thread nD τ).loc main_arg7)) := by
  refine (dats m 0 c).arrAt_eq_of_covers 20 _ (by decide +kernel) fun t _ y => ?_
  blk_simp
  rw [after0_20]
  unfold out0_20 k0_pay2
  frame_out
  obtain ⟨a, b, l, rfl⟩ : ∃ (a : Fin 1) (b : Fin 16) (l : Fin 1024), y = ix3 a b l := ⟨y 0, y 1, y 2, eq_ix3 y⟩
  have ht : t.val < 32 := (idx t).1
  obtain rfl : a = 0 := Subsingleton.elim _ _
  have e : (((View.whole main_v5_8).slice (win0_20.rect t)).emb (ix3 0 b l)) = (ix3 (⟨t.val, by omega⟩ : Fin 32) b l : S32x16x1024.Idx) := by
    blk_ext [idx t]
  rw [e]
  pointwise [slabs16x1024]
  exact slab0 m c t b l

/-- Weight 8 after the run: the argument, cast, as 32 slabs of rows. -/
theorem final21 (c : Dev nD) : (dats m 0 c).arrAt 21 (cfgs 0).N
    = slabs16x1024 (m ((c : Thread nD τ).loc main_arg8)) := by
  refine (dats m 0 c).arrAt_eq_of_covers 21 _ (by decide +kernel) fun t _ y => ?_
  blk_simp
  rw [after0_21]
  unfold out0_21 k0_pay3
  frame_out
  obtain ⟨a, b, l, rfl⟩ : ∃ (a : Fin 1) (b : Fin 16) (l : Fin 1024), y = ix3 a b l := ⟨y 0, y 1, y 2, eq_ix3 y⟩
  have ht : t.val < 32 := (idx t).1
  obtain rfl : a = 0 := Subsingleton.elim _ _
  have e : (((View.whole main_v5_9).slice (win0_21.rect t)).emb (ix3 0 b l)) = (ix3 (⟨t.val, by omega⟩ : Fin 32) b l : S32x16x1024.Idx) := by
    blk_ext [idx t]
  rw [e]
  pointwise [slabs16x1024]
  exact slab1 m c t b l

/-- Weight 9 after the run: the argument, cast, as 32 slabs of rows. -/
theorem final22 (c : Dev nD) : (dats m 0 c).arrAt 22 (cfgs 0).N
    = slabs32x1024 (m ((c : Thread nD τ).loc main_arg9)) := by
  refine (dats m 0 c).arrAt_eq_of_covers 22 _ (by decide +kernel) fun t _ y => ?_
  blk_simp
  rw [after0_22]
  unfold out0_22 k0_pay4
  frame_out
  obtain ⟨a, b, l, rfl⟩ : ∃ (a : Fin 1) (b : Fin 32) (l : Fin 1024), y = ix3 a b l := ⟨y 0, y 1, y 2, eq_ix3 y⟩
  have ht : t.val < 32 := (idx t).1
  obtain rfl : a = 0 := Subsingleton.elim _ _
  have e : (((View.whole main_v5_10).slice (win0_22.rect t)).emb (ix3 0 b l)) = (ix3 (⟨t.val, by omega⟩ : Fin 32) b l : S32x32x1024.Idx) := by
    blk_ext [idx t]
  rw [e]
  pointwise [slabs32x1024]
  exact slab2 m c t b l

/-- Weight 10 after the run: the argument, cast, as 32 slabs of rows. -/
theorem final23 (c : Dev nD) : (dats m 0 c).arrAt 23 (cfgs 0).N
    = slabs32x4096 (m ((c : Thread nD τ).loc main_arg10)) := by
  refine (dats m 0 c).arrAt_eq_of_covers 23 _ (by decide +kernel) fun t _ y => ?_
  blk_simp
  rw [after0_23]
  unfold out0_23 k0_pay5
  frame_out
  obtain ⟨a, b, l, rfl⟩ : ∃ (a : Fin 1) (b : Fin 32) (l : Fin 4096), y = ix3 a b l := ⟨y 0, y 1, y 2, eq_ix3 y⟩
  have ht : t.val < 32 := (idx t).1
  obtain rfl : a = 0 := Subsingleton.elim _ _
  have e : (((View.whole main_v5_11).slice (win0_23.rect t)).emb (ix3 0 b l)) = (ix3 (⟨t.val, by omega⟩ : Fin 32) b l : S32x32x4096.Idx) := by
    blk_ext [idx t]
  rw [e]
  pointwise [slabs32x4096]
  exact slab3 m c t b l

/-- Weight 11 after the run: the argument, cast, as 32 slabs of rows. -/
theorem final24 (c : Dev nD) : (dats m 0 c).arrAt 24 (cfgs 0).N
    = slabs128x1024 (m ((c : Thread nD τ).loc main_arg11)) := by
  refine (dats m 0 c).arrAt_eq_of_covers 24 _ (by decide +kernel) fun t _ y => ?_
  blk_simp
  rw [after0_24]
  unfold out0_24 k0_pay6
  frame_out
  obtain ⟨a, b, l, rfl⟩ : ∃ (a : Fin 1) (b : Fin 128) (l : Fin 1024), y = ix3 a b l := ⟨y 0, y 1, y 2, eq_ix3 y⟩
  have ht : t.val < 32 := (idx t).1
  obtain rfl : a = 0 := Subsingleton.elim _ _
  have e : (((View.whole main_v5_12).slice (win0_24.rect t)).emb (ix3 0 b l)) = (ix3 (⟨t.val, by omega⟩ : Fin 32) b l : S32x128x1024.Idx) := by
    blk_ext [idx t]
  rw [e]
  pointwise [slabs128x1024]
  exact slab4 m c t b l

end Cert.InprojIdeal.Array

end
-- ==== Proof.InClaim.lean ====
/- The input projection's claims: its reference's frame, and the thirteen result arrays equal to the reference's. -/
module

public import proofs.«01_k».proof.Defs
public import proofs.«01_k».proof.Proof.Gen.InprojIdeal
public import proofs.«01_k».proof.Proof.Gen.InprojIdeal.Value
public import proofs.«01_k».proof.Proof.Gen.RefInIdeal
public import proofs.«01_k».proof.Proof.Gen.RefInIdeal.Run
public import proofs.«01_k».proof.Proof.InWeights
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference of the input projection runs to its end, keeps its arguments and leaves every semaphore at zero. -/
theorem frame_in_ref : Cert.quiescent_RefInIdeal := fun m ρ _ =>
  (θ_run Cert.RefInIdeal.defs _ _).mono (fun r h => ⟨fun c => (h c).2.2.2.2.2.2.2.2.2.2.2.2.2, sem_eq_zero_of_no_sems (by decide) r.2⟩)
    (Cert.RefInIdeal.Value.run (F := Ideal) m ρ)

set_option maxHeartbeats 4000000 in
/-- The input projection at the ideal semantics leaves in each of its thirteen result arrays what the reference leaves
    in its own, for all arguments. -/
theorem algebraic_in : Cert.algebraic_InprojIdeal_RefInIdeal := by
  intro m ρ m' ρ' _ hagree
  refine ⟨fun c => (Cert.InprojIdeal.Gen.dats m 0 c).arrAt 12 Cert.InprojIdeal.cfg0.N,
    fun c => (Cert.InprojIdeal.Gen.dats m 0 c).arrAt 13 Cert.InprojIdeal.cfg0.N,
    fun c => (Cert.InprojIdeal.Gen.dats m 0 c).arrAt 14 Cert.InprojIdeal.cfg0.N,
    fun c => (Cert.InprojIdeal.Gen.dats m 0 c).arrAt 15 Cert.InprojIdeal.cfg0.N,
    fun c => (Cert.InprojIdeal.Gen.dats m 0 c).arrAt 16 Cert.InprojIdeal.cfg0.N,
    fun c => (Cert.InprojIdeal.Gen.dats m 0 c).arrAt 17 Cert.InprojIdeal.cfg0.N,
    fun c => (Cert.InprojIdeal.Gen.dats m 0 c).arrAt 18 Cert.InprojIdeal.cfg0.N,
    fun c => (Cert.InprojIdeal.Gen.dats m 0 c).arrAt 19 Cert.InprojIdeal.cfg0.N,
    fun c => (Cert.InprojIdeal.Gen.dats m 0 c).arrAt 20 Cert.InprojIdeal.cfg0.N,
    fun c => (Cert.InprojIdeal.Gen.dats m 0 c).arrAt 21 Cert.InprojIdeal.cfg0.N,
    fun c => (Cert.InprojIdeal.Gen.dats m 0 c).arrAt 22 Cert.InprojIdeal.cfg0.N,
    fun c => (Cert.InprojIdeal.Gen.dats m 0 c).arrAt 23 Cert.InprojIdeal.cfg0.N,
    fun c => (Cert.InprojIdeal.Gen.dats m 0 c).arrAt 24 Cert.InprojIdeal.cfg0.N,
    Cert.InprojIdeal.Value.run_blocks m ρ, ?_⟩
  refine (θ_run Cert.RefInIdeal.defs _ _).mono (fun r h c => ?_) (Cert.RefInIdeal.Value.run (F := Ideal) m' ρ')
  obtain ⟨a0, a1, a2, a3, a4, a5, a6, a7, a8, a9, a10, a11⟩ := hagree c
  obtain ⟨h12, h13, h14, h15, h16, h17, h18, h19, h20, h21, h22, h23, h24, ha⟩ := h c
  refine ⟨h12.trans ?_, h13.trans ?_, h14.trans ?_, h15.trans ?_, h16.trans ?_, h17.trans ?_, h18.trans ?_, h19.trans ?_, h20.trans ?_, h21.trans ?_, h22.trans ?_, h23.trans ?_, h24.trans ?_, ha⟩
  · refine Eq.trans ?_ (Cert.InprojIdeal.Array.final12 m c).symm
    rw [← a0, ← a1, ← a2, ← a3]
    rfl
  · refine Eq.trans ?_ (Cert.InprojIdeal.Array.final13 m c).symm
    rw [← a0, ← a1, ← a2, ← a4]
    rfl
  · refine Eq.trans ?_ (Cert.InprojIdeal.Array.final14 m c).symm
    rw [← a0, ← a1, ← a2, ← a5]
    rfl
  · refine Eq.trans ?_ (Cert.InprojIdeal.Array.final15 m c).symm
    rw [← a0, ← a1, ← a2, ← a6]
    rfl
  · refine Eq.trans ?_ (Cert.InprojIdeal.Array.final16 m c).symm
    rw [← a0, ← a1, ← a2]
    rfl
  · refine Eq.trans ?_ (Cert.InprojIdeal.Array.final17 m c).symm
    rw [← a0, ← a1, ← a2]
    rfl
  · refine Eq.trans ?_ (Cert.InprojIdeal.Array.final18 m c).symm
    rw [← a0, ← a1, ← a2]
    rfl
  · refine Eq.trans ?_ (Cert.InprojIdeal.Array.final19 m c).symm
    rw [← a0, ← a1, ← a2, ← a4]
    rfl
  · refine Eq.trans ?_ (Cert.InprojIdeal.Array.final20 m c).symm
    rw [← a7]
    rfl
  · refine Eq.trans ?_ (Cert.InprojIdeal.Array.final21 m c).symm
    rw [← a8]
    rfl
  · refine Eq.trans ?_ (Cert.InprojIdeal.Array.final22 m c).symm
    rw [← a9]
    rfl
  · refine Eq.trans ?_ (Cert.InprojIdeal.Array.final23 m c).symm
    rw [← a10]
    rfl
  · refine Eq.trans ?_ (Cert.InprojIdeal.Array.final24 m c).symm
    rw [← a11]
    rfl

end Cert.Proof

end
-- ==== Proof.SwaStage.lean ====
/- The reference of the second branch's attention, in named stages over variables: the keys and values of a block and the
    block before it, the distances and the window, the scores, the weights, and one key head's result. -/
module

public import proofs.«01_k».proof.Proof.Gen.RefIdeal.Run
public import Idealize.ShloMosaic.Lib.Pointwise

@[expose] public section

set_option maxRecDepth 16384

noncomputable section

namespace Cert.RefIdeal.Stages

open Cert.RefIdeal Cert.RefIdeal.Gen Idealize.ShloMosaic Idealize.ShloMosaic.TcCoe Idealize.SL.Sem

/-- Every block's keys after those of the block before it, zeros before the first. -/
def keys (k : FVec Ideal S16x16x128x2x64 .f32) : FVec Ideal S16x16x256x2x64 .f32 :=
  concatenate S16x16x256x2x64 2 [⟨S16x16x128x2x64, (concatenate S16x16x128x2x64 1 [⟨S16x1x128x2x64, (broadcastInDim S16x1x128x2x64 ![] bcast_S_S16x1x128x2x64 (constant S_ .f32 0x00000000#32))⟩,
    ⟨S16x15x128x2x64, (extractStridedSlice S16x15x128x2x64 ![0, 0, 0, 0, 0] k slices_S16x16x128x2x64_S16x15x128x2x64_0_0_0_0_0)⟩] concatenates_S16x1x128x2x64_S16x15x128x2x64_S16x16x128x2x64_d1)⟩,
    ⟨S16x16x128x2x64, k⟩] concatenates_S16x16x128x2x64_S16x16x128x2x64_S16x16x256x2x64_d2

/-- Every block's values after those of the block before it, zeros before the first. -/
def values (v : FVec Ideal S16x16x64x128 .f32) : FVec Ideal S16x16x64x256 .f32 :=
  concatenate S16x16x64x256 3 [⟨S16x16x64x128, (concatenate S16x16x64x128 1 [⟨S16x1x64x128, (broadcastInDim S16x1x64x128 ![] bcast_S_S16x1x64x128 (constant S_ .f32 0x00000000#32))⟩,
    ⟨S16x15x64x128, (extractStridedSlice S16x15x64x128 ![0, 0, 0, 0] v slices_S16x16x64x128_S16x15x64x128_0_0_0_0)⟩] concatenates_S16x1x64x128_S16x15x64x128_S16x16x64x128_d1)⟩,
    ⟨S16x16x64x128, v⟩] concatenates_S16x16x64x128_S16x16x64x128_S16x16x64x256_d3

/-- How far each of the 256 keys lies before each of the 128 queries. -/
def dist : IVec S128x256 32 :=
  addi (subi (broadcastInDim S128x256 ![0, 1] bcast_S128x1_S128x256_0_1 (broadcastInDim S128x1 ![0] bcast_S128_S128x1_0 (iotaInDim S128 32 0)))
    (broadcastInDim S128x256 ![0, 1] bcast_S1x256_S128x256_0_1 (broadcastInDim S1x256 ![1] bcast_S256_S1x256_1 (iotaInDim S256 32 0))))
    (broadcastInDim S128x256 ![] bcast_S_S128x256 (constantI S_ 32 128#32))

/-- Whether a key's position is in the sequence. -/
def begun : IVec S16x256 1 :=
  cmpi .sge (addi (broadcastInDim S16x256 ![0, 1] bcast_S16x1_S16x256_0_1 (subi (muli (broadcastInDim S16x1 ![0] bcast_S16_S16x1_0 (iotaInDim S16 32 0))
    (broadcastInDim S16x1 ![] bcast_S_S16x1 (constantI S_ 32 128#32))) (broadcastInDim S16x1 ![] bcast_S_S16x1 (constantI S_ 32 128#32))))
    (broadcastInDim S16x256 ![0, 1] bcast_S1x256_S16x256_0_1 (broadcastInDim S1x256 ![1] bcast_S256_S1x256_1 (iotaInDim S256 32 0))))
    (broadcastInDim S16x256 ![] bcast_S_S16x256 (constantI S_ 32 0#32))

/-- Whether a distance is in the window. -/
def near : IVec S128x256 1 :=
  andi (cmpi .sge dist (broadcastInDim S128x256 ![] bcast_S_S128x256 (constantI S_ 32 0#32))) (cmpi .slt dist (broadcastInDim S128x256 ![] bcast_S_S128x256 (constantI S_ 32 128#32)))

/-- Which keys of the two blocks a query may see. -/
def valid : IVec S16x128x256 1 :=
  andi (broadcastInDim S16x128x256 ![0, 1, 2] bcast_S1x128x256_S16x128x256_0_1_2 (broadcastInDim S1x128x256 ![1, 2] bcast_S128x256_S1x128x256_1_2 near))
    (broadcastInDim S16x128x256 ![0, 1, 2] bcast_S16x1x256_S16x128x256_0_1_2 (broadcastInDim S16x1x256 ![0, 2] bcast_S16x256_S16x1x256_0_2 begun))

/-- The products of queries and keys. -/
def products (q : FVec Ideal S16x16x128x2x2x64 .f32) (k : FVec Ideal S16x16x256x2x64 .f32) : FVec Ideal S16x16x2x2x128x256 .f32 :=
  transpose S16x16x2x2x128x256 [0, 1, 5, 2, 4, 3] (Host.dotGeneral dot_S16x16x256x2x64_S16x16x128x2x2x64_S16x16x2x256x128x2_4_5_2_23_013_014 none k q)
    transposes_S16x16x2x256x128x2_S16x16x2x2x128x256_0_1_5_2_4_3

/-- Each head's slope times the distance. -/
def bias (sl : FVec Ideal S2x2 .f32) : FVec Ideal S1x1x2x2x128x256 .f32 :=
  mulf (broadcastInDim S1x1x2x2x128x256 ![0, 1, 2, 3, 4, 5] bcast_S1x1x2x2x1x1_S1x1x2x2x128x256_0_1_2_3_4_5 (broadcastInDim S1x1x2x2x1x1 ![2, 3] bcast_S2x2_S1x1x2x2x1x1_2_3 sl))
    (broadcastInDim S1x1x2x2x128x256 ![0, 1, 2, 3, 4, 5] bcast_S1x1x1x1x128x256_S1x1x2x2x128x256_0_1_2_3_4_5 (broadcastInDim S1x1x1x1x128x256 ![4, 5] bcast_S128x256_S1x1x1x1x128x256_4_5 (sitofp .f32 dist)))

/-- The scores: the products less the bias, below every number where a key may not be seen. -/
def scores (p : FVec Ideal S16x16x2x2x128x256 .f32) (sl : FVec Ideal S2x2 .f32) : FVec Ideal S16x16x2x2x128x256 .f32 :=
  select (broadcastInDim S16x16x2x2x128x256 ![0, 1, 2, 3, 4, 5] bcast_S1x16x1x1x128x256_S16x16x2x2x128x256_0_1_2_3_4_5 (broadcastInDim S1x16x1x1x128x256 ![1, 4, 5] bcast_S16x128x256_S1x16x1x1x128x256_1_4_5 valid))
    (subf p (broadcastInDim S16x16x2x2x128x256 ![0, 1, 2, 3, 4, 5] bcast_S1x1x2x2x128x256_S16x16x2x2x128x256_0_1_2_3_4_5 (bias sl)))
    (broadcastInDim S16x16x2x2x128x256 ![] bcast_S_S16x16x2x2x128x256 (id (constant S_ .f32 0xFF800000#32)))

/-- The sinks, one a head. -/
def sink (si : FVec Ideal S2x2 .f32) : FVec Ideal S1x1x2x2x1x1 .f32 := broadcastInDim S1x1x2x2x1x1 ![2, 3] bcast_S2x2_S1x1x2x2x1x1_2_3 si

/-- The greatest score of a query. -/
def greatest (s : FVec Ideal S16x16x2x2x128x256 .f32) : FVec Ideal S16x16x2x2x128 .f32 :=
  Host.reduce FloatOps.maximumf s (constant S_ .f32 0xFF800000#32) reducesTo_S16x16x2x2x128x256_S16x16x2x2x128_d5 h_S_

/-- The sum over a query's keys. -/
def sums (s : FVec Ideal S16x16x2x2x128x256 .f32) : FVec Ideal S16x16x2x2x128 .f32 :=
  Host.reduceAdd s (constant S_ .f32 0x00000000#32) reducesTo_S16x16x2x2x128x256_S16x16x2x2x128_d5 h_S_

/-- The greatest score of a query and its sink. -/
def peak (s : FVec Ideal S16x16x2x2x128x256 .f32) (si : FVec Ideal S2x2 .f32) : FVec Ideal S16x16x2x2x128x1 .f32 :=
  maximumf (broadcastInDim S16x16x2x2x128x1 ![0, 1, 2, 3, 4] bcast_S16x16x2x2x128_S16x16x2x2x128x1_0_1_2_3_4 (greatest s))
    (broadcastInDim S16x16x2x2x128x1 ![0, 1, 2, 3, 4, 5] bcast_S1x1x2x2x1x1_S16x16x2x2x128x1_0_1_2_3_4_5 (sink si))

/-- The keys' weights. -/
def weights (s : FVec Ideal S16x16x2x2x128x256 .f32) (si : FVec Ideal S2x2 .f32) : FVec Ideal S16x16x2x2x128x256 .f32 :=
  Host.powf (broadcastInDim S16x16x2x2x128x256 ![] bcast_S_S16x16x2x2x128x256 (constant S_ .f32 0x40000000#32))
    (subf s (broadcastInDim S16x16x2x2x128x256 ![0, 1, 2, 3, 4, 5] bcast_S16x16x2x2x128x1_S16x16x2x2x128x256_0_1_2_3_4_5 (peak s si)))

/-- The weights' sum and the sink's own weight. -/
def total (s : FVec Ideal S16x16x2x2x128x256 .f32) (si : FVec Ideal S2x2 .f32) : FVec Ideal S16x16x2x2x128x1 .f32 :=
  addf (broadcastInDim S16x16x2x2x128x1 ![0, 1, 2, 3, 4] bcast_S16x16x2x2x128_S16x16x2x2x128x1_0_1_2_3_4 (sums (weights s si)))
    (Host.powf (broadcastInDim S16x16x2x2x128x1 ![] bcast_S_S16x16x2x2x128x1 (constant S_ .f32 0x40000000#32))
      (subf (broadcastInDim S16x16x2x2x128x1 ![0, 1, 2, 3, 4, 5] bcast_S1x1x2x2x1x1_S16x16x2x2x128x1_0_1_2_3_4_5 (sink si)) (peak s si)))

/-- One key head's result, from its scores, the values of the two blocks and the sinks. -/
def out (s : FVec Ideal S16x16x2x2x128x256 .f32) (v : FVec Ideal S16x16x64x256 .f32) (si : FVec Ideal S2x2 .f32) : FVec Ideal S16x16x2x2x128x64 .f32 :=
  Host.divf (Host.dotGeneral dot_S16x16x2x2x128x256_S16x16x64x256_S16x16x2x2x128x64_5_3_234_2_01_01 none (weights s si) v)
    (broadcastInDim S16x16x2x2x128x64 ![0, 1, 2, 3, 4, 5] bcast_S16x16x2x2x128x1_S16x16x2x2x128x64_0_1_2_3_4_5 (total s si))

/-- One key head's attention. -/
def head (q : FVec Ideal S16x16x128x2x2x64 .f32) (k : FVec Ideal S16x16x128x2x64 .f32) (v : FVec Ideal S16x16x64x128 .f32) (sl si : FVec Ideal S2x2 .f32) :
    FVec Ideal S16x16x2x2x128x64 .f32 := out (scores (products q (keys k)) sl) (values v) si

/-- The queries by batch, block, position, key head, pair, copy and dimension. -/
def queriesOf (q : FVec Ideal S32768x512 .bf16) : FVec Ideal S16x16x128x2x2x2x64 .f32 := shapeCast _ (extf .f32 q bitsLt_bf16_f32) shapeCasts_S32768x512_S16x16x128x2x2x2x64
/-- The keys by batch, block, position, key head, copy and dimension. -/
def keysOf (k : FVec Ideal S32768x256 .bf16) : FVec Ideal S16x16x128x2x2x64 .f32 := shapeCast _ (extf .f32 k bitsLt_bf16_f32) shapeCasts_S32768x256_S16x16x128x2x2x64
/-- The values by batch, block, key head, dimension and position. -/
def valuesOf (v : FVec Ideal S256x128x128 .bf16) : FVec Ideal S16x16x2x64x128 .f32 := shapeCast _ (extf .f32 v bitsLt_bf16_f32) shapeCasts_S256x128x128_S16x16x2x64x128
/-- A table of eight heads by key head, pair and copy. -/
def table (t : FVec Ideal S8 .f32) : FVec Ideal S2x2x2 .f32 := shapeCast _ t shapeCasts_S8_S2x2x2

/-- The first key head's attention of the arguments. -/
def head0 (t1 t2 : FVec Ideal S8 .f32) (q : FVec Ideal S32768x512 .bf16) (k : FVec Ideal S32768x256 .bf16) (v : FVec Ideal S256x128x128 .bf16) : FVec Ideal S16x16x2x2x128x64 .f32 :=
  head (shapeCast _ (extractStridedSlice S16x16x128x1x2x2x64 ![0, 0, 0, 0, 0, 0, 0] (queriesOf q) slices_S16x16x128x2x2x2x64_S16x16x128x1x2x2x64_0_0_0_0_0_0_0) shapeCasts_S16x16x128x1x2x2x64_S16x16x128x2x2x64)
    (shapeCast _ (extractStridedSlice S16x16x128x1x2x64 ![0, 0, 0, 0, 0, 0] (keysOf k) slices_S16x16x128x2x2x64_S16x16x128x1x2x64_0_0_0_0_0_0) shapeCasts_S16x16x128x1x2x64_S16x16x128x2x64)
    (shapeCast _ (extractStridedSlice S16x16x1x64x128 ![0, 0, 0, 0, 0] (valuesOf v) slices_S16x16x2x64x128_S16x16x1x64x128_0_0_0_0_0) shapeCasts_S16x16x1x64x128_S16x16x64x128)
    (shapeCast _ (extractStridedSlice S1x2x2 ![0, 0, 0] (table t1) slices_S2x2x2_S1x2x2_0_0_0) shapeCasts_S1x2x2_S2x2)
    (shapeCast _ (extractStridedSlice S1x2x2 ![0, 0, 0] (table t2) slices_S2x2x2_S1x2x2_0_0_0) shapeCasts_S1x2x2_S2x2)

/-- The second key head's attention of the arguments. -/
def head1 (t1 t2 : FVec Ideal S8 .f32) (q : FVec Ideal S32768x512 .bf16) (k : FVec Ideal S32768x256 .bf16) (v : FVec Ideal S256x128x128 .bf16) : FVec Ideal S16x16x2x2x128x64 .f32 :=
  head (shapeCast _ (extractStridedSlice S16x16x128x1x2x2x64 ![0, 0, 0, 1, 0, 0, 0] (queriesOf q) slices_S16x16x128x2x2x2x64_S16x16x128x1x2x2x64_0_0_0_1_0_0_0) shapeCasts_S16x16x128x1x2x2x64_S16x16x128x2x2x64)
    (shapeCast _ (extractStridedSlice S16x16x128x1x2x64 ![0, 0, 0, 1, 0, 0] (keysOf k) slices_S16x16x128x2x2x64_S16x16x128x1x2x64_0_0_0_1_0_0) shapeCasts_S16x16x128x1x2x64_S16x16x128x2x64)
    (shapeCast _ (extractStridedSlice S16x16x1x64x128 ![0, 0, 1, 0, 0] (valuesOf v) slices_S16x16x2x64x128_S16x16x1x64x128_0_0_1_0_0) shapeCasts_S16x16x1x64x128_S16x16x64x128)
    (shapeCast _ (extractStridedSlice S1x2x2 ![1, 0, 0] (table t1) slices_S2x2x2_S1x2x2_1_0_0) shapeCasts_S1x2x2_S2x2)
    (shapeCast _ (extractStridedSlice S1x2x2 ![1, 0, 0] (table t2) slices_S2x2x2_S1x2x2_1_0_0) shapeCasts_S1x2x2_S2x2)

/-- The two key heads' results as one array of rows and columns. -/
def joined (o0 o1 : FVec Ideal S16x16x2x2x128x64 .f32) : FVec Ideal S32768x512 .bf16 :=
  truncf .bf16 (shapeCast _ (transpose S16x16x128x2x2x2x64 [0, 1, 5, 2, 3, 4, 6] (concatenate S16x16x2x2x2x128x64 2
    [⟨S16x16x1x2x2x128x64, (broadcastInDim S16x16x1x2x2x128x64 ![0, 1, 3, 4, 5, 6] bcast_S16x16x2x2x128x64_S16x16x1x2x2x128x64_0_1_3_4_5_6 o0)⟩,
     ⟨S16x16x1x2x2x128x64, (broadcastInDim S16x16x1x2x2x128x64 ![0, 1, 3, 4, 5, 6] bcast_S16x16x2x2x128x64_S16x16x1x2x2x128x64_0_1_3_4_5_6 o1)⟩]
    concatenates_S16x16x1x2x2x128x64_S16x16x1x2x2x128x64_S16x16x2x2x2x128x64_d2) transposes_S16x16x2x2x2x128x64_S16x16x128x2x2x2x64_0_1_5_2_3_4_6)
    shapeCasts_S16x16x128x2x2x2x64_S32768x512) bitsLt_bf16_f32

/-- The reference's result of the arguments. -/
def whole (t1 t2 : FVec Ideal S8 .f32) (q : FVec Ideal S32768x512 .bf16) (k : FVec Ideal S32768x256 .bf16) (v : FVec Ideal S256x128x128 .bf16) : FVec Ideal S32768x512 .bf16 :=
  joined (head0 t1 t2 q k v) (head1 t1 t2 q k v)

end Cert.RefIdeal.Stages

end
-- ==== Proof.SwaRes.lean ====
/- What the reference of the second branch's attention leaves in its result array. -/
module

public import proofs.«01_k».proof.Proof.SwaStage

@[expose] public section

set_option maxRecDepth 16384

noncomputable section

namespace Cert.RefIdeal.Stages

open Cert.RefIdeal Cert.RefIdeal.Gen Idealize.ShloMosaic Idealize.ShloMosaic.TcCoe Idealize.SL.Sem Idealize.ShloMosaic.StableHlo

set_option maxHeartbeats 4000000 in
/-- What the reference leaves in its result array is its stages composed. -/
theorem res_whole (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v179) = whole (m ((c.tc : Thread nD τ).loc main_arg1)) (m ((c.tc : Thread nD τ).loc main_arg2))
        (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1.trans (by rfl), (h c).2⟩) (Value.run (F := Ideal) m ρ)

end Cert.RefIdeal.Stages

end
-- ==== Proof.SwaTile.lean ====
/- Sliding-window attention of one tile of 64 queries and four heads (256 columns), over variables: the scores of a window
    of keys, their maximum with the sink, the weights laid over the 256 keys of a block and the block before it, the
    weighted values and their quotient by the weights' sum; and each of them at an index. -/
module

public import proofs.«01_k».proof.Proof.Gen.KernelIdeal.Value
public import Idealize.ShloMosaic.Lib.Pipeline.ValueKit
public import Idealize.ShloMosaic.Lib.Pointwise
public import Idealize.ShloMosaic.Lib.Pipeline.ReadBack

@[expose] public section

set_option maxRecDepth 16384

noncomputable section

namespace Cert.KernelIdeal.Swa

open Cert.KernelIdeal Cert.KernelIdeal.Gen Idealize.ShloMosaic Idealize.ShloMosaic.TcCoe Idealize.SL.Sem

/-! ## The mathematics of one query -/

/-- The greatest of 256 scores and the sink. -/
def top (s : Fin 256 → EReal) (k : EReal) : EReal := max (Finset.univ.fold max ⊥ s) k

/-- Attention of one query over 256 scored values with a sink: the values weighted by `2 ^ (score - top)`, over the
    weights' sum and the sink's own weight. -/
def att (s v : Fin 256 → EReal) (k : EReal) : EReal :=
  Ideal.div (∑ i, v i * Ideal.exp2 (s i - top s k)) (∑ i, Ideal.exp2 (s i - top s k) + Ideal.exp2 (k - top s k))

/-- A score below every number weighs nothing. -/
theorem exp2_bot (m : EReal) : Ideal.exp2 (⊥ - m) = 0 := by
  rw [sub_eq_add_neg, EReal.bot_add]; rfl

/-- A window of scores has the maximum of the scores that are `⊥` outside it. -/
theorem fold_window (n off : ℕ) (h : off + n ≤ 256) (f : Fin n → EReal) :
    Finset.univ.fold max ⊥ f = Finset.univ.fold max ⊥ (fun i : Fin 256 => if hi : off ≤ i.val ∧ i.val < off + n then f ⟨i.val - off, by omega⟩ else ⊥) := by
  apply le_antisymm
  · rw [Finset.fold_max_le]
    refine ⟨bot_le, fun i _ => ?_⟩
    rw [Finset.le_fold_max]
    refine Or.inr ⟨⟨off + i.val, by omega⟩, Finset.mem_univ _, ?_⟩
    rw [dif_pos ⟨by simp, by simp⟩]
    simp
  · rw [Finset.fold_max_le]
    refine ⟨bot_le, fun i _ => ?_⟩
    split
    · rw [Finset.le_fold_max]
      exact Or.inr ⟨_, Finset.mem_univ _, le_rfl⟩
    · exact bot_le

/-- The scores of a window of keys among 256, below every number outside it. -/
def win (n off : ℕ) (f : Fin n → EReal) : Fin 256 → EReal :=
  fun i => if hi : off ≤ i.val ∧ i.val < off + n then f ⟨i.val - off, by omega⟩ else ⊥

/-- The greatest of a window's scores and the sink. -/
theorem top_win (n off : ℕ) (h : off + n ≤ 256) (f : Fin n → EReal) (k : EReal) :
    top (win n off f) k = max (Finset.univ.fold max ⊥ f) k := by
  rw [fold_window n off h f]; rfl

/-- A key's weight in a window, none outside it. -/
theorem exp2_win (n off : ℕ) (f : Fin n → EReal) (m : EReal) (i : Fin 256) :
    Ideal.exp2 (win n off f i - m) = if hi : off ≤ i.val ∧ i.val < off + n then Ideal.exp2 (f ⟨i.val - off, by omega⟩ - m) else 0 := by
  unfold win
  split
  · rfl
  · exact exp2_bot m

/-! ## The tile's arrays -/

/-- Which of 128 lanes belong to the first head of a pair. -/
def first : IVec S64x128 1 := cmpi .slt (iota .tc S64x128 32 [1] iota_S64x128_d1_w32) (broadcast S64x128 64#32)

/-- No query at all. -/
def none64 : FVec Ideal S64x128 .bf16 := broadcast S64x128 (Scalar.ofBits (F := Ideal) .bf16 0x0000#16)

/-- The queries of four heads one after another, each with zeros on the other head's lanes. -/
def stacked (q : Vec Ideal S64x256 .bf16) : FVec Ideal S256x128 .bf16 :=
  concatenate S256x128 0 [⟨S64x128, select first (extractStridedSlice S64x128 ![0, 0] q slices_S64x256_o0_0_S64x128) none64⟩,
    ⟨S64x128, select first none64 (extractStridedSlice S64x128 ![0, 0] q slices_S64x256_o0_0_S64x128)⟩,
    ⟨S64x128, select first (extractStridedSlice S64x128 ![0, 128] q slices_S64x256_o0_128_S64x128) none64⟩,
    ⟨S64x128, select first none64 (extractStridedSlice S64x128 ![0, 128] q slices_S64x256_o0_128_S64x128)⟩]
    concatenates_S64x128_S64x128_S64x128_S64x128_S256x128_d0

/-- The scores of 64 keys: products of keys and queries, and the bias. -/
def sc64 (q : Vec Ideal S64x256 .bf16) (k : Vec Ideal S64x128 .bf16) (b : Vec Ideal S1x64x256 .f32) : FVec Ideal S64x256 .f32 :=
  addf (matmul (F := Ideal) (φ₁ := .bf16) dot_S64x128_S256x128_S64x256_1_1_0_0_n_n none k (stacked q) (constant S64x256 .f32 0x00000000#32))
    (shapeCast S64x256 b shapeCasts_S1x64x256_S64x256)

/-- The scores of 128 keys. -/
def sc128 (q : Vec Ideal S64x256 .bf16) (k : Vec Ideal S128x128 .bf16) (b : Vec Ideal S1x128x256 .f32) : FVec Ideal S128x256 .f32 :=
  addf (matmul (F := Ideal) (φ₁ := .bf16) dot_S128x128_S256x128_S128x256_1_1_0_0_n_n none k (stacked q) (constant S128x256 .f32 0x00000000#32))
    (shapeCast S128x256 b shapeCasts_S1x128x256_S128x256)

/-- The scores of 192 keys. -/
def sc192 (q : Vec Ideal S64x256 .bf16) (k : Vec Ideal S192x128 .bf16) (b : Vec Ideal S1x192x256 .f32) : FVec Ideal S192x256 .f32 :=
  addf (matmul (F := Ideal) (φ₁ := .bf16) dot_S192x128_S256x128_S192x256_1_1_0_0_n_n none k (stacked q) (constant S192x256 .f32 0x00000000#32))
    (shapeCast S192x256 b shapeCasts_S1x192x256_S192x256)

/-- Each column's greatest score or sink. -/
def mx64 (s : FVec Ideal S64x256 .f32) (sink : FVec Ideal S1x256 .f32) : FVec Ideal S1x256 .f32 :=
  maximumf (shapeCast S1x256 (multiReduction .maximumf [0] S256 s 0xFF800000#32 reduces_S64x256_S256 (.inl rfl) rfl) shapeCasts_S256_S1x256) sink
/-- The same of 128 scores. -/
def mx128 (s : FVec Ideal S128x256 .f32) (sink : FVec Ideal S1x256 .f32) : FVec Ideal S1x256 .f32 :=
  maximumf (shapeCast S1x256 (multiReduction .maximumf [0] S256 s 0xFF800000#32 reduces_S128x256_S256 (.inl rfl) rfl) shapeCasts_S256_S1x256) sink
/-- The same of 192 scores. -/
def mx192 (s : FVec Ideal S192x256 .f32) (sink : FVec Ideal S1x256 .f32) : FVec Ideal S1x256 .f32 :=
  maximumf (shapeCast S1x256 (multiReduction .maximumf [0] S256 s 0xFF800000#32 reduces_S192x256_S256 (.inl rfl) rfl) shapeCasts_S256_S1x256) sink

/-- The weights of the first tile: 64 keys after 128 without weight and before 64 more. -/
def wt0 (s : Vec Ideal S1x64x256 .f32) (m : FVec Ideal S1x256 .f32) : FVec Ideal S256x256 .bf16 :=
  concatenate S256x256 0 [⟨S128x256, broadcast S128x256 (Scalar.ofBits (F := Ideal) .bf16 0x0000#16)⟩,
    ⟨S64x256, truncf .bf16 (exp2 (subf (shapeCast S64x256 s shapeCasts_S1x64x256_S64x256) (broadcastTo S64x256 m broadcasts_S1x256_S64x256))) bitsLt_bf16_f32⟩,
    ⟨S64x256, broadcast S64x256 (Scalar.ofBits (F := Ideal) .bf16 0x0000#16)⟩] concatenates_S128x256_S64x256_S64x256_S256x256_d0
/-- The weights of the second tile: 128 keys after 128 without weight. -/
def wt1 (s : Vec Ideal S1x128x256 .f32) (m : FVec Ideal S1x256 .f32) : FVec Ideal S256x256 .bf16 :=
  concatenate S256x256 0 [⟨S128x256, broadcast S128x256 (Scalar.ofBits (F := Ideal) .bf16 0x0000#16)⟩,
    ⟨S128x256, truncf .bf16 (exp2 (subf (shapeCast S128x256 s shapeCasts_S1x128x256_S128x256) (broadcastTo S128x256 m broadcasts_S1x256_S128x256))) bitsLt_bf16_f32⟩]
    concatenates_S128x256_S128x256_S256x256_d0
/-- The weights of a later tile that begins a block: 192 keys before 64 without weight. -/
def wtE (s : Vec Ideal S1x192x256 .f32) (m : FVec Ideal S1x256 .f32) : FVec Ideal S256x256 .bf16 :=
  concatenate S256x256 0 [⟨S192x256, truncf .bf16 (exp2 (subf (shapeCast S192x256 s shapeCasts_S1x192x256_S192x256)
      (broadcastTo S192x256 m broadcasts_S1x256_S192x256))) bitsLt_bf16_f32⟩,
    ⟨S64x256, broadcast S64x256 (Scalar.ofBits (F := Ideal) .bf16 0x0000#16)⟩] concatenates_S192x256_S64x256_S256x256_d0
/-- The weights of a later tile that ends a block: 192 keys after 64 without weight. -/
def wtO (s : Vec Ideal S1x192x256 .f32) (m : FVec Ideal S1x256 .f32) : FVec Ideal S256x256 .bf16 :=
  concatenate S256x256 0 [⟨S64x256, broadcast S64x256 (Scalar.ofBits (F := Ideal) .bf16 0x0000#16)⟩,
    ⟨S192x256, truncf .bf16 (exp2 (subf (shapeCast S192x256 s shapeCasts_S1x192x256_S192x256)
      (broadcastTo S192x256 m broadcasts_S1x256_S192x256))) bitsLt_bf16_f32⟩] concatenates_S64x256_S192x256_S256x256_d0

/-- The weighted values, and under them the weights' sums (the values' rows from 64 on are ones). -/
def weighted (v : Vec Ideal S1x1x80x256 .bf16) (p : FVec Ideal S256x256 .bf16) : FVec Ideal S80x256 .f32 :=
  matmul (F := Ideal) (φ₁ := .bf16) dot_S80x256_S256x256_S80x256_1_0_0_1_n_n none (shapeCast S80x256 v shapeCasts_S1x1x80x256_S80x256) p
    (constant S80x256 .f32 0x00000000#32)

/-- The weighted values over the weights' sums. -/
def quot (o : FVec Ideal S80x256 .f32) (sink m : FVec Ideal S1x256 .f32) : FVec Ideal S64x256 .f32 :=
  divf (extractStridedSlice S64x256 ![0, 0] o slices_S80x256_o0_0_S64x256)
    (broadcastTo S64x256 (addf (extractStridedSlice S1x256 ![64, 0] o slices_S80x256_o64_0_S1x256) (exp2 (subf sink m))) broadcasts_S1x256_S64x256)

/-- A first tile's results, dimension by query. -/
def tile0 (q : Vec Ideal S64x256 .bf16) (k : Vec Ideal S64x128 .bf16) (b : Vec Ideal S1x64x256 .f32) (v : Vec Ideal S1x1x80x256 .bf16)
    (sink : FVec Ideal S1x256 .f32) : FVec Ideal S64x256 .f32 :=
  quot (weighted v (wt0 (shapeCast S1x64x256 (sc64 q k b) shapeCasts_S64x256_S1x64x256) (mx64 (sc64 q k b) sink))) sink (mx64 (sc64 q k b) sink)
/-- A second tile's results. -/
def tile1 (q : Vec Ideal S64x256 .bf16) (k : Vec Ideal S128x128 .bf16) (b : Vec Ideal S1x128x256 .f32) (v : Vec Ideal S1x1x80x256 .bf16)
    (sink : FVec Ideal S1x256 .f32) : FVec Ideal S64x256 .f32 :=
  quot (weighted v (wt1 (shapeCast S1x128x256 (sc128 q k b) shapeCasts_S128x256_S1x128x256) (mx128 (sc128 q k b) sink))) sink (mx128 (sc128 q k b) sink)
/-- The results of a later tile that begins a block. -/
def tileE (q : Vec Ideal S64x256 .bf16) (k : Vec Ideal S192x128 .bf16) (b : Vec Ideal S1x192x256 .f32) (v : Vec Ideal S1x1x80x256 .bf16)
    (sink : FVec Ideal S1x256 .f32) : FVec Ideal S64x256 .f32 :=
  quot (weighted v (wtE (shapeCast S1x192x256 (sc192 q k b) shapeCasts_S192x256_S1x192x256) (mx192 (sc192 q k b) sink))) sink (mx192 (sc192 q k b) sink)
/-- The results of a later tile that ends a block. -/
def tileO (q : Vec Ideal S64x256 .bf16) (k : Vec Ideal S192x128 .bf16) (b : Vec Ideal S1x192x256 .f32) (v : Vec Ideal S1x1x80x256 .bf16)
    (sink : FVec Ideal S1x256 .f32) : FVec Ideal S64x256 .f32 :=
  quot (weighted v (wtO (shapeCast S1x192x256 (sc192 q k b) shapeCasts_S192x256_S1x192x256) (mx192 (sc192 q k b) sink))) sink (mx192 (sc192 q k b) sink)

/-- Two tiles' results of the first pair of heads, query by dimension. -/
def put0 (e o : FVec Ideal S64x256 .bf16) : FVec Ideal S128x128 .bf16 :=
  transpose S128x128 [1, 0] (concatenate S128x128 0
    [⟨S64x128, select first (extractStridedSlice S64x128 ![0, 0] e slices_S64x256_o0_0_S64x128)
        (dynamicRotate 1 64#32 none (extractStridedSlice S64x128 ![0, 0] o slices_S64x256_o0_0_S64x128) rotates_S64x128_d1)⟩,
     ⟨S64x128, select first (dynamicRotate 1 64#32 none (extractStridedSlice S64x128 ![0, 0] e slices_S64x256_o0_0_S64x128) rotates_S64x128_d1)
        (extractStridedSlice S64x128 ![0, 0] o slices_S64x256_o0_0_S64x128)⟩] concatenates_S64x128_S64x128_S128x128_d0)
    transposes_S128x128_p1_0_S128x128
/-- Two tiles' results of the second pair. -/
def put1 (e o : FVec Ideal S64x256 .bf16) : FVec Ideal S128x128 .bf16 :=
  transpose S128x128 [1, 0] (concatenate S128x128 0
    [⟨S64x128, select first (extractStridedSlice S64x128 ![0, 128] e slices_S64x256_o0_128_S64x128)
        (dynamicRotate 1 64#32 none (extractStridedSlice S64x128 ![0, 128] o slices_S64x256_o0_128_S64x128) rotates_S64x128_d1)⟩,
     ⟨S64x128, select first (dynamicRotate 1 64#32 none (extractStridedSlice S64x128 ![0, 128] e slices_S64x256_o0_128_S64x128) rotates_S64x128_d1)
        (extractStridedSlice S64x128 ![0, 128] o slices_S64x256_o0_128_S64x128)⟩] concatenates_S64x128_S64x128_S128x128_d0)
    transposes_S128x128_p1_0_S128x128

/-! ## The arrays at an index -/

/-- The first 64 lanes belong to the first head. -/
theorem first_apply (r : Fin 64) (l : Fin 128) : first (ix2 r l) = if l.val < 64 then 1#1 else 0#1 := by
  have h : ∀ l : Fin 128, IntOp.cmpi CmpIPredicate.slt (BitVec.ofNat 32 l.val) 64#32 = if l.val < 64 then 1#1 else 0#1 := by decide +kernel
  pointwise [first]
  exact h l

/-- A choice by a true bit. -/
theorem select_one {α : Type} (a b : α) : Scalar.select 1#1 a b = a := rfl
/-- A choice by a false bit. -/
theorem select_zero {α : Type} (a b : α) : Scalar.select 0#1 a b = b := rfl

/-- Indices with the same coordinates are the same. -/
theorem ix2_eq {m n : ℕ} {a b c d : ℕ} {ha : a < m} {hb : b < n} {hc : c < m} {hd : d < n} (h : a = c) (h' : b = d) :
    ix2 (n0 := m) (n1 := n) ⟨a, ha⟩ ⟨b, hb⟩ = ix2 ⟨c, hc⟩ ⟨d, hd⟩ := by subst h; subst h'; rfl

/-- Column `64 n + r` of the stacked queries has head `n` of the four: its lanes are the pair's `n / 2`, its own half kept. -/
theorem stacked_apply (q : Vec Ideal S64x256 .bf16) (c : Fin 256) (l : Fin 128) :
    stacked q (ix2 c l) =
      if l.val / 64 = c.val / 64 % 2 then q (ix2 ⟨c.val % 64, by omega⟩ ⟨c.val / 128 * 128 + l.val, by omega⟩) else 0 := by
  pointwise [stacked, none64, first_apply]
  by_cases hl : l.val < 64
  · simp only [hl, if_true, select_one]
    repeat' split
    all_goals first | rfl | (exfalso; omega) | exact congrArg q (ix2_eq (by omega) (by omega))
  · simp only [hl, if_false, select_zero]
    repeat' split
    all_goals first | rfl | (exfalso; omega) | exact congrArg q (ix2_eq (by omega) (by omega))

/-- The word of minus infinity. -/
theorem ofBits_bot : Ideal.ofBits .f32 0xFF800000#32 = ⊥ := by simp [Ideal.ofBits, Ideal.ieee]

/-- The products of a key's 64 numbers of a head and the query's of that head. -/
theorem sum_stacked (q : Vec Ideal S64x256 .bf16) (f : Fin 128 → EReal) (c : Fin 256) :
    ∑ l : Fin 128, f l * stacked q (ix2 c l) =
      ∑ d : Fin 64, f ⟨c.val / 64 % 2 * 64 + d.val, by omega⟩ * q (ix2 ⟨c.val % 64, by omega⟩ ⟨c.val / 64 * 64 + d.val, by omega⟩) := by
  simp only [stacked_apply]
  rw [Fin.sum_univ_add (a := 64) (b := 64)]
  have e : ∀ (l : Fin 128) (d : Fin 64), l.val = c.val / 64 % 2 * 64 + d.val →
      f l * (if l.val / 64 = c.val / 64 % 2 then q (ix2 ⟨c.val % 64, by omega⟩ ⟨c.val / 128 * 128 + l.val, by omega⟩) else 0) =
        f ⟨c.val / 64 % 2 * 64 + d.val, by omega⟩ * q (ix2 ⟨c.val % 64, by omega⟩ ⟨c.val / 64 * 64 + d.val, by omega⟩) := by
    intro l d h
    rw [if_pos (by omega), show l = ⟨c.val / 64 % 2 * 64 + d.val, by omega⟩ from Fin.ext h]
    exact congrArg (fun j => _ * q j) (ix2_eq rfl (by show c.val / 128 * 128 + (c.val / 64 % 2 * 64 + d.val) = _; omega))
  have z : ∀ l : Fin 128, l.val / 64 ≠ c.val / 64 % 2 →
      f l * (if l.val / 64 = c.val / 64 % 2 then q (ix2 ⟨c.val % 64, by omega⟩ ⟨c.val / 128 * 128 + l.val, by omega⟩) else 0) = 0 := by
    intro l h
    rw [if_neg h, mul_zero]
  rcases Nat.mod_two_eq_zero_or_one (c.val / 64) with h | h
  · refine (congrArg₂ (· + ·) (Finset.sum_congr rfl fun d _ => e (Fin.castAdd 64 d) d ?_) (Finset.sum_eq_zero fun d _ => z (Fin.natAdd 64 d) ?_)).trans (add_zero _)
    · simp [h]
    · simp [h]
  · refine (congrArg₂ (· + ·) (Finset.sum_eq_zero fun d _ => z (Fin.castAdd 64 d) ?_) (Finset.sum_congr rfl fun d _ => e (Fin.natAdd 64 d) d ?_)).trans (zero_add _)
    · rw [h]; show d.val / 64 ≠ 1; omega
    · rw [h]; show 64 + d.val = 1 * 64 + d.val; omega

/-- The weighted values and weights' sums of a column. -/
theorem weighted_apply (v : Vec Ideal S1x1x80x256 .bf16) (p : FVec Ideal S256x256 .bf16) (r : Fin 80) (c : Fin 256) :
    weighted v p (ix2 r c) = ∑ i : Fin 256, v (ix4 0 0 r i) * p (ix2 i c) := by
  pointwise [weighted]

/-- A column's quotient. -/
theorem quot_apply (o : FVec Ideal S80x256 .f32) (k m : FVec Ideal S1x256 .f32) (d : Fin 64) (c : Fin 256) :
    quot o k m (ix2 d c) = Ideal.div (o (ix2 ⟨d.val, by omega⟩ c)) (o (ix2 64 c) + Ideal.exp2 (k (ix2 0 c) - m (ix2 0 c))) := by
  pointwise [quot]
  rfl

/-- Where two tiles' results of the first pair of heads go. -/
theorem put0_apply (e o : FVec Ideal S64x256 .bf16) (r l : Fin 128) :
    put0 e o (ix2 r l) = (if r.val < 64 then e else o) (ix2 ⟨l.val % 64, by omega⟩ ⟨l.val / 64 * 64 + r.val % 64, by omega⟩) := by
  pointwise [put0, first_apply]
  by_cases hr : r.val < 64
  · simp only [hr, if_true, select_one]
    split <;> exact congrArg e (ix2_eq (by omega) (by omega))
  · simp only [hr, if_false, select_zero]
    split <;> exact congrArg o (ix2_eq (by omega) (by omega))

/-- Where those of the second pair go. -/
theorem put1_apply (e o : FVec Ideal S64x256 .bf16) (r l : Fin 128) :
    put1 e o (ix2 r l) = (if r.val < 64 then e else o) (ix2 ⟨l.val % 64, by omega⟩ ⟨128 + l.val / 64 * 64 + r.val % 64, by omega⟩) := by
  pointwise [put1, first_apply]
  by_cases hr : r.val < 64
  · simp only [hr, if_true, select_one]
    split <;> exact congrArg e (ix2_eq (by omega) (by omega))
  · simp only [hr, if_false, select_zero]
    split <;> exact congrArg o (ix2_eq (by omega) (by omega))

/-- A score of 64 keys: the product over the head's dimensions and the bias. -/
theorem sc64_apply (q : Vec Ideal S64x256 .bf16) (k : Vec Ideal S64x128 .bf16) (b : Vec Ideal S1x64x256 .f32) (i : Fin 64) (c : Fin 256) :
    sc64 q k b (ix2 i c) = ∑ d : Fin 64, k (ix2 i ⟨c.val / 64 % 2 * 64 + d.val, by omega⟩) *
      q (ix2 ⟨c.val % 64, by omega⟩ ⟨c.val / 64 * 64 + d.val, by omega⟩) + b (ix3 0 i c) := by
  rw [← sum_stacked q (fun l => k (ix2 i l)) c]
  pointwise [sc64]

/-- A column's greatest of 64 scores and the sink. -/
theorem mx64_apply (s : FVec Ideal S64x256 .f32) (m : FVec Ideal S1x256 .f32) (c : Fin 256) :
    mx64 s m (ix2 0 c) = max (Finset.univ.fold max ⊥ fun i => s (ix2 i c)) (m (ix2 0 c)) := by
  rw [← ofBits_bot]
  pointwise [mx64]

/-- A score of 128 keys: the product over the head's dimensions and the bias. -/
theorem sc128_apply (q : Vec Ideal S64x256 .bf16) (k : Vec Ideal S128x128 .bf16) (b : Vec Ideal S1x128x256 .f32) (i : Fin 128) (c : Fin 256) :
    sc128 q k b (ix2 i c) = ∑ d : Fin 64, k (ix2 i ⟨c.val / 64 % 2 * 64 + d.val, by omega⟩) *
      q (ix2 ⟨c.val % 64, by omega⟩ ⟨c.val / 64 * 64 + d.val, by omega⟩) + b (ix3 0 i c) := by
  rw [← sum_stacked q (fun l => k (ix2 i l)) c]
  pointwise [sc128]

/-- A column's greatest of 128 scores and the sink. -/
theorem mx128_apply (s : FVec Ideal S128x256 .f32) (m : FVec Ideal S1x256 .f32) (c : Fin 256) :
    mx128 s m (ix2 0 c) = max (Finset.univ.fold max ⊥ fun i => s (ix2 i c)) (m (ix2 0 c)) := by
  rw [← ofBits_bot]
  pointwise [mx128]

/-- A score of 192 keys: the product over the head's dimensions and the bias. -/
theorem sc192_apply (q : Vec Ideal S64x256 .bf16) (k : Vec Ideal S192x128 .bf16) (b : Vec Ideal S1x192x256 .f32) (i : Fin 192) (c : Fin 256) :
    sc192 q k b (ix2 i c) = ∑ d : Fin 64, k (ix2 i ⟨c.val / 64 % 2 * 64 + d.val, by omega⟩) *
      q (ix2 ⟨c.val % 64, by omega⟩ ⟨c.val / 64 * 64 + d.val, by omega⟩) + b (ix3 0 i c) := by
  rw [← sum_stacked q (fun l => k (ix2 i l)) c]
  pointwise [sc192]

/-- A column's greatest of 192 scores and the sink. -/
theorem mx192_apply (s : FVec Ideal S192x256 .f32) (m : FVec Ideal S1x256 .f32) (c : Fin 256) :
    mx192 s m (ix2 0 c) = max (Finset.univ.fold max ⊥ fun i => s (ix2 i c)) (m (ix2 0 c)) := by
  rw [← ofBits_bot]
  pointwise [mx192]

/-- A tile's weights are those of its window. -/
theorem wt0_apply (s : FVec Ideal S64x256 .f32) (m : FVec Ideal S1x256 .f32) (i c : Fin 256) :
    wt0 (shapeCast S1x64x256 s shapeCasts_S64x256_S1x64x256) m (ix2 i c) = Ideal.exp2 (win 64 128 (fun j => s (ix2 j c)) i - m (ix2 0 c)) := by
  rw [exp2_win]
  pointwise [wt0]
  repeat' split
  all_goals first | rfl | (exfalso; omega)

/-- A tile's result: attention over its window. -/
theorem tile0_apply (q : Vec Ideal S64x256 .bf16) (k : Vec Ideal S64x128 .bf16) (b : Vec Ideal S1x64x256 .f32) (v : Vec Ideal S1x1x80x256 .bf16)
    (sink : FVec Ideal S1x256 .f32) (hv : ∀ i : Fin 256, v (ix4 0 0 64 i) = 1) (d : Fin 64) (c : Fin 256) :
    tile0 q k b v sink (ix2 d c) = att (win 64 128 fun i => ∑ d : Fin 64, k (ix2 i ⟨c.val / 64 % 2 * 64 + d.val, by omega⟩) *
      q (ix2 ⟨c.val % 64, by omega⟩ ⟨c.val / 64 * 64 + d.val, by omega⟩) + b (ix3 0 i c)) (fun i => v (ix4 0 0 ⟨d.val, by omega⟩ i)) (sink (ix2 0 c)) := by
  unfold tile0 att
  rw [quot_apply, weighted_apply, weighted_apply]
  have hw := fun i => wt0_apply (sc64 q k b) (mx64 (sc64 q k b) sink) i c
  simp only [hw]
  simp only [mx64_apply, sc64_apply, hv, one_mul, top_win 64 128 (by norm_num)]

/-- A tile's weights are those of its window. -/
theorem wt1_apply (s : FVec Ideal S128x256 .f32) (m : FVec Ideal S1x256 .f32) (i c : Fin 256) :
    wt1 (shapeCast S1x128x256 s shapeCasts_S128x256_S1x128x256) m (ix2 i c) = Ideal.exp2 (win 128 128 (fun j => s (ix2 j c)) i - m (ix2 0 c)) := by
  rw [exp2_win]
  pointwise [wt1]
  repeat' split
  all_goals first | rfl | (exfalso; omega)

/-- A tile's result: attention over its window. -/
theorem tile1_apply (q : Vec Ideal S64x256 .bf16) (k : Vec Ideal S128x128 .bf16) (b : Vec Ideal S1x128x256 .f32) (v : Vec Ideal S1x1x80x256 .bf16)
    (sink : FVec Ideal S1x256 .f32) (hv : ∀ i : Fin 256, v (ix4 0 0 64 i) = 1) (d : Fin 64) (c : Fin 256) :
    tile1 q k b v sink (ix2 d c) = att (win 128 128 fun i => ∑ d : Fin 64, k (ix2 i ⟨c.val / 64 % 2 * 64 + d.val, by omega⟩) *
      q (ix2 ⟨c.val % 64, by omega⟩ ⟨c.val / 64 * 64 + d.val, by omega⟩) + b (ix3 0 i c)) (fun i => v (ix4 0 0 ⟨d.val, by omega⟩ i)) (sink (ix2 0 c)) := by
  unfold tile1 att
  rw [quot_apply, weighted_apply, weighted_apply]
  have hw := fun i => wt1_apply (sc128 q k b) (mx128 (sc128 q k b) sink) i c
  simp only [hw]
  simp only [mx128_apply, sc128_apply, hv, one_mul, top_win 128 128 (by norm_num)]

/-- A tile's weights are those of its window. -/
theorem wtE_apply (s : FVec Ideal S192x256 .f32) (m : FVec Ideal S1x256 .f32) (i c : Fin 256) :
    wtE (shapeCast S1x192x256 s shapeCasts_S192x256_S1x192x256) m (ix2 i c) = Ideal.exp2 (win 192 0 (fun j => s (ix2 j c)) i - m (ix2 0 c)) := by
  rw [exp2_win]
  pointwise [wtE]
  repeat' split
  all_goals first | rfl | (exfalso; omega)

/-- A tile's result: attention over its window. -/
theorem tileE_apply (q : Vec Ideal S64x256 .bf16) (k : Vec Ideal S192x128 .bf16) (b : Vec Ideal S1x192x256 .f32) (v : Vec Ideal S1x1x80x256 .bf16)
    (sink : FVec Ideal S1x256 .f32) (hv : ∀ i : Fin 256, v (ix4 0 0 64 i) = 1) (d : Fin 64) (c : Fin 256) :
    tileE q k b v sink (ix2 d c) = att (win 192 0 fun i => ∑ d : Fin 64, k (ix2 i ⟨c.val / 64 % 2 * 64 + d.val, by omega⟩) *
      q (ix2 ⟨c.val % 64, by omega⟩ ⟨c.val / 64 * 64 + d.val, by omega⟩) + b (ix3 0 i c)) (fun i => v (ix4 0 0 ⟨d.val, by omega⟩ i)) (sink (ix2 0 c)) := by
  unfold tileE att
  rw [quot_apply, weighted_apply, weighted_apply]
  have hw := fun i => wtE_apply (sc192 q k b) (mx192 (sc192 q k b) sink) i c
  simp only [hw]
  simp only [mx192_apply, sc192_apply, hv, one_mul, top_win 192 0 (by norm_num)]

/-- A tile's weights are those of its window. -/
theorem wtO_apply (s : FVec Ideal S192x256 .f32) (m : FVec Ideal S1x256 .f32) (i c : Fin 256) :
    wtO (shapeCast S1x192x256 s shapeCasts_S192x256_S1x192x256) m (ix2 i c) = Ideal.exp2 (win 192 64 (fun j => s (ix2 j c)) i - m (ix2 0 c)) := by
  rw [exp2_win]
  pointwise [wtO]
  repeat' split
  all_goals first | rfl | (exfalso; omega)

/-- A tile's result: attention over its window. -/
theorem tileO_apply (q : Vec Ideal S64x256 .bf16) (k : Vec Ideal S192x128 .bf16) (b : Vec Ideal S1x192x256 .f32) (v : Vec Ideal S1x1x80x256 .bf16)
    (sink : FVec Ideal S1x256 .f32) (hv : ∀ i : Fin 256, v (ix4 0 0 64 i) = 1) (d : Fin 64) (c : Fin 256) :
    tileO q k b v sink (ix2 d c) = att (win 192 64 fun i => ∑ d : Fin 64, k (ix2 i ⟨c.val / 64 % 2 * 64 + d.val, by omega⟩) *
      q (ix2 ⟨c.val % 64, by omega⟩ ⟨c.val / 64 * 64 + d.val, by omega⟩) + b (ix3 0 i c)) (fun i => v (ix4 0 0 ⟨d.val, by omega⟩ i)) (sink (ix2 0 c)) := by
  unfold tileO att
  rw [quot_apply, weighted_apply, weighted_apply]
  have hw := fun i => wtO_apply (sc192 q k b) (mx192 (sc192 q k b) sink) i c
  simp only [hw]
  simp only [mx192_apply, sc192_apply, hv, one_mul, top_win 192 64 (by norm_num)]

/-! ## The tile's words -/

/-- A tile's queries: 64 rows of the point's, of four heads. -/
def qAt (arg8 : Memref sig .tc .vmem S2048x512 .bf16) (harg8 : arg8.IsWhole) (x7 : Vec Ideal S2048x512 .bf16) (r o : ℕ)
    (h : ∀ a, (![r, o] : Fin 2 → ℕ) a + S64x256.size a ≤ S2048x512.size a) : Vec Ideal S64x256 .bf16 :=
  View.readAt (Elt Ideal) arg8.view (Rect.unit (s := S2048x512) ![r, o] S64x256.size h).toLoadRect (harg8.unread x7)
/-- 64 keys of a head. -/
def kAt64 (arg9 : Memref sig .tc .vmem S2048x256 .bf16) (harg9 : arg9.IsWhole) (x8 : Vec Ideal S2048x256 .bf16) (r o : ℕ)
    (h : ∀ a, (![r, o] : Fin 2 → ℕ) a + S64x128.size a ≤ S2048x256.size a) : Vec Ideal S64x128 .bf16 :=
  View.readAt (Elt Ideal) arg9.view (Rect.unit (s := S2048x256) ![r, o] S64x128.size h).toLoadRect (harg9.unread x8)
/-- 128 keys of a head. -/
def kAt128 (arg9 : Memref sig .tc .vmem S2048x256 .bf16) (harg9 : arg9.IsWhole) (x8 : Vec Ideal S2048x256 .bf16) (r o : ℕ)
    (h : ∀ a, (![r, o] : Fin 2 → ℕ) a + S128x128.size a ≤ S2048x256.size a) : Vec Ideal S128x128 .bf16 :=
  View.readAt (Elt Ideal) arg9.view (Rect.unit (s := S2048x256) ![r, o] S128x128.size h).toLoadRect (harg9.unread x8)
/-- 192 keys of a head. -/
def kAt192 (arg9 : Memref sig .tc .vmem S2048x256 .bf16) (harg9 : arg9.IsWhole) (x8 : Vec Ideal S2048x256 .bf16) (r o : ℕ)
    (h : ∀ a, (![r, o] : Fin 2 → ℕ) a + S192x128.size a ≤ S2048x256.size a) : Vec Ideal S192x128 .bf16 :=
  View.readAt (Elt Ideal) arg9.view (Rect.unit (s := S2048x256) ![r, o] S192x128.size h).toLoadRect (harg9.unread x8)

/-- A slot read right after it was stored. -/
theorem hit (v : View sig .tc .vmem S5x192x256 .f32) {off o size : Fin 3 → ℕ} (inb : ∀ a, off a + size a ≤ S5x192x256.size a)
    (inb' : ∀ a, o a + size a ≤ S5x192x256.size a) (h : off = o) {w : (Rect.unit (s := S5x192x256) o size inb').shape.Idx → Elt Ideal .f32}
    {L : List (View.Piece (Elt Ideal) S5x192x256 .f32)} :
    v.readCov (⟨Rect.unit (s := S5x192x256) o size inb', w⟩ :: L) (Rect.unit (s := S5x192x256) off size inb).toLoadRect = w := by
  subst h; exact View.readCov_cons_toLoadRect _ _ _ _

/-- A slot read after another was stored. -/
theorem skip (v : View sig .tc .vmem S5x192x256 .f32) {off o o' size size' : Fin 3 → ℕ} (inb : ∀ a, off a + size a ≤ S5x192x256.size a)
    (inb' : ∀ a, o' a + size' a ≤ S5x192x256.size a) (h : off = o)
    (hd : LoadRect.disj (Rect.unit (s := S5x192x256) o' size' inb') (Rect.unit (s := S5x192x256) o size (h ▸ inb)).toLoadRect = true)
    {w : (Rect.unit (s := S5x192x256) o' size' inb').shape.Idx → Elt Ideal .f32} {L : List (View.Piece (Elt Ideal) S5x192x256 .f32)} :
    v.readCov (⟨Rect.unit (s := S5x192x256) o' size' inb', w⟩ :: L) (Rect.unit (s := S5x192x256) off size inb).toLoadRect =
      v.readCov L (Rect.unit (s := S5x192x256) off size inb).toLoadRect := by
  subst h; exact View.readCov_skip _ _ _ _ _ hd

end Cert.KernelIdeal.Swa

end
end
-- ==== Proof.SwaRead.lean ====
/- The scores of each tile of the second branch, read back from the scratch slot they were stored in. -/
module

public import proofs.«01_k».proof.Proof.SwaTile

@[expose] public section

set_option maxRecDepth 16384

noncomputable section

namespace Cert.KernelIdeal.Swa

open Cert.KernelIdeal Cert.KernelIdeal.Gen Idealize.ShloMosaic Idealize.ShloMosaic.TcCoe Idealize.SL.Sem

variable (c : Dev nD) (i : grid0.Coords) (arg2 : Memref sig .tc .smem S8 .f32) (harg2 : arg2.IsWhole) (arg3 : Memref sig .tc .smem S8 .f32)
  (harg3 : arg3.IsWhole) (arg8 : Memref sig .tc .vmem S2048x512 .bf16) (harg8 : arg8.IsWhole) (arg9 : Memref sig .tc .vmem S2048x256 .bf16)
  (harg9 : arg9.IsWhole) (arg10 : Memref sig .tc .vmem S16x128x128 .bf16) (harg10 : arg10.IsWhole)
  (arg17 : Memref sig .tc .vmem S2x192x256 .f32) (arg18 : Memref sig .tc .vmem S2x16x96x256 .bf16) (arg19 : Memref sig .tc .vmem S5x192x256 .f32)
  (x1 : Vec Ideal S8 .f32) (x2 : Vec Ideal S8 .f32) (x7 : Vec Ideal S2048x512 .bf16) (x8 : Vec Ideal S2048x256 .bf16) (x9 : Vec Ideal S16x128x128 .bf16)

/-- The scores of tile 0 of key head 0, read back. -/
theorem rd1 : (kernelRun0_A.sl.v1176 (F := Ideal) c i arg2 harg2 arg8 harg8 arg9 harg9 arg17 arg19 x1 x7 x8) =
    shapeCast S1x64x256 (sc64 (qAt arg8 harg8 x7 0 0 (by decide)) (kAt64 arg9 harg9 x8 0 0 (by decide)) (kernelRun0_A.sl.v271 (F := Ideal) c arg2 harg2 arg17 x1)) shapeCasts_S64x256_S1x64x256 :=
  (skip _ _ _ (placed_k0_off1_0 i) rfl).trans ((skip _ _ _ (placed_k0_off1_0 i) rfl).trans (hit _ _ _ (placed_k0_off1_0 i)))

/-- The scores of tile 1 of key head 0, read back. -/
theorem rd2 : (kernelRun0_A.sl.v1555 (F := Ideal) c i arg2 harg2 arg8 harg8 arg9 harg9 arg17 arg19 x1 x7 x8) =
    shapeCast S1x128x256 (sc128 (qAt arg8 harg8 x7 64 0 (by decide)) (kAt128 arg9 harg9 x8 0 0 (by decide)) (kernelRun0_A.sl.v867 (F := Ideal) c arg2 harg2 arg17 x1)) shapeCasts_S128x256_S1x128x256 :=
  (skip _ _ _ (placed_k0_off3_1 i) rfl).trans ((skip _ _ _ (placed_k0_off3_1 i) rfl).trans (hit _ _ _ (placed_k0_off3_1 i)))

/-- The scores of tile 2 of key head 0, read back. -/
theorem rd3 : (kernelRun0_A.sl.v1617 (F := Ideal) c i arg2 harg2 arg8 harg8 arg9 harg9 arg17 arg19 x1 x7 x8) =
    shapeCast S1x192x256 (sc192 (qAt arg8 harg8 x7 128 0 (by decide)) (kAt192 arg9 harg9 x8 0 0 (by decide)) (kernelRun0_A.sl.v5257 (F := Ideal) c arg2 harg2 arg17 x1)) shapeCasts_S192x256_S1x192x256 :=
  (skip _ _ _ (placed_k0_off4_2 i) rfl).trans ((skip _ _ _ (placed_k0_off4_2 i) rfl).trans (hit _ _ _ (placed_k0_off4_2 i)))

/-- The scores of tile 3 of key head 0, read back. -/
theorem rd4 : (kernelRun0_A.sl.v1999 (F := Ideal) c i arg2 harg2 arg8 harg8 arg9 harg9 arg17 arg19 x1 x7 x8) =
    shapeCast S1x192x256 (sc192 (qAt arg8 harg8 x7 192 0 (by decide)) (kAt192 arg9 harg9 x8 64 0 (by decide)) (kernelRun0_A.sl.v5257 (F := Ideal) c arg2 harg2 arg17 x1)) shapeCasts_S192x256_S1x192x256 :=
  (skip _ _ _ (placed_k0_off4_3 i) rfl).trans ((skip _ _ _ (placed_k0_off4_3 i) rfl).trans (hit _ _ _ (placed_k0_off4_3 i)))

/-- The scores of tile 4 of key head 0, read back. -/
theorem rd5 : (kernelRun0_A.sl.v2348 (F := Ideal) c i arg2 harg2 arg8 harg8 arg9 harg9 arg17 arg19 x1 x7 x8) =
    shapeCast S1x192x256 (sc192 (qAt arg8 harg8 x7 256 0 (by decide)) (kAt192 arg9 harg9 x8 128 0 (by decide)) (kernelRun0_A.sl.v5257 (F := Ideal) c arg2 harg2 arg17 x1)) shapeCasts_S192x256_S1x192x256 :=
  (skip _ _ _ (placed_k0_off4_4 i) rfl).trans ((skip _ _ _ (placed_k0_off4_4 i) rfl).trans (hit _ _ _ (placed_k0_off4_4 i)))

/-- The scores of tile 5 of key head 0, read back. -/
theorem rd6 : (kernelRun0_A.sl.v2390 (F := Ideal) c i arg2 harg2 arg8 harg8 arg9 harg9 arg17 arg19 x1 x7 x8) =
    shapeCast S1x192x256 (sc192 (qAt arg8 harg8 x7 320 0 (by decide)) (kAt192 arg9 harg9 x8 192 0 (by decide)) (kernelRun0_A.sl.v5257 (F := Ideal) c arg2 harg2 arg17 x1)) shapeCasts_S192x256_S1x192x256 :=
  (skip _ _ _ (placed_k0_off4_0 i) rfl).trans ((skip _ _ _ (placed_k0_off4_0 i) rfl).trans (hit _ _ _ (placed_k0_off4_0 i)))

/-- The scores of tile 6 of key head 0, read back. -/
theorem rd7 : (kernelRun0_A.sl.v2743 (F := Ideal) c i arg2 harg2 arg8 harg8 arg9 harg9 arg17 arg19 x1 x7 x8) =
    shapeCast S1x192x256 (sc192 (qAt arg8 harg8 x7 384 0 (by decide)) (kAt192 arg9 harg9 x8 256 0 (by decide)) (kernelRun0_A.sl.v5257 (F := Ideal) c arg2 harg2 arg17 x1)) shapeCasts_S192x256_S1x192x256 :=
  (skip _ _ _ (placed_k0_off4_1 i) rfl).trans ((skip _ _ _ (placed_k0_off4_1 i) rfl).trans (hit _ _ _ (placed_k0_off4_1 i)))

/-- The scores of tile 7 of key head 0, read back. -/
theorem rd8 : (kernelRun0_A.sl.v3023 (F := Ideal) c i arg2 harg2 arg8 harg8 arg9 harg9 arg17 arg19 x1 x7 x8) =
    shapeCast S1x192x256 (sc192 (qAt arg8 harg8 x7 448 0 (by decide)) (kAt192 arg9 harg9 x8 320 0 (by decide)) (kernelRun0_A.sl.v5257 (F := Ideal) c arg2 harg2 arg17 x1)) shapeCasts_S192x256_S1x192x256 :=
  (skip _ _ _ (placed_k0_off4_2 i) rfl).trans ((skip _ _ _ (placed_k0_off4_2 i) rfl).trans (hit _ _ _ (placed_k0_off4_2 i)))

/-- The scores of tile 8 of key head 0, read back. -/
theorem rd9 : (kernelRun0_A.sl.v3085 (F := Ideal) c i arg2 harg2 arg8 harg8 arg9 harg9 arg17 arg19 x1 x7 x8) =
    shapeCast S1x192x256 (sc192 (qAt arg8 harg8 x7 512 0 (by decide)) (kAt192 arg9 harg9 x8 384 0 (by decide)) (kernelRun0_A.sl.v5257 (F := Ideal) c arg2 harg2 arg17 x1)) shapeCasts_S192x256_S1x192x256 :=
  (skip _ _ _ (placed_k0_off4_3 i) rfl).trans ((skip _ _ _ (placed_k0_off4_3 i) rfl).trans (hit _ _ _ (placed_k0_off4_3 i)))

/-- The scores of tile 9 of key head 0, read back. -/
theorem rd10 : (kernelRun0_A.sl.v3369 (F := Ideal) c i arg2 harg2 arg8 harg8 arg9 harg9 arg17 arg19 x1 x7 x8) =
    shapeCast S1x192x256 (sc192 (qAt arg8 harg8 x7 576 0 (by decide)) (kAt192 arg9 harg9 x8 448 0 (by decide)) (kernelRun0_A.sl.v5257 (F := Ideal) c arg2 harg2 arg17 x1)) shapeCasts_S192x256_S1x192x256 :=
  (skip _ _ _ (placed_k0_off4_4 i) rfl).trans ((skip _ _ _ (placed_k0_off4_4 i) rfl).trans (hit _ _ _ (placed_k0_off4_4 i)))

/-- The scores of tile 10 of key head 0, read back. -/
theorem rd11 : (kernelRun0_A.sl.v3620 (F := Ideal) c i arg2 harg2 arg8 harg8 arg9 harg9 arg17 arg19 x1 x7 x8) =
    shapeCast S1x192x256 (sc192 (qAt arg8 harg8 x7 640 0 (by decide)) (kAt192 arg9 harg9 x8 512 0 (by decide)) (kernelRun0_A.sl.v5257 (F := Ideal) c arg2 harg2 arg17 x1)) shapeCasts_S192x256_S1x192x256 :=
  (skip _ _ _ (placed_k0_off4_0 i) rfl).trans ((skip _ _ _ (placed_k0_off4_0 i) rfl).trans (hit _ _ _ (placed_k0_off4_0 i)))

/-- The scores of tile 11 of key head 0, read back. -/
theorem rd12 : (kernelRun0_A.sl.v3855 (F := Ideal) c i arg2 harg2 arg8 harg8 arg9 harg9 arg17 arg19 x1 x7 x8) =
    shapeCast S1x192x256 (sc192 (qAt arg8 harg8 x7 704 0 (by decide)) (kAt192 arg9 harg9 x8 576 0 (by decide)) (kernelRun0_A.sl.v5257 (F := Ideal) c arg2 harg2 arg17 x1)) shapeCasts_S192x256_S1x192x256 :=
  (skip _ _ _ (placed_k0_off4_1 i) rfl).trans ((skip _ _ _ (placed_k0_off4_1 i) rfl).trans (hit _ _ _ (placed_k0_off4_1 i)))

/-- The scores of tile 12 of key head 0, read back. -/
theorem rd13 : (kernelRun0_A.sl.v4124 (F := Ideal) c i arg2 harg2 arg8 harg8 arg9 harg9 arg17 arg19 x1 x7 x8) =
    shapeCast S1x192x256 (sc192 (qAt arg8 harg8 x7 768 0 (by decide)) (kAt192 arg9 harg9 x8 640 0 (by decide)) (kernelRun0_A.sl.v5257 (F := Ideal) c arg2 harg2 arg17 x1)) shapeCasts_S192x256_S1x192x256 :=
  (skip _ _ _ (placed_k0_off4_2 i) rfl).trans (hit _ _ _ (placed_k0_off4_2 i))

/-- The scores of tile 13 of key head 0, read back. -/
theorem rd14 : (kernelRun0_A.sl.v4273 (F := Ideal) c i arg2 harg2 arg8 harg8 arg9 harg9 arg17 arg19 x1 x7 x8) =
    shapeCast S1x192x256 (sc192 (qAt arg8 harg8 x7 832 0 (by decide)) (kAt192 arg9 harg9 x8 704 0 (by decide)) (kernelRun0_A.sl.v5257 (F := Ideal) c arg2 harg2 arg17 x1)) shapeCasts_S192x256_S1x192x256 :=
  (skip _ _ _ (placed_k0_off4_3 i) rfl).trans (hit _ _ _ (placed_k0_off4_3 i))

/-- The scores of tile 14 of key head 0, read back. -/
theorem rd15 : (kernelRun0_A.sl.v4483 (F := Ideal) c i arg2 harg2 arg8 harg8 arg9 harg9 arg17 arg19 x1 x7 x8) =
    shapeCast S1x192x256 (sc192 (qAt arg8 harg8 x7 896 0 (by decide)) (kAt192 arg9 harg9 x8 768 0 (by decide)) (kernelRun0_A.sl.v5257 (F := Ideal) c arg2 harg2 arg17 x1)) shapeCasts_S192x256_S1x192x256 :=
  (skip _ _ _ (placed_k0_off4_4 i) rfl).trans (hit _ _ _ (placed_k0_off4_4 i))

/-- The scores of tile 15 of key head 0, read back. -/
theorem rd16 : (kernelRun0_A.sl.v5171 (F := Ideal) c i arg2 harg2 arg8 harg8 arg9 harg9 arg17 arg19 x1 x7 x8) =
    shapeCast S1x192x256 (sc192 (qAt arg8 harg8 x7 960 0 (by decide)) (kAt192 arg9 harg9 x8 832 0 (by decide)) (kernelRun0_A.sl.v5257 (F := Ideal) c arg2 harg2 arg17 x1)) shapeCasts_S192x256_S1x192x256 :=
  (skip _ _ _ (placed_k0_off4_0 i) rfl).trans (hit _ _ _ (placed_k0_off4_0 i))

/-- The scores of tile 16 of key head 0, read back. -/
theorem rd17 : (kernelRun0_A.sl.v5563 (F := Ideal) c i arg2 harg2 arg8 harg8 arg9 harg9 arg17 arg19 x1 x7 x8) =
    shapeCast S1x192x256 (sc192 (qAt arg8 harg8 x7 1024 0 (by decide)) (kAt192 arg9 harg9 x8 896 0 (by decide)) (kernelRun0_A.sl.v5257 (F := Ideal) c arg2 harg2 arg17 x1)) shapeCasts_S192x256_S1x192x256 :=
  (skip _ _ _ (placed_k0_off4_1 i) rfl).trans ((skip _ _ _ (placed_k0_off4_1 i) rfl).trans (hit _ _ _ (placed_k0_off4_1 i)))

/-- The scores of tile 17 of key head 0, read back. -/
theorem rd18 : (kernelRun0_A.sl.v5941 (F := Ideal) c i arg2 harg2 arg8 harg8 arg9 harg9 arg17 arg19 x1 x7 x8) =
    shapeCast S1x192x256 (sc192 (qAt arg8 harg8 x7 1088 0 (by decide)) (kAt192 arg9 harg9 x8 960 0 (by decide)) (kernelRun0_A.sl.v5257 (F := Ideal) c arg2 harg2 arg17 x1)) shapeCasts_S192x256_S1x192x256 :=
  (skip _ _ _ (placed_k0_off4_2 i) rfl).trans ((skip _ _ _ (placed_k0_off4_2 i) rfl).trans (hit _ _ _ (placed_k0_off4_2 i)))

/-- The scores of tile 18 of key head 0, read back. -/
theorem rd19 : (kernelRun0_A.sl.v6003 (F := Ideal) c i arg2 harg2 arg8 harg8 arg9 harg9 arg17 arg19 x1 x7 x8) =
    shapeCast S1x192x256 (sc192 (qAt arg8 harg8 x7 1152 0 (by decide)) (kAt192 arg9 harg9 x8 1024 0 (by decide)) (kernelRun0_A.sl.v5257 (F := Ideal) c arg2 harg2 arg17 x1)) shapeCasts_S192x256_S1x192x256 :=
  (skip _ _ _ (placed_k0_off4_3 i) rfl).trans ((skip _ _ _ (placed_k0_off4_3 i) rfl).trans (hit _ _ _ (placed_k0_off4_3 i)))

/-- The scores of tile 19 of key head 0, read back. -/
theorem rd20 : (kernelRun0_A.sl.v6385 (F := Ideal) c i arg2 harg2 arg8 harg8 arg9 harg9 arg17 arg19 x1 x7 x8) =
    shapeCast S1x192x256 (sc192 (qAt arg8 harg8 x7 1216 0 (by decide)) (kAt192 arg9 harg9 x8 1088 0 (by decide)) (kernelRun0_A.sl.v5257 (F := Ideal) c arg2 harg2 arg17 x1)) shapeCasts_S192x256_S1x192x256 :=
  (skip _ _ _ (placed_k0_off4_4 i) rfl).trans ((skip _ _ _ (placed_k0_off4_4 i) rfl).trans (hit _ _ _ (placed_k0_off4_4 i)))

/-- The scores of tile 20 of key head 0, read back. -/
theorem rd21 : (kernelRun0_A.sl.v6734 (F := Ideal) c i arg2 harg2 arg8 harg8 arg9 harg9 arg17 arg19 x1 x7 x8) =
    shapeCast S1x192x256 (sc192 (qAt arg8 harg8 x7 1280 0 (by decide)) (kAt192 arg9 harg9 x8 1152 0 (by decide)) (kernelRun0_A.sl.v5257 (F := Ideal) c arg2 harg2 arg17 x1)) shapeCasts_S192x256_S1x192x256 :=
  (skip _ _ _ (placed_k0_off4_0 i) rfl).trans ((skip _ _ _ (placed_k0_off4_0 i) rfl).trans (hit _ _ _ (placed_k0_off4_0 i)))

/-- The scores of tile 21 of key head 0, read back. -/
theorem rd22 : (kernelRun0_A.sl.v6776 (F := Ideal) c i arg2 harg2 arg8 harg8 arg9 harg9 arg17 arg19 x1 x7 x8) =
    shapeCast S1x192x256 (sc192 (qAt arg8 harg8 x7 1344 0 (by decide)) (kAt192 arg9 harg9 x8 1216 0 (by decide)) (kernelRun0_A.sl.v5257 (F := Ideal) c arg2 harg2 arg17 x1)) shapeCasts_S192x256_S1x192x256 :=
  (skip _ _ _ (placed_k0_off4_1 i) rfl).trans ((skip _ _ _ (placed_k0_off4_1 i) rfl).trans (hit _ _ _ (placed_k0_off4_1 i)))

/-- The scores of tile 22 of key head 0, read back. -/
theorem rd23 : (kernelRun0_A.sl.v7129 (F := Ideal) c i arg2 harg2 arg8 harg8 arg9 harg9 arg17 arg19 x1 x7 x8) =
    shapeCast S1x192x256 (sc192 (qAt arg8 harg8 x7 1408 0 (by decide)) (kAt192 arg9 harg9 x8 1280 0 (by decide)) (kernelRun0_A.sl.v5257 (F := Ideal) c arg2 harg2 arg17 x1)) shapeCasts_S192x256_S1x192x256 :=
  (skip _ _ _ (placed_k0_off4_2 i) rfl).trans ((skip _ _ _ (placed_k0_off4_2 i) rfl).trans (hit _ _ _ (placed_k0_off4_2 i)))

/-- The scores of tile 23 of key head 0, read back. -/
theorem rd24 : (kernelRun0_A.sl.v7409 (F := Ideal) c i arg2 harg2 arg8 harg8 arg9 harg9 arg17 arg19 x1 x7 x8) =
    shapeCast S1x192x256 (sc192 (qAt arg8 harg8 x7 1472 0 (by decide)) (kAt192 arg9 harg9 x8 1344 0 (by decide)) (kernelRun0_A.sl.v5257 (F := Ideal) c arg2 harg2 arg17 x1)) shapeCasts_S192x256_S1x192x256 :=
  (skip _ _ _ (placed_k0_off4_3 i) rfl).trans ((skip _ _ _ (placed_k0_off4_3 i) rfl).trans (hit _ _ _ (placed_k0_off4_3 i)))

/-- The scores of tile 24 of key head 0, read back. -/
theorem rd25 : (kernelRun0_A.sl.v7471 (F := Ideal) c i arg2 harg2 arg8 harg8 arg9 harg9 arg17 arg19 x1 x7 x8) =
    shapeCast S1x192x256 (sc192 (qAt arg8 harg8 x7 1536 0 (by decide)) (kAt192 arg9 harg9 x8 1408 0 (by decide)) (kernelRun0_A.sl.v5257 (F := Ideal) c arg2 harg2 arg17 x1)) shapeCasts_S192x256_S1x192x256 :=
  (skip _ _ _ (placed_k0_off4_4 i) rfl).trans ((skip _ _ _ (placed_k0_off4_4 i) rfl).trans (hit _ _ _ (placed_k0_off4_4 i)))

/-- The scores of tile 25 of key head 0, read back. -/
theorem rd26 : (kernelRun0_A.sl.v7755 (F := Ideal) c i arg2 harg2 arg8 harg8 arg9 harg9 arg17 arg19 x1 x7 x8) =
    shapeCast S1x192x256 (sc192 (qAt arg8 harg8 x7 1600 0 (by decide)) (kAt192 arg9 harg9 x8 1472 0 (by decide)) (kernelRun0_A.sl.v5257 (F := Ideal) c arg2 harg2 arg17 x1)) shapeCasts_S192x256_S1x192x256 :=
  (skip _ _ _ (placed_k0_off4_0 i) rfl).trans ((skip _ _ _ (placed_k0_off4_0 i) rfl).trans (hit _ _ _ (placed_k0_off4_0 i)))

/-- The scores of tile 26 of key head 0, read back. -/
theorem rd27 : (kernelRun0_A.sl.v8006 (F := Ideal) c i arg2 harg2 arg8 harg8 arg9 harg9 arg17 arg19 x1 x7 x8) =
    shapeCast S1x192x256 (sc192 (qAt arg8 harg8 x7 1664 0 (by decide)) (kAt192 arg9 harg9 x8 1536 0 (by decide)) (kernelRun0_A.sl.v5257 (F := Ideal) c arg2 harg2 arg17 x1)) shapeCasts_S192x256_S1x192x256 :=
  (skip _ _ _ (placed_k0_off4_1 i) rfl).trans ((skip _ _ _ (placed_k0_off4_1 i) rfl).trans (hit _ _ _ (placed_k0_off4_1 i)))

/-- The scores of tile 27 of key head 0, read back. -/
theorem rd28 : (kernelRun0_A.sl.v8241 (F := Ideal) c i arg2 harg2 arg8 harg8 arg9 harg9 arg17 arg19 x1 x7 x8) =
    shapeCast S1x192x256 (sc192 (qAt arg8 harg8 x7 1728 0 (by decide)) (kAt192 arg9 harg9 x8 1600 0 (by decide)) (kernelRun0_A.sl.v5257 (F := Ideal) c arg2 harg2 arg17 x1)) shapeCasts_S192x256_S1x192x256 :=
  (skip _ _ _ (placed_k0_off4_2 i) rfl).trans ((skip _ _ _ (placed_k0_off4_2 i) rfl).trans (hit _ _ _ (placed_k0_off4_2 i)))

/-- The scores of tile 28 of key head 0, read back. -/
theorem rd29 : (kernelRun0_A.sl.v8510 (F := Ideal) c i arg2 harg2 arg8 harg8 arg9 harg9 arg17 arg19 x1 x7 x8) =
    shapeCast S1x192x256 (sc192 (qAt arg8 harg8 x7 1792 0 (by decide)) (kAt192 arg9 harg9 x8 1664 0 (by decide)) (kernelRun0_A.sl.v5257 (F := Ideal) c arg2 harg2 arg17 x1)) shapeCasts_S192x256_S1x192x256 :=
  (skip _ _ _ (placed_k0_off4_3 i) rfl).trans (hit _ _ _ (placed_k0_off4_3 i))

/-- The scores of tile 29 of key head 0, read back. -/
theorem rd30 : (kernelRun0_A.sl.v8659 (F := Ideal) c i arg2 harg2 arg8 harg8 arg9 harg9 arg17 arg19 x1 x7 x8) =
    shapeCast S1x192x256 (sc192 (qAt arg8 harg8 x7 1856 0 (by decide)) (kAt192 arg9 harg9 x8 1728 0 (by decide)) (kernelRun0_A.sl.v5257 (F := Ideal) c arg2 harg2 arg17 x1)) shapeCasts_S192x256_S1x192x256 :=
  (skip _ _ _ (placed_k0_off4_4 i) rfl).trans (hit _ _ _ (placed_k0_off4_4 i))

/-- The scores of tile 30 of key head 0, read back. -/
theorem rd31 : (kernelRun0_A.sl.v8869 (F := Ideal) c i arg2 harg2 arg8 harg8 arg9 harg9 arg17 arg19 x1 x7 x8) =
    shapeCast S1x192x256 (sc192 (qAt arg8 harg8 x7 1920 0 (by decide)) (kAt192 arg9 harg9 x8 1792 0 (by decide)) (kernelRun0_A.sl.v5257 (F := Ideal) c arg2 harg2 arg17 x1)) shapeCasts_S192x256_S1x192x256 :=
  (skip _ _ _ (placed_k0_off4_0 i) rfl).trans (hit _ _ _ (placed_k0_off4_0 i))

/-- The scores of tile 31 of key head 0, read back. -/
theorem rd32 : (kernelRun0_A.sl.v9781 (F := Ideal) c i arg2 harg2 arg8 harg8 arg9 harg9 arg17 arg19 x1 x7 x8) =
    shapeCast S1x192x256 (sc192 (qAt arg8 harg8 x7 1984 0 (by decide)) (kAt192 arg9 harg9 x8 1856 0 (by decide)) (kernelRun0_A.sl.v5257 (F := Ideal) c arg2 harg2 arg17 x1)) shapeCasts_S192x256_S1x192x256 :=
  (skip _ _ _ (placed_k0_off4_1 i) rfl).trans (hit _ _ _ (placed_k0_off4_1 i))

/-- The scores of tile 0 of key head 1, read back. -/
theorem rd33 : (kernelRun0_A.sl.v10173 (F := Ideal) c i arg2 harg2 arg8 harg8 arg9 harg9 arg17 arg19 x1 x7 x8) =
    shapeCast S1x64x256 (sc64 (qAt arg8 harg8 x7 0 256 (by decide)) (kAt64 arg9 harg9 x8 0 128 (by decide)) (kernelRun0_A.sl.v9163 (F := Ideal) c arg2 harg2 arg17 x1)) shapeCasts_S64x256_S1x64x256 :=
  (skip _ _ _ (placed_k0_off1_2 i) rfl).trans ((skip _ _ _ (placed_k0_off1_2 i) rfl).trans (hit _ _ _ (placed_k0_off1_2 i)))

/-- The scores of tile 1 of key head 1, read back. -/
theorem rd34 : (kernelRun0_A.sl.v10552 (F := Ideal) c i arg2 harg2 arg8 harg8 arg9 harg9 arg17 arg19 x1 x7 x8) =
    shapeCast S1x128x256 (sc128 (qAt arg8 harg8 x7 64 256 (by decide)) (kAt128 arg9 harg9 x8 0 128 (by decide)) (kernelRun0_A.sl.v9830 (F := Ideal) c arg2 harg2 arg17 x1)) shapeCasts_S128x256_S1x128x256 :=
  (skip _ _ _ (placed_k0_off3_3 i) rfl).trans ((skip _ _ _ (placed_k0_off3_3 i) rfl).trans (hit _ _ _ (placed_k0_off3_3 i)))

/-- The scores of tile 2 of key head 1, read back. -/
theorem rd35 : (kernelRun0_A.sl.v10614 (F := Ideal) c i arg2 harg2 arg8 harg8 arg9 harg9 arg17 arg19 x1 x7 x8) =
    shapeCast S1x192x256 (sc192 (qAt arg8 harg8 x7 128 256 (by decide)) (kAt192 arg9 harg9 x8 0 128 (by decide)) (kernelRun0_A.sl.v9867 (F := Ideal) c arg2 harg2 arg17 x1)) shapeCasts_S192x256_S1x192x256 :=
  (skip _ _ _ (placed_k0_off4_4 i) rfl).trans ((skip _ _ _ (placed_k0_off4_4 i) rfl).trans (hit _ _ _ (placed_k0_off4_4 i)))

/-- The scores of tile 3 of key head 1, read back. -/
theorem rd36 : (kernelRun0_A.sl.v10996 (F := Ideal) c i arg2 harg2 arg8 harg8 arg9 harg9 arg17 arg19 x1 x7 x8) =
    shapeCast S1x192x256 (sc192 (qAt arg8 harg8 x7 192 256 (by decide)) (kAt192 arg9 harg9 x8 64 128 (by decide)) (kernelRun0_A.sl.v9867 (F := Ideal) c arg2 harg2 arg17 x1)) shapeCasts_S192x256_S1x192x256 :=
  (skip _ _ _ (placed_k0_off4_0 i) rfl).trans ((skip _ _ _ (placed_k0_off4_0 i) rfl).trans (hit _ _ _ (placed_k0_off4_0 i)))

/-- The scores of tile 4 of key head 1, read back. -/
theorem rd37 : (kernelRun0_A.sl.v11345 (F := Ideal) c i arg2 harg2 arg8 harg8 arg9 harg9 arg17 arg19 x1 x7 x8) =
    shapeCast S1x192x256 (sc192 (qAt arg8 harg8 x7 256 256 (by decide)) (kAt192 arg9 harg9 x8 128 128 (by decide)) (kernelRun0_A.sl.v9867 (F := Ideal) c arg2 harg2 arg17 x1)) shapeCasts_S192x256_S1x192x256 :=
  (skip _ _ _ (placed_k0_off4_1 i) rfl).trans ((skip _ _ _ (placed_k0_off4_1 i) rfl).trans (hit _ _ _ (placed_k0_off4_1 i)))

/-- The scores of tile 5 of key head 1, read back. -/
theorem rd38 : (kernelRun0_A.sl.v11387 (F := Ideal) c i arg2 harg2 arg8 harg8 arg9 harg9 arg17 arg19 x1 x7 x8) =
    shapeCast S1x192x256 (sc192 (qAt arg8 harg8 x7 320 256 (by decide)) (kAt192 arg9 harg9 x8 192 128 (by decide)) (kernelRun0_A.sl.v9867 (F := Ideal) c arg2 harg2 arg17 x1)) shapeCasts_S192x256_S1x192x256 :=
  (skip _ _ _ (placed_k0_off4_2 i) rfl).trans ((skip _ _ _ (placed_k0_off4_2 i) rfl).trans (hit _ _ _ (placed_k0_off4_2 i)))

/-- The scores of tile 6 of key head 1, read back. -/
theorem rd39 : (kernelRun0_A.sl.v11740 (F := Ideal) c i arg2 harg2 arg8 harg8 arg9 harg9 arg17 arg19 x1 x7 x8) =
    shapeCast S1x192x256 (sc192 (qAt arg8 harg8 x7 384 256 (by decide)) (kAt192 arg9 harg9 x8 256 128 (by decide)) (kernelRun0_A.sl.v9867 (F := Ideal) c arg2 harg2 arg17 x1)) shapeCasts_S192x256_S1x192x256 :=
  (skip _ _ _ (placed_k0_off4_3 i) rfl).trans ((skip _ _ _ (placed_k0_off4_3 i) rfl).trans (hit _ _ _ (placed_k0_off4_3 i)))

/-- The scores of tile 7 of key head 1, read back. -/
theorem rd40 : (kernelRun0_A.sl.v12020 (F := Ideal) c i arg2 harg2 arg8 harg8 arg9 harg9 arg17 arg19 x1 x7 x8) =
    shapeCast S1x192x256 (sc192 (qAt arg8 harg8 x7 448 256 (by decide)) (kAt192 arg9 harg9 x8 320 128 (by decide)) (kernelRun0_A.sl.v9867 (F := Ideal) c arg2 harg2 arg17 x1)) shapeCasts_S192x256_S1x192x256 :=
  (skip _ _ _ (placed_k0_off4_4 i) rfl).trans ((skip _ _ _ (placed_k0_off4_4 i) rfl).trans (hit _ _ _ (placed_k0_off4_4 i)))

/-- The scores of tile 8 of key head 1, read back. -/
theorem rd41 : (kernelRun0_A.sl.v12082 (F := Ideal) c i arg2 harg2 arg8 harg8 arg9 harg9 arg17 arg19 x1 x7 x8) =
    shapeCast S1x192x256 (sc192 (qAt arg8 harg8 x7 512 256 (by decide)) (kAt192 arg9 harg9 x8 384 128 (by decide)) (kernelRun0_A.sl.v9867 (F := Ideal) c arg2 harg2 arg17 x1)) shapeCasts_S192x256_S1x192x256 :=
  (skip _ _ _ (placed_k0_off4_0 i) rfl).trans ((skip _ _ _ (placed_k0_off4_0 i) rfl).trans (hit _ _ _ (placed_k0_off4_0 i)))

/-- The scores of tile 9 of key head 1, read back. -/
theorem rd42 : (kernelRun0_A.sl.v12366 (F := Ideal) c i arg2 harg2 arg8 harg8 arg9 harg9 arg17 arg19 x1 x7 x8) =
    shapeCast S1x192x256 (sc192 (qAt arg8 harg8 x7 576 256 (by decide)) (kAt192 arg9 harg9 x8 448 128 (by decide)) (kernelRun0_A.sl.v9867 (F := Ideal) c arg2 harg2 arg17 x1)) shapeCasts_S192x256_S1x192x256 :=
  (skip _ _ _ (placed_k0_off4_1 i) rfl).trans ((skip _ _ _ (placed_k0_off4_1 i) rfl).trans (hit _ _ _ (placed_k0_off4_1 i)))

/-- The scores of tile 10 of key head 1, read back. -/
theorem rd43 : (kernelRun0_A.sl.v12617 (F := Ideal) c i arg2 harg2 arg8 harg8 arg9 harg9 arg17 arg19 x1 x7 x8) =
    shapeCast S1x192x256 (sc192 (qAt arg8 harg8 x7 640 256 (by decide)) (kAt192 arg9 harg9 x8 512 128 (by decide)) (kernelRun0_A.sl.v9867 (F := Ideal) c arg2 harg2 arg17 x1)) shapeCasts_S192x256_S1x192x256 :=
  (skip _ _ _ (placed_k0_off4_2 i) rfl).trans ((skip _ _ _ (placed_k0_off4_2 i) rfl).trans (hit _ _ _ (placed_k0_off4_2 i)))

/-- The scores of tile 11 of key head 1, read back. -/
theorem rd44 : (kernelRun0_A.sl.v12852 (F := Ideal) c i arg2 harg2 arg8 harg8 arg9 harg9 arg17 arg19 x1 x7 x8) =
    shapeCast S1x192x256 (sc192 (qAt arg8 harg8 x7 704 256 (by decide)) (kAt192 arg9 harg9 x8 576 128 (by decide)) (kernelRun0_A.sl.v9867 (F := Ideal) c arg2 harg2 arg17 x1)) shapeCasts_S192x256_S1x192x256 :=
  (skip _ _ _ (placed_k0_off4_3 i) rfl).trans ((skip _ _ _ (placed_k0_off4_3 i) rfl).trans (hit _ _ _ (placed_k0_off4_3 i)))

/-- The scores of tile 12 of key head 1, read back. -/
theorem rd45 : (kernelRun0_A.sl.v13121 (F := Ideal) c i arg2 harg2 arg8 harg8 arg9 harg9 arg17 arg19 x1 x7 x8) =
    shapeCast S1x192x256 (sc192 (qAt arg8 harg8 x7 768 256 (by decide)) (kAt192 arg9 harg9 x8 640 128 (by decide)) (kernelRun0_A.sl.v9867 (F := Ideal) c arg2 harg2 arg17 x1)) shapeCasts_S192x256_S1x192x256 :=
  (skip _ _ _ (placed_k0_off4_4 i) rfl).trans (hit _ _ _ (placed_k0_off4_4 i))

/-- The scores of tile 13 of key head 1, read back. -/
theorem rd46 : (kernelRun0_A.sl.v13270 (F := Ideal) c i arg2 harg2 arg8 harg8 arg9 harg9 arg17 arg19 x1 x7 x8) =
    shapeCast S1x192x256 (sc192 (qAt arg8 harg8 x7 832 256 (by decide)) (kAt192 arg9 harg9 x8 704 128 (by decide)) (kernelRun0_A.sl.v9867 (F := Ideal) c arg2 harg2 arg17 x1)) shapeCasts_S192x256_S1x192x256 :=
  (skip _ _ _ (placed_k0_off4_0 i) rfl).trans (hit _ _ _ (placed_k0_off4_0 i))

/-- The scores of tile 14 of key head 1, read back. -/
theorem rd47 : (kernelRun0_A.sl.v13480 (F := Ideal) c i arg2 harg2 arg8 harg8 arg9 harg9 arg17 arg19 x1 x7 x8) =
    shapeCast S1x192x256 (sc192 (qAt arg8 harg8 x7 896 256 (by decide)) (kAt192 arg9 harg9 x8 768 128 (by decide)) (kernelRun0_A.sl.v9867 (F := Ideal) c arg2 harg2 arg17 x1)) shapeCasts_S192x256_S1x192x256 :=
  (skip _ _ _ (placed_k0_off4_1 i) rfl).trans (hit _ _ _ (placed_k0_off4_1 i))

/-- The scores of tile 15 of key head 1, read back. -/
theorem rd48 : (kernelRun0_A.sl.v14168 (F := Ideal) c i arg2 harg2 arg8 harg8 arg9 harg9 arg17 arg19 x1 x7 x8) =
    shapeCast S1x192x256 (sc192 (qAt arg8 harg8 x7 960 256 (by decide)) (kAt192 arg9 harg9 x8 832 128 (by decide)) (kernelRun0_A.sl.v9867 (F := Ideal) c arg2 harg2 arg17 x1)) shapeCasts_S192x256_S1x192x256 :=
  (skip _ _ _ (placed_k0_off4_2 i) rfl).trans (hit _ _ _ (placed_k0_off4_2 i))

/-- The scores of tile 16 of key head 1, read back. -/
theorem rd49 : (kernelRun0_A.sl.v14560 (F := Ideal) c i arg2 harg2 arg8 harg8 arg9 harg9 arg17 arg19 x1 x7 x8) =
    shapeCast S1x192x256 (sc192 (qAt arg8 harg8 x7 1024 256 (by decide)) (kAt192 arg9 harg9 x8 896 128 (by decide)) (kernelRun0_A.sl.v9867 (F := Ideal) c arg2 harg2 arg17 x1)) shapeCasts_S192x256_S1x192x256 :=
  (skip _ _ _ (placed_k0_off4_3 i) rfl).trans ((skip _ _ _ (placed_k0_off4_3 i) rfl).trans (hit _ _ _ (placed_k0_off4_3 i)))

/-- The scores of tile 17 of key head 1, read back. -/
theorem rd50 : (kernelRun0_A.sl.v14938 (F := Ideal) c i arg2 harg2 arg8 harg8 arg9 harg9 arg17 arg19 x1 x7 x8) =
    shapeCast S1x192x256 (sc192 (qAt arg8 harg8 x7 1088 256 (by decide)) (kAt192 arg9 harg9 x8 960 128 (by decide)) (kernelRun0_A.sl.v9867 (F := Ideal) c arg2 harg2 arg17 x1)) shapeCasts_S192x256_S1x192x256 :=
  (skip _ _ _ (placed_k0_off4_4 i) rfl).trans ((skip _ _ _ (placed_k0_off4_4 i) rfl).trans (hit _ _ _ (placed_k0_off4_4 i)))

/-- The scores of tile 18 of key head 1, read back. -/
theorem rd51 : (kernelRun0_A.sl.v15000 (F := Ideal) c i arg2 harg2 arg8 harg8 arg9 harg9 arg17 arg19 x1 x7 x8) =
    shapeCast S1x192x256 (sc192 (qAt arg8 harg8 x7 1152 256 (by decide)) (kAt192 arg9 harg9 x8 1024 128 (by decide)) (kernelRun0_A.sl.v9867 (F := Ideal) c arg2 harg2 arg17 x1)) shapeCasts_S192x256_S1x192x256 :=
  (skip _ _ _ (placed_k0_off4_0 i) rfl).trans ((skip _ _ _ (placed_k0_off4_0 i) rfl).trans (hit _ _ _ (placed_k0_off4_0 i)))

/-- The scores of tile 19 of key head 1, read back. -/
theorem rd52 : (kernelRun0_A.sl.v15382 (F := Ideal) c i arg2 harg2 arg8 harg8 arg9 harg9 arg17 arg19 x1 x7 x8) =
    shapeCast S1x192x256 (sc192 (qAt arg8 harg8 x7 1216 256 (by decide)) (kAt192 arg9 harg9 x8 1088 128 (by decide)) (kernelRun0_A.sl.v9867 (F := Ideal) c arg2 harg2 arg17 x1)) shapeCasts_S192x256_S1x192x256 :=
  (skip _ _ _ (placed_k0_off4_1 i) rfl).trans ((skip _ _ _ (placed_k0_off4_1 i) rfl).trans (hit _ _ _ (placed_k0_off4_1 i)))

/-- The scores of tile 20 of key head 1, read back. -/
theorem rd53 : (kernelRun0_A.sl.v15731 (F := Ideal) c i arg2 harg2 arg8 harg8 arg9 harg9 arg17 arg19 x1 x7 x8) =
    shapeCast S1x192x256 (sc192 (qAt arg8 harg8 x7 1280 256 (by decide)) (kAt192 arg9 harg9 x8 1152 128 (by decide)) (kernelRun0_A.sl.v9867 (F := Ideal) c arg2 harg2 arg17 x1)) shapeCasts_S192x256_S1x192x256 :=
  (skip _ _ _ (placed_k0_off4_2 i) rfl).trans ((skip _ _ _ (placed_k0_off4_2 i) rfl).trans (hit _ _ _ (placed_k0_off4_2 i)))

/-- The scores of tile 21 of key head 1, read back. -/
theorem rd54 : (kernelRun0_A.sl.v15773 (F := Ideal) c i arg2 harg2 arg8 harg8 arg9 harg9 arg17 arg19 x1 x7 x8) =
    shapeCast S1x192x256 (sc192 (qAt arg8 harg8 x7 1344 256 (by decide)) (kAt192 arg9 harg9 x8 1216 128 (by decide)) (kernelRun0_A.sl.v9867 (F := Ideal) c arg2 harg2 arg17 x1)) shapeCasts_S192x256_S1x192x256 :=
  (skip _ _ _ (placed_k0_off4_3 i) rfl).trans ((skip _ _ _ (placed_k0_off4_3 i) rfl).trans (hit _ _ _ (placed_k0_off4_3 i)))

/-- The scores of tile 22 of key head 1, read back. -/
theorem rd55 : (kernelRun0_A.sl.v16126 (F := Ideal) c i arg2 harg2 arg8 harg8 arg9 harg9 arg17 arg19 x1 x7 x8) =
    shapeCast S1x192x256 (sc192 (qAt arg8 harg8 x7 1408 256 (by decide)) (kAt192 arg9 harg9 x8 1280 128 (by decide)) (kernelRun0_A.sl.v9867 (F := Ideal) c arg2 harg2 arg17 x1)) shapeCasts_S192x256_S1x192x256 :=
  (skip _ _ _ (placed_k0_off4_4 i) rfl).trans ((skip _ _ _ (placed_k0_off4_4 i) rfl).trans (hit _ _ _ (placed_k0_off4_4 i)))

/-- The scores of tile 23 of key head 1, read back. -/
theorem rd56 : (kernelRun0_A.sl.v16406 (F := Ideal) c i arg2 harg2 arg8 harg8 arg9 harg9 arg17 arg19 x1 x7 x8) =
    shapeCast S1x192x256 (sc192 (qAt arg8 harg8 x7 1472 256 (by decide)) (kAt192 arg9 harg9 x8 1344 128 (by decide)) (kernelRun0_A.sl.v9867 (F := Ideal) c arg2 harg2 arg17 x1)) shapeCasts_S192x256_S1x192x256 :=
  (skip _ _ _ (placed_k0_off4_0 i) rfl).trans ((skip _ _ _ (placed_k0_off4_0 i) rfl).trans (hit _ _ _ (placed_k0_off4_0 i)))

/-- The scores of tile 24 of key head 1, read back. -/
theorem rd57 : (kernelRun0_A.sl.v16468 (F := Ideal) c i arg2 harg2 arg8 harg8 arg9 harg9 arg17 arg19 x1 x7 x8) =
    shapeCast S1x192x256 (sc192 (qAt arg8 harg8 x7 1536 256 (by decide)) (kAt192 arg9 harg9 x8 1408 128 (by decide)) (kernelRun0_A.sl.v9867 (F := Ideal) c arg2 harg2 arg17 x1)) shapeCasts_S192x256_S1x192x256 :=
  (skip _ _ _ (placed_k0_off4_1 i) rfl).trans ((skip _ _ _ (placed_k0_off4_1 i) rfl).trans (hit _ _ _ (placed_k0_off4_1 i)))

/-- The scores of tile 25 of key head 1, read back. -/
theorem rd58 : (kernelRun0_A.sl.v16752 (F := Ideal) c i arg2 harg2 arg8 harg8 arg9 harg9 arg17 arg19 x1 x7 x8) =
    shapeCast S1x192x256 (sc192 (qAt arg8 harg8 x7 1600 256 (by decide)) (kAt192 arg9 harg9 x8 1472 128 (by decide)) (kernelRun0_A.sl.v9867 (F := Ideal) c arg2 harg2 arg17 x1)) shapeCasts_S192x256_S1x192x256 :=
  (skip _ _ _ (placed_k0_off4_2 i) rfl).trans ((skip _ _ _ (placed_k0_off4_2 i) rfl).trans (hit _ _ _ (placed_k0_off4_2 i)))

/-- The scores of tile 26 of key head 1, read back. -/
theorem rd59 : (kernelRun0_A.sl.v17003 (F := Ideal) c i arg2 harg2 arg8 harg8 arg9 harg9 arg17 arg19 x1 x7 x8) =
    shapeCast S1x192x256 (sc192 (qAt arg8 harg8 x7 1664 256 (by decide)) (kAt192 arg9 harg9 x8 1536 128 (by decide)) (kernelRun0_A.sl.v9867 (F := Ideal) c arg2 harg2 arg17 x1)) shapeCasts_S192x256_S1x192x256 :=
  (skip _ _ _ (placed_k0_off4_3 i) rfl).trans ((skip _ _ _ (placed_k0_off4_3 i) rfl).trans (hit _ _ _ (placed_k0_off4_3 i)))

/-- The scores of tile 27 of key head 1, read back. -/
theorem rd60 : (kernelRun0_A.sl.v17238 (F := Ideal) c i arg2 harg2 arg8 harg8 arg9 harg9 arg17 arg19 x1 x7 x8) =
    shapeCast S1x192x256 (sc192 (qAt arg8 harg8 x7 1728 256 (by decide)) (kAt192 arg9 harg9 x8 1600 128 (by decide)) (kernelRun0_A.sl.v9867 (F := Ideal) c arg2 harg2 arg17 x1)) shapeCasts_S192x256_S1x192x256 :=
  (skip _ _ _ (placed_k0_off4_4 i) rfl).trans ((skip _ _ _ (placed_k0_off4_4 i) rfl).trans (hit _ _ _ (placed_k0_off4_4 i)))

/-- The scores of tile 28 of key head 1, read back. -/
theorem rd61 : (kernelRun0_A.sl.v17507 (F := Ideal) c i arg2 harg2 arg8 harg8 arg9 harg9 arg17 arg19 x1 x7 x8) =
    shapeCast S1x192x256 (sc192 (qAt arg8 harg8 x7 1792 256 (by decide)) (kAt192 arg9 harg9 x8 1664 128 (by decide)) (kernelRun0_A.sl.v9867 (F := Ideal) c arg2 harg2 arg17 x1)) shapeCasts_S192x256_S1x192x256 :=
  (skip _ _ _ (placed_k0_off4_0 i) rfl).trans (hit _ _ _ (placed_k0_off4_0 i))

/-- The scores of tile 29 of key head 1, read back. -/
theorem rd62 : (kernelRun0_A.sl.v17656 (F := Ideal) c i arg2 harg2 arg8 harg8 arg9 harg9 arg17 arg19 x1 x7 x8) =
    shapeCast S1x192x256 (sc192 (qAt arg8 harg8 x7 1856 256 (by decide)) (kAt192 arg9 harg9 x8 1728 128 (by decide)) (kernelRun0_A.sl.v9867 (F := Ideal) c arg2 harg2 arg17 x1)) shapeCasts_S192x256_S1x192x256 :=
  (skip _ _ _ (placed_k0_off4_1 i) rfl).trans (hit _ _ _ (placed_k0_off4_1 i))

/-- The scores of tile 30 of key head 1, read back. -/
theorem rd63 : (kernelRun0_A.sl.v17866 (F := Ideal) c i arg2 harg2 arg8 harg8 arg9 harg9 arg17 arg19 x1 x7 x8) =
    shapeCast S1x192x256 (sc192 (qAt arg8 harg8 x7 1920 256 (by decide)) (kAt192 arg9 harg9 x8 1792 128 (by decide)) (kernelRun0_A.sl.v9867 (F := Ideal) c arg2 harg2 arg17 x1)) shapeCasts_S192x256_S1x192x256 :=
  (skip _ _ _ (placed_k0_off4_2 i) rfl).trans (hit _ _ _ (placed_k0_off4_2 i))

/-- The scores of tile 31 of key head 1, read back. -/
theorem rd64 : (kernelRun0_A.sl.v17958 (F := Ideal) c i arg2 harg2 arg8 harg8 arg9 harg9 arg17 arg19 x1 x7 x8) =
    shapeCast S1x192x256 (sc192 (qAt arg8 harg8 x7 1984 256 (by decide)) (kAt192 arg9 harg9 x8 1856 128 (by decide)) (kernelRun0_A.sl.v9867 (F := Ideal) c arg2 harg2 arg17 x1)) shapeCasts_S192x256_S1x192x256 :=
  hit _ _ _ (placed_k0_off4_3 i)

end Cert.KernelIdeal.Swa

end
end
-- ==== Proof.SwaPiece.lean ====
/- The blocks that the attention call stores in its second result's block: each is two tiles' results side by side. -/
module

public import proofs.«01_k».proof.Proof.SwaRead

@[expose] public section

set_option maxRecDepth 16384

noncomputable section

namespace Cert.KernelIdeal.Swa

open Cert.KernelIdeal Cert.KernelIdeal.Gen Idealize.ShloMosaic Idealize.ShloMosaic.TcCoe Idealize.SL.Sem

variable (c : Dev nD) (i : grid0.Coords) (arg2 : Memref sig .tc .smem S8 .f32) (harg2 : arg2.IsWhole) (arg3 : Memref sig .tc .smem S8 .f32)
  (harg3 : arg3.IsWhole) (arg8 : Memref sig .tc .vmem S2048x512 .bf16) (harg8 : arg8.IsWhole) (arg9 : Memref sig .tc .vmem S2048x256 .bf16)
  (harg9 : arg9.IsWhole) (arg10 : Memref sig .tc .vmem S16x128x128 .bf16) (harg10 : arg10.IsWhole)
  (arg17 : Memref sig .tc .vmem S2x192x256 .f32) (arg18 : Memref sig .tc .vmem S2x16x96x256 .bf16) (arg19 : Memref sig .tc .vmem S5x192x256 .f32)
  (x1 : Vec Ideal S8 .f32) (x2 : Vec Ideal S8 .f32) (x7 : Vec Ideal S2048x512 .bf16) (x8 : Vec Ideal S2048x256 .bf16) (x9 : Vec Ideal S16x128x128 .bf16)

/-- The stored block of rows 0 and pair 0 of key head 0: two tiles' results. -/
theorem pc_0_0_0 : (kernelRun0_A.sl.v1582 (F := Ideal) c i arg2 harg2 arg3 harg3 arg8 harg8 arg9 harg9 arg10 harg10 arg17 arg18 arg19 x1 x2 x7 x8 x9) =
    put0 (truncf .bf16 (tile0 (qAt arg8 harg8 x7 0 0 (by decide)) (kAt64 arg9 harg9 x8 0 0 (by decide)) (kernelRun0_A.sl.v271 (F := Ideal) c arg2 harg2 arg17 x1)
      (kernelRun0_A.sl.v1185 (F := Ideal) c arg10 harg10 arg18 x9) (kernelRun0_A.sl.v259 (F := Ideal) c arg3 harg3 x2)) bitsLt_bf16_f32)
      (truncf .bf16 (tile1 (qAt arg8 harg8 x7 64 0 (by decide)) (kAt128 arg9 harg9 x8 0 0 (by decide)) (kernelRun0_A.sl.v867 (F := Ideal) c arg2 harg2 arg17 x1)
      (kernelRun0_A.sl.v1185 (F := Ideal) c arg10 harg10 arg18 x9) (kernelRun0_A.sl.v259 (F := Ideal) c arg3 harg3 x2)) bitsLt_bf16_f32) := by
  simp only [kernelRun0_A.sl.v1582, kernelRun0_A.sl.v1581, kernelRun0_A.sl.v1578, kernelRun0_A.sl.v1575, kernelRun0_A.sl.v1573, kernelRun0_A.sl.v1194, kernelRun0_A.sl.v1192, kernelRun0_A.sl.v1187, kernelRun0_A.sl.v1184, kernelRun0_A.sl.v1181, kernelRun0_A.sl.v1180, kernelRun0_A.sl.v1179, kernelRun0_A.sl.v1177, kernelRun0_A.sl.v1193, kernelRun0_A.sl.v1191, kernelRun0_A.sl.v1188, kernelRun0_A.sl.v1577, kernelRun0_A.sl.v1576, kernelRun0_A.sl.v1574, kernelRun0_A.sl.v1572, kernelRun0_A.sl.v1570, kernelRun0_A.sl.v1565, kernelRun0_A.sl.v1562, kernelRun0_A.sl.v1560, kernelRun0_A.sl.v1559, kernelRun0_A.sl.v1558, kernelRun0_A.sl.v1556, kernelRun0_A.sl.v1571, kernelRun0_A.sl.v1569, kernelRun0_A.sl.v1566, kernelRun0_A.sl.v1580, kernelRun0_A.sl.v1579]
  generalize he : (kernelRun0_A.sl.v1176 (F := Ideal) c i arg2 harg2 arg8 harg8 arg9 harg9 arg17 arg19 x1 x7 x8) = e
  generalize ho : (kernelRun0_A.sl.v1555 (F := Ideal) c i arg2 harg2 arg8 harg8 arg9 harg9 arg17 arg19 x1 x7 x8) = o
  rw [rd1] at he
  rw [rd2] at ho
  subst he ho
  rfl

/-- The stored block of rows 0 and pair 1 of key head 0: two tiles' results. -/
theorem pc_0_0_1 : (kernelRun0_A.sl.v1591 (F := Ideal) c i arg2 harg2 arg3 harg3 arg8 harg8 arg9 harg9 arg10 harg10 arg17 arg18 arg19 x1 x2 x7 x8 x9) =
    put1 (truncf .bf16 (tile0 (qAt arg8 harg8 x7 0 0 (by decide)) (kAt64 arg9 harg9 x8 0 0 (by decide)) (kernelRun0_A.sl.v271 (F := Ideal) c arg2 harg2 arg17 x1)
      (kernelRun0_A.sl.v1185 (F := Ideal) c arg10 harg10 arg18 x9) (kernelRun0_A.sl.v259 (F := Ideal) c arg3 harg3 x2)) bitsLt_bf16_f32)
      (truncf .bf16 (tile1 (qAt arg8 harg8 x7 64 0 (by decide)) (kAt128 arg9 harg9 x8 0 0 (by decide)) (kernelRun0_A.sl.v867 (F := Ideal) c arg2 harg2 arg17 x1)
      (kernelRun0_A.sl.v1185 (F := Ideal) c arg10 harg10 arg18 x9) (kernelRun0_A.sl.v259 (F := Ideal) c arg3 harg3 x2)) bitsLt_bf16_f32) := by
  simp only [kernelRun0_A.sl.v1591, kernelRun0_A.sl.v1590, kernelRun0_A.sl.v1587, kernelRun0_A.sl.v1584, kernelRun0_A.sl.v1573, kernelRun0_A.sl.v1194, kernelRun0_A.sl.v1192, kernelRun0_A.sl.v1187, kernelRun0_A.sl.v1184, kernelRun0_A.sl.v1181, kernelRun0_A.sl.v1180, kernelRun0_A.sl.v1179, kernelRun0_A.sl.v1177, kernelRun0_A.sl.v1193, kernelRun0_A.sl.v1191, kernelRun0_A.sl.v1188, kernelRun0_A.sl.v1586, kernelRun0_A.sl.v1585, kernelRun0_A.sl.v1574, kernelRun0_A.sl.v1572, kernelRun0_A.sl.v1570, kernelRun0_A.sl.v1565, kernelRun0_A.sl.v1562, kernelRun0_A.sl.v1560, kernelRun0_A.sl.v1559, kernelRun0_A.sl.v1558, kernelRun0_A.sl.v1556, kernelRun0_A.sl.v1571, kernelRun0_A.sl.v1569, kernelRun0_A.sl.v1566, kernelRun0_A.sl.v1589, kernelRun0_A.sl.v1588]
  generalize he : (kernelRun0_A.sl.v1176 (F := Ideal) c i arg2 harg2 arg8 harg8 arg9 harg9 arg17 arg19 x1 x7 x8) = e
  generalize ho : (kernelRun0_A.sl.v1555 (F := Ideal) c i arg2 harg2 arg8 harg8 arg9 harg9 arg17 arg19 x1 x7 x8) = o
  rw [rd1] at he
  rw [rd2] at ho
  subst he ho
  rfl

/-- The stored block of rows 0 and pair 0 of key head 1: two tiles' results. -/
theorem pc_0_1_0 : (kernelRun0_A.sl.v10579 (F := Ideal) c i arg2 harg2 arg3 harg3 arg8 harg8 arg9 harg9 arg10 harg10 arg17 arg18 arg19 x1 x2 x7 x8 x9) =
    put0 (truncf .bf16 (tile0 (qAt arg8 harg8 x7 0 256 (by decide)) (kAt64 arg9 harg9 x8 0 128 (by decide)) (kernelRun0_A.sl.v9163 (F := Ideal) c arg2 harg2 arg17 x1)
      (kernelRun0_A.sl.v10182 (F := Ideal) c arg10 harg10 arg18 x9) (kernelRun0_A.sl.v9151 (F := Ideal) c arg3 harg3 x2)) bitsLt_bf16_f32)
      (truncf .bf16 (tile1 (qAt arg8 harg8 x7 64 256 (by decide)) (kAt128 arg9 harg9 x8 0 128 (by decide)) (kernelRun0_A.sl.v9830 (F := Ideal) c arg2 harg2 arg17 x1)
      (kernelRun0_A.sl.v10182 (F := Ideal) c arg10 harg10 arg18 x9) (kernelRun0_A.sl.v9151 (F := Ideal) c arg3 harg3 x2)) bitsLt_bf16_f32) := by
  simp only [kernelRun0_A.sl.v10579, kernelRun0_A.sl.v10578, kernelRun0_A.sl.v10575, kernelRun0_A.sl.v10572, kernelRun0_A.sl.v10570, kernelRun0_A.sl.v10191, kernelRun0_A.sl.v10189, kernelRun0_A.sl.v10184, kernelRun0_A.sl.v10181, kernelRun0_A.sl.v10178, kernelRun0_A.sl.v10177, kernelRun0_A.sl.v10176, kernelRun0_A.sl.v10174, kernelRun0_A.sl.v10190, kernelRun0_A.sl.v10188, kernelRun0_A.sl.v10185, kernelRun0_A.sl.v10574, kernelRun0_A.sl.v10573, kernelRun0_A.sl.v10571, kernelRun0_A.sl.v10569, kernelRun0_A.sl.v10567, kernelRun0_A.sl.v10562, kernelRun0_A.sl.v10559, kernelRun0_A.sl.v10557, kernelRun0_A.sl.v10556, kernelRun0_A.sl.v10555, kernelRun0_A.sl.v10553, kernelRun0_A.sl.v10568, kernelRun0_A.sl.v10566, kernelRun0_A.sl.v10563, kernelRun0_A.sl.v10577, kernelRun0_A.sl.v10576]
  generalize he : (kernelRun0_A.sl.v10173 (F := Ideal) c i arg2 harg2 arg8 harg8 arg9 harg9 arg17 arg19 x1 x7 x8) = e
  generalize ho : (kernelRun0_A.sl.v10552 (F := Ideal) c i arg2 harg2 arg8 harg8 arg9 harg9 arg17 arg19 x1 x7 x8) = o
  rw [rd33] at he
  rw [rd34] at ho
  subst he ho
  rfl

/-- The stored block of rows 0 and pair 1 of key head 1: two tiles' results. -/
theorem pc_0_1_1 : (kernelRun0_A.sl.v10588 (F := Ideal) c i arg2 harg2 arg3 harg3 arg8 harg8 arg9 harg9 arg10 harg10 arg17 arg18 arg19 x1 x2 x7 x8 x9) =
    put1 (truncf .bf16 (tile0 (qAt arg8 harg8 x7 0 256 (by decide)) (kAt64 arg9 harg9 x8 0 128 (by decide)) (kernelRun0_A.sl.v9163 (F := Ideal) c arg2 harg2 arg17 x1)
      (kernelRun0_A.sl.v10182 (F := Ideal) c arg10 harg10 arg18 x9) (kernelRun0_A.sl.v9151 (F := Ideal) c arg3 harg3 x2)) bitsLt_bf16_f32)
      (truncf .bf16 (tile1 (qAt arg8 harg8 x7 64 256 (by decide)) (kAt128 arg9 harg9 x8 0 128 (by decide)) (kernelRun0_A.sl.v9830 (F := Ideal) c arg2 harg2 arg17 x1)
      (kernelRun0_A.sl.v10182 (F := Ideal) c arg10 harg10 arg18 x9) (kernelRun0_A.sl.v9151 (F := Ideal) c arg3 harg3 x2)) bitsLt_bf16_f32) := by
  simp only [kernelRun0_A.sl.v10588, kernelRun0_A.sl.v10587, kernelRun0_A.sl.v10584, kernelRun0_A.sl.v10581, kernelRun0_A.sl.v10570, kernelRun0_A.sl.v10191, kernelRun0_A.sl.v10189, kernelRun0_A.sl.v10184, kernelRun0_A.sl.v10181, kernelRun0_A.sl.v10178, kernelRun0_A.sl.v10177, kernelRun0_A.sl.v10176, kernelRun0_A.sl.v10174, kernelRun0_A.sl.v10190, kernelRun0_A.sl.v10188, kernelRun0_A.sl.v10185, kernelRun0_A.sl.v10583, kernelRun0_A.sl.v10582, kernelRun0_A.sl.v10571, kernelRun0_A.sl.v10569, kernelRun0_A.sl.v10567, kernelRun0_A.sl.v10562, kernelRun0_A.sl.v10559, kernelRun0_A.sl.v10557, kernelRun0_A.sl.v10556, kernelRun0_A.sl.v10555, kernelRun0_A.sl.v10553, kernelRun0_A.sl.v10568, kernelRun0_A.sl.v10566, kernelRun0_A.sl.v10563, kernelRun0_A.sl.v10586, kernelRun0_A.sl.v10585]
  generalize he : (kernelRun0_A.sl.v10173 (F := Ideal) c i arg2 harg2 arg8 harg8 arg9 harg9 arg17 arg19 x1 x7 x8) = e
  generalize ho : (kernelRun0_A.sl.v10552 (F := Ideal) c i arg2 harg2 arg8 harg8 arg9 harg9 arg17 arg19 x1 x7 x8) = o
  rw [rd33] at he
  rw [rd34] at ho
  subst he ho
  rfl

/-- The stored block of rows 1 and pair 0 of key head 0: two tiles' results. -/
theorem pc_1_0_0 : (kernelRun0_A.sl.v2026 (F := Ideal) c i arg2 harg2 arg3 harg3 arg8 harg8 arg9 harg9 arg10 harg10 arg17 arg18 arg19 x1 x2 x7 x8 x9) =
    put0 (truncf .bf16 (tileE (qAt arg8 harg8 x7 128 0 (by decide)) (kAt192 arg9 harg9 x8 0 0 (by decide)) (kernelRun0_A.sl.v5257 (F := Ideal) c arg2 harg2 arg17 x1)
      (kernelRun0_A.sl.v1625 (F := Ideal) c arg10 harg10 arg18 x9) (kernelRun0_A.sl.v259 (F := Ideal) c arg3 harg3 x2)) bitsLt_bf16_f32)
      (truncf .bf16 (tileO (qAt arg8 harg8 x7 192 0 (by decide)) (kAt192 arg9 harg9 x8 64 0 (by decide)) (kernelRun0_A.sl.v5257 (F := Ideal) c arg2 harg2 arg17 x1)
      (kernelRun0_A.sl.v1625 (F := Ideal) c arg10 harg10 arg18 x9) (kernelRun0_A.sl.v259 (F := Ideal) c arg3 harg3 x2)) bitsLt_bf16_f32) := by
  simp only [kernelRun0_A.sl.v2026, kernelRun0_A.sl.v2025, kernelRun0_A.sl.v2022, kernelRun0_A.sl.v2019, kernelRun0_A.sl.v2017, kernelRun0_A.sl.v1634, kernelRun0_A.sl.v1632, kernelRun0_A.sl.v1627, kernelRun0_A.sl.v1624, kernelRun0_A.sl.v1622, kernelRun0_A.sl.v1621, kernelRun0_A.sl.v1620, kernelRun0_A.sl.v1618, kernelRun0_A.sl.v1633, kernelRun0_A.sl.v1631, kernelRun0_A.sl.v1628, kernelRun0_A.sl.v2021, kernelRun0_A.sl.v2020, kernelRun0_A.sl.v2018, kernelRun0_A.sl.v2016, kernelRun0_A.sl.v2014, kernelRun0_A.sl.v2009, kernelRun0_A.sl.v2006, kernelRun0_A.sl.v2004, kernelRun0_A.sl.v2003, kernelRun0_A.sl.v2002, kernelRun0_A.sl.v2000, kernelRun0_A.sl.v2015, kernelRun0_A.sl.v2013, kernelRun0_A.sl.v2010, kernelRun0_A.sl.v2024, kernelRun0_A.sl.v2023]
  generalize he : (kernelRun0_A.sl.v1617 (F := Ideal) c i arg2 harg2 arg8 harg8 arg9 harg9 arg17 arg19 x1 x7 x8) = e
  generalize ho : (kernelRun0_A.sl.v1999 (F := Ideal) c i arg2 harg2 arg8 harg8 arg9 harg9 arg17 arg19 x1 x7 x8) = o
  rw [rd3] at he
  rw [rd4] at ho
  subst he ho
  rfl

/-- The stored block of rows 1 and pair 1 of key head 0: two tiles' results. -/
theorem pc_1_0_1 : (kernelRun0_A.sl.v2035 (F := Ideal) c i arg2 harg2 arg3 harg3 arg8 harg8 arg9 harg9 arg10 harg10 arg17 arg18 arg19 x1 x2 x7 x8 x9) =
    put1 (truncf .bf16 (tileE (qAt arg8 harg8 x7 128 0 (by decide)) (kAt192 arg9 harg9 x8 0 0 (by decide)) (kernelRun0_A.sl.v5257 (F := Ideal) c arg2 harg2 arg17 x1)
      (kernelRun0_A.sl.v1625 (F := Ideal) c arg10 harg10 arg18 x9) (kernelRun0_A.sl.v259 (F := Ideal) c arg3 harg3 x2)) bitsLt_bf16_f32)
      (truncf .bf16 (tileO (qAt arg8 harg8 x7 192 0 (by decide)) (kAt192 arg9 harg9 x8 64 0 (by decide)) (kernelRun0_A.sl.v5257 (F := Ideal) c arg2 harg2 arg17 x1)
      (kernelRun0_A.sl.v1625 (F := Ideal) c arg10 harg10 arg18 x9) (kernelRun0_A.sl.v259 (F := Ideal) c arg3 harg3 x2)) bitsLt_bf16_f32) := by
  simp only [kernelRun0_A.sl.v2035, kernelRun0_A.sl.v2034, kernelRun0_A.sl.v2031, kernelRun0_A.sl.v2028, kernelRun0_A.sl.v2017, kernelRun0_A.sl.v1634, kernelRun0_A.sl.v1632, kernelRun0_A.sl.v1627, kernelRun0_A.sl.v1624, kernelRun0_A.sl.v1622, kernelRun0_A.sl.v1621, kernelRun0_A.sl.v1620, kernelRun0_A.sl.v1618, kernelRun0_A.sl.v1633, kernelRun0_A.sl.v1631, kernelRun0_A.sl.v1628, kernelRun0_A.sl.v2030, kernelRun0_A.sl.v2029, kernelRun0_A.sl.v2018, kernelRun0_A.sl.v2016, kernelRun0_A.sl.v2014, kernelRun0_A.sl.v2009, kernelRun0_A.sl.v2006, kernelRun0_A.sl.v2004, kernelRun0_A.sl.v2003, kernelRun0_A.sl.v2002, kernelRun0_A.sl.v2000, kernelRun0_A.sl.v2015, kernelRun0_A.sl.v2013, kernelRun0_A.sl.v2010, kernelRun0_A.sl.v2033, kernelRun0_A.sl.v2032]
  generalize he : (kernelRun0_A.sl.v1617 (F := Ideal) c i arg2 harg2 arg8 harg8 arg9 harg9 arg17 arg19 x1 x7 x8) = e
  generalize ho : (kernelRun0_A.sl.v1999 (F := Ideal) c i arg2 harg2 arg8 harg8 arg9 harg9 arg17 arg19 x1 x7 x8) = o
  rw [rd3] at he
  rw [rd4] at ho
  subst he ho
  rfl

/-- The stored block of rows 1 and pair 0 of key head 1: two tiles' results. -/
theorem pc_1_1_0 : (kernelRun0_A.sl.v11023 (F := Ideal) c i arg2 harg2 arg3 harg3 arg8 harg8 arg9 harg9 arg10 harg10 arg17 arg18 arg19 x1 x2 x7 x8 x9) =
    put0 (truncf .bf16 (tileE (qAt arg8 harg8 x7 128 256 (by decide)) (kAt192 arg9 harg9 x8 0 128 (by decide)) (kernelRun0_A.sl.v9867 (F := Ideal) c arg2 harg2 arg17 x1)
      (kernelRun0_A.sl.v10622 (F := Ideal) c arg10 harg10 arg18 x9) (kernelRun0_A.sl.v9151 (F := Ideal) c arg3 harg3 x2)) bitsLt_bf16_f32)
      (truncf .bf16 (tileO (qAt arg8 harg8 x7 192 256 (by decide)) (kAt192 arg9 harg9 x8 64 128 (by decide)) (kernelRun0_A.sl.v9867 (F := Ideal) c arg2 harg2 arg17 x1)
      (kernelRun0_A.sl.v10622 (F := Ideal) c arg10 harg10 arg18 x9) (kernelRun0_A.sl.v9151 (F := Ideal) c arg3 harg3 x2)) bitsLt_bf16_f32) := by
  simp only [kernelRun0_A.sl.v11023, kernelRun0_A.sl.v11022, kernelRun0_A.sl.v11019, kernelRun0_A.sl.v11016, kernelRun0_A.sl.v11014, kernelRun0_A.sl.v10631, kernelRun0_A.sl.v10629, kernelRun0_A.sl.v10624, kernelRun0_A.sl.v10621, kernelRun0_A.sl.v10619, kernelRun0_A.sl.v10618, kernelRun0_A.sl.v10617, kernelRun0_A.sl.v10615, kernelRun0_A.sl.v10630, kernelRun0_A.sl.v10628, kernelRun0_A.sl.v10625, kernelRun0_A.sl.v11018, kernelRun0_A.sl.v11017, kernelRun0_A.sl.v11015, kernelRun0_A.sl.v11013, kernelRun0_A.sl.v11011, kernelRun0_A.sl.v11006, kernelRun0_A.sl.v11003, kernelRun0_A.sl.v11001, kernelRun0_A.sl.v11000, kernelRun0_A.sl.v10999, kernelRun0_A.sl.v10997, kernelRun0_A.sl.v11012, kernelRun0_A.sl.v11010, kernelRun0_A.sl.v11007, kernelRun0_A.sl.v11021, kernelRun0_A.sl.v11020]
  generalize he : (kernelRun0_A.sl.v10614 (F := Ideal) c i arg2 harg2 arg8 harg8 arg9 harg9 arg17 arg19 x1 x7 x8) = e
  generalize ho : (kernelRun0_A.sl.v10996 (F := Ideal) c i arg2 harg2 arg8 harg8 arg9 harg9 arg17 arg19 x1 x7 x8) = o
  rw [rd35] at he
  rw [rd36] at ho
  subst he ho
  rfl

/-- The stored block of rows 1 and pair 1 of key head 1: two tiles' results. -/
theorem pc_1_1_1 : (kernelRun0_A.sl.v11032 (F := Ideal) c i arg2 harg2 arg3 harg3 arg8 harg8 arg9 harg9 arg10 harg10 arg17 arg18 arg19 x1 x2 x7 x8 x9) =
    put1 (truncf .bf16 (tileE (qAt arg8 harg8 x7 128 256 (by decide)) (kAt192 arg9 harg9 x8 0 128 (by decide)) (kernelRun0_A.sl.v9867 (F := Ideal) c arg2 harg2 arg17 x1)
      (kernelRun0_A.sl.v10622 (F := Ideal) c arg10 harg10 arg18 x9) (kernelRun0_A.sl.v9151 (F := Ideal) c arg3 harg3 x2)) bitsLt_bf16_f32)
      (truncf .bf16 (tileO (qAt arg8 harg8 x7 192 256 (by decide)) (kAt192 arg9 harg9 x8 64 128 (by decide)) (kernelRun0_A.sl.v9867 (F := Ideal) c arg2 harg2 arg17 x1)
      (kernelRun0_A.sl.v10622 (F := Ideal) c arg10 harg10 arg18 x9) (kernelRun0_A.sl.v9151 (F := Ideal) c arg3 harg3 x2)) bitsLt_bf16_f32) := by
  simp only [kernelRun0_A.sl.v11032, kernelRun0_A.sl.v11031, kernelRun0_A.sl.v11028, kernelRun0_A.sl.v11025, kernelRun0_A.sl.v11014, kernelRun0_A.sl.v10631, kernelRun0_A.sl.v10629, kernelRun0_A.sl.v10624, kernelRun0_A.sl.v10621, kernelRun0_A.sl.v10619, kernelRun0_A.sl.v10618, kernelRun0_A.sl.v10617, kernelRun0_A.sl.v10615, kernelRun0_A.sl.v10630, kernelRun0_A.sl.v10628, kernelRun0_A.sl.v10625, kernelRun0_A.sl.v11027, kernelRun0_A.sl.v11026, kernelRun0_A.sl.v11015, kernelRun0_A.sl.v11013, kernelRun0_A.sl.v11011, kernelRun0_A.sl.v11006, kernelRun0_A.sl.v11003, kernelRun0_A.sl.v11001, kernelRun0_A.sl.v11000, kernelRun0_A.sl.v10999, kernelRun0_A.sl.v10997, kernelRun0_A.sl.v11012, kernelRun0_A.sl.v11010, kernelRun0_A.sl.v11007, kernelRun0_A.sl.v11030, kernelRun0_A.sl.v11029]
  generalize he : (kernelRun0_A.sl.v10614 (F := Ideal) c i arg2 harg2 arg8 harg8 arg9 harg9 arg17 arg19 x1 x7 x8) = e
  generalize ho : (kernelRun0_A.sl.v10996 (F := Ideal) c i arg2 harg2 arg8 harg8 arg9 harg9 arg17 arg19 x1 x7 x8) = o
  rw [rd35] at he
  rw [rd36] at ho
  subst he ho
  rfl

/-- The stored block of rows 2 and pair 0 of key head 0: two tiles' results. -/
theorem pc_2_0_0 : (kernelRun0_A.sl.v2417 (F := Ideal) c i arg2 harg2 arg3 harg3 arg8 harg8 arg9 harg9 arg10 harg10 arg17 arg18 arg19 x1 x2 x7 x8 x9) =
    put0 (truncf .bf16 (tileE (qAt arg8 harg8 x7 256 0 (by decide)) (kAt192 arg9 harg9 x8 128 0 (by decide)) (kernelRun0_A.sl.v5257 (F := Ideal) c arg2 harg2 arg17 x1)
      (kernelRun0_A.sl.v2356 (F := Ideal) c arg10 harg10 arg18 x9) (kernelRun0_A.sl.v259 (F := Ideal) c arg3 harg3 x2)) bitsLt_bf16_f32)
      (truncf .bf16 (tileO (qAt arg8 harg8 x7 320 0 (by decide)) (kAt192 arg9 harg9 x8 192 0 (by decide)) (kernelRun0_A.sl.v5257 (F := Ideal) c arg2 harg2 arg17 x1)
      (kernelRun0_A.sl.v2356 (F := Ideal) c arg10 harg10 arg18 x9) (kernelRun0_A.sl.v259 (F := Ideal) c arg3 harg3 x2)) bitsLt_bf16_f32) := by
  simp only [kernelRun0_A.sl.v2417, kernelRun0_A.sl.v2416, kernelRun0_A.sl.v2413, kernelRun0_A.sl.v2410, kernelRun0_A.sl.v2408, kernelRun0_A.sl.v2365, kernelRun0_A.sl.v2363, kernelRun0_A.sl.v2358, kernelRun0_A.sl.v2355, kernelRun0_A.sl.v2353, kernelRun0_A.sl.v2352, kernelRun0_A.sl.v2351, kernelRun0_A.sl.v2349, kernelRun0_A.sl.v2364, kernelRun0_A.sl.v2362, kernelRun0_A.sl.v2359, kernelRun0_A.sl.v2412, kernelRun0_A.sl.v2411, kernelRun0_A.sl.v2409, kernelRun0_A.sl.v2407, kernelRun0_A.sl.v2405, kernelRun0_A.sl.v2400, kernelRun0_A.sl.v2397, kernelRun0_A.sl.v2395, kernelRun0_A.sl.v2394, kernelRun0_A.sl.v2393, kernelRun0_A.sl.v2391, kernelRun0_A.sl.v2406, kernelRun0_A.sl.v2404, kernelRun0_A.sl.v2401, kernelRun0_A.sl.v2415, kernelRun0_A.sl.v2414]
  generalize he : (kernelRun0_A.sl.v2348 (F := Ideal) c i arg2 harg2 arg8 harg8 arg9 harg9 arg17 arg19 x1 x7 x8) = e
  generalize ho : (kernelRun0_A.sl.v2390 (F := Ideal) c i arg2 harg2 arg8 harg8 arg9 harg9 arg17 arg19 x1 x7 x8) = o
  rw [rd5] at he
  rw [rd6] at ho
  subst he ho
  rfl

/-- The stored block of rows 2 and pair 1 of key head 0: two tiles' results. -/
theorem pc_2_0_1 : (kernelRun0_A.sl.v2426 (F := Ideal) c i arg2 harg2 arg3 harg3 arg8 harg8 arg9 harg9 arg10 harg10 arg17 arg18 arg19 x1 x2 x7 x8 x9) =
    put1 (truncf .bf16 (tileE (qAt arg8 harg8 x7 256 0 (by decide)) (kAt192 arg9 harg9 x8 128 0 (by decide)) (kernelRun0_A.sl.v5257 (F := Ideal) c arg2 harg2 arg17 x1)
      (kernelRun0_A.sl.v2356 (F := Ideal) c arg10 harg10 arg18 x9) (kernelRun0_A.sl.v259 (F := Ideal) c arg3 harg3 x2)) bitsLt_bf16_f32)
      (truncf .bf16 (tileO (qAt arg8 harg8 x7 320 0 (by decide)) (kAt192 arg9 harg9 x8 192 0 (by decide)) (kernelRun0_A.sl.v5257 (F := Ideal) c arg2 harg2 arg17 x1)
      (kernelRun0_A.sl.v2356 (F := Ideal) c arg10 harg10 arg18 x9) (kernelRun0_A.sl.v259 (F := Ideal) c arg3 harg3 x2)) bitsLt_bf16_f32) := by
  simp only [kernelRun0_A.sl.v2426, kernelRun0_A.sl.v2425, kernelRun0_A.sl.v2422, kernelRun0_A.sl.v2419, kernelRun0_A.sl.v2408, kernelRun0_A.sl.v2365, kernelRun0_A.sl.v2363, kernelRun0_A.sl.v2358, kernelRun0_A.sl.v2355, kernelRun0_A.sl.v2353, kernelRun0_A.sl.v2352, kernelRun0_A.sl.v2351, kernelRun0_A.sl.v2349, kernelRun0_A.sl.v2364, kernelRun0_A.sl.v2362, kernelRun0_A.sl.v2359, kernelRun0_A.sl.v2421, kernelRun0_A.sl.v2420, kernelRun0_A.sl.v2409, kernelRun0_A.sl.v2407, kernelRun0_A.sl.v2405, kernelRun0_A.sl.v2400, kernelRun0_A.sl.v2397, kernelRun0_A.sl.v2395, kernelRun0_A.sl.v2394, kernelRun0_A.sl.v2393, kernelRun0_A.sl.v2391, kernelRun0_A.sl.v2406, kernelRun0_A.sl.v2404, kernelRun0_A.sl.v2401, kernelRun0_A.sl.v2424, kernelRun0_A.sl.v2423]
  generalize he : (kernelRun0_A.sl.v2348 (F := Ideal) c i arg2 harg2 arg8 harg8 arg9 harg9 arg17 arg19 x1 x7 x8) = e
  generalize ho : (kernelRun0_A.sl.v2390 (F := Ideal) c i arg2 harg2 arg8 harg8 arg9 harg9 arg17 arg19 x1 x7 x8) = o
  rw [rd5] at he
  rw [rd6] at ho
  subst he ho
  rfl

/-- The stored block of rows 2 and pair 0 of key head 1: two tiles' results. -/
theorem pc_2_1_0 : (kernelRun0_A.sl.v11414 (F := Ideal) c i arg2 harg2 arg3 harg3 arg8 harg8 arg9 harg9 arg10 harg10 arg17 arg18 arg19 x1 x2 x7 x8 x9) =
    put0 (truncf .bf16 (tileE (qAt arg8 harg8 x7 256 256 (by decide)) (kAt192 arg9 harg9 x8 128 128 (by decide)) (kernelRun0_A.sl.v9867 (F := Ideal) c arg2 harg2 arg17 x1)
      (kernelRun0_A.sl.v11353 (F := Ideal) c arg10 harg10 arg18 x9) (kernelRun0_A.sl.v9151 (F := Ideal) c arg3 harg3 x2)) bitsLt_bf16_f32)
      (truncf .bf16 (tileO (qAt arg8 harg8 x7 320 256 (by decide)) (kAt192 arg9 harg9 x8 192 128 (by decide)) (kernelRun0_A.sl.v9867 (F := Ideal) c arg2 harg2 arg17 x1)
      (kernelRun0_A.sl.v11353 (F := Ideal) c arg10 harg10 arg18 x9) (kernelRun0_A.sl.v9151 (F := Ideal) c arg3 harg3 x2)) bitsLt_bf16_f32) := by
  simp only [kernelRun0_A.sl.v11414, kernelRun0_A.sl.v11413, kernelRun0_A.sl.v11410, kernelRun0_A.sl.v11407, kernelRun0_A.sl.v11405, kernelRun0_A.sl.v11362, kernelRun0_A.sl.v11360, kernelRun0_A.sl.v11355, kernelRun0_A.sl.v11352, kernelRun0_A.sl.v11350, kernelRun0_A.sl.v11349, kernelRun0_A.sl.v11348, kernelRun0_A.sl.v11346, kernelRun0_A.sl.v11361, kernelRun0_A.sl.v11359, kernelRun0_A.sl.v11356, kernelRun0_A.sl.v11409, kernelRun0_A.sl.v11408, kernelRun0_A.sl.v11406, kernelRun0_A.sl.v11404, kernelRun0_A.sl.v11402, kernelRun0_A.sl.v11397, kernelRun0_A.sl.v11394, kernelRun0_A.sl.v11392, kernelRun0_A.sl.v11391, kernelRun0_A.sl.v11390, kernelRun0_A.sl.v11388, kernelRun0_A.sl.v11403, kernelRun0_A.sl.v11401, kernelRun0_A.sl.v11398, kernelRun0_A.sl.v11412, kernelRun0_A.sl.v11411]
  generalize he : (kernelRun0_A.sl.v11345 (F := Ideal) c i arg2 harg2 arg8 harg8 arg9 harg9 arg17 arg19 x1 x7 x8) = e
  generalize ho : (kernelRun0_A.sl.v11387 (F := Ideal) c i arg2 harg2 arg8 harg8 arg9 harg9 arg17 arg19 x1 x7 x8) = o
  rw [rd37] at he
  rw [rd38] at ho
  subst he ho
  rfl

/-- The stored block of rows 2 and pair 1 of key head 1: two tiles' results. -/
theorem pc_2_1_1 : (kernelRun0_A.sl.v11423 (F := Ideal) c i arg2 harg2 arg3 harg3 arg8 harg8 arg9 harg9 arg10 harg10 arg17 arg18 arg19 x1 x2 x7 x8 x9) =
    put1 (truncf .bf16 (tileE (qAt arg8 harg8 x7 256 256 (by decide)) (kAt192 arg9 harg9 x8 128 128 (by decide)) (kernelRun0_A.sl.v9867 (F := Ideal) c arg2 harg2 arg17 x1)
      (kernelRun0_A.sl.v11353 (F := Ideal) c arg10 harg10 arg18 x9) (kernelRun0_A.sl.v9151 (F := Ideal) c arg3 harg3 x2)) bitsLt_bf16_f32)
      (truncf .bf16 (tileO (qAt arg8 harg8 x7 320 256 (by decide)) (kAt192 arg9 harg9 x8 192 128 (by decide)) (kernelRun0_A.sl.v9867 (F := Ideal) c arg2 harg2 arg17 x1)
      (kernelRun0_A.sl.v11353 (F := Ideal) c arg10 harg10 arg18 x9) (kernelRun0_A.sl.v9151 (F := Ideal) c arg3 harg3 x2)) bitsLt_bf16_f32) := by
  simp only [kernelRun0_A.sl.v11423, kernelRun0_A.sl.v11422, kernelRun0_A.sl.v11419, kernelRun0_A.sl.v11416, kernelRun0_A.sl.v11405, kernelRun0_A.sl.v11362, kernelRun0_A.sl.v11360, kernelRun0_A.sl.v11355, kernelRun0_A.sl.v11352, kernelRun0_A.sl.v11350, kernelRun0_A.sl.v11349, kernelRun0_A.sl.v11348, kernelRun0_A.sl.v11346, kernelRun0_A.sl.v11361, kernelRun0_A.sl.v11359, kernelRun0_A.sl.v11356, kernelRun0_A.sl.v11418, kernelRun0_A.sl.v11417, kernelRun0_A.sl.v11406, kernelRun0_A.sl.v11404, kernelRun0_A.sl.v11402, kernelRun0_A.sl.v11397, kernelRun0_A.sl.v11394, kernelRun0_A.sl.v11392, kernelRun0_A.sl.v11391, kernelRun0_A.sl.v11390, kernelRun0_A.sl.v11388, kernelRun0_A.sl.v11403, kernelRun0_A.sl.v11401, kernelRun0_A.sl.v11398, kernelRun0_A.sl.v11421, kernelRun0_A.sl.v11420]
  generalize he : (kernelRun0_A.sl.v11345 (F := Ideal) c i arg2 harg2 arg8 harg8 arg9 harg9 arg17 arg19 x1 x7 x8) = e
  generalize ho : (kernelRun0_A.sl.v11387 (F := Ideal) c i arg2 harg2 arg8 harg8 arg9 harg9 arg17 arg19 x1 x7 x8) = o
  rw [rd37] at he
  rw [rd38] at ho
  subst he ho
  rfl

/-- The stored block of rows 3 and pair 0 of key head 0: two tiles' results. -/
theorem pc_3_0_0 : (kernelRun0_A.sl.v3050 (F := Ideal) c i arg2 harg2 arg3 harg3 arg8 harg8 arg9 harg9 arg10 harg10 arg17 arg18 arg19 x1 x2 x7 x8 x9) =
    put0 (truncf .bf16 (tileE (qAt arg8 harg8 x7 384 0 (by decide)) (kAt192 arg9 harg9 x8 256 0 (by decide)) (kernelRun0_A.sl.v5257 (F := Ideal) c arg2 harg2 arg17 x1)
      (kernelRun0_A.sl.v2751 (F := Ideal) c arg10 harg10 arg18 x9) (kernelRun0_A.sl.v259 (F := Ideal) c arg3 harg3 x2)) bitsLt_bf16_f32)
      (truncf .bf16 (tileO (qAt arg8 harg8 x7 448 0 (by decide)) (kAt192 arg9 harg9 x8 320 0 (by decide)) (kernelRun0_A.sl.v5257 (F := Ideal) c arg2 harg2 arg17 x1)
      (kernelRun0_A.sl.v2751 (F := Ideal) c arg10 harg10 arg18 x9) (kernelRun0_A.sl.v259 (F := Ideal) c arg3 harg3 x2)) bitsLt_bf16_f32) := by
  simp only [kernelRun0_A.sl.v3050, kernelRun0_A.sl.v3049, kernelRun0_A.sl.v3046, kernelRun0_A.sl.v3043, kernelRun0_A.sl.v3041, kernelRun0_A.sl.v2760, kernelRun0_A.sl.v2758, kernelRun0_A.sl.v2753, kernelRun0_A.sl.v2750, kernelRun0_A.sl.v2748, kernelRun0_A.sl.v2747, kernelRun0_A.sl.v2746, kernelRun0_A.sl.v2744, kernelRun0_A.sl.v2759, kernelRun0_A.sl.v2757, kernelRun0_A.sl.v2754, kernelRun0_A.sl.v3045, kernelRun0_A.sl.v3044, kernelRun0_A.sl.v3042, kernelRun0_A.sl.v3040, kernelRun0_A.sl.v3038, kernelRun0_A.sl.v3033, kernelRun0_A.sl.v3030, kernelRun0_A.sl.v3028, kernelRun0_A.sl.v3027, kernelRun0_A.sl.v3026, kernelRun0_A.sl.v3024, kernelRun0_A.sl.v3039, kernelRun0_A.sl.v3037, kernelRun0_A.sl.v3034, kernelRun0_A.sl.v3048, kernelRun0_A.sl.v3047]
  generalize he : (kernelRun0_A.sl.v2743 (F := Ideal) c i arg2 harg2 arg8 harg8 arg9 harg9 arg17 arg19 x1 x7 x8) = e
  generalize ho : (kernelRun0_A.sl.v3023 (F := Ideal) c i arg2 harg2 arg8 harg8 arg9 harg9 arg17 arg19 x1 x7 x8) = o
  rw [rd7] at he
  rw [rd8] at ho
  subst he ho
  rfl

/-- The stored block of rows 3 and pair 1 of key head 0: two tiles' results. -/
theorem pc_3_0_1 : (kernelRun0_A.sl.v3059 (F := Ideal) c i arg2 harg2 arg3 harg3 arg8 harg8 arg9 harg9 arg10 harg10 arg17 arg18 arg19 x1 x2 x7 x8 x9) =
    put1 (truncf .bf16 (tileE (qAt arg8 harg8 x7 384 0 (by decide)) (kAt192 arg9 harg9 x8 256 0 (by decide)) (kernelRun0_A.sl.v5257 (F := Ideal) c arg2 harg2 arg17 x1)
      (kernelRun0_A.sl.v2751 (F := Ideal) c arg10 harg10 arg18 x9) (kernelRun0_A.sl.v259 (F := Ideal) c arg3 harg3 x2)) bitsLt_bf16_f32)
      (truncf .bf16 (tileO (qAt arg8 harg8 x7 448 0 (by decide)) (kAt192 arg9 harg9 x8 320 0 (by decide)) (kernelRun0_A.sl.v5257 (F := Ideal) c arg2 harg2 arg17 x1)
      (kernelRun0_A.sl.v2751 (F := Ideal) c arg10 harg10 arg18 x9) (kernelRun0_A.sl.v259 (F := Ideal) c arg3 harg3 x2)) bitsLt_bf16_f32) := by
  simp only [kernelRun0_A.sl.v3059, kernelRun0_A.sl.v3058, kernelRun0_A.sl.v3055, kernelRun0_A.sl.v3052, kernelRun0_A.sl.v3041, kernelRun0_A.sl.v2760, kernelRun0_A.sl.v2758, kernelRun0_A.sl.v2753, kernelRun0_A.sl.v2750, kernelRun0_A.sl.v2748, kernelRun0_A.sl.v2747, kernelRun0_A.sl.v2746, kernelRun0_A.sl.v2744, kernelRun0_A.sl.v2759, kernelRun0_A.sl.v2757, kernelRun0_A.sl.v2754, kernelRun0_A.sl.v3054, kernelRun0_A.sl.v3053, kernelRun0_A.sl.v3042, kernelRun0_A.sl.v3040, kernelRun0_A.sl.v3038, kernelRun0_A.sl.v3033, kernelRun0_A.sl.v3030, kernelRun0_A.sl.v3028, kernelRun0_A.sl.v3027, kernelRun0_A.sl.v3026, kernelRun0_A.sl.v3024, kernelRun0_A.sl.v3039, kernelRun0_A.sl.v3037, kernelRun0_A.sl.v3034, kernelRun0_A.sl.v3057, kernelRun0_A.sl.v3056]
  generalize he : (kernelRun0_A.sl.v2743 (F := Ideal) c i arg2 harg2 arg8 harg8 arg9 harg9 arg17 arg19 x1 x7 x8) = e
  generalize ho : (kernelRun0_A.sl.v3023 (F := Ideal) c i arg2 harg2 arg8 harg8 arg9 harg9 arg17 arg19 x1 x7 x8) = o
  rw [rd7] at he
  rw [rd8] at ho
  subst he ho
  rfl

/-- The stored block of rows 3 and pair 0 of key head 1: two tiles' results. -/
theorem pc_3_1_0 : (kernelRun0_A.sl.v12047 (F := Ideal) c i arg2 harg2 arg3 harg3 arg8 harg8 arg9 harg9 arg10 harg10 arg17 arg18 arg19 x1 x2 x7 x8 x9) =
    put0 (truncf .bf16 (tileE (qAt arg8 harg8 x7 384 256 (by decide)) (kAt192 arg9 harg9 x8 256 128 (by decide)) (kernelRun0_A.sl.v9867 (F := Ideal) c arg2 harg2 arg17 x1)
      (kernelRun0_A.sl.v11748 (F := Ideal) c arg10 harg10 arg18 x9) (kernelRun0_A.sl.v9151 (F := Ideal) c arg3 harg3 x2)) bitsLt_bf16_f32)
      (truncf .bf16 (tileO (qAt arg8 harg8 x7 448 256 (by decide)) (kAt192 arg9 harg9 x8 320 128 (by decide)) (kernelRun0_A.sl.v9867 (F := Ideal) c arg2 harg2 arg17 x1)
      (kernelRun0_A.sl.v11748 (F := Ideal) c arg10 harg10 arg18 x9) (kernelRun0_A.sl.v9151 (F := Ideal) c arg3 harg3 x2)) bitsLt_bf16_f32) := by
  simp only [kernelRun0_A.sl.v12047, kernelRun0_A.sl.v12046, kernelRun0_A.sl.v12043, kernelRun0_A.sl.v12040, kernelRun0_A.sl.v12038, kernelRun0_A.sl.v11757, kernelRun0_A.sl.v11755, kernelRun0_A.sl.v11750, kernelRun0_A.sl.v11747, kernelRun0_A.sl.v11745, kernelRun0_A.sl.v11744, kernelRun0_A.sl.v11743, kernelRun0_A.sl.v11741, kernelRun0_A.sl.v11756, kernelRun0_A.sl.v11754, kernelRun0_A.sl.v11751, kernelRun0_A.sl.v12042, kernelRun0_A.sl.v12041, kernelRun0_A.sl.v12039, kernelRun0_A.sl.v12037, kernelRun0_A.sl.v12035, kernelRun0_A.sl.v12030, kernelRun0_A.sl.v12027, kernelRun0_A.sl.v12025, kernelRun0_A.sl.v12024, kernelRun0_A.sl.v12023, kernelRun0_A.sl.v12021, kernelRun0_A.sl.v12036, kernelRun0_A.sl.v12034, kernelRun0_A.sl.v12031, kernelRun0_A.sl.v12045, kernelRun0_A.sl.v12044]
  generalize he : (kernelRun0_A.sl.v11740 (F := Ideal) c i arg2 harg2 arg8 harg8 arg9 harg9 arg17 arg19 x1 x7 x8) = e
  generalize ho : (kernelRun0_A.sl.v12020 (F := Ideal) c i arg2 harg2 arg8 harg8 arg9 harg9 arg17 arg19 x1 x7 x8) = o
  rw [rd39] at he
  rw [rd40] at ho
  subst he ho
  rfl

/-- The stored block of rows 3 and pair 1 of key head 1: two tiles' results. -/
theorem pc_3_1_1 : (kernelRun0_A.sl.v12056 (F := Ideal) c i arg2 harg2 arg3 harg3 arg8 harg8 arg9 harg9 arg10 harg10 arg17 arg18 arg19 x1 x2 x7 x8 x9) =
    put1 (truncf .bf16 (tileE (qAt arg8 harg8 x7 384 256 (by decide)) (kAt192 arg9 harg9 x8 256 128 (by decide)) (kernelRun0_A.sl.v9867 (F := Ideal) c arg2 harg2 arg17 x1)
      (kernelRun0_A.sl.v11748 (F := Ideal) c arg10 harg10 arg18 x9) (kernelRun0_A.sl.v9151 (F := Ideal) c arg3 harg3 x2)) bitsLt_bf16_f32)
      (truncf .bf16 (tileO (qAt arg8 harg8 x7 448 256 (by decide)) (kAt192 arg9 harg9 x8 320 128 (by decide)) (kernelRun0_A.sl.v9867 (F := Ideal) c arg2 harg2 arg17 x1)
      (kernelRun0_A.sl.v11748 (F := Ideal) c arg10 harg10 arg18 x9) (kernelRun0_A.sl.v9151 (F := Ideal) c arg3 harg3 x2)) bitsLt_bf16_f32) := by
  simp only [kernelRun0_A.sl.v12056, kernelRun0_A.sl.v12055, kernelRun0_A.sl.v12052, kernelRun0_A.sl.v12049, kernelRun0_A.sl.v12038, kernelRun0_A.sl.v11757, kernelRun0_A.sl.v11755, kernelRun0_A.sl.v11750, kernelRun0_A.sl.v11747, kernelRun0_A.sl.v11745, kernelRun0_A.sl.v11744, kernelRun0_A.sl.v11743, kernelRun0_A.sl.v11741, kernelRun0_A.sl.v11756, kernelRun0_A.sl.v11754, kernelRun0_A.sl.v11751, kernelRun0_A.sl.v12051, kernelRun0_A.sl.v12050, kernelRun0_A.sl.v12039, kernelRun0_A.sl.v12037, kernelRun0_A.sl.v12035, kernelRun0_A.sl.v12030, kernelRun0_A.sl.v12027, kernelRun0_A.sl.v12025, kernelRun0_A.sl.v12024, kernelRun0_A.sl.v12023, kernelRun0_A.sl.v12021, kernelRun0_A.sl.v12036, kernelRun0_A.sl.v12034, kernelRun0_A.sl.v12031, kernelRun0_A.sl.v12054, kernelRun0_A.sl.v12053]
  generalize he : (kernelRun0_A.sl.v11740 (F := Ideal) c i arg2 harg2 arg8 harg8 arg9 harg9 arg17 arg19 x1 x7 x8) = e
  generalize ho : (kernelRun0_A.sl.v12020 (F := Ideal) c i arg2 harg2 arg8 harg8 arg9 harg9 arg17 arg19 x1 x7 x8) = o
  rw [rd39] at he
  rw [rd40] at ho
  subst he ho
  rfl

/-- The stored block of rows 4 and pair 0 of key head 0: two tiles' results. -/
theorem pc_4_0_0 : (k0_pay497 k0_pay7 (kernelRun0_A.sl.v3102 (F := Ideal) c i arg2 harg2 arg3 harg3 arg8 harg8 arg9 harg9 arg10 harg10 arg17 arg18 arg19 x1 x2 x7 x8 x9) (kernelRun0_A.sl.v3386 (F := Ideal) c i arg2 harg2 arg3 harg3 arg8 harg8 arg9 harg9 arg10 harg10 arg17 arg18 arg19 x1 x2 x7 x8 x9)) =
    put0 (truncf .bf16 (tileE (qAt arg8 harg8 x7 512 0 (by decide)) (kAt192 arg9 harg9 x8 384 0 (by decide)) (kernelRun0_A.sl.v5257 (F := Ideal) c arg2 harg2 arg17 x1)
      (kernelRun0_A.sl.v3093 (F := Ideal) c arg10 harg10 arg18 x9) (kernelRun0_A.sl.v259 (F := Ideal) c arg3 harg3 x2)) bitsLt_bf16_f32)
      (truncf .bf16 (tileO (qAt arg8 harg8 x7 576 0 (by decide)) (kAt192 arg9 harg9 x8 448 0 (by decide)) (kernelRun0_A.sl.v5257 (F := Ideal) c arg2 harg2 arg17 x1)
      (kernelRun0_A.sl.v3093 (F := Ideal) c arg10 harg10 arg18 x9) (kernelRun0_A.sl.v259 (F := Ideal) c arg3 harg3 x2)) bitsLt_bf16_f32) := by
  simp only [kernelRun0_A.sl.v3102, kernelRun0_A.sl.v3100, kernelRun0_A.sl.v3095, kernelRun0_A.sl.v3092, kernelRun0_A.sl.v3090, kernelRun0_A.sl.v3089, kernelRun0_A.sl.v3088, kernelRun0_A.sl.v3086, kernelRun0_A.sl.v3101, kernelRun0_A.sl.v3099, kernelRun0_A.sl.v3096, kernelRun0_A.sl.v3386, kernelRun0_A.sl.v3384, kernelRun0_A.sl.v3379, kernelRun0_A.sl.v3376, kernelRun0_A.sl.v3374, kernelRun0_A.sl.v3373, kernelRun0_A.sl.v3372, kernelRun0_A.sl.v3370, kernelRun0_A.sl.v3385, kernelRun0_A.sl.v3383, kernelRun0_A.sl.v3380]
  generalize he : (kernelRun0_A.sl.v3085 (F := Ideal) c i arg2 harg2 arg8 harg8 arg9 harg9 arg17 arg19 x1 x7 x8) = e
  generalize ho : (kernelRun0_A.sl.v3369 (F := Ideal) c i arg2 harg2 arg8 harg8 arg9 harg9 arg17 arg19 x1 x7 x8) = o
  rw [rd9] at he
  rw [rd10] at ho
  subst he ho
  rfl

/-- The stored block of rows 4 and pair 1 of key head 0: two tiles' results. -/
theorem pc_4_0_1 : (k0_pay498 k0_pay7 (kernelRun0_A.sl.v3102 (F := Ideal) c i arg2 harg2 arg3 harg3 arg8 harg8 arg9 harg9 arg10 harg10 arg17 arg18 arg19 x1 x2 x7 x8 x9) (kernelRun0_A.sl.v3386 (F := Ideal) c i arg2 harg2 arg3 harg3 arg8 harg8 arg9 harg9 arg10 harg10 arg17 arg18 arg19 x1 x2 x7 x8 x9)) =
    put1 (truncf .bf16 (tileE (qAt arg8 harg8 x7 512 0 (by decide)) (kAt192 arg9 harg9 x8 384 0 (by decide)) (kernelRun0_A.sl.v5257 (F := Ideal) c arg2 harg2 arg17 x1)
      (kernelRun0_A.sl.v3093 (F := Ideal) c arg10 harg10 arg18 x9) (kernelRun0_A.sl.v259 (F := Ideal) c arg3 harg3 x2)) bitsLt_bf16_f32)
      (truncf .bf16 (tileO (qAt arg8 harg8 x7 576 0 (by decide)) (kAt192 arg9 harg9 x8 448 0 (by decide)) (kernelRun0_A.sl.v5257 (F := Ideal) c arg2 harg2 arg17 x1)
      (kernelRun0_A.sl.v3093 (F := Ideal) c arg10 harg10 arg18 x9) (kernelRun0_A.sl.v259 (F := Ideal) c arg3 harg3 x2)) bitsLt_bf16_f32) := by
  simp only [kernelRun0_A.sl.v3102, kernelRun0_A.sl.v3100, kernelRun0_A.sl.v3095, kernelRun0_A.sl.v3092, kernelRun0_A.sl.v3090, kernelRun0_A.sl.v3089, kernelRun0_A.sl.v3088, kernelRun0_A.sl.v3086, kernelRun0_A.sl.v3101, kernelRun0_A.sl.v3099, kernelRun0_A.sl.v3096, kernelRun0_A.sl.v3386, kernelRun0_A.sl.v3384, kernelRun0_A.sl.v3379, kernelRun0_A.sl.v3376, kernelRun0_A.sl.v3374, kernelRun0_A.sl.v3373, kernelRun0_A.sl.v3372, kernelRun0_A.sl.v3370, kernelRun0_A.sl.v3385, kernelRun0_A.sl.v3383, kernelRun0_A.sl.v3380]
  generalize he : (kernelRun0_A.sl.v3085 (F := Ideal) c i arg2 harg2 arg8 harg8 arg9 harg9 arg17 arg19 x1 x7 x8) = e
  generalize ho : (kernelRun0_A.sl.v3369 (F := Ideal) c i arg2 harg2 arg8 harg8 arg9 harg9 arg17 arg19 x1 x7 x8) = o
  rw [rd9] at he
  rw [rd10] at ho
  subst he ho
  rfl

/-- The stored block of rows 4 and pair 0 of key head 1: two tiles' results. -/
theorem pc_4_1_0 : (kernelRun0_A.sl.v12393 (F := Ideal) c i arg2 harg2 arg3 harg3 arg8 harg8 arg9 harg9 arg10 harg10 arg17 arg18 arg19 x1 x2 x7 x8 x9) =
    put0 (truncf .bf16 (tileE (qAt arg8 harg8 x7 512 256 (by decide)) (kAt192 arg9 harg9 x8 384 128 (by decide)) (kernelRun0_A.sl.v9867 (F := Ideal) c arg2 harg2 arg17 x1)
      (kernelRun0_A.sl.v12090 (F := Ideal) c arg10 harg10 arg18 x9) (kernelRun0_A.sl.v9151 (F := Ideal) c arg3 harg3 x2)) bitsLt_bf16_f32)
      (truncf .bf16 (tileO (qAt arg8 harg8 x7 576 256 (by decide)) (kAt192 arg9 harg9 x8 448 128 (by decide)) (kernelRun0_A.sl.v9867 (F := Ideal) c arg2 harg2 arg17 x1)
      (kernelRun0_A.sl.v12090 (F := Ideal) c arg10 harg10 arg18 x9) (kernelRun0_A.sl.v9151 (F := Ideal) c arg3 harg3 x2)) bitsLt_bf16_f32) := by
  simp only [kernelRun0_A.sl.v12393, kernelRun0_A.sl.v12392, kernelRun0_A.sl.v12389, kernelRun0_A.sl.v12386, kernelRun0_A.sl.v12384, kernelRun0_A.sl.v12099, kernelRun0_A.sl.v12097, kernelRun0_A.sl.v12092, kernelRun0_A.sl.v12089, kernelRun0_A.sl.v12087, kernelRun0_A.sl.v12086, kernelRun0_A.sl.v12085, kernelRun0_A.sl.v12083, kernelRun0_A.sl.v12098, kernelRun0_A.sl.v12096, kernelRun0_A.sl.v12093, kernelRun0_A.sl.v12388, kernelRun0_A.sl.v12387, kernelRun0_A.sl.v12385, kernelRun0_A.sl.v12383, kernelRun0_A.sl.v12381, kernelRun0_A.sl.v12376, kernelRun0_A.sl.v12373, kernelRun0_A.sl.v12371, kernelRun0_A.sl.v12370, kernelRun0_A.sl.v12369, kernelRun0_A.sl.v12367, kernelRun0_A.sl.v12382, kernelRun0_A.sl.v12380, kernelRun0_A.sl.v12377, kernelRun0_A.sl.v12391, kernelRun0_A.sl.v12390]
  generalize he : (kernelRun0_A.sl.v12082 (F := Ideal) c i arg2 harg2 arg8 harg8 arg9 harg9 arg17 arg19 x1 x7 x8) = e
  generalize ho : (kernelRun0_A.sl.v12366 (F := Ideal) c i arg2 harg2 arg8 harg8 arg9 harg9 arg17 arg19 x1 x7 x8) = o
  rw [rd41] at he
  rw [rd42] at ho
  subst he ho
  rfl

/-- The stored block of rows 4 and pair 1 of key head 1: two tiles' results. -/
theorem pc_4_1_1 : (kernelRun0_A.sl.v12402 (F := Ideal) c i arg2 harg2 arg3 harg3 arg8 harg8 arg9 harg9 arg10 harg10 arg17 arg18 arg19 x1 x2 x7 x8 x9) =
    put1 (truncf .bf16 (tileE (qAt arg8 harg8 x7 512 256 (by decide)) (kAt192 arg9 harg9 x8 384 128 (by decide)) (kernelRun0_A.sl.v9867 (F := Ideal) c arg2 harg2 arg17 x1)
      (kernelRun0_A.sl.v12090 (F := Ideal) c arg10 harg10 arg18 x9) (kernelRun0_A.sl.v9151 (F := Ideal) c arg3 harg3 x2)) bitsLt_bf16_f32)
      (truncf .bf16 (tileO (qAt arg8 harg8 x7 576 256 (by decide)) (kAt192 arg9 harg9 x8 448 128 (by decide)) (kernelRun0_A.sl.v9867 (F := Ideal) c arg2 harg2 arg17 x1)
      (kernelRun0_A.sl.v12090 (F := Ideal) c arg10 harg10 arg18 x9) (kernelRun0_A.sl.v9151 (F := Ideal) c arg3 harg3 x2)) bitsLt_bf16_f32) := by
  simp only [kernelRun0_A.sl.v12402, kernelRun0_A.sl.v12401, kernelRun0_A.sl.v12398, kernelRun0_A.sl.v12395, kernelRun0_A.sl.v12384, kernelRun0_A.sl.v12099, kernelRun0_A.sl.v12097, kernelRun0_A.sl.v12092, kernelRun0_A.sl.v12089, kernelRun0_A.sl.v12087, kernelRun0_A.sl.v12086, kernelRun0_A.sl.v12085, kernelRun0_A.sl.v12083, kernelRun0_A.sl.v12098, kernelRun0_A.sl.v12096, kernelRun0_A.sl.v12093, kernelRun0_A.sl.v12397, kernelRun0_A.sl.v12396, kernelRun0_A.sl.v12385, kernelRun0_A.sl.v12383, kernelRun0_A.sl.v12381, kernelRun0_A.sl.v12376, kernelRun0_A.sl.v12373, kernelRun0_A.sl.v12371, kernelRun0_A.sl.v12370, kernelRun0_A.sl.v12369, kernelRun0_A.sl.v12367, kernelRun0_A.sl.v12382, kernelRun0_A.sl.v12380, kernelRun0_A.sl.v12377, kernelRun0_A.sl.v12400, kernelRun0_A.sl.v12399]
  generalize he : (kernelRun0_A.sl.v12082 (F := Ideal) c i arg2 harg2 arg8 harg8 arg9 harg9 arg17 arg19 x1 x7 x8) = e
  generalize ho : (kernelRun0_A.sl.v12366 (F := Ideal) c i arg2 harg2 arg8 harg8 arg9 harg9 arg17 arg19 x1 x7 x8) = o
  rw [rd41] at he
  rw [rd42] at ho
  subst he ho
  rfl

/-- The stored block of rows 5 and pair 0 of key head 0: two tiles' results. -/
theorem pc_5_0_0 : (kernelRun0_A.sl.v3882 (F := Ideal) c i arg2 harg2 arg3 harg3 arg8 harg8 arg9 harg9 arg10 harg10 arg17 arg18 arg19 x1 x2 x7 x8 x9) =
    put0 (truncf .bf16 (tileE (qAt arg8 harg8 x7 640 0 (by decide)) (kAt192 arg9 harg9 x8 512 0 (by decide)) (kernelRun0_A.sl.v5257 (F := Ideal) c arg2 harg2 arg17 x1)
      (kernelRun0_A.sl.v3628 (F := Ideal) c arg10 harg10 arg18 x9) (kernelRun0_A.sl.v259 (F := Ideal) c arg3 harg3 x2)) bitsLt_bf16_f32)
      (truncf .bf16 (tileO (qAt arg8 harg8 x7 704 0 (by decide)) (kAt192 arg9 harg9 x8 576 0 (by decide)) (kernelRun0_A.sl.v5257 (F := Ideal) c arg2 harg2 arg17 x1)
      (kernelRun0_A.sl.v3628 (F := Ideal) c arg10 harg10 arg18 x9) (kernelRun0_A.sl.v259 (F := Ideal) c arg3 harg3 x2)) bitsLt_bf16_f32) := by
  simp only [kernelRun0_A.sl.v3882, kernelRun0_A.sl.v3881, kernelRun0_A.sl.v3878, kernelRun0_A.sl.v3875, kernelRun0_A.sl.v3873, kernelRun0_A.sl.v3637, kernelRun0_A.sl.v3635, kernelRun0_A.sl.v3630, kernelRun0_A.sl.v3627, kernelRun0_A.sl.v3625, kernelRun0_A.sl.v3624, kernelRun0_A.sl.v3623, kernelRun0_A.sl.v3621, kernelRun0_A.sl.v3636, kernelRun0_A.sl.v3634, kernelRun0_A.sl.v3631, kernelRun0_A.sl.v3877, kernelRun0_A.sl.v3876, kernelRun0_A.sl.v3874, kernelRun0_A.sl.v3872, kernelRun0_A.sl.v3870, kernelRun0_A.sl.v3865, kernelRun0_A.sl.v3862, kernelRun0_A.sl.v3860, kernelRun0_A.sl.v3859, kernelRun0_A.sl.v3858, kernelRun0_A.sl.v3856, kernelRun0_A.sl.v3871, kernelRun0_A.sl.v3869, kernelRun0_A.sl.v3866, kernelRun0_A.sl.v3880, kernelRun0_A.sl.v3879]
  generalize he : (kernelRun0_A.sl.v3620 (F := Ideal) c i arg2 harg2 arg8 harg8 arg9 harg9 arg17 arg19 x1 x7 x8) = e
  generalize ho : (kernelRun0_A.sl.v3855 (F := Ideal) c i arg2 harg2 arg8 harg8 arg9 harg9 arg17 arg19 x1 x7 x8) = o
  rw [rd11] at he
  rw [rd12] at ho
  subst he ho
  rfl

/-- The stored block of rows 5 and pair 1 of key head 0: two tiles' results. -/
theorem pc_5_0_1 : (k0_pay559 k0_pay7 (kernelRun0_A.sl.v3873 (F := Ideal) c i arg2 harg2 arg3 harg3 arg8 harg8 arg9 harg9 arg10 harg10 arg17 arg18 arg19 x1 x2 x7 x8 x9) (kernelRun0_A.sl.v3874 (F := Ideal) c i arg2 harg2 arg3 harg3 arg8 harg8 arg9 harg9 arg10 harg10 arg17 arg18 arg19 x1 x2 x7 x8 x9)) =
    put1 (truncf .bf16 (tileE (qAt arg8 harg8 x7 640 0 (by decide)) (kAt192 arg9 harg9 x8 512 0 (by decide)) (kernelRun0_A.sl.v5257 (F := Ideal) c arg2 harg2 arg17 x1)
      (kernelRun0_A.sl.v3628 (F := Ideal) c arg10 harg10 arg18 x9) (kernelRun0_A.sl.v259 (F := Ideal) c arg3 harg3 x2)) bitsLt_bf16_f32)
      (truncf .bf16 (tileO (qAt arg8 harg8 x7 704 0 (by decide)) (kAt192 arg9 harg9 x8 576 0 (by decide)) (kernelRun0_A.sl.v5257 (F := Ideal) c arg2 harg2 arg17 x1)
      (kernelRun0_A.sl.v3628 (F := Ideal) c arg10 harg10 arg18 x9) (kernelRun0_A.sl.v259 (F := Ideal) c arg3 harg3 x2)) bitsLt_bf16_f32) := by
  simp only [kernelRun0_A.sl.v3873, kernelRun0_A.sl.v3637, kernelRun0_A.sl.v3635, kernelRun0_A.sl.v3630, kernelRun0_A.sl.v3627, kernelRun0_A.sl.v3625, kernelRun0_A.sl.v3624, kernelRun0_A.sl.v3623, kernelRun0_A.sl.v3621, kernelRun0_A.sl.v3636, kernelRun0_A.sl.v3634, kernelRun0_A.sl.v3631, kernelRun0_A.sl.v3874, kernelRun0_A.sl.v3872, kernelRun0_A.sl.v3870, kernelRun0_A.sl.v3865, kernelRun0_A.sl.v3862, kernelRun0_A.sl.v3860, kernelRun0_A.sl.v3859, kernelRun0_A.sl.v3858, kernelRun0_A.sl.v3856, kernelRun0_A.sl.v3871, kernelRun0_A.sl.v3869, kernelRun0_A.sl.v3866]
  generalize he : (kernelRun0_A.sl.v3620 (F := Ideal) c i arg2 harg2 arg8 harg8 arg9 harg9 arg17 arg19 x1 x7 x8) = e
  generalize ho : (kernelRun0_A.sl.v3855 (F := Ideal) c i arg2 harg2 arg8 harg8 arg9 harg9 arg17 arg19 x1 x7 x8) = o
  rw [rd11] at he
  rw [rd12] at ho
  subst he ho
  rfl

/-- The stored block of rows 5 and pair 0 of key head 1: two tiles' results. -/
theorem pc_5_1_0 : (k0_pay1873 k0_pay7 (kernelRun0_A.sl.v12871 (F := Ideal) c i arg2 harg2 arg3 harg3 arg8 harg8 arg9 harg9 arg10 harg10 arg17 arg18 arg19 x1 x2 x7 x8 x9) (kernelRun0_A.sl.v12872 (F := Ideal) c i arg2 harg2 arg3 harg3 arg8 harg8 arg9 harg9 arg10 harg10 arg17 arg18 arg19 x1 x2 x7 x8 x9)) =
    put0 (truncf .bf16 (tileE (qAt arg8 harg8 x7 640 256 (by decide)) (kAt192 arg9 harg9 x8 512 128 (by decide)) (kernelRun0_A.sl.v9867 (F := Ideal) c arg2 harg2 arg17 x1)
      (kernelRun0_A.sl.v12625 (F := Ideal) c arg10 harg10 arg18 x9) (kernelRun0_A.sl.v9151 (F := Ideal) c arg3 harg3 x2)) bitsLt_bf16_f32)
      (truncf .bf16 (tileO (qAt arg8 harg8 x7 704 256 (by decide)) (kAt192 arg9 harg9 x8 576 128 (by decide)) (kernelRun0_A.sl.v9867 (F := Ideal) c arg2 harg2 arg17 x1)
      (kernelRun0_A.sl.v12625 (F := Ideal) c arg10 harg10 arg18 x9) (kernelRun0_A.sl.v9151 (F := Ideal) c arg3 harg3 x2)) bitsLt_bf16_f32) := by
  simp only [kernelRun0_A.sl.v12871, kernelRun0_A.sl.v12869, kernelRun0_A.sl.v12867, kernelRun0_A.sl.v12862, kernelRun0_A.sl.v12859, kernelRun0_A.sl.v12857, kernelRun0_A.sl.v12856, kernelRun0_A.sl.v12855, kernelRun0_A.sl.v12853, kernelRun0_A.sl.v12868, kernelRun0_A.sl.v12866, kernelRun0_A.sl.v12863, kernelRun0_A.sl.v12872, kernelRun0_A.sl.v12870, kernelRun0_A.sl.v12634, kernelRun0_A.sl.v12632, kernelRun0_A.sl.v12627, kernelRun0_A.sl.v12624, kernelRun0_A.sl.v12622, kernelRun0_A.sl.v12621, kernelRun0_A.sl.v12620, kernelRun0_A.sl.v12618, kernelRun0_A.sl.v12633, kernelRun0_A.sl.v12631, kernelRun0_A.sl.v12628]
  generalize he : (kernelRun0_A.sl.v12617 (F := Ideal) c i arg2 harg2 arg8 harg8 arg9 harg9 arg17 arg19 x1 x7 x8) = e
  generalize ho : (kernelRun0_A.sl.v12852 (F := Ideal) c i arg2 harg2 arg8 harg8 arg9 harg9 arg17 arg19 x1 x7 x8) = o
  rw [rd43] at he
  rw [rd44] at ho
  subst he ho
  rfl

/-- The stored block of rows 5 and pair 1 of key head 1: two tiles' results. -/
theorem pc_5_1_1 : (k0_pay1874 k0_pay7 (kernelRun0_A.sl.v12870 (F := Ideal) c i arg2 harg2 arg3 harg3 arg8 harg8 arg9 harg9 arg10 harg10 arg17 arg18 arg19 x1 x2 x7 x8 x9) (kernelRun0_A.sl.v12871 (F := Ideal) c i arg2 harg2 arg3 harg3 arg8 harg8 arg9 harg9 arg10 harg10 arg17 arg18 arg19 x1 x2 x7 x8 x9)) =
    put1 (truncf .bf16 (tileE (qAt arg8 harg8 x7 640 256 (by decide)) (kAt192 arg9 harg9 x8 512 128 (by decide)) (kernelRun0_A.sl.v9867 (F := Ideal) c arg2 harg2 arg17 x1)
      (kernelRun0_A.sl.v12625 (F := Ideal) c arg10 harg10 arg18 x9) (kernelRun0_A.sl.v9151 (F := Ideal) c arg3 harg3 x2)) bitsLt_bf16_f32)
      (truncf .bf16 (tileO (qAt arg8 harg8 x7 704 256 (by decide)) (kAt192 arg9 harg9 x8 576 128 (by decide)) (kernelRun0_A.sl.v9867 (F := Ideal) c arg2 harg2 arg17 x1)
      (kernelRun0_A.sl.v12625 (F := Ideal) c arg10 harg10 arg18 x9) (kernelRun0_A.sl.v9151 (F := Ideal) c arg3 harg3 x2)) bitsLt_bf16_f32) := by
  simp only [kernelRun0_A.sl.v12870, kernelRun0_A.sl.v12634, kernelRun0_A.sl.v12632, kernelRun0_A.sl.v12627, kernelRun0_A.sl.v12624, kernelRun0_A.sl.v12622, kernelRun0_A.sl.v12621, kernelRun0_A.sl.v12620, kernelRun0_A.sl.v12618, kernelRun0_A.sl.v12633, kernelRun0_A.sl.v12631, kernelRun0_A.sl.v12628, kernelRun0_A.sl.v12871, kernelRun0_A.sl.v12869, kernelRun0_A.sl.v12867, kernelRun0_A.sl.v12862, kernelRun0_A.sl.v12859, kernelRun0_A.sl.v12857, kernelRun0_A.sl.v12856, kernelRun0_A.sl.v12855, kernelRun0_A.sl.v12853, kernelRun0_A.sl.v12868, kernelRun0_A.sl.v12866, kernelRun0_A.sl.v12863]
  generalize he : (kernelRun0_A.sl.v12617 (F := Ideal) c i arg2 harg2 arg8 harg8 arg9 harg9 arg17 arg19 x1 x7 x8) = e
  generalize ho : (kernelRun0_A.sl.v12852 (F := Ideal) c i arg2 harg2 arg8 harg8 arg9 harg9 arg17 arg19 x1 x7 x8) = o
  rw [rd43] at he
  rw [rd44] at ho
  subst he ho
  rfl

/-- The stored block of rows 6 and pair 0 of key head 0: two tiles' results. -/
theorem pc_6_0_0 : (k0_pay627 k0_pay7 (kernelRun0_A.sl.v4293 (F := Ideal) c i arg2 harg2 arg3 harg3 arg8 harg8 arg9 harg9 arg10 harg10 arg17 arg18 arg19 x1 x2 x7 x8 x9) (kernelRun0_A.sl.v4294 (F := Ideal) c i arg2 harg2 arg3 harg3 arg8 harg8 arg9 harg9 arg10 harg10 arg17 arg18 arg19 x1 x2 x7 x8 x9) (kernelRun0_A.sl.v4296 (F := Ideal) c i arg2 harg2 arg3 harg3 arg8 harg8 arg9 harg9 arg10 harg10 arg17 arg18 arg19 x1 x2 x7 x8 x9) 64#32) =
    put0 (truncf .bf16 (tileE (qAt arg8 harg8 x7 768 0 (by decide)) (kAt192 arg9 harg9 x8 640 0 (by decide)) (kernelRun0_A.sl.v5257 (F := Ideal) c arg2 harg2 arg17 x1)
      (kernelRun0_A.sl.v4132 (F := Ideal) c arg10 harg10 arg18 x9) (kernelRun0_A.sl.v259 (F := Ideal) c arg3 harg3 x2)) bitsLt_bf16_f32)
      (truncf .bf16 (tileO (qAt arg8 harg8 x7 832 0 (by decide)) (kAt192 arg9 harg9 x8 704 0 (by decide)) (kernelRun0_A.sl.v5257 (F := Ideal) c arg2 harg2 arg17 x1)
      (kernelRun0_A.sl.v4132 (F := Ideal) c arg10 harg10 arg18 x9) (kernelRun0_A.sl.v259 (F := Ideal) c arg3 harg3 x2)) bitsLt_bf16_f32) := by
  simp only [kernelRun0_A.sl.v4293, kernelRun0_A.sl.v4291, kernelRun0_A.sl.v4141, kernelRun0_A.sl.v4139, kernelRun0_A.sl.v4134, kernelRun0_A.sl.v4131, kernelRun0_A.sl.v4129, kernelRun0_A.sl.v4128, kernelRun0_A.sl.v4127, kernelRun0_A.sl.v4125, kernelRun0_A.sl.v4140, kernelRun0_A.sl.v4138, kernelRun0_A.sl.v4135, kernelRun0_A.sl.v4294, kernelRun0_A.sl.v4292, kernelRun0_A.sl.v4290, kernelRun0_A.sl.v4288, kernelRun0_A.sl.v4283, kernelRun0_A.sl.v4280, kernelRun0_A.sl.v4278, kernelRun0_A.sl.v4277, kernelRun0_A.sl.v4276, kernelRun0_A.sl.v4274, kernelRun0_A.sl.v4289, kernelRun0_A.sl.v4287, kernelRun0_A.sl.v4284, kernelRun0_A.sl.v4296, kernelRun0_A.sl.v4295]
  generalize he : (kernelRun0_A.sl.v4124 (F := Ideal) c i arg2 harg2 arg8 harg8 arg9 harg9 arg17 arg19 x1 x7 x8) = e
  generalize ho : (kernelRun0_A.sl.v4273 (F := Ideal) c i arg2 harg2 arg8 harg8 arg9 harg9 arg17 arg19 x1 x7 x8) = o
  rw [rd13] at he
  rw [rd14] at ho
  subst he ho
  rfl

/-- The stored block of rows 6 and pair 1 of key head 0: two tiles' results. -/
theorem pc_6_0_1 : (k0_pay628 k0_pay7 (kernelRun0_A.sl.v4291 (F := Ideal) c i arg2 harg2 arg3 harg3 arg8 harg8 arg9 harg9 arg10 harg10 arg17 arg18 arg19 x1 x2 x7 x8 x9) (kernelRun0_A.sl.v4292 (F := Ideal) c i arg2 harg2 arg3 harg3 arg8 harg8 arg9 harg9 arg10 harg10 arg17 arg18 arg19 x1 x2 x7 x8 x9)) =
    put1 (truncf .bf16 (tileE (qAt arg8 harg8 x7 768 0 (by decide)) (kAt192 arg9 harg9 x8 640 0 (by decide)) (kernelRun0_A.sl.v5257 (F := Ideal) c arg2 harg2 arg17 x1)
      (kernelRun0_A.sl.v4132 (F := Ideal) c arg10 harg10 arg18 x9) (kernelRun0_A.sl.v259 (F := Ideal) c arg3 harg3 x2)) bitsLt_bf16_f32)
      (truncf .bf16 (tileO (qAt arg8 harg8 x7 832 0 (by decide)) (kAt192 arg9 harg9 x8 704 0 (by decide)) (kernelRun0_A.sl.v5257 (F := Ideal) c arg2 harg2 arg17 x1)
      (kernelRun0_A.sl.v4132 (F := Ideal) c arg10 harg10 arg18 x9) (kernelRun0_A.sl.v259 (F := Ideal) c arg3 harg3 x2)) bitsLt_bf16_f32) := by
  simp only [kernelRun0_A.sl.v4291, kernelRun0_A.sl.v4141, kernelRun0_A.sl.v4139, kernelRun0_A.sl.v4134, kernelRun0_A.sl.v4131, kernelRun0_A.sl.v4129, kernelRun0_A.sl.v4128, kernelRun0_A.sl.v4127, kernelRun0_A.sl.v4125, kernelRun0_A.sl.v4140, kernelRun0_A.sl.v4138, kernelRun0_A.sl.v4135, kernelRun0_A.sl.v4292, kernelRun0_A.sl.v4290, kernelRun0_A.sl.v4288, kernelRun0_A.sl.v4283, kernelRun0_A.sl.v4280, kernelRun0_A.sl.v4278, kernelRun0_A.sl.v4277, kernelRun0_A.sl.v4276, kernelRun0_A.sl.v4274, kernelRun0_A.sl.v4289, kernelRun0_A.sl.v4287, kernelRun0_A.sl.v4284]
  generalize he : (kernelRun0_A.sl.v4124 (F := Ideal) c i arg2 harg2 arg8 harg8 arg9 harg9 arg17 arg19 x1 x7 x8) = e
  generalize ho : (kernelRun0_A.sl.v4273 (F := Ideal) c i arg2 harg2 arg8 harg8 arg9 harg9 arg17 arg19 x1 x7 x8) = o
  rw [rd13] at he
  rw [rd14] at ho
  subst he ho
  rfl

/-- The stored block of rows 6 and pair 0 of key head 1: two tiles' results. -/
theorem pc_6_1_0 : (kernelRun0_A.sl.v13297 (F := Ideal) c i arg2 harg2 arg3 harg3 arg8 harg8 arg9 harg9 arg10 harg10 arg17 arg18 arg19 x1 x2 x7 x8 x9) =
    put0 (truncf .bf16 (tileE (qAt arg8 harg8 x7 768 256 (by decide)) (kAt192 arg9 harg9 x8 640 128 (by decide)) (kernelRun0_A.sl.v9867 (F := Ideal) c arg2 harg2 arg17 x1)
      (kernelRun0_A.sl.v13129 (F := Ideal) c arg10 harg10 arg18 x9) (kernelRun0_A.sl.v9151 (F := Ideal) c arg3 harg3 x2)) bitsLt_bf16_f32)
      (truncf .bf16 (tileO (qAt arg8 harg8 x7 832 256 (by decide)) (kAt192 arg9 harg9 x8 704 128 (by decide)) (kernelRun0_A.sl.v9867 (F := Ideal) c arg2 harg2 arg17 x1)
      (kernelRun0_A.sl.v13129 (F := Ideal) c arg10 harg10 arg18 x9) (kernelRun0_A.sl.v9151 (F := Ideal) c arg3 harg3 x2)) bitsLt_bf16_f32) := by
  simp only [kernelRun0_A.sl.v13297, kernelRun0_A.sl.v13296, kernelRun0_A.sl.v13293, kernelRun0_A.sl.v13290, kernelRun0_A.sl.v13288, kernelRun0_A.sl.v13138, kernelRun0_A.sl.v13136, kernelRun0_A.sl.v13131, kernelRun0_A.sl.v13128, kernelRun0_A.sl.v13126, kernelRun0_A.sl.v13125, kernelRun0_A.sl.v13124, kernelRun0_A.sl.v13122, kernelRun0_A.sl.v13137, kernelRun0_A.sl.v13135, kernelRun0_A.sl.v13132, kernelRun0_A.sl.v13292, kernelRun0_A.sl.v13291, kernelRun0_A.sl.v13289, kernelRun0_A.sl.v13287, kernelRun0_A.sl.v13285, kernelRun0_A.sl.v13280, kernelRun0_A.sl.v13277, kernelRun0_A.sl.v13275, kernelRun0_A.sl.v13274, kernelRun0_A.sl.v13273, kernelRun0_A.sl.v13271, kernelRun0_A.sl.v13286, kernelRun0_A.sl.v13284, kernelRun0_A.sl.v13281, kernelRun0_A.sl.v13295, kernelRun0_A.sl.v13294]
  generalize he : (kernelRun0_A.sl.v13121 (F := Ideal) c i arg2 harg2 arg8 harg8 arg9 harg9 arg17 arg19 x1 x7 x8) = e
  generalize ho : (kernelRun0_A.sl.v13270 (F := Ideal) c i arg2 harg2 arg8 harg8 arg9 harg9 arg17 arg19 x1 x7 x8) = o
  rw [rd45] at he
  rw [rd46] at ho
  subst he ho
  rfl

/-- The stored block of rows 6 and pair 1 of key head 1: two tiles' results. -/
theorem pc_6_1_1 : (kernelRun0_A.sl.v13306 (F := Ideal) c i arg2 harg2 arg3 harg3 arg8 harg8 arg9 harg9 arg10 harg10 arg17 arg18 arg19 x1 x2 x7 x8 x9) =
    put1 (truncf .bf16 (tileE (qAt arg8 harg8 x7 768 256 (by decide)) (kAt192 arg9 harg9 x8 640 128 (by decide)) (kernelRun0_A.sl.v9867 (F := Ideal) c arg2 harg2 arg17 x1)
      (kernelRun0_A.sl.v13129 (F := Ideal) c arg10 harg10 arg18 x9) (kernelRun0_A.sl.v9151 (F := Ideal) c arg3 harg3 x2)) bitsLt_bf16_f32)
      (truncf .bf16 (tileO (qAt arg8 harg8 x7 832 256 (by decide)) (kAt192 arg9 harg9 x8 704 128 (by decide)) (kernelRun0_A.sl.v9867 (F := Ideal) c arg2 harg2 arg17 x1)
      (kernelRun0_A.sl.v13129 (F := Ideal) c arg10 harg10 arg18 x9) (kernelRun0_A.sl.v9151 (F := Ideal) c arg3 harg3 x2)) bitsLt_bf16_f32) := by
  simp only [kernelRun0_A.sl.v13306, kernelRun0_A.sl.v13305, kernelRun0_A.sl.v13302, kernelRun0_A.sl.v13299, kernelRun0_A.sl.v13288, kernelRun0_A.sl.v13138, kernelRun0_A.sl.v13136, kernelRun0_A.sl.v13131, kernelRun0_A.sl.v13128, kernelRun0_A.sl.v13126, kernelRun0_A.sl.v13125, kernelRun0_A.sl.v13124, kernelRun0_A.sl.v13122, kernelRun0_A.sl.v13137, kernelRun0_A.sl.v13135, kernelRun0_A.sl.v13132, kernelRun0_A.sl.v13301, kernelRun0_A.sl.v13300, kernelRun0_A.sl.v13289, kernelRun0_A.sl.v13287, kernelRun0_A.sl.v13285, kernelRun0_A.sl.v13280, kernelRun0_A.sl.v13277, kernelRun0_A.sl.v13275, kernelRun0_A.sl.v13274, kernelRun0_A.sl.v13273, kernelRun0_A.sl.v13271, kernelRun0_A.sl.v13286, kernelRun0_A.sl.v13284, kernelRun0_A.sl.v13281, kernelRun0_A.sl.v13304, kernelRun0_A.sl.v13303]
  generalize he : (kernelRun0_A.sl.v13121 (F := Ideal) c i arg2 harg2 arg8 harg8 arg9 harg9 arg17 arg19 x1 x7 x8) = e
  generalize ho : (kernelRun0_A.sl.v13270 (F := Ideal) c i arg2 harg2 arg8 harg8 arg9 harg9 arg17 arg19 x1 x7 x8) = o
  rw [rd45] at he
  rw [rd46] at ho
  subst he ho
  rfl

/-- The stored block of rows 7 and pair 0 of key head 0: two tiles' results. -/
theorem pc_7_0_0 : (kernelRun0_A.sl.v5198 (F := Ideal) c i arg2 harg2 arg3 harg3 arg8 harg8 arg9 harg9 arg10 harg10 arg17 arg18 arg19 x1 x2 x7 x8 x9) =
    put0 (truncf .bf16 (tileE (qAt arg8 harg8 x7 896 0 (by decide)) (kAt192 arg9 harg9 x8 768 0 (by decide)) (kernelRun0_A.sl.v5257 (F := Ideal) c arg2 harg2 arg17 x1)
      (kernelRun0_A.sl.v4491 (F := Ideal) c arg10 harg10 arg18 x9) (kernelRun0_A.sl.v259 (F := Ideal) c arg3 harg3 x2)) bitsLt_bf16_f32)
      (truncf .bf16 (tileO (qAt arg8 harg8 x7 960 0 (by decide)) (kAt192 arg9 harg9 x8 832 0 (by decide)) (kernelRun0_A.sl.v5257 (F := Ideal) c arg2 harg2 arg17 x1)
      (kernelRun0_A.sl.v4491 (F := Ideal) c arg10 harg10 arg18 x9) (kernelRun0_A.sl.v259 (F := Ideal) c arg3 harg3 x2)) bitsLt_bf16_f32) := by
  simp only [kernelRun0_A.sl.v5198, kernelRun0_A.sl.v5197, kernelRun0_A.sl.v5194, kernelRun0_A.sl.v5191, kernelRun0_A.sl.v5189, kernelRun0_A.sl.v4500, kernelRun0_A.sl.v4498, kernelRun0_A.sl.v4493, kernelRun0_A.sl.v4490, kernelRun0_A.sl.v4488, kernelRun0_A.sl.v4487, kernelRun0_A.sl.v4486, kernelRun0_A.sl.v4484, kernelRun0_A.sl.v4499, kernelRun0_A.sl.v4497, kernelRun0_A.sl.v4494, kernelRun0_A.sl.v5193, kernelRun0_A.sl.v5192, kernelRun0_A.sl.v5190, kernelRun0_A.sl.v5188, kernelRun0_A.sl.v5186, kernelRun0_A.sl.v5181, kernelRun0_A.sl.v5178, kernelRun0_A.sl.v5176, kernelRun0_A.sl.v5175, kernelRun0_A.sl.v5174, kernelRun0_A.sl.v5172, kernelRun0_A.sl.v5187, kernelRun0_A.sl.v5185, kernelRun0_A.sl.v5182, kernelRun0_A.sl.v5196, kernelRun0_A.sl.v5195]
  generalize he : (kernelRun0_A.sl.v4483 (F := Ideal) c i arg2 harg2 arg8 harg8 arg9 harg9 arg17 arg19 x1 x7 x8) = e
  generalize ho : (kernelRun0_A.sl.v5171 (F := Ideal) c i arg2 harg2 arg8 harg8 arg9 harg9 arg17 arg19 x1 x7 x8) = o
  rw [rd15] at he
  rw [rd16] at ho
  subst he ho
  rfl

/-- The stored block of rows 7 and pair 1 of key head 0: two tiles' results. -/
theorem pc_7_0_1 : (kernelRun0_A.sl.v5207 (F := Ideal) c i arg2 harg2 arg3 harg3 arg8 harg8 arg9 harg9 arg10 harg10 arg17 arg18 arg19 x1 x2 x7 x8 x9) =
    put1 (truncf .bf16 (tileE (qAt arg8 harg8 x7 896 0 (by decide)) (kAt192 arg9 harg9 x8 768 0 (by decide)) (kernelRun0_A.sl.v5257 (F := Ideal) c arg2 harg2 arg17 x1)
      (kernelRun0_A.sl.v4491 (F := Ideal) c arg10 harg10 arg18 x9) (kernelRun0_A.sl.v259 (F := Ideal) c arg3 harg3 x2)) bitsLt_bf16_f32)
      (truncf .bf16 (tileO (qAt arg8 harg8 x7 960 0 (by decide)) (kAt192 arg9 harg9 x8 832 0 (by decide)) (kernelRun0_A.sl.v5257 (F := Ideal) c arg2 harg2 arg17 x1)
      (kernelRun0_A.sl.v4491 (F := Ideal) c arg10 harg10 arg18 x9) (kernelRun0_A.sl.v259 (F := Ideal) c arg3 harg3 x2)) bitsLt_bf16_f32) := by
  simp only [kernelRun0_A.sl.v5207, kernelRun0_A.sl.v5206, kernelRun0_A.sl.v5203, kernelRun0_A.sl.v5200, kernelRun0_A.sl.v5189, kernelRun0_A.sl.v4500, kernelRun0_A.sl.v4498, kernelRun0_A.sl.v4493, kernelRun0_A.sl.v4490, kernelRun0_A.sl.v4488, kernelRun0_A.sl.v4487, kernelRun0_A.sl.v4486, kernelRun0_A.sl.v4484, kernelRun0_A.sl.v4499, kernelRun0_A.sl.v4497, kernelRun0_A.sl.v4494, kernelRun0_A.sl.v5202, kernelRun0_A.sl.v5201, kernelRun0_A.sl.v5190, kernelRun0_A.sl.v5188, kernelRun0_A.sl.v5186, kernelRun0_A.sl.v5181, kernelRun0_A.sl.v5178, kernelRun0_A.sl.v5176, kernelRun0_A.sl.v5175, kernelRun0_A.sl.v5174, kernelRun0_A.sl.v5172, kernelRun0_A.sl.v5187, kernelRun0_A.sl.v5185, kernelRun0_A.sl.v5182, kernelRun0_A.sl.v5205, kernelRun0_A.sl.v5204]
  generalize he : (kernelRun0_A.sl.v4483 (F := Ideal) c i arg2 harg2 arg8 harg8 arg9 harg9 arg17 arg19 x1 x7 x8) = e
  generalize ho : (kernelRun0_A.sl.v5171 (F := Ideal) c i arg2 harg2 arg8 harg8 arg9 harg9 arg17 arg19 x1 x7 x8) = o
  rw [rd15] at he
  rw [rd16] at ho
  subst he ho
  rfl

/-- The stored block of rows 7 and pair 0 of key head 1: two tiles' results. -/
theorem pc_7_1_0 : (kernelRun0_A.sl.v14195 (F := Ideal) c i arg2 harg2 arg3 harg3 arg8 harg8 arg9 harg9 arg10 harg10 arg17 arg18 arg19 x1 x2 x7 x8 x9) =
    put0 (truncf .bf16 (tileE (qAt arg8 harg8 x7 896 256 (by decide)) (kAt192 arg9 harg9 x8 768 128 (by decide)) (kernelRun0_A.sl.v9867 (F := Ideal) c arg2 harg2 arg17 x1)
      (kernelRun0_A.sl.v13488 (F := Ideal) c arg10 harg10 arg18 x9) (kernelRun0_A.sl.v9151 (F := Ideal) c arg3 harg3 x2)) bitsLt_bf16_f32)
      (truncf .bf16 (tileO (qAt arg8 harg8 x7 960 256 (by decide)) (kAt192 arg9 harg9 x8 832 128 (by decide)) (kernelRun0_A.sl.v9867 (F := Ideal) c arg2 harg2 arg17 x1)
      (kernelRun0_A.sl.v13488 (F := Ideal) c arg10 harg10 arg18 x9) (kernelRun0_A.sl.v9151 (F := Ideal) c arg3 harg3 x2)) bitsLt_bf16_f32) := by
  simp only [kernelRun0_A.sl.v14195, kernelRun0_A.sl.v14194, kernelRun0_A.sl.v14191, kernelRun0_A.sl.v14188, kernelRun0_A.sl.v14186, kernelRun0_A.sl.v13497, kernelRun0_A.sl.v13495, kernelRun0_A.sl.v13490, kernelRun0_A.sl.v13487, kernelRun0_A.sl.v13485, kernelRun0_A.sl.v13484, kernelRun0_A.sl.v13483, kernelRun0_A.sl.v13481, kernelRun0_A.sl.v13496, kernelRun0_A.sl.v13494, kernelRun0_A.sl.v13491, kernelRun0_A.sl.v14190, kernelRun0_A.sl.v14189, kernelRun0_A.sl.v14187, kernelRun0_A.sl.v14185, kernelRun0_A.sl.v14183, kernelRun0_A.sl.v14178, kernelRun0_A.sl.v14175, kernelRun0_A.sl.v14173, kernelRun0_A.sl.v14172, kernelRun0_A.sl.v14171, kernelRun0_A.sl.v14169, kernelRun0_A.sl.v14184, kernelRun0_A.sl.v14182, kernelRun0_A.sl.v14179, kernelRun0_A.sl.v14193, kernelRun0_A.sl.v14192]
  generalize he : (kernelRun0_A.sl.v13480 (F := Ideal) c i arg2 harg2 arg8 harg8 arg9 harg9 arg17 arg19 x1 x7 x8) = e
  generalize ho : (kernelRun0_A.sl.v14168 (F := Ideal) c i arg2 harg2 arg8 harg8 arg9 harg9 arg17 arg19 x1 x7 x8) = o
  rw [rd47] at he
  rw [rd48] at ho
  subst he ho
  rfl

/-- The stored block of rows 7 and pair 1 of key head 1: two tiles' results. -/
theorem pc_7_1_1 : (kernelRun0_A.sl.v14204 (F := Ideal) c i arg2 harg2 arg3 harg3 arg8 harg8 arg9 harg9 arg10 harg10 arg17 arg18 arg19 x1 x2 x7 x8 x9) =
    put1 (truncf .bf16 (tileE (qAt arg8 harg8 x7 896 256 (by decide)) (kAt192 arg9 harg9 x8 768 128 (by decide)) (kernelRun0_A.sl.v9867 (F := Ideal) c arg2 harg2 arg17 x1)
      (kernelRun0_A.sl.v13488 (F := Ideal) c arg10 harg10 arg18 x9) (kernelRun0_A.sl.v9151 (F := Ideal) c arg3 harg3 x2)) bitsLt_bf16_f32)
      (truncf .bf16 (tileO (qAt arg8 harg8 x7 960 256 (by decide)) (kAt192 arg9 harg9 x8 832 128 (by decide)) (kernelRun0_A.sl.v9867 (F := Ideal) c arg2 harg2 arg17 x1)
      (kernelRun0_A.sl.v13488 (F := Ideal) c arg10 harg10 arg18 x9) (kernelRun0_A.sl.v9151 (F := Ideal) c arg3 harg3 x2)) bitsLt_bf16_f32) := by
  simp only [kernelRun0_A.sl.v14204, kernelRun0_A.sl.v14203, kernelRun0_A.sl.v14200, kernelRun0_A.sl.v14197, kernelRun0_A.sl.v14186, kernelRun0_A.sl.v13497, kernelRun0_A.sl.v13495, kernelRun0_A.sl.v13490, kernelRun0_A.sl.v13487, kernelRun0_A.sl.v13485, kernelRun0_A.sl.v13484, kernelRun0_A.sl.v13483, kernelRun0_A.sl.v13481, kernelRun0_A.sl.v13496, kernelRun0_A.sl.v13494, kernelRun0_A.sl.v13491, kernelRun0_A.sl.v14199, kernelRun0_A.sl.v14198, kernelRun0_A.sl.v14187, kernelRun0_A.sl.v14185, kernelRun0_A.sl.v14183, kernelRun0_A.sl.v14178, kernelRun0_A.sl.v14175, kernelRun0_A.sl.v14173, kernelRun0_A.sl.v14172, kernelRun0_A.sl.v14171, kernelRun0_A.sl.v14169, kernelRun0_A.sl.v14184, kernelRun0_A.sl.v14182, kernelRun0_A.sl.v14179, kernelRun0_A.sl.v14202, kernelRun0_A.sl.v14201]
  generalize he : (kernelRun0_A.sl.v13480 (F := Ideal) c i arg2 harg2 arg8 harg8 arg9 harg9 arg17 arg19 x1 x7 x8) = e
  generalize ho : (kernelRun0_A.sl.v14168 (F := Ideal) c i arg2 harg2 arg8 harg8 arg9 harg9 arg17 arg19 x1 x7 x8) = o
  rw [rd47] at he
  rw [rd48] at ho
  subst he ho
  rfl

/-- The stored block of rows 8 and pair 0 of key head 0: two tiles' results. -/
theorem pc_8_0_0 : (kernelRun0_A.sl.v5968 (F := Ideal) c i arg2 harg2 arg3 harg3 arg8 harg8 arg9 harg9 arg10 harg10 arg17 arg18 arg19 x1 x2 x7 x8 x9) =
    put0 (truncf .bf16 (tileE (qAt arg8 harg8 x7 1024 0 (by decide)) (kAt192 arg9 harg9 x8 896 0 (by decide)) (kernelRun0_A.sl.v5257 (F := Ideal) c arg2 harg2 arg17 x1)
      (kernelRun0_A.sl.v5571 (F := Ideal) c arg10 harg10 arg18 x9) (kernelRun0_A.sl.v259 (F := Ideal) c arg3 harg3 x2)) bitsLt_bf16_f32)
      (truncf .bf16 (tileO (qAt arg8 harg8 x7 1088 0 (by decide)) (kAt192 arg9 harg9 x8 960 0 (by decide)) (kernelRun0_A.sl.v5257 (F := Ideal) c arg2 harg2 arg17 x1)
      (kernelRun0_A.sl.v5571 (F := Ideal) c arg10 harg10 arg18 x9) (kernelRun0_A.sl.v259 (F := Ideal) c arg3 harg3 x2)) bitsLt_bf16_f32) := by
  simp only [kernelRun0_A.sl.v5968, kernelRun0_A.sl.v5967, kernelRun0_A.sl.v5964, kernelRun0_A.sl.v5961, kernelRun0_A.sl.v5959, kernelRun0_A.sl.v5580, kernelRun0_A.sl.v5578, kernelRun0_A.sl.v5573, kernelRun0_A.sl.v5570, kernelRun0_A.sl.v5568, kernelRun0_A.sl.v5567, kernelRun0_A.sl.v5566, kernelRun0_A.sl.v5564, kernelRun0_A.sl.v5579, kernelRun0_A.sl.v5577, kernelRun0_A.sl.v5574, kernelRun0_A.sl.v5963, kernelRun0_A.sl.v5962, kernelRun0_A.sl.v5960, kernelRun0_A.sl.v5958, kernelRun0_A.sl.v5956, kernelRun0_A.sl.v5951, kernelRun0_A.sl.v5948, kernelRun0_A.sl.v5946, kernelRun0_A.sl.v5945, kernelRun0_A.sl.v5944, kernelRun0_A.sl.v5942, kernelRun0_A.sl.v5957, kernelRun0_A.sl.v5955, kernelRun0_A.sl.v5952, kernelRun0_A.sl.v5966, kernelRun0_A.sl.v5965]
  generalize he : (kernelRun0_A.sl.v5563 (F := Ideal) c i arg2 harg2 arg8 harg8 arg9 harg9 arg17 arg19 x1 x7 x8) = e
  generalize ho : (kernelRun0_A.sl.v5941 (F := Ideal) c i arg2 harg2 arg8 harg8 arg9 harg9 arg17 arg19 x1 x7 x8) = o
  rw [rd17] at he
  rw [rd18] at ho
  subst he ho
  rfl

/-- The stored block of rows 8 and pair 1 of key head 0: two tiles' results. -/
theorem pc_8_0_1 : (kernelRun0_A.sl.v5977 (F := Ideal) c i arg2 harg2 arg3 harg3 arg8 harg8 arg9 harg9 arg10 harg10 arg17 arg18 arg19 x1 x2 x7 x8 x9) =
    put1 (truncf .bf16 (tileE (qAt arg8 harg8 x7 1024 0 (by decide)) (kAt192 arg9 harg9 x8 896 0 (by decide)) (kernelRun0_A.sl.v5257 (F := Ideal) c arg2 harg2 arg17 x1)
      (kernelRun0_A.sl.v5571 (F := Ideal) c arg10 harg10 arg18 x9) (kernelRun0_A.sl.v259 (F := Ideal) c arg3 harg3 x2)) bitsLt_bf16_f32)
      (truncf .bf16 (tileO (qAt arg8 harg8 x7 1088 0 (by decide)) (kAt192 arg9 harg9 x8 960 0 (by decide)) (kernelRun0_A.sl.v5257 (F := Ideal) c arg2 harg2 arg17 x1)
      (kernelRun0_A.sl.v5571 (F := Ideal) c arg10 harg10 arg18 x9) (kernelRun0_A.sl.v259 (F := Ideal) c arg3 harg3 x2)) bitsLt_bf16_f32) := by
  simp only [kernelRun0_A.sl.v5977, kernelRun0_A.sl.v5976, kernelRun0_A.sl.v5973, kernelRun0_A.sl.v5970, kernelRun0_A.sl.v5959, kernelRun0_A.sl.v5580, kernelRun0_A.sl.v5578, kernelRun0_A.sl.v5573, kernelRun0_A.sl.v5570, kernelRun0_A.sl.v5568, kernelRun0_A.sl.v5567, kernelRun0_A.sl.v5566, kernelRun0_A.sl.v5564, kernelRun0_A.sl.v5579, kernelRun0_A.sl.v5577, kernelRun0_A.sl.v5574, kernelRun0_A.sl.v5972, kernelRun0_A.sl.v5971, kernelRun0_A.sl.v5960, kernelRun0_A.sl.v5958, kernelRun0_A.sl.v5956, kernelRun0_A.sl.v5951, kernelRun0_A.sl.v5948, kernelRun0_A.sl.v5946, kernelRun0_A.sl.v5945, kernelRun0_A.sl.v5944, kernelRun0_A.sl.v5942, kernelRun0_A.sl.v5957, kernelRun0_A.sl.v5955, kernelRun0_A.sl.v5952, kernelRun0_A.sl.v5975, kernelRun0_A.sl.v5974]
  generalize he : (kernelRun0_A.sl.v5563 (F := Ideal) c i arg2 harg2 arg8 harg8 arg9 harg9 arg17 arg19 x1 x7 x8) = e
  generalize ho : (kernelRun0_A.sl.v5941 (F := Ideal) c i arg2 harg2 arg8 harg8 arg9 harg9 arg17 arg19 x1 x7 x8) = o
  rw [rd17] at he
  rw [rd18] at ho
  subst he ho
  rfl

/-- The stored block of rows 8 and pair 0 of key head 1: two tiles' results. -/
theorem pc_8_1_0 : (kernelRun0_A.sl.v14965 (F := Ideal) c i arg2 harg2 arg3 harg3 arg8 harg8 arg9 harg9 arg10 harg10 arg17 arg18 arg19 x1 x2 x7 x8 x9) =
    put0 (truncf .bf16 (tileE (qAt arg8 harg8 x7 1024 256 (by decide)) (kAt192 arg9 harg9 x8 896 128 (by decide)) (kernelRun0_A.sl.v9867 (F := Ideal) c arg2 harg2 arg17 x1)
      (kernelRun0_A.sl.v14568 (F := Ideal) c arg10 harg10 arg18 x9) (kernelRun0_A.sl.v9151 (F := Ideal) c arg3 harg3 x2)) bitsLt_bf16_f32)
      (truncf .bf16 (tileO (qAt arg8 harg8 x7 1088 256 (by decide)) (kAt192 arg9 harg9 x8 960 128 (by decide)) (kernelRun0_A.sl.v9867 (F := Ideal) c arg2 harg2 arg17 x1)
      (kernelRun0_A.sl.v14568 (F := Ideal) c arg10 harg10 arg18 x9) (kernelRun0_A.sl.v9151 (F := Ideal) c arg3 harg3 x2)) bitsLt_bf16_f32) := by
  simp only [kernelRun0_A.sl.v14965, kernelRun0_A.sl.v14964, kernelRun0_A.sl.v14961, kernelRun0_A.sl.v14958, kernelRun0_A.sl.v14956, kernelRun0_A.sl.v14577, kernelRun0_A.sl.v14575, kernelRun0_A.sl.v14570, kernelRun0_A.sl.v14567, kernelRun0_A.sl.v14565, kernelRun0_A.sl.v14564, kernelRun0_A.sl.v14563, kernelRun0_A.sl.v14561, kernelRun0_A.sl.v14576, kernelRun0_A.sl.v14574, kernelRun0_A.sl.v14571, kernelRun0_A.sl.v14960, kernelRun0_A.sl.v14959, kernelRun0_A.sl.v14957, kernelRun0_A.sl.v14955, kernelRun0_A.sl.v14953, kernelRun0_A.sl.v14948, kernelRun0_A.sl.v14945, kernelRun0_A.sl.v14943, kernelRun0_A.sl.v14942, kernelRun0_A.sl.v14941, kernelRun0_A.sl.v14939, kernelRun0_A.sl.v14954, kernelRun0_A.sl.v14952, kernelRun0_A.sl.v14949, kernelRun0_A.sl.v14963, kernelRun0_A.sl.v14962]
  generalize he : (kernelRun0_A.sl.v14560 (F := Ideal) c i arg2 harg2 arg8 harg8 arg9 harg9 arg17 arg19 x1 x7 x8) = e
  generalize ho : (kernelRun0_A.sl.v14938 (F := Ideal) c i arg2 harg2 arg8 harg8 arg9 harg9 arg17 arg19 x1 x7 x8) = o
  rw [rd49] at he
  rw [rd50] at ho
  subst he ho
  rfl

/-- The stored block of rows 8 and pair 1 of key head 1: two tiles' results. -/
theorem pc_8_1_1 : (kernelRun0_A.sl.v14974 (F := Ideal) c i arg2 harg2 arg3 harg3 arg8 harg8 arg9 harg9 arg10 harg10 arg17 arg18 arg19 x1 x2 x7 x8 x9) =
    put1 (truncf .bf16 (tileE (qAt arg8 harg8 x7 1024 256 (by decide)) (kAt192 arg9 harg9 x8 896 128 (by decide)) (kernelRun0_A.sl.v9867 (F := Ideal) c arg2 harg2 arg17 x1)
      (kernelRun0_A.sl.v14568 (F := Ideal) c arg10 harg10 arg18 x9) (kernelRun0_A.sl.v9151 (F := Ideal) c arg3 harg3 x2)) bitsLt_bf16_f32)
      (truncf .bf16 (tileO (qAt arg8 harg8 x7 1088 256 (by decide)) (kAt192 arg9 harg9 x8 960 128 (by decide)) (kernelRun0_A.sl.v9867 (F := Ideal) c arg2 harg2 arg17 x1)
      (kernelRun0_A.sl.v14568 (F := Ideal) c arg10 harg10 arg18 x9) (kernelRun0_A.sl.v9151 (F := Ideal) c arg3 harg3 x2)) bitsLt_bf16_f32) := by
  simp only [kernelRun0_A.sl.v14974, kernelRun0_A.sl.v14973, kernelRun0_A.sl.v14970, kernelRun0_A.sl.v14967, kernelRun0_A.sl.v14956, kernelRun0_A.sl.v14577, kernelRun0_A.sl.v14575, kernelRun0_A.sl.v14570, kernelRun0_A.sl.v14567, kernelRun0_A.sl.v14565, kernelRun0_A.sl.v14564, kernelRun0_A.sl.v14563, kernelRun0_A.sl.v14561, kernelRun0_A.sl.v14576, kernelRun0_A.sl.v14574, kernelRun0_A.sl.v14571, kernelRun0_A.sl.v14969, kernelRun0_A.sl.v14968, kernelRun0_A.sl.v14957, kernelRun0_A.sl.v14955, kernelRun0_A.sl.v14953, kernelRun0_A.sl.v14948, kernelRun0_A.sl.v14945, kernelRun0_A.sl.v14943, kernelRun0_A.sl.v14942, kernelRun0_A.sl.v14941, kernelRun0_A.sl.v14939, kernelRun0_A.sl.v14954, kernelRun0_A.sl.v14952, kernelRun0_A.sl.v14949, kernelRun0_A.sl.v14972, kernelRun0_A.sl.v14971]
  generalize he : (kernelRun0_A.sl.v14560 (F := Ideal) c i arg2 harg2 arg8 harg8 arg9 harg9 arg17 arg19 x1 x7 x8) = e
  generalize ho : (kernelRun0_A.sl.v14938 (F := Ideal) c i arg2 harg2 arg8 harg8 arg9 harg9 arg17 arg19 x1 x7 x8) = o
  rw [rd49] at he
  rw [rd50] at ho
  subst he ho
  rfl

/-- The stored block of rows 9 and pair 0 of key head 0: two tiles' results. -/
theorem pc_9_0_0 : (kernelRun0_A.sl.v6412 (F := Ideal) c i arg2 harg2 arg3 harg3 arg8 harg8 arg9 harg9 arg10 harg10 arg17 arg18 arg19 x1 x2 x7 x8 x9) =
    put0 (truncf .bf16 (tileE (qAt arg8 harg8 x7 1152 0 (by decide)) (kAt192 arg9 harg9 x8 1024 0 (by decide)) (kernelRun0_A.sl.v5257 (F := Ideal) c arg2 harg2 arg17 x1)
      (kernelRun0_A.sl.v6011 (F := Ideal) c arg10 harg10 arg18 x9) (kernelRun0_A.sl.v259 (F := Ideal) c arg3 harg3 x2)) bitsLt_bf16_f32)
      (truncf .bf16 (tileO (qAt arg8 harg8 x7 1216 0 (by decide)) (kAt192 arg9 harg9 x8 1088 0 (by decide)) (kernelRun0_A.sl.v5257 (F := Ideal) c arg2 harg2 arg17 x1)
      (kernelRun0_A.sl.v6011 (F := Ideal) c arg10 harg10 arg18 x9) (kernelRun0_A.sl.v259 (F := Ideal) c arg3 harg3 x2)) bitsLt_bf16_f32) := by
  simp only [kernelRun0_A.sl.v6412, kernelRun0_A.sl.v6411, kernelRun0_A.sl.v6408, kernelRun0_A.sl.v6405, kernelRun0_A.sl.v6403, kernelRun0_A.sl.v6020, kernelRun0_A.sl.v6018, kernelRun0_A.sl.v6013, kernelRun0_A.sl.v6010, kernelRun0_A.sl.v6008, kernelRun0_A.sl.v6007, kernelRun0_A.sl.v6006, kernelRun0_A.sl.v6004, kernelRun0_A.sl.v6019, kernelRun0_A.sl.v6017, kernelRun0_A.sl.v6014, kernelRun0_A.sl.v6407, kernelRun0_A.sl.v6406, kernelRun0_A.sl.v6404, kernelRun0_A.sl.v6402, kernelRun0_A.sl.v6400, kernelRun0_A.sl.v6395, kernelRun0_A.sl.v6392, kernelRun0_A.sl.v6390, kernelRun0_A.sl.v6389, kernelRun0_A.sl.v6388, kernelRun0_A.sl.v6386, kernelRun0_A.sl.v6401, kernelRun0_A.sl.v6399, kernelRun0_A.sl.v6396, kernelRun0_A.sl.v6410, kernelRun0_A.sl.v6409]
  generalize he : (kernelRun0_A.sl.v6003 (F := Ideal) c i arg2 harg2 arg8 harg8 arg9 harg9 arg17 arg19 x1 x7 x8) = e
  generalize ho : (kernelRun0_A.sl.v6385 (F := Ideal) c i arg2 harg2 arg8 harg8 arg9 harg9 arg17 arg19 x1 x7 x8) = o
  rw [rd19] at he
  rw [rd20] at ho
  subst he ho
  rfl

/-- The stored block of rows 9 and pair 1 of key head 0: two tiles' results. -/
theorem pc_9_0_1 : (kernelRun0_A.sl.v6421 (F := Ideal) c i arg2 harg2 arg3 harg3 arg8 harg8 arg9 harg9 arg10 harg10 arg17 arg18 arg19 x1 x2 x7 x8 x9) =
    put1 (truncf .bf16 (tileE (qAt arg8 harg8 x7 1152 0 (by decide)) (kAt192 arg9 harg9 x8 1024 0 (by decide)) (kernelRun0_A.sl.v5257 (F := Ideal) c arg2 harg2 arg17 x1)
      (kernelRun0_A.sl.v6011 (F := Ideal) c arg10 harg10 arg18 x9) (kernelRun0_A.sl.v259 (F := Ideal) c arg3 harg3 x2)) bitsLt_bf16_f32)
      (truncf .bf16 (tileO (qAt arg8 harg8 x7 1216 0 (by decide)) (kAt192 arg9 harg9 x8 1088 0 (by decide)) (kernelRun0_A.sl.v5257 (F := Ideal) c arg2 harg2 arg17 x1)
      (kernelRun0_A.sl.v6011 (F := Ideal) c arg10 harg10 arg18 x9) (kernelRun0_A.sl.v259 (F := Ideal) c arg3 harg3 x2)) bitsLt_bf16_f32) := by
  simp only [kernelRun0_A.sl.v6421, kernelRun0_A.sl.v6420, kernelRun0_A.sl.v6417, kernelRun0_A.sl.v6414, kernelRun0_A.sl.v6403, kernelRun0_A.sl.v6020, kernelRun0_A.sl.v6018, kernelRun0_A.sl.v6013, kernelRun0_A.sl.v6010, kernelRun0_A.sl.v6008, kernelRun0_A.sl.v6007, kernelRun0_A.sl.v6006, kernelRun0_A.sl.v6004, kernelRun0_A.sl.v6019, kernelRun0_A.sl.v6017, kernelRun0_A.sl.v6014, kernelRun0_A.sl.v6416, kernelRun0_A.sl.v6415, kernelRun0_A.sl.v6404, kernelRun0_A.sl.v6402, kernelRun0_A.sl.v6400, kernelRun0_A.sl.v6395, kernelRun0_A.sl.v6392, kernelRun0_A.sl.v6390, kernelRun0_A.sl.v6389, kernelRun0_A.sl.v6388, kernelRun0_A.sl.v6386, kernelRun0_A.sl.v6401, kernelRun0_A.sl.v6399, kernelRun0_A.sl.v6396, kernelRun0_A.sl.v6419, kernelRun0_A.sl.v6418]
  generalize he : (kernelRun0_A.sl.v6003 (F := Ideal) c i arg2 harg2 arg8 harg8 arg9 harg9 arg17 arg19 x1 x7 x8) = e
  generalize ho : (kernelRun0_A.sl.v6385 (F := Ideal) c i arg2 harg2 arg8 harg8 arg9 harg9 arg17 arg19 x1 x7 x8) = o
  rw [rd19] at he
  rw [rd20] at ho
  subst he ho
  rfl

/-- The stored block of rows 9 and pair 0 of key head 1: two tiles' results. -/
theorem pc_9_1_0 : (kernelRun0_A.sl.v15409 (F := Ideal) c i arg2 harg2 arg3 harg3 arg8 harg8 arg9 harg9 arg10 harg10 arg17 arg18 arg19 x1 x2 x7 x8 x9) =
    put0 (truncf .bf16 (tileE (qAt arg8 harg8 x7 1152 256 (by decide)) (kAt192 arg9 harg9 x8 1024 128 (by decide)) (kernelRun0_A.sl.v9867 (F := Ideal) c arg2 harg2 arg17 x1)
      (kernelRun0_A.sl.v15008 (F := Ideal) c arg10 harg10 arg18 x9) (kernelRun0_A.sl.v9151 (F := Ideal) c arg3 harg3 x2)) bitsLt_bf16_f32)
      (truncf .bf16 (tileO (qAt arg8 harg8 x7 1216 256 (by decide)) (kAt192 arg9 harg9 x8 1088 128 (by decide)) (kernelRun0_A.sl.v9867 (F := Ideal) c arg2 harg2 arg17 x1)
      (kernelRun0_A.sl.v15008 (F := Ideal) c arg10 harg10 arg18 x9) (kernelRun0_A.sl.v9151 (F := Ideal) c arg3 harg3 x2)) bitsLt_bf16_f32) := by
  simp only [kernelRun0_A.sl.v15409, kernelRun0_A.sl.v15408, kernelRun0_A.sl.v15405, kernelRun0_A.sl.v15402, kernelRun0_A.sl.v15400, kernelRun0_A.sl.v15017, kernelRun0_A.sl.v15015, kernelRun0_A.sl.v15010, kernelRun0_A.sl.v15007, kernelRun0_A.sl.v15005, kernelRun0_A.sl.v15004, kernelRun0_A.sl.v15003, kernelRun0_A.sl.v15001, kernelRun0_A.sl.v15016, kernelRun0_A.sl.v15014, kernelRun0_A.sl.v15011, kernelRun0_A.sl.v15404, kernelRun0_A.sl.v15403, kernelRun0_A.sl.v15401, kernelRun0_A.sl.v15399, kernelRun0_A.sl.v15397, kernelRun0_A.sl.v15392, kernelRun0_A.sl.v15389, kernelRun0_A.sl.v15387, kernelRun0_A.sl.v15386, kernelRun0_A.sl.v15385, kernelRun0_A.sl.v15383, kernelRun0_A.sl.v15398, kernelRun0_A.sl.v15396, kernelRun0_A.sl.v15393, kernelRun0_A.sl.v15407, kernelRun0_A.sl.v15406]
  generalize he : (kernelRun0_A.sl.v15000 (F := Ideal) c i arg2 harg2 arg8 harg8 arg9 harg9 arg17 arg19 x1 x7 x8) = e
  generalize ho : (kernelRun0_A.sl.v15382 (F := Ideal) c i arg2 harg2 arg8 harg8 arg9 harg9 arg17 arg19 x1 x7 x8) = o
  rw [rd51] at he
  rw [rd52] at ho
  subst he ho
  rfl

/-- The stored block of rows 9 and pair 1 of key head 1: two tiles' results. -/
theorem pc_9_1_1 : (kernelRun0_A.sl.v15418 (F := Ideal) c i arg2 harg2 arg3 harg3 arg8 harg8 arg9 harg9 arg10 harg10 arg17 arg18 arg19 x1 x2 x7 x8 x9) =
    put1 (truncf .bf16 (tileE (qAt arg8 harg8 x7 1152 256 (by decide)) (kAt192 arg9 harg9 x8 1024 128 (by decide)) (kernelRun0_A.sl.v9867 (F := Ideal) c arg2 harg2 arg17 x1)
      (kernelRun0_A.sl.v15008 (F := Ideal) c arg10 harg10 arg18 x9) (kernelRun0_A.sl.v9151 (F := Ideal) c arg3 harg3 x2)) bitsLt_bf16_f32)
      (truncf .bf16 (tileO (qAt arg8 harg8 x7 1216 256 (by decide)) (kAt192 arg9 harg9 x8 1088 128 (by decide)) (kernelRun0_A.sl.v9867 (F := Ideal) c arg2 harg2 arg17 x1)
      (kernelRun0_A.sl.v15008 (F := Ideal) c arg10 harg10 arg18 x9) (kernelRun0_A.sl.v9151 (F := Ideal) c arg3 harg3 x2)) bitsLt_bf16_f32) := by
  simp only [kernelRun0_A.sl.v15418, kernelRun0_A.sl.v15417, kernelRun0_A.sl.v15414, kernelRun0_A.sl.v15411, kernelRun0_A.sl.v15400, kernelRun0_A.sl.v15017, kernelRun0_A.sl.v15015, kernelRun0_A.sl.v15010, kernelRun0_A.sl.v15007, kernelRun0_A.sl.v15005, kernelRun0_A.sl.v15004, kernelRun0_A.sl.v15003, kernelRun0_A.sl.v15001, kernelRun0_A.sl.v15016, kernelRun0_A.sl.v15014, kernelRun0_A.sl.v15011, kernelRun0_A.sl.v15413, kernelRun0_A.sl.v15412, kernelRun0_A.sl.v15401, kernelRun0_A.sl.v15399, kernelRun0_A.sl.v15397, kernelRun0_A.sl.v15392, kernelRun0_A.sl.v15389, kernelRun0_A.sl.v15387, kernelRun0_A.sl.v15386, kernelRun0_A.sl.v15385, kernelRun0_A.sl.v15383, kernelRun0_A.sl.v15398, kernelRun0_A.sl.v15396, kernelRun0_A.sl.v15393, kernelRun0_A.sl.v15416, kernelRun0_A.sl.v15415]
  generalize he : (kernelRun0_A.sl.v15000 (F := Ideal) c i arg2 harg2 arg8 harg8 arg9 harg9 arg17 arg19 x1 x7 x8) = e
  generalize ho : (kernelRun0_A.sl.v15382 (F := Ideal) c i arg2 harg2 arg8 harg8 arg9 harg9 arg17 arg19 x1 x7 x8) = o
  rw [rd51] at he
  rw [rd52] at ho
  subst he ho
  rfl

/-- The stored block of rows 10 and pair 0 of key head 0: two tiles' results. -/
theorem pc_10_0_0 : (kernelRun0_A.sl.v6803 (F := Ideal) c i arg2 harg2 arg3 harg3 arg8 harg8 arg9 harg9 arg10 harg10 arg17 arg18 arg19 x1 x2 x7 x8 x9) =
    put0 (truncf .bf16 (tileE (qAt arg8 harg8 x7 1280 0 (by decide)) (kAt192 arg9 harg9 x8 1152 0 (by decide)) (kernelRun0_A.sl.v5257 (F := Ideal) c arg2 harg2 arg17 x1)
      (kernelRun0_A.sl.v6742 (F := Ideal) c arg10 harg10 arg18 x9) (kernelRun0_A.sl.v259 (F := Ideal) c arg3 harg3 x2)) bitsLt_bf16_f32)
      (truncf .bf16 (tileO (qAt arg8 harg8 x7 1344 0 (by decide)) (kAt192 arg9 harg9 x8 1216 0 (by decide)) (kernelRun0_A.sl.v5257 (F := Ideal) c arg2 harg2 arg17 x1)
      (kernelRun0_A.sl.v6742 (F := Ideal) c arg10 harg10 arg18 x9) (kernelRun0_A.sl.v259 (F := Ideal) c arg3 harg3 x2)) bitsLt_bf16_f32) := by
  simp only [kernelRun0_A.sl.v6803, kernelRun0_A.sl.v6802, kernelRun0_A.sl.v6799, kernelRun0_A.sl.v6796, kernelRun0_A.sl.v6794, kernelRun0_A.sl.v6751, kernelRun0_A.sl.v6749, kernelRun0_A.sl.v6744, kernelRun0_A.sl.v6741, kernelRun0_A.sl.v6739, kernelRun0_A.sl.v6738, kernelRun0_A.sl.v6737, kernelRun0_A.sl.v6735, kernelRun0_A.sl.v6750, kernelRun0_A.sl.v6748, kernelRun0_A.sl.v6745, kernelRun0_A.sl.v6798, kernelRun0_A.sl.v6797, kernelRun0_A.sl.v6795, kernelRun0_A.sl.v6793, kernelRun0_A.sl.v6791, kernelRun0_A.sl.v6786, kernelRun0_A.sl.v6783, kernelRun0_A.sl.v6781, kernelRun0_A.sl.v6780, kernelRun0_A.sl.v6779, kernelRun0_A.sl.v6777, kernelRun0_A.sl.v6792, kernelRun0_A.sl.v6790, kernelRun0_A.sl.v6787, kernelRun0_A.sl.v6801, kernelRun0_A.sl.v6800]
  generalize he : (kernelRun0_A.sl.v6734 (F := Ideal) c i arg2 harg2 arg8 harg8 arg9 harg9 arg17 arg19 x1 x7 x8) = e
  generalize ho : (kernelRun0_A.sl.v6776 (F := Ideal) c i arg2 harg2 arg8 harg8 arg9 harg9 arg17 arg19 x1 x7 x8) = o
  rw [rd21] at he
  rw [rd22] at ho
  subst he ho
  rfl

/-- The stored block of rows 10 and pair 1 of key head 0: two tiles' results. -/
theorem pc_10_0_1 : (kernelRun0_A.sl.v6812 (F := Ideal) c i arg2 harg2 arg3 harg3 arg8 harg8 arg9 harg9 arg10 harg10 arg17 arg18 arg19 x1 x2 x7 x8 x9) =
    put1 (truncf .bf16 (tileE (qAt arg8 harg8 x7 1280 0 (by decide)) (kAt192 arg9 harg9 x8 1152 0 (by decide)) (kernelRun0_A.sl.v5257 (F := Ideal) c arg2 harg2 arg17 x1)
      (kernelRun0_A.sl.v6742 (F := Ideal) c arg10 harg10 arg18 x9) (kernelRun0_A.sl.v259 (F := Ideal) c arg3 harg3 x2)) bitsLt_bf16_f32)
      (truncf .bf16 (tileO (qAt arg8 harg8 x7 1344 0 (by decide)) (kAt192 arg9 harg9 x8 1216 0 (by decide)) (kernelRun0_A.sl.v5257 (F := Ideal) c arg2 harg2 arg17 x1)
      (kernelRun0_A.sl.v6742 (F := Ideal) c arg10 harg10 arg18 x9) (kernelRun0_A.sl.v259 (F := Ideal) c arg3 harg3 x2)) bitsLt_bf16_f32) := by
  simp only [kernelRun0_A.sl.v6812, kernelRun0_A.sl.v6811, kernelRun0_A.sl.v6808, kernelRun0_A.sl.v6805, kernelRun0_A.sl.v6794, kernelRun0_A.sl.v6751, kernelRun0_A.sl.v6749, kernelRun0_A.sl.v6744, kernelRun0_A.sl.v6741, kernelRun0_A.sl.v6739, kernelRun0_A.sl.v6738, kernelRun0_A.sl.v6737, kernelRun0_A.sl.v6735, kernelRun0_A.sl.v6750, kernelRun0_A.sl.v6748, kernelRun0_A.sl.v6745, kernelRun0_A.sl.v6807, kernelRun0_A.sl.v6806, kernelRun0_A.sl.v6795, kernelRun0_A.sl.v6793, kernelRun0_A.sl.v6791, kernelRun0_A.sl.v6786, kernelRun0_A.sl.v6783, kernelRun0_A.sl.v6781, kernelRun0_A.sl.v6780, kernelRun0_A.sl.v6779, kernelRun0_A.sl.v6777, kernelRun0_A.sl.v6792, kernelRun0_A.sl.v6790, kernelRun0_A.sl.v6787, kernelRun0_A.sl.v6810, kernelRun0_A.sl.v6809]
  generalize he : (kernelRun0_A.sl.v6734 (F := Ideal) c i arg2 harg2 arg8 harg8 arg9 harg9 arg17 arg19 x1 x7 x8) = e
  generalize ho : (kernelRun0_A.sl.v6776 (F := Ideal) c i arg2 harg2 arg8 harg8 arg9 harg9 arg17 arg19 x1 x7 x8) = o
  rw [rd21] at he
  rw [rd22] at ho
  subst he ho
  rfl

/-- The stored block of rows 10 and pair 0 of key head 1: two tiles' results. -/
theorem pc_10_1_0 : (kernelRun0_A.sl.v15800 (F := Ideal) c i arg2 harg2 arg3 harg3 arg8 harg8 arg9 harg9 arg10 harg10 arg17 arg18 arg19 x1 x2 x7 x8 x9) =
    put0 (truncf .bf16 (tileE (qAt arg8 harg8 x7 1280 256 (by decide)) (kAt192 arg9 harg9 x8 1152 128 (by decide)) (kernelRun0_A.sl.v9867 (F := Ideal) c arg2 harg2 arg17 x1)
      (kernelRun0_A.sl.v15739 (F := Ideal) c arg10 harg10 arg18 x9) (kernelRun0_A.sl.v9151 (F := Ideal) c arg3 harg3 x2)) bitsLt_bf16_f32)
      (truncf .bf16 (tileO (qAt arg8 harg8 x7 1344 256 (by decide)) (kAt192 arg9 harg9 x8 1216 128 (by decide)) (kernelRun0_A.sl.v9867 (F := Ideal) c arg2 harg2 arg17 x1)
      (kernelRun0_A.sl.v15739 (F := Ideal) c arg10 harg10 arg18 x9) (kernelRun0_A.sl.v9151 (F := Ideal) c arg3 harg3 x2)) bitsLt_bf16_f32) := by
  simp only [kernelRun0_A.sl.v15800, kernelRun0_A.sl.v15799, kernelRun0_A.sl.v15796, kernelRun0_A.sl.v15793, kernelRun0_A.sl.v15791, kernelRun0_A.sl.v15748, kernelRun0_A.sl.v15746, kernelRun0_A.sl.v15741, kernelRun0_A.sl.v15738, kernelRun0_A.sl.v15736, kernelRun0_A.sl.v15735, kernelRun0_A.sl.v15734, kernelRun0_A.sl.v15732, kernelRun0_A.sl.v15747, kernelRun0_A.sl.v15745, kernelRun0_A.sl.v15742, kernelRun0_A.sl.v15795, kernelRun0_A.sl.v15794, kernelRun0_A.sl.v15792, kernelRun0_A.sl.v15790, kernelRun0_A.sl.v15788, kernelRun0_A.sl.v15783, kernelRun0_A.sl.v15780, kernelRun0_A.sl.v15778, kernelRun0_A.sl.v15777, kernelRun0_A.sl.v15776, kernelRun0_A.sl.v15774, kernelRun0_A.sl.v15789, kernelRun0_A.sl.v15787, kernelRun0_A.sl.v15784, kernelRun0_A.sl.v15798, kernelRun0_A.sl.v15797]
  generalize he : (kernelRun0_A.sl.v15731 (F := Ideal) c i arg2 harg2 arg8 harg8 arg9 harg9 arg17 arg19 x1 x7 x8) = e
  generalize ho : (kernelRun0_A.sl.v15773 (F := Ideal) c i arg2 harg2 arg8 harg8 arg9 harg9 arg17 arg19 x1 x7 x8) = o
  rw [rd53] at he
  rw [rd54] at ho
  subst he ho
  rfl

/-- The stored block of rows 10 and pair 1 of key head 1: two tiles' results. -/
theorem pc_10_1_1 : (kernelRun0_A.sl.v15809 (F := Ideal) c i arg2 harg2 arg3 harg3 arg8 harg8 arg9 harg9 arg10 harg10 arg17 arg18 arg19 x1 x2 x7 x8 x9) =
    put1 (truncf .bf16 (tileE (qAt arg8 harg8 x7 1280 256 (by decide)) (kAt192 arg9 harg9 x8 1152 128 (by decide)) (kernelRun0_A.sl.v9867 (F := Ideal) c arg2 harg2 arg17 x1)
      (kernelRun0_A.sl.v15739 (F := Ideal) c arg10 harg10 arg18 x9) (kernelRun0_A.sl.v9151 (F := Ideal) c arg3 harg3 x2)) bitsLt_bf16_f32)
      (truncf .bf16 (tileO (qAt arg8 harg8 x7 1344 256 (by decide)) (kAt192 arg9 harg9 x8 1216 128 (by decide)) (kernelRun0_A.sl.v9867 (F := Ideal) c arg2 harg2 arg17 x1)
      (kernelRun0_A.sl.v15739 (F := Ideal) c arg10 harg10 arg18 x9) (kernelRun0_A.sl.v9151 (F := Ideal) c arg3 harg3 x2)) bitsLt_bf16_f32) := by
  simp only [kernelRun0_A.sl.v15809, kernelRun0_A.sl.v15808, kernelRun0_A.sl.v15805, kernelRun0_A.sl.v15802, kernelRun0_A.sl.v15791, kernelRun0_A.sl.v15748, kernelRun0_A.sl.v15746, kernelRun0_A.sl.v15741, kernelRun0_A.sl.v15738, kernelRun0_A.sl.v15736, kernelRun0_A.sl.v15735, kernelRun0_A.sl.v15734, kernelRun0_A.sl.v15732, kernelRun0_A.sl.v15747, kernelRun0_A.sl.v15745, kernelRun0_A.sl.v15742, kernelRun0_A.sl.v15804, kernelRun0_A.sl.v15803, kernelRun0_A.sl.v15792, kernelRun0_A.sl.v15790, kernelRun0_A.sl.v15788, kernelRun0_A.sl.v15783, kernelRun0_A.sl.v15780, kernelRun0_A.sl.v15778, kernelRun0_A.sl.v15777, kernelRun0_A.sl.v15776, kernelRun0_A.sl.v15774, kernelRun0_A.sl.v15789, kernelRun0_A.sl.v15787, kernelRun0_A.sl.v15784, kernelRun0_A.sl.v15807, kernelRun0_A.sl.v15806]
  generalize he : (kernelRun0_A.sl.v15731 (F := Ideal) c i arg2 harg2 arg8 harg8 arg9 harg9 arg17 arg19 x1 x7 x8) = e
  generalize ho : (kernelRun0_A.sl.v15773 (F := Ideal) c i arg2 harg2 arg8 harg8 arg9 harg9 arg17 arg19 x1 x7 x8) = o
  rw [rd53] at he
  rw [rd54] at ho
  subst he ho
  rfl

/-- The stored block of rows 11 and pair 0 of key head 0: two tiles' results. -/
theorem pc_11_0_0 : (kernelRun0_A.sl.v7436 (F := Ideal) c i arg2 harg2 arg3 harg3 arg8 harg8 arg9 harg9 arg10 harg10 arg17 arg18 arg19 x1 x2 x7 x8 x9) =
    put0 (truncf .bf16 (tileE (qAt arg8 harg8 x7 1408 0 (by decide)) (kAt192 arg9 harg9 x8 1280 0 (by decide)) (kernelRun0_A.sl.v5257 (F := Ideal) c arg2 harg2 arg17 x1)
      (kernelRun0_A.sl.v7137 (F := Ideal) c arg10 harg10 arg18 x9) (kernelRun0_A.sl.v259 (F := Ideal) c arg3 harg3 x2)) bitsLt_bf16_f32)
      (truncf .bf16 (tileO (qAt arg8 harg8 x7 1472 0 (by decide)) (kAt192 arg9 harg9 x8 1344 0 (by decide)) (kernelRun0_A.sl.v5257 (F := Ideal) c arg2 harg2 arg17 x1)
      (kernelRun0_A.sl.v7137 (F := Ideal) c arg10 harg10 arg18 x9) (kernelRun0_A.sl.v259 (F := Ideal) c arg3 harg3 x2)) bitsLt_bf16_f32) := by
  simp only [kernelRun0_A.sl.v7436, kernelRun0_A.sl.v7435, kernelRun0_A.sl.v7432, kernelRun0_A.sl.v7429, kernelRun0_A.sl.v7427, kernelRun0_A.sl.v7146, kernelRun0_A.sl.v7144, kernelRun0_A.sl.v7139, kernelRun0_A.sl.v7136, kernelRun0_A.sl.v7134, kernelRun0_A.sl.v7133, kernelRun0_A.sl.v7132, kernelRun0_A.sl.v7130, kernelRun0_A.sl.v7145, kernelRun0_A.sl.v7143, kernelRun0_A.sl.v7140, kernelRun0_A.sl.v7431, kernelRun0_A.sl.v7430, kernelRun0_A.sl.v7428, kernelRun0_A.sl.v7426, kernelRun0_A.sl.v7424, kernelRun0_A.sl.v7419, kernelRun0_A.sl.v7416, kernelRun0_A.sl.v7414, kernelRun0_A.sl.v7413, kernelRun0_A.sl.v7412, kernelRun0_A.sl.v7410, kernelRun0_A.sl.v7425, kernelRun0_A.sl.v7423, kernelRun0_A.sl.v7420, kernelRun0_A.sl.v7434, kernelRun0_A.sl.v7433]
  generalize he : (kernelRun0_A.sl.v7129 (F := Ideal) c i arg2 harg2 arg8 harg8 arg9 harg9 arg17 arg19 x1 x7 x8) = e
  generalize ho : (kernelRun0_A.sl.v7409 (F := Ideal) c i arg2 harg2 arg8 harg8 arg9 harg9 arg17 arg19 x1 x7 x8) = o
  rw [rd23] at he
  rw [rd24] at ho
  subst he ho
  rfl

/-- The stored block of rows 11 and pair 1 of key head 0: two tiles' results. -/
theorem pc_11_0_1 : (kernelRun0_A.sl.v7445 (F := Ideal) c i arg2 harg2 arg3 harg3 arg8 harg8 arg9 harg9 arg10 harg10 arg17 arg18 arg19 x1 x2 x7 x8 x9) =
    put1 (truncf .bf16 (tileE (qAt arg8 harg8 x7 1408 0 (by decide)) (kAt192 arg9 harg9 x8 1280 0 (by decide)) (kernelRun0_A.sl.v5257 (F := Ideal) c arg2 harg2 arg17 x1)
      (kernelRun0_A.sl.v7137 (F := Ideal) c arg10 harg10 arg18 x9) (kernelRun0_A.sl.v259 (F := Ideal) c arg3 harg3 x2)) bitsLt_bf16_f32)
      (truncf .bf16 (tileO (qAt arg8 harg8 x7 1472 0 (by decide)) (kAt192 arg9 harg9 x8 1344 0 (by decide)) (kernelRun0_A.sl.v5257 (F := Ideal) c arg2 harg2 arg17 x1)
      (kernelRun0_A.sl.v7137 (F := Ideal) c arg10 harg10 arg18 x9) (kernelRun0_A.sl.v259 (F := Ideal) c arg3 harg3 x2)) bitsLt_bf16_f32) := by
  simp only [kernelRun0_A.sl.v7445, kernelRun0_A.sl.v7444, kernelRun0_A.sl.v7441, kernelRun0_A.sl.v7438, kernelRun0_A.sl.v7427, kernelRun0_A.sl.v7146, kernelRun0_A.sl.v7144, kernelRun0_A.sl.v7139, kernelRun0_A.sl.v7136, kernelRun0_A.sl.v7134, kernelRun0_A.sl.v7133, kernelRun0_A.sl.v7132, kernelRun0_A.sl.v7130, kernelRun0_A.sl.v7145, kernelRun0_A.sl.v7143, kernelRun0_A.sl.v7140, kernelRun0_A.sl.v7440, kernelRun0_A.sl.v7439, kernelRun0_A.sl.v7428, kernelRun0_A.sl.v7426, kernelRun0_A.sl.v7424, kernelRun0_A.sl.v7419, kernelRun0_A.sl.v7416, kernelRun0_A.sl.v7414, kernelRun0_A.sl.v7413, kernelRun0_A.sl.v7412, kernelRun0_A.sl.v7410, kernelRun0_A.sl.v7425, kernelRun0_A.sl.v7423, kernelRun0_A.sl.v7420, kernelRun0_A.sl.v7443, kernelRun0_A.sl.v7442]
  generalize he : (kernelRun0_A.sl.v7129 (F := Ideal) c i arg2 harg2 arg8 harg8 arg9 harg9 arg17 arg19 x1 x7 x8) = e
  generalize ho : (kernelRun0_A.sl.v7409 (F := Ideal) c i arg2 harg2 arg8 harg8 arg9 harg9 arg17 arg19 x1 x7 x8) = o
  rw [rd23] at he
  rw [rd24] at ho
  subst he ho
  rfl

/-- The stored block of rows 11 and pair 0 of key head 1: two tiles' results. -/
theorem pc_11_1_0 : (kernelRun0_A.sl.v16433 (F := Ideal) c i arg2 harg2 arg3 harg3 arg8 harg8 arg9 harg9 arg10 harg10 arg17 arg18 arg19 x1 x2 x7 x8 x9) =
    put0 (truncf .bf16 (tileE (qAt arg8 harg8 x7 1408 256 (by decide)) (kAt192 arg9 harg9 x8 1280 128 (by decide)) (kernelRun0_A.sl.v9867 (F := Ideal) c arg2 harg2 arg17 x1)
      (kernelRun0_A.sl.v16134 (F := Ideal) c arg10 harg10 arg18 x9) (kernelRun0_A.sl.v9151 (F := Ideal) c arg3 harg3 x2)) bitsLt_bf16_f32)
      (truncf .bf16 (tileO (qAt arg8 harg8 x7 1472 256 (by decide)) (kAt192 arg9 harg9 x8 1344 128 (by decide)) (kernelRun0_A.sl.v9867 (F := Ideal) c arg2 harg2 arg17 x1)
      (kernelRun0_A.sl.v16134 (F := Ideal) c arg10 harg10 arg18 x9) (kernelRun0_A.sl.v9151 (F := Ideal) c arg3 harg3 x2)) bitsLt_bf16_f32) := by
  simp only [kernelRun0_A.sl.v16433, kernelRun0_A.sl.v16432, kernelRun0_A.sl.v16429, kernelRun0_A.sl.v16426, kernelRun0_A.sl.v16424, kernelRun0_A.sl.v16143, kernelRun0_A.sl.v16141, kernelRun0_A.sl.v16136, kernelRun0_A.sl.v16133, kernelRun0_A.sl.v16131, kernelRun0_A.sl.v16130, kernelRun0_A.sl.v16129, kernelRun0_A.sl.v16127, kernelRun0_A.sl.v16142, kernelRun0_A.sl.v16140, kernelRun0_A.sl.v16137, kernelRun0_A.sl.v16428, kernelRun0_A.sl.v16427, kernelRun0_A.sl.v16425, kernelRun0_A.sl.v16423, kernelRun0_A.sl.v16421, kernelRun0_A.sl.v16416, kernelRun0_A.sl.v16413, kernelRun0_A.sl.v16411, kernelRun0_A.sl.v16410, kernelRun0_A.sl.v16409, kernelRun0_A.sl.v16407, kernelRun0_A.sl.v16422, kernelRun0_A.sl.v16420, kernelRun0_A.sl.v16417, kernelRun0_A.sl.v16431, kernelRun0_A.sl.v16430]
  generalize he : (kernelRun0_A.sl.v16126 (F := Ideal) c i arg2 harg2 arg8 harg8 arg9 harg9 arg17 arg19 x1 x7 x8) = e
  generalize ho : (kernelRun0_A.sl.v16406 (F := Ideal) c i arg2 harg2 arg8 harg8 arg9 harg9 arg17 arg19 x1 x7 x8) = o
  rw [rd55] at he
  rw [rd56] at ho
  subst he ho
  rfl

/-- The stored block of rows 11 and pair 1 of key head 1: two tiles' results. -/
theorem pc_11_1_1 : (kernelRun0_A.sl.v16442 (F := Ideal) c i arg2 harg2 arg3 harg3 arg8 harg8 arg9 harg9 arg10 harg10 arg17 arg18 arg19 x1 x2 x7 x8 x9) =
    put1 (truncf .bf16 (tileE (qAt arg8 harg8 x7 1408 256 (by decide)) (kAt192 arg9 harg9 x8 1280 128 (by decide)) (kernelRun0_A.sl.v9867 (F := Ideal) c arg2 harg2 arg17 x1)
      (kernelRun0_A.sl.v16134 (F := Ideal) c arg10 harg10 arg18 x9) (kernelRun0_A.sl.v9151 (F := Ideal) c arg3 harg3 x2)) bitsLt_bf16_f32)
      (truncf .bf16 (tileO (qAt arg8 harg8 x7 1472 256 (by decide)) (kAt192 arg9 harg9 x8 1344 128 (by decide)) (kernelRun0_A.sl.v9867 (F := Ideal) c arg2 harg2 arg17 x1)
      (kernelRun0_A.sl.v16134 (F := Ideal) c arg10 harg10 arg18 x9) (kernelRun0_A.sl.v9151 (F := Ideal) c arg3 harg3 x2)) bitsLt_bf16_f32) := by
  simp only [kernelRun0_A.sl.v16442, kernelRun0_A.sl.v16441, kernelRun0_A.sl.v16438, kernelRun0_A.sl.v16435, kernelRun0_A.sl.v16424, kernelRun0_A.sl.v16143, kernelRun0_A.sl.v16141, kernelRun0_A.sl.v16136, kernelRun0_A.sl.v16133, kernelRun0_A.sl.v16131, kernelRun0_A.sl.v16130, kernelRun0_A.sl.v16129, kernelRun0_A.sl.v16127, kernelRun0_A.sl.v16142, kernelRun0_A.sl.v16140, kernelRun0_A.sl.v16137, kernelRun0_A.sl.v16437, kernelRun0_A.sl.v16436, kernelRun0_A.sl.v16425, kernelRun0_A.sl.v16423, kernelRun0_A.sl.v16421, kernelRun0_A.sl.v16416, kernelRun0_A.sl.v16413, kernelRun0_A.sl.v16411, kernelRun0_A.sl.v16410, kernelRun0_A.sl.v16409, kernelRun0_A.sl.v16407, kernelRun0_A.sl.v16422, kernelRun0_A.sl.v16420, kernelRun0_A.sl.v16417, kernelRun0_A.sl.v16440, kernelRun0_A.sl.v16439]
  generalize he : (kernelRun0_A.sl.v16126 (F := Ideal) c i arg2 harg2 arg8 harg8 arg9 harg9 arg17 arg19 x1 x7 x8) = e
  generalize ho : (kernelRun0_A.sl.v16406 (F := Ideal) c i arg2 harg2 arg8 harg8 arg9 harg9 arg17 arg19 x1 x7 x8) = o
  rw [rd55] at he
  rw [rd56] at ho
  subst he ho
  rfl

/-- The stored block of rows 12 and pair 0 of key head 0: two tiles' results. -/
theorem pc_12_0_0 : (kernelRun0_A.sl.v7782 (F := Ideal) c i arg2 harg2 arg3 harg3 arg8 harg8 arg9 harg9 arg10 harg10 arg17 arg18 arg19 x1 x2 x7 x8 x9) =
    put0 (truncf .bf16 (tileE (qAt arg8 harg8 x7 1536 0 (by decide)) (kAt192 arg9 harg9 x8 1408 0 (by decide)) (kernelRun0_A.sl.v5257 (F := Ideal) c arg2 harg2 arg17 x1)
      (kernelRun0_A.sl.v7479 (F := Ideal) c arg10 harg10 arg18 x9) (kernelRun0_A.sl.v259 (F := Ideal) c arg3 harg3 x2)) bitsLt_bf16_f32)
      (truncf .bf16 (tileO (qAt arg8 harg8 x7 1600 0 (by decide)) (kAt192 arg9 harg9 x8 1472 0 (by decide)) (kernelRun0_A.sl.v5257 (F := Ideal) c arg2 harg2 arg17 x1)
      (kernelRun0_A.sl.v7479 (F := Ideal) c arg10 harg10 arg18 x9) (kernelRun0_A.sl.v259 (F := Ideal) c arg3 harg3 x2)) bitsLt_bf16_f32) := by
  simp only [kernelRun0_A.sl.v7782, kernelRun0_A.sl.v7781, kernelRun0_A.sl.v7778, kernelRun0_A.sl.v7775, kernelRun0_A.sl.v7773, kernelRun0_A.sl.v7488, kernelRun0_A.sl.v7486, kernelRun0_A.sl.v7481, kernelRun0_A.sl.v7478, kernelRun0_A.sl.v7476, kernelRun0_A.sl.v7475, kernelRun0_A.sl.v7474, kernelRun0_A.sl.v7472, kernelRun0_A.sl.v7487, kernelRun0_A.sl.v7485, kernelRun0_A.sl.v7482, kernelRun0_A.sl.v7777, kernelRun0_A.sl.v7776, kernelRun0_A.sl.v7774, kernelRun0_A.sl.v7772, kernelRun0_A.sl.v7770, kernelRun0_A.sl.v7765, kernelRun0_A.sl.v7762, kernelRun0_A.sl.v7760, kernelRun0_A.sl.v7759, kernelRun0_A.sl.v7758, kernelRun0_A.sl.v7756, kernelRun0_A.sl.v7771, kernelRun0_A.sl.v7769, kernelRun0_A.sl.v7766, kernelRun0_A.sl.v7780, kernelRun0_A.sl.v7779]
  generalize he : (kernelRun0_A.sl.v7471 (F := Ideal) c i arg2 harg2 arg8 harg8 arg9 harg9 arg17 arg19 x1 x7 x8) = e
  generalize ho : (kernelRun0_A.sl.v7755 (F := Ideal) c i arg2 harg2 arg8 harg8 arg9 harg9 arg17 arg19 x1 x7 x8) = o
  rw [rd25] at he
  rw [rd26] at ho
  subst he ho
  rfl

/-- The stored block of rows 12 and pair 1 of key head 0: two tiles' results. -/
theorem pc_12_0_1 : (kernelRun0_A.sl.v7791 (F := Ideal) c i arg2 harg2 arg3 harg3 arg8 harg8 arg9 harg9 arg10 harg10 arg17 arg18 arg19 x1 x2 x7 x8 x9) =
    put1 (truncf .bf16 (tileE (qAt arg8 harg8 x7 1536 0 (by decide)) (kAt192 arg9 harg9 x8 1408 0 (by decide)) (kernelRun0_A.sl.v5257 (F := Ideal) c arg2 harg2 arg17 x1)
      (kernelRun0_A.sl.v7479 (F := Ideal) c arg10 harg10 arg18 x9) (kernelRun0_A.sl.v259 (F := Ideal) c arg3 harg3 x2)) bitsLt_bf16_f32)
      (truncf .bf16 (tileO (qAt arg8 harg8 x7 1600 0 (by decide)) (kAt192 arg9 harg9 x8 1472 0 (by decide)) (kernelRun0_A.sl.v5257 (F := Ideal) c arg2 harg2 arg17 x1)
      (kernelRun0_A.sl.v7479 (F := Ideal) c arg10 harg10 arg18 x9) (kernelRun0_A.sl.v259 (F := Ideal) c arg3 harg3 x2)) bitsLt_bf16_f32) := by
  simp only [kernelRun0_A.sl.v7791, kernelRun0_A.sl.v7790, kernelRun0_A.sl.v7787, kernelRun0_A.sl.v7784, kernelRun0_A.sl.v7773, kernelRun0_A.sl.v7488, kernelRun0_A.sl.v7486, kernelRun0_A.sl.v7481, kernelRun0_A.sl.v7478, kernelRun0_A.sl.v7476, kernelRun0_A.sl.v7475, kernelRun0_A.sl.v7474, kernelRun0_A.sl.v7472, kernelRun0_A.sl.v7487, kernelRun0_A.sl.v7485, kernelRun0_A.sl.v7482, kernelRun0_A.sl.v7786, kernelRun0_A.sl.v7785, kernelRun0_A.sl.v7774, kernelRun0_A.sl.v7772, kernelRun0_A.sl.v7770, kernelRun0_A.sl.v7765, kernelRun0_A.sl.v7762, kernelRun0_A.sl.v7760, kernelRun0_A.sl.v7759, kernelRun0_A.sl.v7758, kernelRun0_A.sl.v7756, kernelRun0_A.sl.v7771, kernelRun0_A.sl.v7769, kernelRun0_A.sl.v7766, kernelRun0_A.sl.v7789, kernelRun0_A.sl.v7788]
  generalize he : (kernelRun0_A.sl.v7471 (F := Ideal) c i arg2 harg2 arg8 harg8 arg9 harg9 arg17 arg19 x1 x7 x8) = e
  generalize ho : (kernelRun0_A.sl.v7755 (F := Ideal) c i arg2 harg2 arg8 harg8 arg9 harg9 arg17 arg19 x1 x7 x8) = o
  rw [rd25] at he
  rw [rd26] at ho
  subst he ho
  rfl

/-- The stored block of rows 12 and pair 0 of key head 1: two tiles' results. -/
theorem pc_12_1_0 : (kernelRun0_A.sl.v16779 (F := Ideal) c i arg2 harg2 arg3 harg3 arg8 harg8 arg9 harg9 arg10 harg10 arg17 arg18 arg19 x1 x2 x7 x8 x9) =
    put0 (truncf .bf16 (tileE (qAt arg8 harg8 x7 1536 256 (by decide)) (kAt192 arg9 harg9 x8 1408 128 (by decide)) (kernelRun0_A.sl.v9867 (F := Ideal) c arg2 harg2 arg17 x1)
      (kernelRun0_A.sl.v16476 (F := Ideal) c arg10 harg10 arg18 x9) (kernelRun0_A.sl.v9151 (F := Ideal) c arg3 harg3 x2)) bitsLt_bf16_f32)
      (truncf .bf16 (tileO (qAt arg8 harg8 x7 1600 256 (by decide)) (kAt192 arg9 harg9 x8 1472 128 (by decide)) (kernelRun0_A.sl.v9867 (F := Ideal) c arg2 harg2 arg17 x1)
      (kernelRun0_A.sl.v16476 (F := Ideal) c arg10 harg10 arg18 x9) (kernelRun0_A.sl.v9151 (F := Ideal) c arg3 harg3 x2)) bitsLt_bf16_f32) := by
  simp only [kernelRun0_A.sl.v16779, kernelRun0_A.sl.v16778, kernelRun0_A.sl.v16775, kernelRun0_A.sl.v16772, kernelRun0_A.sl.v16770, kernelRun0_A.sl.r_474, kernelRun0_A.sl.v16478, kernelRun0_A.sl.v16475, kernelRun0_A.sl.v16473, kernelRun0_A.sl.v16472, kernelRun0_A.sl.v16471, kernelRun0_A.sl.v16469, kernelRun0_A.sl.v16774, kernelRun0_A.sl.v16773, kernelRun0_A.sl.v16771, kernelRun0_A.sl.v16769, kernelRun0_A.sl.v16767, kernelRun0_A.sl.v16762, kernelRun0_A.sl.v16759, kernelRun0_A.sl.v16757, kernelRun0_A.sl.v16756, kernelRun0_A.sl.v16755, kernelRun0_A.sl.v16753, kernelRun0_A.sl.v16768, kernelRun0_A.sl.v16766, kernelRun0_A.sl.v16763, kernelRun0_A.sl.v16777, kernelRun0_A.sl.v16776]
  generalize he : (kernelRun0_A.sl.v16468 (F := Ideal) c i arg2 harg2 arg8 harg8 arg9 harg9 arg17 arg19 x1 x7 x8) = e
  generalize ho : (kernelRun0_A.sl.v16752 (F := Ideal) c i arg2 harg2 arg8 harg8 arg9 harg9 arg17 arg19 x1 x7 x8) = o
  rw [rd57] at he
  rw [rd58] at ho
  subst he ho
  rfl

/-- The stored block of rows 12 and pair 1 of key head 1: two tiles' results. -/
theorem pc_12_1_1 : (kernelRun0_A.sl.v16788 (F := Ideal) c i arg2 harg2 arg3 harg3 arg8 harg8 arg9 harg9 arg10 harg10 arg17 arg18 arg19 x1 x2 x7 x8 x9) =
    put1 (truncf .bf16 (tileE (qAt arg8 harg8 x7 1536 256 (by decide)) (kAt192 arg9 harg9 x8 1408 128 (by decide)) (kernelRun0_A.sl.v9867 (F := Ideal) c arg2 harg2 arg17 x1)
      (kernelRun0_A.sl.v16476 (F := Ideal) c arg10 harg10 arg18 x9) (kernelRun0_A.sl.v9151 (F := Ideal) c arg3 harg3 x2)) bitsLt_bf16_f32)
      (truncf .bf16 (tileO (qAt arg8 harg8 x7 1600 256 (by decide)) (kAt192 arg9 harg9 x8 1472 128 (by decide)) (kernelRun0_A.sl.v9867 (F := Ideal) c arg2 harg2 arg17 x1)
      (kernelRun0_A.sl.v16476 (F := Ideal) c arg10 harg10 arg18 x9) (kernelRun0_A.sl.v9151 (F := Ideal) c arg3 harg3 x2)) bitsLt_bf16_f32) := by
  simp only [kernelRun0_A.sl.v16788, kernelRun0_A.sl.v16787, kernelRun0_A.sl.v16784, kernelRun0_A.sl.v16781, kernelRun0_A.sl.v16770, kernelRun0_A.sl.r_474, kernelRun0_A.sl.v16478, kernelRun0_A.sl.v16475, kernelRun0_A.sl.v16473, kernelRun0_A.sl.v16472, kernelRun0_A.sl.v16471, kernelRun0_A.sl.v16469, kernelRun0_A.sl.v16783, kernelRun0_A.sl.v16782, kernelRun0_A.sl.v16771, kernelRun0_A.sl.v16769, kernelRun0_A.sl.v16767, kernelRun0_A.sl.v16762, kernelRun0_A.sl.v16759, kernelRun0_A.sl.v16757, kernelRun0_A.sl.v16756, kernelRun0_A.sl.v16755, kernelRun0_A.sl.v16753, kernelRun0_A.sl.v16768, kernelRun0_A.sl.v16766, kernelRun0_A.sl.v16763, kernelRun0_A.sl.v16786, kernelRun0_A.sl.v16785]
  generalize he : (kernelRun0_A.sl.v16468 (F := Ideal) c i arg2 harg2 arg8 harg8 arg9 harg9 arg17 arg19 x1 x7 x8) = e
  generalize ho : (kernelRun0_A.sl.v16752 (F := Ideal) c i arg2 harg2 arg8 harg8 arg9 harg9 arg17 arg19 x1 x7 x8) = o
  rw [rd57] at he
  rw [rd58] at ho
  subst he ho
  rfl

/-- The stored block of rows 13 and pair 0 of key head 0: two tiles' results. -/
theorem pc_13_0_0 : (kernelRun0_A.sl.v8268 (F := Ideal) c i arg2 harg2 arg3 harg3 arg8 harg8 arg9 harg9 arg10 harg10 arg17 arg18 arg19 x1 x2 x7 x8 x9) =
    put0 (truncf .bf16 (tileE (qAt arg8 harg8 x7 1664 0 (by decide)) (kAt192 arg9 harg9 x8 1536 0 (by decide)) (kernelRun0_A.sl.v5257 (F := Ideal) c arg2 harg2 arg17 x1)
      (kernelRun0_A.sl.v8014 (F := Ideal) c arg10 harg10 arg18 x9) (kernelRun0_A.sl.v259 (F := Ideal) c arg3 harg3 x2)) bitsLt_bf16_f32)
      (truncf .bf16 (tileO (qAt arg8 harg8 x7 1728 0 (by decide)) (kAt192 arg9 harg9 x8 1600 0 (by decide)) (kernelRun0_A.sl.v5257 (F := Ideal) c arg2 harg2 arg17 x1)
      (kernelRun0_A.sl.v8014 (F := Ideal) c arg10 harg10 arg18 x9) (kernelRun0_A.sl.v259 (F := Ideal) c arg3 harg3 x2)) bitsLt_bf16_f32) := by
  simp only [kernelRun0_A.sl.v8268, kernelRun0_A.sl.v8267, kernelRun0_A.sl.v8264, kernelRun0_A.sl.v8261, kernelRun0_A.sl.v8259, kernelRun0_A.sl.v8023, kernelRun0_A.sl.v8021, kernelRun0_A.sl.v8016, kernelRun0_A.sl.v8013, kernelRun0_A.sl.v8011, kernelRun0_A.sl.v8010, kernelRun0_A.sl.v8009, kernelRun0_A.sl.v8007, kernelRun0_A.sl.v8022, kernelRun0_A.sl.v8020, kernelRun0_A.sl.v8017, kernelRun0_A.sl.v8263, kernelRun0_A.sl.v8262, kernelRun0_A.sl.v8260, kernelRun0_A.sl.v8258, kernelRun0_A.sl.v8256, kernelRun0_A.sl.v8251, kernelRun0_A.sl.v8248, kernelRun0_A.sl.v8246, kernelRun0_A.sl.v8245, kernelRun0_A.sl.v8244, kernelRun0_A.sl.v8242, kernelRun0_A.sl.v8257, kernelRun0_A.sl.v8255, kernelRun0_A.sl.v8252, kernelRun0_A.sl.v8266, kernelRun0_A.sl.v8265]
  generalize he : (kernelRun0_A.sl.v8006 (F := Ideal) c i arg2 harg2 arg8 harg8 arg9 harg9 arg17 arg19 x1 x7 x8) = e
  generalize ho : (kernelRun0_A.sl.v8241 (F := Ideal) c i arg2 harg2 arg8 harg8 arg9 harg9 arg17 arg19 x1 x7 x8) = o
  rw [rd27] at he
  rw [rd28] at ho
  subst he ho
  rfl

/-- The stored block of rows 13 and pair 1 of key head 0: two tiles' results. -/
theorem pc_13_0_1 : (kernelRun0_A.sl.v8277 (F := Ideal) c i arg2 harg2 arg3 harg3 arg8 harg8 arg9 harg9 arg10 harg10 arg17 arg18 arg19 x1 x2 x7 x8 x9) =
    put1 (truncf .bf16 (tileE (qAt arg8 harg8 x7 1664 0 (by decide)) (kAt192 arg9 harg9 x8 1536 0 (by decide)) (kernelRun0_A.sl.v5257 (F := Ideal) c arg2 harg2 arg17 x1)
      (kernelRun0_A.sl.v8014 (F := Ideal) c arg10 harg10 arg18 x9) (kernelRun0_A.sl.v259 (F := Ideal) c arg3 harg3 x2)) bitsLt_bf16_f32)
      (truncf .bf16 (tileO (qAt arg8 harg8 x7 1728 0 (by decide)) (kAt192 arg9 harg9 x8 1600 0 (by decide)) (kernelRun0_A.sl.v5257 (F := Ideal) c arg2 harg2 arg17 x1)
      (kernelRun0_A.sl.v8014 (F := Ideal) c arg10 harg10 arg18 x9) (kernelRun0_A.sl.v259 (F := Ideal) c arg3 harg3 x2)) bitsLt_bf16_f32) := by
  simp only [kernelRun0_A.sl.v8277, kernelRun0_A.sl.v8276, kernelRun0_A.sl.v8273, kernelRun0_A.sl.v8270, kernelRun0_A.sl.v8259, kernelRun0_A.sl.v8023, kernelRun0_A.sl.v8021, kernelRun0_A.sl.v8016, kernelRun0_A.sl.v8013, kernelRun0_A.sl.v8011, kernelRun0_A.sl.v8010, kernelRun0_A.sl.v8009, kernelRun0_A.sl.v8007, kernelRun0_A.sl.v8022, kernelRun0_A.sl.v8020, kernelRun0_A.sl.v8017, kernelRun0_A.sl.v8272, kernelRun0_A.sl.v8271, kernelRun0_A.sl.v8260, kernelRun0_A.sl.v8258, kernelRun0_A.sl.v8256, kernelRun0_A.sl.v8251, kernelRun0_A.sl.v8248, kernelRun0_A.sl.v8246, kernelRun0_A.sl.v8245, kernelRun0_A.sl.v8244, kernelRun0_A.sl.v8242, kernelRun0_A.sl.v8257, kernelRun0_A.sl.v8255, kernelRun0_A.sl.v8252, kernelRun0_A.sl.v8275, kernelRun0_A.sl.v8274]
  generalize he : (kernelRun0_A.sl.v8006 (F := Ideal) c i arg2 harg2 arg8 harg8 arg9 harg9 arg17 arg19 x1 x7 x8) = e
  generalize ho : (kernelRun0_A.sl.v8241 (F := Ideal) c i arg2 harg2 arg8 harg8 arg9 harg9 arg17 arg19 x1 x7 x8) = o
  rw [rd27] at he
  rw [rd28] at ho
  subst he ho
  rfl

/-- The stored block of rows 13 and pair 0 of key head 1: two tiles' results. -/
theorem pc_13_1_0 : (kernelRun0_A.sl.v17265 (F := Ideal) c i arg2 harg2 arg3 harg3 arg8 harg8 arg9 harg9 arg10 harg10 arg17 arg18 arg19 x1 x2 x7 x8 x9) =
    put0 (truncf .bf16 (tileE (qAt arg8 harg8 x7 1664 256 (by decide)) (kAt192 arg9 harg9 x8 1536 128 (by decide)) (kernelRun0_A.sl.v9867 (F := Ideal) c arg2 harg2 arg17 x1)
      (kernelRun0_A.sl.v17011 (F := Ideal) c arg10 harg10 arg18 x9) (kernelRun0_A.sl.v9151 (F := Ideal) c arg3 harg3 x2)) bitsLt_bf16_f32)
      (truncf .bf16 (tileO (qAt arg8 harg8 x7 1728 256 (by decide)) (kAt192 arg9 harg9 x8 1600 128 (by decide)) (kernelRun0_A.sl.v9867 (F := Ideal) c arg2 harg2 arg17 x1)
      (kernelRun0_A.sl.v17011 (F := Ideal) c arg10 harg10 arg18 x9) (kernelRun0_A.sl.v9151 (F := Ideal) c arg3 harg3 x2)) bitsLt_bf16_f32) := by
  simp only [kernelRun0_A.sl.v17265, kernelRun0_A.sl.v17264, kernelRun0_A.sl.v17261, kernelRun0_A.sl.v17258, kernelRun0_A.sl.v17256, kernelRun0_A.sl.r_491, kernelRun0_A.sl.v17010, kernelRun0_A.sl.v17008, kernelRun0_A.sl.v17007, kernelRun0_A.sl.v17006, kernelRun0_A.sl.v17004, kernelRun0_A.sl.v17260, kernelRun0_A.sl.v17259, kernelRun0_A.sl.v17257, kernelRun0_A.sl.v17255, kernelRun0_A.sl.v17253, kernelRun0_A.sl.v17248, kernelRun0_A.sl.v17245, kernelRun0_A.sl.v17243, kernelRun0_A.sl.v17242, kernelRun0_A.sl.v17241, kernelRun0_A.sl.v17239, kernelRun0_A.sl.v17254, kernelRun0_A.sl.v17252, kernelRun0_A.sl.v17249, kernelRun0_A.sl.v17263, kernelRun0_A.sl.v17262]
  generalize he : (kernelRun0_A.sl.v17003 (F := Ideal) c i arg2 harg2 arg8 harg8 arg9 harg9 arg17 arg19 x1 x7 x8) = e
  generalize ho : (kernelRun0_A.sl.v17238 (F := Ideal) c i arg2 harg2 arg8 harg8 arg9 harg9 arg17 arg19 x1 x7 x8) = o
  rw [rd59] at he
  rw [rd60] at ho
  subst he ho
  rfl

/-- The stored block of rows 13 and pair 1 of key head 1: two tiles' results. -/
theorem pc_13_1_1 : (kernelRun0_A.sl.v17274 (F := Ideal) c i arg2 harg2 arg3 harg3 arg8 harg8 arg9 harg9 arg10 harg10 arg17 arg18 arg19 x1 x2 x7 x8 x9) =
    put1 (truncf .bf16 (tileE (qAt arg8 harg8 x7 1664 256 (by decide)) (kAt192 arg9 harg9 x8 1536 128 (by decide)) (kernelRun0_A.sl.v9867 (F := Ideal) c arg2 harg2 arg17 x1)
      (kernelRun0_A.sl.v17011 (F := Ideal) c arg10 harg10 arg18 x9) (kernelRun0_A.sl.v9151 (F := Ideal) c arg3 harg3 x2)) bitsLt_bf16_f32)
      (truncf .bf16 (tileO (qAt arg8 harg8 x7 1728 256 (by decide)) (kAt192 arg9 harg9 x8 1600 128 (by decide)) (kernelRun0_A.sl.v9867 (F := Ideal) c arg2 harg2 arg17 x1)
      (kernelRun0_A.sl.v17011 (F := Ideal) c arg10 harg10 arg18 x9) (kernelRun0_A.sl.v9151 (F := Ideal) c arg3 harg3 x2)) bitsLt_bf16_f32) := by
  simp only [kernelRun0_A.sl.v17274, kernelRun0_A.sl.v17273, kernelRun0_A.sl.v17270, kernelRun0_A.sl.v17267, kernelRun0_A.sl.v17256, kernelRun0_A.sl.r_491, kernelRun0_A.sl.v17010, kernelRun0_A.sl.v17008, kernelRun0_A.sl.v17007, kernelRun0_A.sl.v17006, kernelRun0_A.sl.v17004, kernelRun0_A.sl.v17269, kernelRun0_A.sl.v17268, kernelRun0_A.sl.v17257, kernelRun0_A.sl.v17255, kernelRun0_A.sl.v17253, kernelRun0_A.sl.v17248, kernelRun0_A.sl.v17245, kernelRun0_A.sl.v17243, kernelRun0_A.sl.v17242, kernelRun0_A.sl.v17241, kernelRun0_A.sl.v17239, kernelRun0_A.sl.v17254, kernelRun0_A.sl.v17252, kernelRun0_A.sl.v17249, kernelRun0_A.sl.v17272, kernelRun0_A.sl.v17271]
  generalize he : (kernelRun0_A.sl.v17003 (F := Ideal) c i arg2 harg2 arg8 harg8 arg9 harg9 arg17 arg19 x1 x7 x8) = e
  generalize ho : (kernelRun0_A.sl.v17238 (F := Ideal) c i arg2 harg2 arg8 harg8 arg9 harg9 arg17 arg19 x1 x7 x8) = o
  rw [rd59] at he
  rw [rd60] at ho
  subst he ho
  rfl

/-- The stored block of rows 14 and pair 0 of key head 0: two tiles' results. -/
theorem pc_14_0_0 : (kernelRun0_A.sl.v8686 (F := Ideal) c i arg2 harg2 arg3 harg3 arg8 harg8 arg9 harg9 arg10 harg10 arg17 arg18 arg19 x1 x2 x7 x8 x9) =
    put0 (truncf .bf16 (tileE (qAt arg8 harg8 x7 1792 0 (by decide)) (kAt192 arg9 harg9 x8 1664 0 (by decide)) (kernelRun0_A.sl.v5257 (F := Ideal) c arg2 harg2 arg17 x1)
      (kernelRun0_A.sl.v8518 (F := Ideal) c arg10 harg10 arg18 x9) (kernelRun0_A.sl.v259 (F := Ideal) c arg3 harg3 x2)) bitsLt_bf16_f32)
      (truncf .bf16 (tileO (qAt arg8 harg8 x7 1856 0 (by decide)) (kAt192 arg9 harg9 x8 1728 0 (by decide)) (kernelRun0_A.sl.v5257 (F := Ideal) c arg2 harg2 arg17 x1)
      (kernelRun0_A.sl.v8518 (F := Ideal) c arg10 harg10 arg18 x9) (kernelRun0_A.sl.v259 (F := Ideal) c arg3 harg3 x2)) bitsLt_bf16_f32) := by
  simp only [kernelRun0_A.sl.v8686, kernelRun0_A.sl.v8685, kernelRun0_A.sl.v8682, kernelRun0_A.sl.v8679, kernelRun0_A.sl.v8677, kernelRun0_A.sl.v8527, kernelRun0_A.sl.v8525, kernelRun0_A.sl.v8520, kernelRun0_A.sl.v8517, kernelRun0_A.sl.v8515, kernelRun0_A.sl.v8514, kernelRun0_A.sl.v8513, kernelRun0_A.sl.v8511, kernelRun0_A.sl.v8526, kernelRun0_A.sl.v8524, kernelRun0_A.sl.v8521, kernelRun0_A.sl.v8681, kernelRun0_A.sl.v8680, kernelRun0_A.sl.v8678, kernelRun0_A.sl.v8676, kernelRun0_A.sl.v8674, kernelRun0_A.sl.v8669, kernelRun0_A.sl.v8666, kernelRun0_A.sl.v8664, kernelRun0_A.sl.v8663, kernelRun0_A.sl.v8662, kernelRun0_A.sl.v8660, kernelRun0_A.sl.v8675, kernelRun0_A.sl.v8673, kernelRun0_A.sl.v8670, kernelRun0_A.sl.v8684, kernelRun0_A.sl.v8683]
  generalize he : (kernelRun0_A.sl.v8510 (F := Ideal) c i arg2 harg2 arg8 harg8 arg9 harg9 arg17 arg19 x1 x7 x8) = e
  generalize ho : (kernelRun0_A.sl.v8659 (F := Ideal) c i arg2 harg2 arg8 harg8 arg9 harg9 arg17 arg19 x1 x7 x8) = o
  rw [rd29] at he
  rw [rd30] at ho
  subst he ho
  rfl

/-- The stored block of rows 14 and pair 1 of key head 0: two tiles' results. -/
theorem pc_14_0_1 : (kernelRun0_A.sl.v8695 (F := Ideal) c i arg2 harg2 arg3 harg3 arg8 harg8 arg9 harg9 arg10 harg10 arg17 arg18 arg19 x1 x2 x7 x8 x9) =
    put1 (truncf .bf16 (tileE (qAt arg8 harg8 x7 1792 0 (by decide)) (kAt192 arg9 harg9 x8 1664 0 (by decide)) (kernelRun0_A.sl.v5257 (F := Ideal) c arg2 harg2 arg17 x1)
      (kernelRun0_A.sl.v8518 (F := Ideal) c arg10 harg10 arg18 x9) (kernelRun0_A.sl.v259 (F := Ideal) c arg3 harg3 x2)) bitsLt_bf16_f32)
      (truncf .bf16 (tileO (qAt arg8 harg8 x7 1856 0 (by decide)) (kAt192 arg9 harg9 x8 1728 0 (by decide)) (kernelRun0_A.sl.v5257 (F := Ideal) c arg2 harg2 arg17 x1)
      (kernelRun0_A.sl.v8518 (F := Ideal) c arg10 harg10 arg18 x9) (kernelRun0_A.sl.v259 (F := Ideal) c arg3 harg3 x2)) bitsLt_bf16_f32) := by
  simp only [kernelRun0_A.sl.v8695, kernelRun0_A.sl.v8694, kernelRun0_A.sl.v8691, kernelRun0_A.sl.v8688, kernelRun0_A.sl.v8677, kernelRun0_A.sl.v8527, kernelRun0_A.sl.v8525, kernelRun0_A.sl.v8520, kernelRun0_A.sl.v8517, kernelRun0_A.sl.v8515, kernelRun0_A.sl.v8514, kernelRun0_A.sl.v8513, kernelRun0_A.sl.v8511, kernelRun0_A.sl.v8526, kernelRun0_A.sl.v8524, kernelRun0_A.sl.v8521, kernelRun0_A.sl.v8690, kernelRun0_A.sl.v8689, kernelRun0_A.sl.v8678, kernelRun0_A.sl.v8676, kernelRun0_A.sl.v8674, kernelRun0_A.sl.v8669, kernelRun0_A.sl.v8666, kernelRun0_A.sl.v8664, kernelRun0_A.sl.v8663, kernelRun0_A.sl.v8662, kernelRun0_A.sl.v8660, kernelRun0_A.sl.v8675, kernelRun0_A.sl.v8673, kernelRun0_A.sl.v8670, kernelRun0_A.sl.v8693, kernelRun0_A.sl.v8692]
  generalize he : (kernelRun0_A.sl.v8510 (F := Ideal) c i arg2 harg2 arg8 harg8 arg9 harg9 arg17 arg19 x1 x7 x8) = e
  generalize ho : (kernelRun0_A.sl.v8659 (F := Ideal) c i arg2 harg2 arg8 harg8 arg9 harg9 arg17 arg19 x1 x7 x8) = o
  rw [rd29] at he
  rw [rd30] at ho
  subst he ho
  rfl

/-- The stored block of rows 14 and pair 0 of key head 1: two tiles' results. -/
theorem pc_14_1_0 : (kernelRun0_A.sl.v17683 (F := Ideal) c i arg2 harg2 arg3 harg3 arg8 harg8 arg9 harg9 arg10 harg10 arg17 arg18 arg19 x1 x2 x7 x8 x9) =
    put0 (truncf .bf16 (tileE (qAt arg8 harg8 x7 1792 256 (by decide)) (kAt192 arg9 harg9 x8 1664 128 (by decide)) (kernelRun0_A.sl.v9867 (F := Ideal) c arg2 harg2 arg17 x1)
      (kernelRun0_A.sl.v17515 (F := Ideal) c arg10 harg10 arg18 x9) (kernelRun0_A.sl.v9151 (F := Ideal) c arg3 harg3 x2)) bitsLt_bf16_f32)
      (truncf .bf16 (tileO (qAt arg8 harg8 x7 1856 256 (by decide)) (kAt192 arg9 harg9 x8 1728 128 (by decide)) (kernelRun0_A.sl.v9867 (F := Ideal) c arg2 harg2 arg17 x1)
      (kernelRun0_A.sl.v17515 (F := Ideal) c arg10 harg10 arg18 x9) (kernelRun0_A.sl.v9151 (F := Ideal) c arg3 harg3 x2)) bitsLt_bf16_f32) := by
  simp only [kernelRun0_A.sl.v17683, kernelRun0_A.sl.v17682, kernelRun0_A.sl.v17679, kernelRun0_A.sl.v17676, kernelRun0_A.sl.v17674, kernelRun0_A.sl.v17524, kernelRun0_A.sl.v17522, kernelRun0_A.sl.v17517, kernelRun0_A.sl.v17514, kernelRun0_A.sl.v17512, kernelRun0_A.sl.v17511, kernelRun0_A.sl.v17510, kernelRun0_A.sl.v17508, kernelRun0_A.sl.v17523, kernelRun0_A.sl.v17521, kernelRun0_A.sl.v17518, kernelRun0_A.sl.v17678, kernelRun0_A.sl.v17677, kernelRun0_A.sl.v17675, kernelRun0_A.sl.v17673, kernelRun0_A.sl.v17671, kernelRun0_A.sl.v17666, kernelRun0_A.sl.v17663, kernelRun0_A.sl.v17661, kernelRun0_A.sl.v17660, kernelRun0_A.sl.v17659, kernelRun0_A.sl.v17657, kernelRun0_A.sl.v17672, kernelRun0_A.sl.v17670, kernelRun0_A.sl.v17667, kernelRun0_A.sl.v17681, kernelRun0_A.sl.v17680]
  generalize he : (kernelRun0_A.sl.v17507 (F := Ideal) c i arg2 harg2 arg8 harg8 arg9 harg9 arg17 arg19 x1 x7 x8) = e
  generalize ho : (kernelRun0_A.sl.v17656 (F := Ideal) c i arg2 harg2 arg8 harg8 arg9 harg9 arg17 arg19 x1 x7 x8) = o
  rw [rd61] at he
  rw [rd62] at ho
  subst he ho
  rfl

/-- The stored block of rows 14 and pair 1 of key head 1: two tiles' results. -/
theorem pc_14_1_1 : (kernelRun0_A.sl.v17692 (F := Ideal) c i arg2 harg2 arg3 harg3 arg8 harg8 arg9 harg9 arg10 harg10 arg17 arg18 arg19 x1 x2 x7 x8 x9) =
    put1 (truncf .bf16 (tileE (qAt arg8 harg8 x7 1792 256 (by decide)) (kAt192 arg9 harg9 x8 1664 128 (by decide)) (kernelRun0_A.sl.v9867 (F := Ideal) c arg2 harg2 arg17 x1)
      (kernelRun0_A.sl.v17515 (F := Ideal) c arg10 harg10 arg18 x9) (kernelRun0_A.sl.v9151 (F := Ideal) c arg3 harg3 x2)) bitsLt_bf16_f32)
      (truncf .bf16 (tileO (qAt arg8 harg8 x7 1856 256 (by decide)) (kAt192 arg9 harg9 x8 1728 128 (by decide)) (kernelRun0_A.sl.v9867 (F := Ideal) c arg2 harg2 arg17 x1)
      (kernelRun0_A.sl.v17515 (F := Ideal) c arg10 harg10 arg18 x9) (kernelRun0_A.sl.v9151 (F := Ideal) c arg3 harg3 x2)) bitsLt_bf16_f32) := by
  simp only [kernelRun0_A.sl.v17692, kernelRun0_A.sl.v17691, kernelRun0_A.sl.v17688, kernelRun0_A.sl.v17685, kernelRun0_A.sl.v17674, kernelRun0_A.sl.v17524, kernelRun0_A.sl.v17522, kernelRun0_A.sl.v17517, kernelRun0_A.sl.v17514, kernelRun0_A.sl.v17512, kernelRun0_A.sl.v17511, kernelRun0_A.sl.v17510, kernelRun0_A.sl.v17508, kernelRun0_A.sl.v17523, kernelRun0_A.sl.v17521, kernelRun0_A.sl.v17518, kernelRun0_A.sl.v17687, kernelRun0_A.sl.v17686, kernelRun0_A.sl.v17675, kernelRun0_A.sl.v17673, kernelRun0_A.sl.v17671, kernelRun0_A.sl.v17666, kernelRun0_A.sl.v17663, kernelRun0_A.sl.v17661, kernelRun0_A.sl.v17660, kernelRun0_A.sl.v17659, kernelRun0_A.sl.v17657, kernelRun0_A.sl.v17672, kernelRun0_A.sl.v17670, kernelRun0_A.sl.v17667, kernelRun0_A.sl.v17690, kernelRun0_A.sl.v17689]
  generalize he : (kernelRun0_A.sl.v17507 (F := Ideal) c i arg2 harg2 arg8 harg8 arg9 harg9 arg17 arg19 x1 x7 x8) = e
  generalize ho : (kernelRun0_A.sl.v17656 (F := Ideal) c i arg2 harg2 arg8 harg8 arg9 harg9 arg17 arg19 x1 x7 x8) = o
  rw [rd61] at he
  rw [rd62] at ho
  subst he ho
  rfl

/-- The stored block of rows 15 and pair 0 of key head 0: two tiles' results. -/
theorem pc_15_0_0 : (kernelRun0_A.sl.v9808 (F := Ideal) c i arg2 harg2 arg3 harg3 arg8 harg8 arg9 harg9 arg10 harg10 arg17 arg18 arg19 x1 x2 x7 x8 x9) =
    put0 (truncf .bf16 (tileE (qAt arg8 harg8 x7 1920 0 (by decide)) (kAt192 arg9 harg9 x8 1792 0 (by decide)) (kernelRun0_A.sl.v5257 (F := Ideal) c arg2 harg2 arg17 x1)
      (kernelRun0_A.sl.v8877 (F := Ideal) c arg10 harg10 arg18 x9) (kernelRun0_A.sl.v259 (F := Ideal) c arg3 harg3 x2)) bitsLt_bf16_f32)
      (truncf .bf16 (tileO (qAt arg8 harg8 x7 1984 0 (by decide)) (kAt192 arg9 harg9 x8 1856 0 (by decide)) (kernelRun0_A.sl.v5257 (F := Ideal) c arg2 harg2 arg17 x1)
      (kernelRun0_A.sl.v9789 (F := Ideal) c arg10 harg10 arg18 x9) (kernelRun0_A.sl.v259 (F := Ideal) c arg3 harg3 x2)) bitsLt_bf16_f32) := by
  simp only [kernelRun0_A.sl.v9808, kernelRun0_A.sl.v9807, kernelRun0_A.sl.v9804, kernelRun0_A.sl.v9801, kernelRun0_A.sl.v9799, kernelRun0_A.sl.v8886, kernelRun0_A.sl.v8884, kernelRun0_A.sl.v8879, kernelRun0_A.sl.v8876, kernelRun0_A.sl.v8874, kernelRun0_A.sl.v8873, kernelRun0_A.sl.v8872, kernelRun0_A.sl.v8870, kernelRun0_A.sl.v8885, kernelRun0_A.sl.v8883, kernelRun0_A.sl.v8880, kernelRun0_A.sl.v9803, kernelRun0_A.sl.v9802, kernelRun0_A.sl.v9800, kernelRun0_A.sl.v9798, kernelRun0_A.sl.v9796, kernelRun0_A.sl.v9791, kernelRun0_A.sl.v9788, kernelRun0_A.sl.v9786, kernelRun0_A.sl.v9785, kernelRun0_A.sl.v9784, kernelRun0_A.sl.v9782, kernelRun0_A.sl.v9797, kernelRun0_A.sl.v9795, kernelRun0_A.sl.v9792, kernelRun0_A.sl.v9806, kernelRun0_A.sl.v9805]
  generalize he : (kernelRun0_A.sl.v8869 (F := Ideal) c i arg2 harg2 arg8 harg8 arg9 harg9 arg17 arg19 x1 x7 x8) = e
  generalize ho : (kernelRun0_A.sl.v9781 (F := Ideal) c i arg2 harg2 arg8 harg8 arg9 harg9 arg17 arg19 x1 x7 x8) = o
  rw [rd31] at he
  rw [rd32] at ho
  subst he ho
  rfl

/-- The stored block of rows 15 and pair 1 of key head 0: two tiles' results. -/
theorem pc_15_0_1 : (kernelRun0_A.sl.v9817 (F := Ideal) c i arg2 harg2 arg3 harg3 arg8 harg8 arg9 harg9 arg10 harg10 arg17 arg18 arg19 x1 x2 x7 x8 x9) =
    put1 (truncf .bf16 (tileE (qAt arg8 harg8 x7 1920 0 (by decide)) (kAt192 arg9 harg9 x8 1792 0 (by decide)) (kernelRun0_A.sl.v5257 (F := Ideal) c arg2 harg2 arg17 x1)
      (kernelRun0_A.sl.v8877 (F := Ideal) c arg10 harg10 arg18 x9) (kernelRun0_A.sl.v259 (F := Ideal) c arg3 harg3 x2)) bitsLt_bf16_f32)
      (truncf .bf16 (tileO (qAt arg8 harg8 x7 1984 0 (by decide)) (kAt192 arg9 harg9 x8 1856 0 (by decide)) (kernelRun0_A.sl.v5257 (F := Ideal) c arg2 harg2 arg17 x1)
      (kernelRun0_A.sl.v9789 (F := Ideal) c arg10 harg10 arg18 x9) (kernelRun0_A.sl.v259 (F := Ideal) c arg3 harg3 x2)) bitsLt_bf16_f32) := by
  simp only [kernelRun0_A.sl.v9817, kernelRun0_A.sl.v9816, kernelRun0_A.sl.v9813, kernelRun0_A.sl.v9810, kernelRun0_A.sl.v9799, kernelRun0_A.sl.v8886, kernelRun0_A.sl.v8884, kernelRun0_A.sl.v8879, kernelRun0_A.sl.v8876, kernelRun0_A.sl.v8874, kernelRun0_A.sl.v8873, kernelRun0_A.sl.v8872, kernelRun0_A.sl.v8870, kernelRun0_A.sl.v8885, kernelRun0_A.sl.v8883, kernelRun0_A.sl.v8880, kernelRun0_A.sl.v9812, kernelRun0_A.sl.v9811, kernelRun0_A.sl.v9800, kernelRun0_A.sl.v9798, kernelRun0_A.sl.v9796, kernelRun0_A.sl.v9791, kernelRun0_A.sl.v9788, kernelRun0_A.sl.v9786, kernelRun0_A.sl.v9785, kernelRun0_A.sl.v9784, kernelRun0_A.sl.v9782, kernelRun0_A.sl.v9797, kernelRun0_A.sl.v9795, kernelRun0_A.sl.v9792, kernelRun0_A.sl.v9815, kernelRun0_A.sl.v9814]
  generalize he : (kernelRun0_A.sl.v8869 (F := Ideal) c i arg2 harg2 arg8 harg8 arg9 harg9 arg17 arg19 x1 x7 x8) = e
  generalize ho : (kernelRun0_A.sl.v9781 (F := Ideal) c i arg2 harg2 arg8 harg8 arg9 harg9 arg17 arg19 x1 x7 x8) = o
  rw [rd31] at he
  rw [rd32] at ho
  subst he ho
  rfl

/-- The stored block of rows 15 and pair 0 of key head 1: two tiles' results. -/
theorem pc_15_1_0 : (kernelRun0_A.sl.r_525 (F := Ideal) c i arg2 harg2 arg3 harg3 arg8 harg8 arg9 harg9 arg10 harg10 arg17 arg18 arg19 x1 x2 x7 x8 x9) =
    put0 (truncf .bf16 (tileE (qAt arg8 harg8 x7 1920 256 (by decide)) (kAt192 arg9 harg9 x8 1792 128 (by decide)) (kernelRun0_A.sl.v9867 (F := Ideal) c arg2 harg2 arg17 x1)
      (kernelRun0_A.sl.v17874 (F := Ideal) c arg10 harg10 arg18 x9) (kernelRun0_A.sl.v9151 (F := Ideal) c arg3 harg3 x2)) bitsLt_bf16_f32)
      (truncf .bf16 (tileO (qAt arg8 harg8 x7 1984 256 (by decide)) (kAt192 arg9 harg9 x8 1856 128 (by decide)) (kernelRun0_A.sl.v9867 (F := Ideal) c arg2 harg2 arg17 x1)
      (kernelRun0_A.sl.v17874 (F := Ideal) c arg10 harg10 arg18 x9) (kernelRun0_A.sl.v9151 (F := Ideal) c arg3 harg3 x2)) bitsLt_bf16_f32) := by
  simp only [kernelRun0_A.sl.r_525, kernelRun0_A.sl.r_517, kernelRun0_A.sl.r_516]
  generalize he : (kernelRun0_A.sl.v17866 (F := Ideal) c i arg2 harg2 arg8 harg8 arg9 harg9 arg17 arg19 x1 x7 x8) = e
  generalize ho : (kernelRun0_A.sl.v17958 (F := Ideal) c i arg2 harg2 arg8 harg8 arg9 harg9 arg17 arg19 x1 x7 x8) = o
  rw [rd63] at he
  rw [rd64] at ho
  subst he ho
  rfl

/-- The stored block of rows 15 and pair 1 of key head 1: two tiles' results. -/
theorem pc_15_1_1 : (k0_pay2573 k0_pay7 (kernelRun0_A.sl.r_523 (F := Ideal) c i arg2 harg2 arg3 harg3 arg8 harg8 arg9 harg9 arg10 harg10 arg17 arg18 arg19 x1 x2 x7 x8 x9) (kernelRun0_A.sl.r_524 (F := Ideal) c i arg2 harg2 arg3 harg3 arg8 harg8 arg9 harg9 arg10 harg10 arg17 arg18 arg19 x1 x2 x7 x8 x9)) =
    put1 (truncf .bf16 (tileE (qAt arg8 harg8 x7 1920 256 (by decide)) (kAt192 arg9 harg9 x8 1792 128 (by decide)) (kernelRun0_A.sl.v9867 (F := Ideal) c arg2 harg2 arg17 x1)
      (kernelRun0_A.sl.v17874 (F := Ideal) c arg10 harg10 arg18 x9) (kernelRun0_A.sl.v9151 (F := Ideal) c arg3 harg3 x2)) bitsLt_bf16_f32)
      (truncf .bf16 (tileO (qAt arg8 harg8 x7 1984 256 (by decide)) (kAt192 arg9 harg9 x8 1856 128 (by decide)) (kernelRun0_A.sl.v9867 (F := Ideal) c arg2 harg2 arg17 x1)
      (kernelRun0_A.sl.v17874 (F := Ideal) c arg10 harg10 arg18 x9) (kernelRun0_A.sl.v9151 (F := Ideal) c arg3 harg3 x2)) bitsLt_bf16_f32) := by
  simp only [kernelRun0_A.sl.r_523, kernelRun0_A.sl.r_517, kernelRun0_A.sl.r_516, kernelRun0_A.sl.r_524]
  generalize he : (kernelRun0_A.sl.v17866 (F := Ideal) c i arg2 harg2 arg8 harg8 arg9 harg9 arg17 arg19 x1 x7 x8) = e
  generalize ho : (kernelRun0_A.sl.v17958 (F := Ideal) c i arg2 harg2 arg8 harg8 arg9 harg9 arg17 arg19 x1 x7 x8) = o
  rw [rd63] at he
  rw [rd64] at ho
  subst he ho
  rfl

end Cert.KernelIdeal.Swa

end
end
-- ==== Proof.SwaVal.lean ====
/- The values of the second branch as the attention call's scratch holds them: two blocks of positions side by side, with rows
    of ones under them for the weights' sum. -/
module

public import proofs.«01_k».proof.Proof.SwaPiece

@[expose] public section

set_option maxRecDepth 16384

noncomputable section

namespace Cert.KernelIdeal.Swa

open Cert.KernelIdeal Cert.KernelIdeal.Gen Idealize.ShloMosaic Idealize.ShloMosaic.TcCoe Idealize.SL.Sem

variable (c : Dev nD) (i : grid0.Coords) (arg2 : Memref sig .tc .smem S8 .f32) (harg2 : arg2.IsWhole) (arg3 : Memref sig .tc .smem S8 .f32)
  (harg3 : arg3.IsWhole) (arg8 : Memref sig .tc .vmem S2048x512 .bf16) (harg8 : arg8.IsWhole) (arg9 : Memref sig .tc .vmem S2048x256 .bf16)
  (harg9 : arg9.IsWhole) (arg10 : Memref sig .tc .vmem S16x128x128 .bf16) (harg10 : arg10.IsWhole)
  (arg17 : Memref sig .tc .vmem S2x192x256 .f32) (arg18 : Memref sig .tc .vmem S2x16x96x256 .bf16) (arg19 : Memref sig .tc .vmem S5x192x256 .f32)
  (x1 : Vec Ideal S8 .f32) (x2 : Vec Ideal S8 .f32) (x7 : Vec Ideal S2048x512 .bf16) (x8 : Vec Ideal S2048x256 .bf16) (x9 : Vec Ideal S16x128x128 .bf16)

/-- 64 rows of one block's values. -/
def vRow (arg10 : Memref sig .tc .vmem S16x128x128 .bf16) (harg10 : arg10.IsWhole) (x9 : Vec Ideal S16x128x128 .bf16) (j o : ℕ)
    (h : ∀ a, (![j, o, 0] : Fin 3 → ℕ) a + S1x64x128.size a ≤ S16x128x128.size a) : Vec Ideal S1x64x128 .bf16 :=
  View.readAt (Elt Ideal) arg10.view (Rect.unit (s := S16x128x128) ![j, o, 0] S1x64x128.size h).toLoadRect (harg10.unread x9)
/-- Two blocks of values side by side. -/
def val (u w : Vec Ideal S1x64x128 .bf16) : Vec Ideal S1x1x64x256 .bf16 :=
  shapeCast S1x1x64x256 (concatenate S64x256 1 [⟨S64x128, shapeCast S64x128 u shapeCasts_S1x64x128_S64x128⟩,
    ⟨S64x128, shapeCast S64x128 w shapeCasts_S1x64x128_S64x128⟩] concatenates_S64x128_S64x128_S64x256_d1) shapeCasts_S64x256_S1x1x64x256
/-- The first block of values, after a block of zeros. -/
def val0 (w : Vec Ideal S1x64x128 .bf16) : Vec Ideal S1x1x64x256 .bf16 :=
  shapeCast S1x1x64x256 (concatenate S64x256 1 [⟨S64x128, broadcast S64x128 (Scalar.ofBits (F := Ideal) .bf16 0x0000#16)⟩,
    ⟨S64x128, shapeCast S64x128 w shapeCasts_S1x64x128_S64x128⟩] concatenates_S64x128_S64x128_S64x256_d1) shapeCasts_S64x256_S1x1x64x256
/-- Sixteen rows of ones. -/
def ones : Vec Ideal S1x1x16x256 .bf16 :=
  shapeCast S1x1x16x256 (broadcast S16x256 (Scalar.ofBits (F := Ideal) .bf16 0x3F80#16)) shapeCasts_S16x256_S1x1x16x256
/-- 64 rows of values with sixteen rows of ones under them. -/
def pair (w0 : Vec Ideal S1x1x64x256 .bf16) (w1 : Vec Ideal S1x1x16x256 .bf16) : Vec Ideal S1x1x80x256 .bf16 := fun x =>
  if h : (x 2).val < 64 then w0 (ix4 0 0 ⟨(x 2).val, h⟩ (x 3)) else w1 (ix4 0 0 ⟨(x 2).val - 64, by have := (x 2).isLt; change (x 2).val < 80 at this; omega⟩ (x 3))

/-- A block of values read after another was stored. -/
theorem skip4 (v : View sig .tc .vmem S2x16x96x256 .bf16) {o o' size size' : Fin 4 → ℕ} (inb : ∀ a, o a + size a ≤ S2x16x96x256.size a)
    (inb' : ∀ a, o' a + size' a ≤ S2x16x96x256.size a)
    (hd : LoadRect.disj (Rect.unit (s := S2x16x96x256) o' size' inb') (Rect.unit (s := S2x16x96x256) o size inb).toLoadRect = true)
    {w : (Rect.unit (s := S2x16x96x256) o' size' inb').shape.Idx → Elt Ideal .bf16} {L : List (View.Piece (Elt Ideal) S2x16x96x256 .bf16)} :
    v.readCov (⟨Rect.unit (s := S2x16x96x256) o' size' inb', w⟩ :: L) (Rect.unit (s := S2x16x96x256) o size inb).toLoadRect =
      v.readCov L (Rect.unit (s := S2x16x96x256) o size inb).toLoadRect :=
  View.readCov_skip _ _ _ _ _ hd

/-- The rows of values and of ones, read as one block. -/
theorem hit4 (v : View sig .tc .vmem S2x16x96x256 .bf16) {a b : ℕ} (i0 : ∀ x, (![a, b, 0, 0] : Fin 4 → ℕ) x + S1x1x80x256.size x ≤ S2x16x96x256.size x)
    (i1 : ∀ x, (![a, b, 64, 0] : Fin 4 → ℕ) x + S1x1x16x256.size x ≤ S2x16x96x256.size x)
    (i2 : ∀ x, (![a, b, 0, 0] : Fin 4 → ℕ) x + S1x1x64x256.size x ≤ S2x16x96x256.size x)
    {w1 : Vec Ideal S1x1x16x256 .bf16} {w0 : Vec Ideal S1x1x64x256 .bf16} {L : List (View.Piece (Elt Ideal) S2x16x96x256 .bf16)} :
    v.readCov (⟨Rect.unit (s := S2x16x96x256) ![a, b, 64, 0] S1x1x16x256.size i1, w1⟩ ::
      ⟨Rect.unit (s := S2x16x96x256) ![a, b, 0, 0] S1x1x64x256.size i2, w0⟩ :: L)
      (Rect.unit (s := S2x16x96x256) ![a, b, 0, 0] S1x1x80x256.size i0).toLoadRect = pair w0 w1 := by
  funext x
  rw [View.readCov_eq_canon']
  have hb := (x 2).isLt
  change (x 2).val < 80 at hb
  have h0 : (x 0).val = 0 := by have h := (x 0).isLt; change (x 0).val < 1 at h; omega
  have h1 : (x 1).val = 0 := by have h := (x 1).isLt; change (x 1).val < 1 at h; omega
  unfold pair
  split
  · next h =>
    have e : (Rect.unit (s := S2x16x96x256) ![a, b, 0, 0] S1x1x80x256.size i0).toLoadRect.idx x =
        (Rect.unit (s := S2x16x96x256) ![a, b, 0, 0] S1x1x64x256.size i2).emb (ix4 0 0 ⟨(x 2).val, h⟩ (x 3)) := by
      funext k; apply Fin.ext; fin_cases k
      · show a + 1 * (x 0).val = a + 1 * 0; omega
      · show b + 1 * (x 1).val = b + 1 * 0; omega
      · rfl
      · rfl
    show View.canon _ _ = _
    rw [View.canon_cons_of_not_mem _ _ (by
      intro hm
      have he := ((Rect.mem_set_unit (inb := i1)).mp hm (2 : Fin 4)).1
      change 64 ≤ 0 + 1 * (x 2).val at he
      omega), e, View.canon_cons_emb]
  · next h =>
    have e : (Rect.unit (s := S2x16x96x256) ![a, b, 0, 0] S1x1x80x256.size i0).toLoadRect.idx x =
        (Rect.unit (s := S2x16x96x256) ![a, b, 64, 0] S1x1x16x256.size i1).emb (ix4 0 0 ⟨(x 2).val - 64, by omega⟩ (x 3)) := by
      funext k; apply Fin.ext; fin_cases k
      · show a + 1 * (x 0).val = a + 1 * 0; omega
      · show b + 1 * (x 1).val = b + 1 * 0; omega
      · show 0 + 1 * (x 2).val = 64 + 1 * ((x 2).val - 64); omega
      · rfl
    show View.canon _ _ = _
    rw [e, View.canon_cons_emb]

/-- The values, by element. -/
theorem val_apply (u w : Vec Ideal S1x64x128 .bf16) (d : Fin 64) (κ : Fin 256) :
    val u w (ix4 0 0 d κ) = if h : κ.val < 128 then u (ix3 0 d ⟨κ.val, h⟩) else w (ix3 0 d ⟨κ.val - 128, by omega⟩) := by
  unfold val
  pointwise
/-- The first block's values, by element. -/
theorem val0_apply (w : Vec Ideal S1x64x128 .bf16) (d : Fin 64) (κ : Fin 256) :
    val0 w (ix4 0 0 d κ) = if h : κ.val < 128 then 0 else w (ix3 0 d ⟨κ.val - 128, by omega⟩) := by
  unfold val0
  pointwise
/-- The ones. -/
theorem ones_apply (d : Fin 16) (κ : Fin 256) : ones (ix4 0 0 d κ) = 1 := by
  unfold ones
  pointwise
/-- The rows of ones of a pair. -/
theorem pair_one (w0 : Vec Ideal S1x1x64x256 .bf16) (κ : Fin 256) : pair w0 ones (ix4 0 0 64 κ) = 1 := ones_apply 0 κ
/-- The rows of values of a pair. -/
theorem pair_val (w0 : Vec Ideal S1x1x64x256 .bf16) (w1 : Vec Ideal S1x1x16x256 .bf16) (d : Fin 80) (h : d.val < 64) (κ : Fin 256) :
    pair w0 w1 (ix4 0 0 d κ) = w0 (ix4 0 0 ⟨d.val, h⟩ κ) := dif_pos h
/-- The values of a row, by element. -/
theorem vRow_apply (arg10 : Memref sig .tc .vmem S16x128x128 .bf16) (harg10 : arg10.IsWhole) (x9 : Vec Ideal S16x128x128 .bf16) (j o : ℕ) (h)
    (d : Fin 64) (κ : Fin 128) :
    vRow arg10 harg10 x9 j o h (ix3 0 d κ) = x9 (ix3 ⟨j, by have := h 0; change j + 1 ≤ 16 at this; omega⟩ ⟨o + d.val, by have := h 1; change o + 64 ≤ 128 at this; omega⟩ κ) := by
  unfold vRow
  rw [View.readAt_eq_ld, Memref.IsWhole.read_unread]
  refine congrArg x9 (funext fun k => Fin.ext ?_)
  fin_cases k
  · show j + 1 * 0 = j; omega
  · show o + 1 * d.val = o + d.val; omega
  · show 0 + 1 * κ.val = κ.val; omega

/-- The values of block 0 and key head 0, read back. -/
theorem va_0_0 : (kernelRun0_A.sl.v1185 (F := Ideal) c arg10 harg10 arg18 x9) = pair (val0 (vRow arg10 harg10 x9 0 0 (by decide))) ones :=
  (skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans (hit4 _ _ _ _))))))))))))))))))))))))))))))

/-- The values of block 1 and key head 0, read back. -/
theorem va_0_1 : (kernelRun0_A.sl.v1625 (F := Ideal) c arg10 harg10 arg18 x9) = pair (val (vRow arg10 harg10 x9 0 0 (by decide)) (vRow arg10 harg10 x9 1 0 (by decide))) ones :=
  (skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans (hit4 _ _ _ _))))))))))))))))))))))))))))

/-- The values of block 2 and key head 0, read back. -/
theorem va_0_2 : (kernelRun0_A.sl.v2356 (F := Ideal) c arg10 harg10 arg18 x9) = pair (val (vRow arg10 harg10 x9 1 0 (by decide)) (vRow arg10 harg10 x9 2 0 (by decide))) ones :=
  (skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans (hit4 _ _ _ _))))))))))))))))))))))))))

/-- The values of block 3 and key head 0, read back. -/
theorem va_0_3 : (kernelRun0_A.sl.v2751 (F := Ideal) c arg10 harg10 arg18 x9) = pair (val (vRow arg10 harg10 x9 2 0 (by decide)) (vRow arg10 harg10 x9 3 0 (by decide))) ones :=
  (skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans (hit4 _ _ _ _))))))))))))))))))))))))

/-- The values of block 4 and key head 0, read back. -/
theorem va_0_4 : (kernelRun0_A.sl.v3093 (F := Ideal) c arg10 harg10 arg18 x9) = pair (val (vRow arg10 harg10 x9 3 0 (by decide)) (vRow arg10 harg10 x9 4 0 (by decide))) ones :=
  (skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans (hit4 _ _ _ _))))))))))))))))))))))

/-- The values of block 5 and key head 0, read back. -/
theorem va_0_5 : (kernelRun0_A.sl.v3628 (F := Ideal) c arg10 harg10 arg18 x9) = pair (val (vRow arg10 harg10 x9 4 0 (by decide)) (vRow arg10 harg10 x9 5 0 (by decide))) ones :=
  (skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans (hit4 _ _ _ _))))))))))))))))))))

/-- The values of block 6 and key head 0, read back. -/
theorem va_0_6 : (kernelRun0_A.sl.v4132 (F := Ideal) c arg10 harg10 arg18 x9) = pair (val (vRow arg10 harg10 x9 5 0 (by decide)) (vRow arg10 harg10 x9 6 0 (by decide))) ones :=
  (skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans (hit4 _ _ _ _))))))))))))))))))

/-- The values of block 7 and key head 0, read back. -/
theorem va_0_7 : (kernelRun0_A.sl.v4491 (F := Ideal) c arg10 harg10 arg18 x9) = pair (val (vRow arg10 harg10 x9 6 0 (by decide)) (vRow arg10 harg10 x9 7 0 (by decide))) ones :=
  (skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans (hit4 _ _ _ _))))))))))))))))

/-- The values of block 8 and key head 0, read back. -/
theorem va_0_8 : (kernelRun0_A.sl.v5571 (F := Ideal) c arg10 harg10 arg18 x9) = pair (val (vRow arg10 harg10 x9 7 0 (by decide)) (vRow arg10 harg10 x9 8 0 (by decide))) ones :=
  (skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans (hit4 _ _ _ _))))))))))))))

/-- The values of block 9 and key head 0, read back. -/
theorem va_0_9 : (kernelRun0_A.sl.v6011 (F := Ideal) c arg10 harg10 arg18 x9) = pair (val (vRow arg10 harg10 x9 8 0 (by decide)) (vRow arg10 harg10 x9 9 0 (by decide))) ones :=
  (skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans (hit4 _ _ _ _))))))))))))

/-- The values of block 10 and key head 0, read back. -/
theorem va_0_10 : (kernelRun0_A.sl.v6742 (F := Ideal) c arg10 harg10 arg18 x9) = pair (val (vRow arg10 harg10 x9 9 0 (by decide)) (vRow arg10 harg10 x9 10 0 (by decide))) ones :=
  (skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans (hit4 _ _ _ _))))))))))

/-- The values of block 11 and key head 0, read back. -/
theorem va_0_11 : (kernelRun0_A.sl.v7137 (F := Ideal) c arg10 harg10 arg18 x9) = pair (val (vRow arg10 harg10 x9 10 0 (by decide)) (vRow arg10 harg10 x9 11 0 (by decide))) ones :=
  (skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans (hit4 _ _ _ _))))))))

/-- The values of block 12 and key head 0, read back. -/
theorem va_0_12 : (kernelRun0_A.sl.v7479 (F := Ideal) c arg10 harg10 arg18 x9) = pair (val (vRow arg10 harg10 x9 11 0 (by decide)) (vRow arg10 harg10 x9 12 0 (by decide))) ones :=
  (skip4 _ _ _ rfl).trans ((skip4 _ _ _ rfl).trans ((skip4 _ _ _ rfl).trans ((skip4 _ _ _ rfl).trans ((skip4 _ _ _ rfl).trans ((skip4 _ _ _ rfl).trans (hit4 _ _ _ _))))))

/-- The values of block 13 and key head 0, read back. -/
theorem va_0_13 : (kernelRun0_A.sl.v8014 (F := Ideal) c arg10 harg10 arg18 x9) = pair (val (vRow arg10 harg10 x9 12 0 (by decide)) (vRow arg10 harg10 x9 13 0 (by decide))) ones :=
  (skip4 _ _ _ rfl).trans ((skip4 _ _ _ rfl).trans ((skip4 _ _ _ rfl).trans ((skip4 _ _ _ rfl).trans (hit4 _ _ _ _))))

/-- The values of block 14 and key head 0, read back. -/
theorem va_0_14 : (kernelRun0_A.sl.v8518 (F := Ideal) c arg10 harg10 arg18 x9) = pair (val (vRow arg10 harg10 x9 13 0 (by decide)) (vRow arg10 harg10 x9 14 0 (by decide))) ones :=
  (skip4 _ _ _ rfl).trans ((skip4 _ _ _ rfl).trans (hit4 _ _ _ _))

/-- The values of block 15 and key head 0, read back. -/
theorem va_0_15 : (kernelRun0_A.sl.v8877 (F := Ideal) c arg10 harg10 arg18 x9) = pair (val (vRow arg10 harg10 x9 14 0 (by decide)) (vRow arg10 harg10 x9 15 0 (by decide))) ones :=
  hit4 _ _ _ _

/-- The values of block 15 and key head 0, read back a second time. -/
theorem vab_0_15 : (kernelRun0_A.sl.v9789 (F := Ideal) c arg10 harg10 arg18 x9) = pair (val (vRow arg10 harg10 x9 14 0 (by decide)) (vRow arg10 harg10 x9 15 0 (by decide))) ones :=
  (skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans (hit4 _ _ _ _))))))))))))))))))))))))))))))))

/-- The values of block 0 and key head 1, read back. -/
theorem va_1_0 : (kernelRun0_A.sl.v10182 (F := Ideal) c arg10 harg10 arg18 x9) = pair (val0 (vRow arg10 harg10 x9 0 64 (by decide))) ones :=
  (skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans (hit4 _ _ _ _))))))))))))))))))))))))))))))

/-- The values of block 1 and key head 1, read back. -/
theorem va_1_1 : (kernelRun0_A.sl.v10622 (F := Ideal) c arg10 harg10 arg18 x9) = pair (val (vRow arg10 harg10 x9 0 64 (by decide)) (vRow arg10 harg10 x9 1 64 (by decide))) ones :=
  (skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans (hit4 _ _ _ _))))))))))))))))))))))))))))

/-- The values of block 2 and key head 1, read back. -/
theorem va_1_2 : (kernelRun0_A.sl.v11353 (F := Ideal) c arg10 harg10 arg18 x9) = pair (val (vRow arg10 harg10 x9 1 64 (by decide)) (vRow arg10 harg10 x9 2 64 (by decide))) ones :=
  (skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans (hit4 _ _ _ _))))))))))))))))))))))))))

/-- The values of block 3 and key head 1, read back. -/
theorem va_1_3 : (kernelRun0_A.sl.v11748 (F := Ideal) c arg10 harg10 arg18 x9) = pair (val (vRow arg10 harg10 x9 2 64 (by decide)) (vRow arg10 harg10 x9 3 64 (by decide))) ones :=
  (skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans (hit4 _ _ _ _))))))))))))))))))))))))

/-- The values of block 4 and key head 1, read back. -/
theorem va_1_4 : (kernelRun0_A.sl.v12090 (F := Ideal) c arg10 harg10 arg18 x9) = pair (val (vRow arg10 harg10 x9 3 64 (by decide)) (vRow arg10 harg10 x9 4 64 (by decide))) ones :=
  (skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans (hit4 _ _ _ _))))))))))))))))))))))

/-- The values of block 5 and key head 1, read back. -/
theorem va_1_5 : (kernelRun0_A.sl.v12625 (F := Ideal) c arg10 harg10 arg18 x9) = pair (val (vRow arg10 harg10 x9 4 64 (by decide)) (vRow arg10 harg10 x9 5 64 (by decide))) ones :=
  (skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans (hit4 _ _ _ _))))))))))))))))))))

/-- The values of block 6 and key head 1, read back. -/
theorem va_1_6 : (kernelRun0_A.sl.v13129 (F := Ideal) c arg10 harg10 arg18 x9) = pair (val (vRow arg10 harg10 x9 5 64 (by decide)) (vRow arg10 harg10 x9 6 64 (by decide))) ones :=
  (skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans (hit4 _ _ _ _))))))))))))))))))

/-- The values of block 7 and key head 1, read back. -/
theorem va_1_7 : (kernelRun0_A.sl.v13488 (F := Ideal) c arg10 harg10 arg18 x9) = pair (val (vRow arg10 harg10 x9 6 64 (by decide)) (vRow arg10 harg10 x9 7 64 (by decide))) ones :=
  (skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans (hit4 _ _ _ _))))))))))))))))

/-- The values of block 8 and key head 1, read back. -/
theorem va_1_8 : (kernelRun0_A.sl.v14568 (F := Ideal) c arg10 harg10 arg18 x9) = pair (val (vRow arg10 harg10 x9 7 64 (by decide)) (vRow arg10 harg10 x9 8 64 (by decide))) ones :=
  (skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans (hit4 _ _ _ _))))))))))))))

/-- The values of block 9 and key head 1, read back. -/
theorem va_1_9 : (kernelRun0_A.sl.v15008 (F := Ideal) c arg10 harg10 arg18 x9) = pair (val (vRow arg10 harg10 x9 8 64 (by decide)) (vRow arg10 harg10 x9 9 64 (by decide))) ones :=
  (skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans (hit4 _ _ _ _))))))))))))

/-- The values of block 10 and key head 1, read back. -/
theorem va_1_10 : (kernelRun0_A.sl.v15739 (F := Ideal) c arg10 harg10 arg18 x9) = pair (val (vRow arg10 harg10 x9 9 64 (by decide)) (vRow arg10 harg10 x9 10 64 (by decide))) ones :=
  (skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans (hit4 _ _ _ _))))))))))

/-- The values of block 11 and key head 1, read back. -/
theorem va_1_11 : (kernelRun0_A.sl.v16134 (F := Ideal) c arg10 harg10 arg18 x9) = pair (val (vRow arg10 harg10 x9 10 64 (by decide)) (vRow arg10 harg10 x9 11 64 (by decide))) ones :=
  (skip4 _ _ _ rfl).trans ((skip4 _ _ _ rfl).trans ((skip4 _ _ _ rfl).trans ((skip4 _ _ _ rfl).trans ((skip4 _ _ _ rfl).trans ((skip4 _ _ _ rfl).trans ((skip4 _ _ _ rfl).trans ((skip4 _ _ _ rfl).trans (hit4 _ _ _ _))))))))

/-- The values of block 12 and key head 1, read back. -/
theorem va_1_12 : (kernelRun0_A.sl.v16476 (F := Ideal) c arg10 harg10 arg18 x9) = pair (val (vRow arg10 harg10 x9 11 64 (by decide)) (vRow arg10 harg10 x9 12 64 (by decide))) ones :=
  (skip4 _ _ _ rfl).trans ((skip4 _ _ _ rfl).trans ((skip4 _ _ _ rfl).trans ((skip4 _ _ _ rfl).trans ((skip4 _ _ _ rfl).trans ((skip4 _ _ _ rfl).trans (hit4 _ _ _ _))))))

/-- The values of block 13 and key head 1, read back. -/
theorem va_1_13 : (kernelRun0_A.sl.v17011 (F := Ideal) c arg10 harg10 arg18 x9) = pair (val (vRow arg10 harg10 x9 12 64 (by decide)) (vRow arg10 harg10 x9 13 64 (by decide))) ones :=
  (skip4 _ _ _ rfl).trans ((skip4 _ _ _ rfl).trans ((skip4 _ _ _ rfl).trans ((skip4 _ _ _ rfl).trans (hit4 _ _ _ _))))

/-- The values of block 14 and key head 1, read back. -/
theorem va_1_14 : (kernelRun0_A.sl.v17515 (F := Ideal) c arg10 harg10 arg18 x9) = pair (val (vRow arg10 harg10 x9 13 64 (by decide)) (vRow arg10 harg10 x9 14 64 (by decide))) ones :=
  (skip4 _ _ _ rfl).trans ((skip4 _ _ _ rfl).trans (hit4 _ _ _ _))

/-- The values of block 15 and key head 1, read back. -/
theorem va_1_15 : (kernelRun0_A.sl.v17874 (F := Ideal) c arg10 harg10 arg18 x9) = pair (val (vRow arg10 harg10 x9 14 64 (by decide)) (vRow arg10 harg10 x9 15 64 (by decide))) ones :=
  hit4 _ _ _ _

end Cert.KernelIdeal.Swa

end
end
-- ==== Proof.SwaBias.lean ====
/- The biases of the second branch's scores: minus the slope times the distance inside the window, minus infinity outside. -/
module

public import proofs.«01_k».proof.Proof.SwaVal

@[expose] public section

set_option maxRecDepth 16384

noncomputable section

namespace Cert.KernelIdeal.Swa

open Cert.KernelIdeal Cert.KernelIdeal.Gen Idealize.ShloMosaic Idealize.ShloMosaic.TcCoe Idealize.SL.Sem

variable (c : Dev nD) (i : grid0.Coords) (arg2 : Memref sig .tc .smem S8 .f32) (harg2 : arg2.IsWhole) (arg3 : Memref sig .tc .smem S8 .f32)
  (harg3 : arg3.IsWhole) (arg8 : Memref sig .tc .vmem S2048x512 .bf16) (harg8 : arg8.IsWhole) (arg9 : Memref sig .tc .vmem S2048x256 .bf16)
  (harg9 : arg9.IsWhole) (arg10 : Memref sig .tc .vmem S16x128x128 .bf16) (harg10 : arg10.IsWhole)
  (arg17 : Memref sig .tc .vmem S2x192x256 .f32) (arg18 : Memref sig .tc .vmem S2x16x96x256 .bf16) (arg19 : Memref sig .tc .vmem S5x192x256 .f32)
  (x1 : Vec Ideal S8 .f32) (x2 : Vec Ideal S8 .f32) (x7 : Vec Ideal S2048x512 .bf16) (x8 : Vec Ideal S2048x256 .bf16) (x9 : Vec Ideal S16x128x128 .bf16)

/-- A comparison of words as a comparison of integers. -/
theorem cmpi_sge (x y : BitVec 32) : IntOp.cmpi .sge x y = if y.toInt ≤ x.toInt then 1#1 else 0#1 := by
  show BitVec.ofBool (decide (y.toInt ≤ x.toInt)) = _
  by_cases h : y.toInt ≤ x.toInt
  · rw [if_pos h, decide_eq_true h]; rfl
  · rw [if_neg h, decide_eq_false h]; rfl
/-- The same of the strict comparison. -/
theorem cmpi_slt (x y : BitVec 32) : IntOp.cmpi .slt x y = if x.toInt < y.toInt then 1#1 else 0#1 := by
  show BitVec.ofBool (decide (x.toInt < y.toInt)) = _
  by_cases h : x.toInt < y.toInt
  · rw [if_pos h, decide_eq_true h]; rfl
  · rw [if_neg h, decide_eq_false h]; rfl
/-- A small word as an integer. -/
theorem toInt_small (a : ℕ) (h : a < 1000) : (BitVec.ofNat 32 a).toInt = (a : ℤ) := by
  rw [BitVec.toInt_eq_toNat_of_lt (by rw [BitVec.toNat_ofNat]; omega), BitVec.toNat_ofNat]; omega
/-- The distance of a key row from a query column, as the kernel computes it in 32-bit words. -/
theorem dist_toInt (a b : ℕ) (ha : a < 256) (hb : b < 192) :
    (IntOp.subi (IntOp.addi (IntOp.andi (BitVec.ofNat 32 a) 63#32) 128#32) (BitVec.ofNat 32 b)).toInt = (a % 64 : ℕ) + 128 - (b : ℤ) := by
  have h : IntOp.andi (BitVec.ofNat 32 a) 63#32 = BitVec.ofNat 32 (a % 64) := by
    unfold IntOp.andi
    apply BitVec.eq_of_toNat_eq
    rw [BitVec.toNat_and, BitVec.toNat_ofNat, BitVec.toNat_ofNat, BitVec.toNat_ofNat]
    have := Nat.and_two_pow_sub_one_eq_mod a 6
    rw [Nat.mod_eq_of_lt (a := a) (by omega), Nat.mod_eq_of_lt (a := a % 64) (by omega)]
    exact this
  rw [h]
  unfold IntOp.subi IntOp.addi
  rw [BitVec.toInt_sub, BitVec.toInt_add, toInt_small (a % 64) (by omega), toInt_small b (by omega), show (128#32).toInt = 128 from rfl]
  simp only [Int.bmod]
  omega
/-- The head of a lane: one of four by 64 lanes. -/
theorem pick (a : ℕ) (ha : a < 256) (w : Fin 4 → EReal) :
    Scalar.select (IntOp.cmpi .sge (BitVec.ofNat 32 a) 192#32) (w 3) (Scalar.select (IntOp.cmpi .sge (BitVec.ofNat 32 a) 128#32) (w 2)
      (Scalar.select (IntOp.cmpi .sge (BitVec.ofNat 32 a) 64#32) (w 1) (w 0))) = w ⟨a / 64, by omega⟩ := by
  simp only [cmpi_sge, toInt_small a (by omega), show (192#32).toInt = 192 from rfl, show (128#32).toInt = 128 from rfl, show (64#32).toInt = 64 from rfl]
  by_cases h3 : 192 ≤ a
  · rw [if_pos (by omega), select_one]; exact congrArg w (Fin.ext (show 3 = a / 64 by omega))
  rw [if_neg (by omega), select_zero]
  by_cases h2 : 128 ≤ a
  · rw [if_pos (by omega), select_one]; exact congrArg w (Fin.ext (show 2 = a / 64 by omega))
  rw [if_neg (by omega), select_zero]
  by_cases h1 : 64 ≤ a
  · rw [if_pos (by omega), select_one]; exact congrArg w (Fin.ext (show 1 = a / 64 by omega))
  rw [if_neg (by omega), select_zero]
  exact congrArg w (Fin.ext (show 0 = a / 64 by omega))
/-- The bias of a distance: minus the slope times the distance inside the window, minus infinity outside. -/
def slope (s : EReal) (d : ℤ) : EReal := if 0 ≤ d ∧ d < 128 then (0 - s) * ((d : ℝ) : EReal) else ⊥
/-- The masked distance times a slope, as the kernel selects it. -/
theorem masked (X : BitVec 32) (s : EReal) :
    Scalar.select (IntOp.andi (IntOp.cmpi .sge X 0#32) (IntOp.cmpi .slt X 128#32)) ((0 - s) * FloatOps.sitofp (F := Ideal) FTy.f32 X)
      (Named.named (F := Ideal) κ (φ := FTy.f32) "mask" 4048155338#32) = slope s X.toInt := by
  rw [cmpi_sge, cmpi_slt]
  simp only [show (0#32).toInt = 0 from rfl, show (128#32).toInt = 128 from rfl]
  unfold slope
  by_cases h : 0 ≤ X.toInt <;> by_cases h' : X.toInt < 128
  · rw [if_pos h, if_pos h', if_pos (And.intro h h')]; rfl
  · rw [if_pos h, if_neg h', if_neg (fun q => h' (And.right q))]; rfl
  · rw [if_neg h, if_pos h', if_neg (fun q => h (And.left q))]; rfl
  · rw [if_neg h, if_neg h', if_neg (fun q => h (And.left q))]; rfl

/-- The first key head's biases, by element. -/
theorem pay12_apply (w : Fin 4 → EReal) (i : Fin 192) (c : Fin 256) :
    k0_pay12 (F := Ideal) kernelRun0_A.sl.v26 k0_pay6 k0_pay9 (k0_pay10 (F := Ideal) (w 1)) (k0_pay11 (F := Ideal) (w 0)) (w 2) (w 3) (ix3 0 i c) =
      slope (w ⟨c.val / 64, by omega⟩) ((c.val % 64 : ℕ) + 128 - (i.val : ℤ)) := by
  unfold k0_pay12
  pointwise [k0_pay6, k0_pay9, k0_pay10, k0_pay11, kernelRun0_A.sl.v26]
  rw [← dist_toInt c.val i.val c.isLt i.isLt, ← masked, pick c.val c.isLt w]
/-- The second key head's biases, by element. -/
theorem pay1301_apply (w : Fin 4 → EReal) (i : Fin 192) (c : Fin 256) :
    k0_pay1301 (F := Ideal) kernelRun0_A.sl.v26 k0_pay6 (w 0) (w 1) (w 2) (w 3) (ix3 0 i c) =
      slope (w ⟨c.val / 64, by omega⟩) ((c.val % 64 : ℕ) + 128 - (i.val : ℤ)) := by
  unfold k0_pay1301
  pointwise [k0_pay6, kernelRun0_A.sl.v26]
  rw [← dist_toInt c.val i.val c.isLt i.isLt, ← masked, pick c.val c.isLt w]

/-- A number read from the table of eight. -/
theorem num_read (arg2 : Memref sig .tc .smem S8 .f32) (harg2 : arg2.IsWhole) (x1 : Vec Ideal S8 .f32) (o : ℕ) (h : ∀ a, (![o] : Fin 1 → ℕ) a + S1.size a ≤ S8.size a) (h0) :
    View.readAt (Elt Ideal) arg2.view (Rect.unit (s := S8) ![o] S1.size h).toLoadRect (harg2.unread x1) (Shape.Idx.first h0) =
      x1 (ix1 ⟨o, by have := h 0; change o + 1 ≤ 8 at this; omega⟩) := by
  rw [View.readAt_eq_ld, Memref.IsWhole.read_unread]
  refine congrArg x1 (funext fun k => Fin.ext ?_)
  fin_cases k
  show o + 1 * 0 = o; omega

/-- The first key head's biases, over the slopes' table. -/
theorem pay12_0 (i : Fin 192) (q : Fin 256) : (k0_pay12 (F := Ideal) kernelRun0_A.sl.v26 k0_pay6 k0_pay9 (kernelRun0_A.sl.r_2 (F := Ideal) c arg2 harg2 x1) (kernelRun0_A.sl.r_3 (F := Ideal) c arg2 harg2 x1) (kernelRun0_A.sl.r_4 (F := Ideal) c arg2 harg2 x1) (kernelRun0_A.sl.r_5 (F := Ideal) c arg2 harg2 x1)) (ix3 0 i q) =
    slope (x1 (ix1 ⟨0 + q.val / 64, by omega⟩)) ((q.val % 64 : ℕ) + 128 - (i.val : ℤ)) := by
  have h0 : (kernelRun0_A.sl.r (F := Ideal) c arg2 harg2 x1) = x1 (ix1 ⟨0 + (0 : Fin 4).val, by decide⟩) := num_read arg2 harg2 x1 0 _ _
  have h1 : (kernelRun0_A.sl.r_1 (F := Ideal) c arg2 harg2 x1) = x1 (ix1 ⟨0 + (1 : Fin 4).val, by decide⟩) := num_read arg2 harg2 x1 1 _ _
  have h2 : (kernelRun0_A.sl.r_4 (F := Ideal) c arg2 harg2 x1) = x1 (ix1 ⟨0 + (2 : Fin 4).val, by decide⟩) := num_read arg2 harg2 x1 2 _ _
  have h3 : (kernelRun0_A.sl.r_5 (F := Ideal) c arg2 harg2 x1) = x1 (ix1 ⟨0 + (3 : Fin 4).val, by decide⟩) := num_read arg2 harg2 x1 3 _ _
  have := pay12_apply (fun n : Fin 4 => x1 (ix1 ⟨0 + n.val, by omega⟩)) i q
  unfold kernelRun0_A.sl.r_2 kernelRun0_A.sl.r_3
  rw [h0, h1, h2, h3]
  exact this
/-- The second key head's biases, over the slopes' table. -/
theorem pay1301_1 (i : Fin 192) (q : Fin 256) : (kernelRun0_A.sl.r_265 (F := Ideal) c arg2 harg2 x1) (ix3 0 i q) =
    slope (x1 (ix1 ⟨4 + q.val / 64, by omega⟩)) ((q.val % 64 : ℕ) + 128 - (i.val : ℤ)) := by
  have h0 : (kernelRun0_A.sl.r_260 (F := Ideal) c arg2 harg2 x1) = x1 (ix1 ⟨4 + (0 : Fin 4).val, by decide⟩) := num_read arg2 harg2 x1 4 _ _
  have h1 : (kernelRun0_A.sl.r_261 (F := Ideal) c arg2 harg2 x1) = x1 (ix1 ⟨4 + (1 : Fin 4).val, by decide⟩) := num_read arg2 harg2 x1 5 _ _
  have h2 : (kernelRun0_A.sl.r_262 (F := Ideal) c arg2 harg2 x1) = x1 (ix1 ⟨4 + (2 : Fin 4).val, by decide⟩) := num_read arg2 harg2 x1 6 _ _
  have h3 : (kernelRun0_A.sl.r_263 (F := Ideal) c arg2 harg2 x1) = x1 (ix1 ⟨4 + (3 : Fin 4).val, by decide⟩) := num_read arg2 harg2 x1 7 _ _
  have := pay1301_apply (fun n : Fin 4 => x1 (ix1 ⟨4 + n.val, by omega⟩)) i q
  unfold kernelRun0_A.sl.r_265
  rw [h0, h1, h2, h3]
  exact this
/-- A part of a key head's biases, read back. -/
theorem biasRead (v : View sig .tc .vmem S2x192x256 .f32) (a o n : ℕ) (hb : ∀ x, (![a, o, 0] : Fin 3 → ℕ) x + (⟨3, ![1, n, 256]⟩ : Shape).size x ≤ S2x192x256.size x)
    (hp : ∀ x, (![a, 0, 0] : Fin 3 → ℕ) x + S1x192x256.size x ≤ S2x192x256.size x) (w : Vec Ideal S1x192x256 .f32)
    (L : List (View.Piece (Elt Ideal) S2x192x256 .f32)) (i : Fin n) (q : Fin 256) :
    v.readCov (⟨Rect.unit (s := S2x192x256) ![a, 0, 0] S1x192x256.size hp, w⟩ :: L)
      (Rect.unit (s := S2x192x256) ![a, o, 0] (⟨3, ![1, n, 256]⟩ : Shape).size hb).toLoadRect (ix3 0 i q) =
    w (ix3 0 ⟨o + i.val, by have := hb 1; have := i.isLt; change o + n ≤ 192 at *; omega⟩ q) := by
  rw [View.readCov_eq_canon']
  have e : (Rect.unit (s := S2x192x256) ![a, o, 0] (⟨3, ![1, n, 256]⟩ : Shape).size hb).toLoadRect.idx (ix3 0 i q) =
      (Rect.unit (s := S2x192x256) ![a, 0, 0] S1x192x256.size hp).emb (ix3 0 ⟨o + i.val, by have := hb 1; have := i.isLt; change o + n ≤ 192 at *; omega⟩ q) := by
    funext k; apply Fin.ext; fin_cases k
    · rfl
    · show o + 1 * i.val = 0 + 1 * (o + i.val); omega
    · rfl
  show View.canon _ _ = _
  rw [e, View.canon_cons_emb]

/-- The biases of key head 0, read back from row 128. -/
theorem bias_v271 (i : Fin 64) (q : Fin 256) : (kernelRun0_A.sl.v271 (F := Ideal) c arg2 harg2 arg17 x1) (ix3 0 i q) =
    slope (x1 (ix1 ⟨0 + q.val / 64, by omega⟩)) ((q.val % 64 : ℕ) + 128 - ((128 + i.val : ℕ) : ℤ)) := by
  refine (biasRead arg17.view 0 128 64 (by decide) (by decide) _ _ i q).trans ?_
  exact pay12_0 c arg2 harg2 x1 ⟨128 + i.val, by omega⟩ q

/-- The biases of key head 0, read back from row 64. -/
theorem bias_v867 (i : Fin 128) (q : Fin 256) : (kernelRun0_A.sl.v867 (F := Ideal) c arg2 harg2 arg17 x1) (ix3 0 i q) =
    slope (x1 (ix1 ⟨0 + q.val / 64, by omega⟩)) ((q.val % 64 : ℕ) + 128 - ((64 + i.val : ℕ) : ℤ)) := by
  refine (biasRead arg17.view 0 64 128 (by decide) (by decide) _ _ i q).trans ?_
  exact pay12_0 c arg2 harg2 x1 ⟨64 + i.val, by omega⟩ q

/-- The biases of key head 0, read back from row 0. -/
theorem bias_v889 (i : Fin 192) (q : Fin 256) : (kernelRun0_A.sl.v889 (F := Ideal) c arg2 harg2 arg17 x1) (ix3 0 i q) =
    slope (x1 (ix1 ⟨0 + q.val / 64, by omega⟩)) ((q.val % 64 : ℕ) + 128 - ((0 + i.val : ℕ) : ℤ)) := by
  refine (biasRead arg17.view 0 0 192 (by decide) (by decide) _ _ i q).trans ?_
  exact pay12_0 c arg2 harg2 x1 ⟨0 + i.val, by omega⟩ q

/-- The biases of key head 0, read back from row 0. -/
theorem bias_v5257 (i : Fin 192) (q : Fin 256) : (kernelRun0_A.sl.v5257 (F := Ideal) c arg2 harg2 arg17 x1) (ix3 0 i q) =
    slope (x1 (ix1 ⟨0 + q.val / 64, by omega⟩)) ((q.val % 64 : ℕ) + 128 - ((0 + i.val : ℕ) : ℤ)) := by
  refine (biasRead arg17.view 0 0 192 (by decide) (by decide) _ _ i q).trans ?_
  exact pay12_0 c arg2 harg2 x1 ⟨0 + i.val, by omega⟩ q

/-- The biases of key head 1, read back from row 128. -/
theorem bias_v9163 (i : Fin 64) (q : Fin 256) : (kernelRun0_A.sl.v9163 (F := Ideal) c arg2 harg2 arg17 x1) (ix3 0 i q) =
    slope (x1 (ix1 ⟨4 + q.val / 64, by omega⟩)) ((q.val % 64 : ℕ) + 128 - ((128 + i.val : ℕ) : ℤ)) := by
  refine (biasRead arg17.view 1 128 64 (by decide) (by decide) _ _ i q).trans ?_
  exact pay1301_1 c arg2 harg2 x1 ⟨128 + i.val, by omega⟩ q

/-- The biases of key head 1, read back from row 64. -/
theorem bias_v9830 (i : Fin 128) (q : Fin 256) : (kernelRun0_A.sl.v9830 (F := Ideal) c arg2 harg2 arg17 x1) (ix3 0 i q) =
    slope (x1 (ix1 ⟨4 + q.val / 64, by omega⟩)) ((q.val % 64 : ℕ) + 128 - ((64 + i.val : ℕ) : ℤ)) := by
  refine (biasRead arg17.view 1 64 128 (by decide) (by decide) _ _ i q).trans ?_
  exact pay1301_1 c arg2 harg2 x1 ⟨64 + i.val, by omega⟩ q

/-- The biases of key head 1, read back from row 0. -/
theorem bias_v9867 (i : Fin 192) (q : Fin 256) : (kernelRun0_A.sl.v9867 (F := Ideal) c arg2 harg2 arg17 x1) (ix3 0 i q) =
    slope (x1 (ix1 ⟨4 + q.val / 64, by omega⟩)) ((q.val % 64 : ℕ) + 128 - ((0 + i.val : ℕ) : ℤ)) := by
  refine (biasRead arg17.view 1 0 192 (by decide) (by decide) _ _ i q).trans ?_
  exact pay1301_1 c arg2 harg2 x1 ⟨0 + i.val, by omega⟩ q

/-- The biases of key head 1, read back from row 0. -/
theorem bias_v11769 (i : Fin 192) (q : Fin 256) : (kernelRun0_A.sl.v11769 (F := Ideal) c arg2 harg2 arg17 x1) (ix3 0 i q) =
    slope (x1 (ix1 ⟨4 + q.val / 64, by omega⟩)) ((q.val % 64 : ℕ) + 128 - ((0 + i.val : ℕ) : ℤ)) := by
  refine (biasRead arg17.view 1 0 192 (by decide) (by decide) _ _ i q).trans ?_
  exact pay1301_1 c arg2 harg2 x1 ⟨0 + i.val, by omega⟩ q

/-- The biases of key head 1, read back from row 0. -/
theorem bias_v17796 (i : Fin 192) (q : Fin 256) : (kernelRun0_A.sl.v17796 (F := Ideal) c arg2 harg2 arg17 x1) (ix3 0 i q) =
    slope (x1 (ix1 ⟨4 + q.val / 64, by omega⟩)) ((q.val % 64 : ℕ) + 128 - ((0 + i.val : ℕ) : ℤ)) := by
  refine (biasRead arg17.view 1 0 192 (by decide) (by decide) _ _ i q).trans ?_
  exact pay1301_1 c arg2 harg2 x1 ⟨0 + i.val, by omega⟩ q

/-- The sinks of key head 0, by lane. -/
theorem sink_0 (q : Fin 256) : (kernelRun0_A.sl.v259 (F := Ideal) c arg3 harg3 x2) (ix2 0 q) = x2 (ix1 ⟨0 + q.val / 64, by omega⟩) := by
  have h0 : (kernelRun0_A.sl.r_7 (F := Ideal) c arg3 harg3 x2) = x2 (ix1 ⟨0 + (0 : Fin 4).val, by decide⟩) := num_read arg3 harg3 x2 0 _ _
  have h1 : (kernelRun0_A.sl.r_8 (F := Ideal) c arg3 harg3 x2) = x2 (ix1 ⟨0 + (1 : Fin 4).val, by decide⟩) := num_read arg3 harg3 x2 1 _ _
  have h2 : (kernelRun0_A.sl.r_9 (F := Ideal) c arg3 harg3 x2) = x2 (ix1 ⟨0 + (2 : Fin 4).val, by decide⟩) := num_read arg3 harg3 x2 2 _ _
  have h3 : (kernelRun0_A.sl.r_10 (F := Ideal) c arg3 harg3 x2) = x2 (ix1 ⟨0 + (3 : Fin 4).val, by decide⟩) := num_read arg3 harg3 x2 3 _ _
  have := pick q.val q.isLt (fun n : Fin 4 => x2 (ix1 ⟨0 + n.val, by omega⟩))
  unfold kernelRun0_A.sl.v259
  pointwise [kernelRun0_A.sl.v249, kernelRun0_A.sl.v247, kernelRun0_A.sl.v254, kernelRun0_A.sl.v250, kernelRun0_A.sl.v248, kernelRun0_A.sl.v242, kernelRun0_A.sl.v244, kernelRun0_A.sl.v253, kernelRun0_A.sl.v255, kernelRun0_A.sl.v258]
  rw [h0, h1, h2, h3]
  exact this.trans (congrArg (fun k => x2 (ix1 k)) (Fin.ext (show 0 + q.val / 64 = q.val / 64 by omega)))

/-- The sinks of key head 1, by lane. -/
theorem sink_1 (q : Fin 256) : (kernelRun0_A.sl.v9151 (F := Ideal) c arg3 harg3 x2) (ix2 0 q) = x2 (ix1 ⟨4 + q.val / 64, by omega⟩) := by
  have h0 : (kernelRun0_A.sl.r_266 (F := Ideal) c arg3 harg3 x2) = x2 (ix1 ⟨4 + (0 : Fin 4).val, by decide⟩) := num_read arg3 harg3 x2 4 _ _
  have h1 : (kernelRun0_A.sl.r_267 (F := Ideal) c arg3 harg3 x2) = x2 (ix1 ⟨4 + (1 : Fin 4).val, by decide⟩) := num_read arg3 harg3 x2 5 _ _
  have h2 : (kernelRun0_A.sl.r_268 (F := Ideal) c arg3 harg3 x2) = x2 (ix1 ⟨4 + (2 : Fin 4).val, by decide⟩) := num_read arg3 harg3 x2 6 _ _
  have h3 : (kernelRun0_A.sl.r_269 (F := Ideal) c arg3 harg3 x2) = x2 (ix1 ⟨4 + (3 : Fin 4).val, by decide⟩) := num_read arg3 harg3 x2 7 _ _
  have := pick q.val q.isLt (fun n : Fin 4 => x2 (ix1 ⟨4 + n.val, by omega⟩))
  unfold kernelRun0_A.sl.v9151
  pointwise [kernelRun0_A.sl.v9140, kernelRun0_A.sl.v250, kernelRun0_A.sl.v9139, kernelRun0_A.sl.v9145, kernelRun0_A.sl.v9146, kernelRun0_A.sl.v9141, kernelRun0_A.sl.v244, kernelRun0_A.sl.v255, kernelRun0_A.sl.v9150, kernelRun0_A.sl.v9134]
  rw [h0, h1, h2, h3]
  exact this.trans (congrArg (fun k => x2 (ix1 k)) (Fin.ext (show 4 + q.val / 64 = 4 + q.val / 64 by omega)))

end Cert.KernelIdeal.Swa

end
end
-- ==== Proof.SwaRefVal.lean ====
/- The reference of the second branch's attention at an index: one key head's result is the attention of a query over
    the 256 keys of its block and the block before it. -/
module

public import proofs.«01_k».proof.Proof.SwaStage
public import proofs.«01_k».proof.Proof.SwaBias

@[expose] public section

set_option maxRecDepth 16384

noncomputable section

namespace Cert.RefIdeal.Stages

open Cert.RefIdeal Cert.RefIdeal.Gen Idealize.ShloMosaic Idealize.ShloMosaic.TcCoe Idealize.SL.Sem
open Cert.KernelIdeal.Swa (att top slope cmpi_sge cmpi_slt toInt_small)

/-- The keys of the two blocks, by element. -/
theorem keys_apply (k : FVec Ideal S16x16x128x2x64 .f32) (b n : Fin 16) (κ : Fin 256) (e : Fin 2) (d : Fin 64) : keys k (ix5 b n κ e d) =
    if h : κ.val < 128 then if h' : n.val < 1 then 0 else k (ix5 b ⟨n.val - 1, by omega⟩ ⟨κ.val, h⟩ e d)
    else k (ix5 b n ⟨κ.val - 128, by omega⟩ e d) := by
  pointwise [keys]

/-- The values of the two blocks, by element. -/
theorem values_apply (v : FVec Ideal S16x16x64x128 .f32) (b n : Fin 16) (d : Fin 64) (κ : Fin 256) : values v (ix4 b n d κ) =
    if h : κ.val < 128 then if h' : n.val < 1 then 0 else v (ix4 b ⟨n.val - 1, by omega⟩ d ⟨κ.val, h⟩)
    else v (ix4 b n d ⟨κ.val - 128, by omega⟩) := by
  pointwise [values]

/-- The distance of a key from a query, as an integer. -/
theorem dist_toInt (a : Fin 128) (κ : Fin 256) : (dist (ix2 a κ)).toInt = (a.val : ℤ) + 128 - (κ.val : ℤ) := by
  have h : dist (ix2 a κ) = IntOp.addi (IntOp.subi (BitVec.ofNat 32 a.val) (BitVec.ofNat 32 κ.val)) 128#32 := by pointwise [dist]
  rw [h]
  unfold IntOp.subi IntOp.addi
  rw [BitVec.toInt_add, BitVec.toInt_sub, toInt_small a.val (by omega), toInt_small κ.val (by omega), show (128#32).toInt = 128 from rfl]
  simp only [Int.bmod]
  omega

/-- Which keys of the two blocks are in the sequence. -/
theorem begun_apply (n : Fin 16) (κ : Fin 256) : begun (ix2 n κ) = if 128 ≤ n.val * 128 + κ.val then 1#1 else 0#1 := by
  have h : begun (ix2 n κ) = IntOp.cmpi .sge (IntOp.addi (IntOp.subi (IntOp.muli (BitVec.ofNat 32 n.val) 128#32) 128#32) (BitVec.ofNat 32 κ.val)) 0#32 := by pointwise [begun]
  have hi : (IntOp.addi (IntOp.subi (IntOp.muli (BitVec.ofNat 32 n.val) 128#32) 128#32) (BitVec.ofNat 32 κ.val)).toInt = (n.val : ℤ) * 128 - 128 + (κ.val : ℤ) := by
    unfold IntOp.subi IntOp.addi IntOp.muli
    rw [BitVec.toInt_add, BitVec.toInt_sub, BitVec.toInt_mul, toInt_small n.val (by omega), toInt_small κ.val (by omega), show (128#32).toInt = 128 from rfl]
    simp only [Int.bmod]
    omega
  rw [h, cmpi_sge, hi, show (0#32).toInt = 0 from rfl]
  by_cases q : 128 ≤ n.val * 128 + κ.val
  · rw [if_pos q, if_pos (by omega)]
  · rw [if_neg q, if_neg (by omega)]

/-- Which distances are in the window. -/
theorem near_apply (a : Fin 128) (κ : Fin 256) : near (ix2 a κ) = if 0 ≤ (a.val : ℤ) + 128 - (κ.val : ℤ) ∧ (a.val : ℤ) + 128 - (κ.val : ℤ) < 128 then 1#1 else 0#1 := by
  have h : near (ix2 a κ) = IntOp.andi (IntOp.cmpi .sge (dist (ix2 a κ)) 0#32) (IntOp.cmpi .slt (dist (ix2 a κ)) 128#32) := by pointwise [near]
  rw [h, cmpi_sge, cmpi_slt, dist_toInt, show (0#32).toInt = 0 from rfl, show (128#32).toInt = 128 from rfl]
  by_cases q : 0 ≤ (a.val : ℤ) + 128 - (κ.val : ℤ) <;> by_cases q' : (a.val : ℤ) + 128 - (κ.val : ℤ) < 128
  · rw [if_pos q, if_pos q', if_pos ⟨q, q'⟩]; rfl
  · rw [if_pos q, if_neg q', if_neg fun z => q' z.2]; rfl
  · rw [if_neg q, if_pos q', if_neg fun z => q z.1]; rfl
  · rw [if_neg q, if_neg q', if_neg fun z => q z.1]; rfl

/-- Which keys a query may see. -/
theorem valid_apply (n : Fin 16) (a : Fin 128) (κ : Fin 256) : valid (ix3 n a κ) = IntOp.andi (near (ix2 a κ)) (begun (ix2 n κ)) := by
  pointwise [valid]

/-- The products of queries and keys, by element. -/
theorem products_apply (q : FVec Ideal S16x16x128x2x2x64 .f32) (k : FVec Ideal S16x16x256x2x64 .f32) (b n : Fin 16) (p e : Fin 2) (a : Fin 128) (κ : Fin 256) :
    products q k (ix6 b n p e a κ) = ∑ d : Fin 64, k (ix5 b n κ e d) * q (ix6 b n a p e d) := by
  pointwise [products]

/-- The slope times the distance, by element. -/
theorem bias_apply (sl : FVec Ideal S2x2 .f32) (p e : Fin 2) (a : Fin 128) (κ : Fin 256) :
    bias sl (ix6 0 0 p e a κ) = sl (ix2 p e) * (((((a.val : ℤ) + 128 - (κ.val : ℤ) : ℤ)) : ℝ) : EReal) := by
  have h : bias sl (ix6 0 0 p e a κ) = sl (ix2 p e) * FloatOps.sitofp (F := Ideal) .f32 (dist (ix2 a κ)) := by pointwise [bias]
  rw [h, ← dist_toInt]
  rfl

/-- The scores, by element. -/
theorem scores_apply (P : FVec Ideal S16x16x2x2x128x256 .f32) (sl : FVec Ideal S2x2 .f32) (b n : Fin 16) (p e : Fin 2) (a : Fin 128) (κ : Fin 256) :
    scores P sl (ix6 b n p e a κ) = if 128 ≤ n.val * 128 + κ.val then P (ix6 b n p e a κ) + Cert.KernelIdeal.Swa.slope (sl (ix2 p e)) ((a.val : ℤ) + 128 - (κ.val : ℤ)) else ⊥ := by
  have h : scores P sl (ix6 b n p e a κ) = Scalar.select (valid (ix3 n a κ)) (P (ix6 b n p e a κ) - bias sl (ix6 0 0 p e a κ))
      (id (constant (F := Ideal) S_ FTy.f32 0xFF800000#32) ix0) := by pointwise [scores]
  have hb : id (constant (F := Ideal) S_ FTy.f32 0xFF800000#32) ix0 = (⊥ : EReal) := by rfl
  rw [h, hb, valid_apply, near_apply, begun_apply, bias_apply]
  unfold Cert.KernelIdeal.Swa.slope
  by_cases q : 128 ≤ n.val * 128 + κ.val <;> by_cases q' : 0 ≤ (a.val : ℤ) + 128 - (κ.val : ℤ) ∧ (a.val : ℤ) + 128 - (κ.val : ℤ) < 128
  · rw [if_pos q, if_pos q', if_pos q, if_pos q', zero_sub, EReal.neg_mul, ← sub_eq_add_neg]; rfl
  · rw [if_pos q, if_neg q', if_pos q, if_neg q', EReal.add_bot]; rfl
  · rw [if_neg q, if_pos q', if_neg q]; rfl
  · rw [if_neg q, if_neg q', if_neg q]; rfl

/-- The last axis of six is dropped. -/
theorem reduces : S16x16x2x2x128x256.Reduces [5] S16x16x2x2x128 :=
  ⟨reducesTo_S16x16x2x2x128x256_S16x16x2x2x128_d5.1, by decide, reducesTo_S16x16x2x2x128x256_S16x16x2x2x128_d5.2⟩

/-- The index over a row with a key put in. -/
theorem lift_eq (b n : Fin 16) (p e : Fin 2) (a : Fin 128) (κ : Fin 256) : reduces.lift (ix5 b n p e a) κ = (ix6 b n p e a κ : S16x16x2x2x128x256.Idx) := by
  funext k
  refine Fin.ext ?_
  fin_cases k <;> rfl

/-- The greatest score, by element. -/
theorem greatest_apply (s : FVec Ideal S16x16x2x2x128x256 .f32) (b n : Fin 16) (p e : Fin 2) (a : Fin 128) :
    greatest s (ix5 b n p e a) = Finset.fold (β := EReal) max ⊥ (fun κ : Fin 256 => s (ix6 b n p e a κ)) Finset.univ := by
  refine (Host.reduce_eq_fold_single (FloatOps.maximumf (F := Ideal) (φ := .f32)) s (constant S_ .f32 0xFF800000#32)
    reducesTo_S16x16x2x2x128x256_S16x16x2x2x128_d5 reduces h_S_ (ix5 b n p e a)).trans ?_
  have hf : (s ∘ reduces.lift (ix5 b n p e a)) = fun κ : Fin 256 => s (ix6 b n p e a κ) := funext fun κ => congrArg s (lift_eq b n p e a κ)
  rw [hf]
  rfl

/-- The sum over a row, by element. -/
theorem sums_apply (s : FVec Ideal S16x16x2x2x128x256 .f32) (b n : Fin 16) (p e : Fin 2) (a : Fin 128) :
    sums s (ix5 b n p e a) = ∑ κ : Fin 256, s (ix6 b n p e a κ) := by
  unfold sums
  rw [ValueIdx.hostReduceAdd_apply]
  refine (Ideal.hostReduceAdd_single reducesTo_S16x16x2x2x128x256_S16x16x2x2x128_d5 reduces s _ (ix5 b n p e a)).trans ?_
  have hz : constant (F := Ideal) S_ FTy.f32 0x00000000#32 (Shape.Idx.first h_S_) = (0 : EReal) := Ideal.ofBits_zero_f32
  rw [hz, zero_add]
  exact Finset.sum_congr rfl fun κ _ => congrArg s (lift_eq b n p e a κ)

/-- The word of two. -/
theorem two : Ideal.ofBits .f32 0x40000000#32 = ((2 : ℝ) : EReal) := by
  simp [Ideal.ofBits, Ideal.ieee, -EReal.coe_mul]; norm_num

/-- Two to a power. -/
theorem pow_two (x : EReal) : Ideal.pow (Ideal.ofBits .f32 0x40000000#32) x = Ideal.exp2 x := by
  rw [two]
  induction x using EReal.rec with
  | bot => exact (if_neg (by norm_num)).trans (if_pos (by norm_num))
  | coe r => rfl
  | top => exact (if_neg (by norm_num)).trans (if_pos (by norm_num))

/-- The sink, by element. -/
theorem sink_apply (si : FVec Ideal S2x2 .f32) (p e : Fin 2) : sink si (ix6 0 0 p e 0 0) = si (ix2 p e) := by
  pointwise [sink]

/-- One number a query, as a row of one. -/
theorem row_read (g : FVec Ideal S16x16x2x2x128 .f32) (b n : Fin 16) (p e : Fin 2) (a : Fin 128) :
    broadcastInDim S16x16x2x2x128x1 ![0, 1, 2, 3, 4] bcast_S16x16x2x2x128_S16x16x2x2x128x1_0_1_2_3_4 g (ix6 b n p e a 0) = g (ix5 b n p e a) :=
  broadcastInDim_apply _ _ _ _ _ fun k => by fin_cases k <;> rfl

/-- One number a head, for all its queries. -/
theorem sink_read (t : FVec Ideal S1x1x2x2x1x1 .f32) (b n : Fin 16) (p e : Fin 2) (a : Fin 128) :
    broadcastInDim S16x16x2x2x128x1 ![0, 1, 2, 3, 4, 5] bcast_S1x1x2x2x1x1_S16x16x2x2x128x1_0_1_2_3_4_5 t (ix6 b n p e a 0) = t (ix6 0 0 p e 0 0) :=
  broadcastInDim_apply _ _ _ _ _ fun k => by fin_cases k <;> rfl

/-- The two of a power, for all queries. -/
theorem scalar_read (b n : Fin 16) (p e : Fin 2) (a : Fin 128) :
    broadcastInDim S16x16x2x2x128x1 ![] bcast_S_S16x16x2x2x128x1 (constant (F := Ideal) S_ .f32 0x40000000#32) (ix6 b n p e a 0) = Ideal.ofBits .f32 0x40000000#32 :=
  broadcastInDim_apply _ _ _ _ ix0 fun k => k.elim0

/-- The maximum of a number a query and a number a head, by element. -/
theorem max_read (g : FVec Ideal S16x16x2x2x128 .f32) (t : FVec Ideal S1x1x2x2x1x1 .f32) (b n : Fin 16) (p e : Fin 2) (a : Fin 128) :
    maximumf (broadcastInDim S16x16x2x2x128x1 ![0, 1, 2, 3, 4] bcast_S16x16x2x2x128_S16x16x2x2x128x1_0_1_2_3_4 g)
      (broadcastInDim S16x16x2x2x128x1 ![0, 1, 2, 3, 4, 5] bcast_S1x1x2x2x1x1_S16x16x2x2x128x1_0_1_2_3_4_5 t) (ix6 b n p e a 0)
      = max (g (ix5 b n p e a)) (t (ix6 0 0 p e 0 0)) := by
  rw [ValueIdx.maximumf_apply, row_read, sink_read]

/-- The maximum of a row's greatest score and its sink. -/
theorem top_of (s : Fin 256 → EReal) (k x y : EReal) (hx : x = Finset.fold (β := EReal) max ⊥ s Finset.univ) (hy : y = k) : max x y = top s k := by
  rw [hx, hy, top]

/-- The greatest score and the sink, by element. -/
theorem peak_apply (s : FVec Ideal S16x16x2x2x128x256 .f32) (si : FVec Ideal S2x2 .f32) (b n : Fin 16) (p e : Fin 2) (a : Fin 128) :
    peak s si (ix6 b n p e a 0) = top (fun κ => s (ix6 b n p e a κ)) (si (ix2 p e)) :=
  (max_read (greatest s) (sink si) b n p e a).trans (top_of _ _ _ _ (greatest_apply s b n p e a) (sink_apply si p e))

/-- The weights, by element. -/
theorem weights_apply (s : FVec Ideal S16x16x2x2x128x256 .f32) (si : FVec Ideal S2x2 .f32) (b n : Fin 16) (p e : Fin 2) (a : Fin 128) (κ : Fin 256) :
    weights s si (ix6 b n p e a κ) = Ideal.exp2 (s (ix6 b n p e a κ) - top (fun κ => s (ix6 b n p e a κ)) (si (ix2 p e))) := by
  rw [← peak_apply, ← pow_two]
  unfold weights
  generalize peak s si = t
  pointwise []

/-- The weights' sum, by element. -/
theorem total_apply (s : FVec Ideal S16x16x2x2x128x256 .f32) (si : FVec Ideal S2x2 .f32) (b n : Fin 16) (p e : Fin 2) (a : Fin 128) :
    total s si (ix6 b n p e a 0) = ∑ κ, weights s si (ix6 b n p e a κ) + Ideal.exp2 (si (ix2 p e) - top (fun κ => s (ix6 b n p e a κ)) (si (ix2 p e))) := by
  rw [← peak_apply, ← pow_two, ← sums_apply]
  rw [← sink_apply si]
  unfold total
  generalize peak s si = t
  generalize sums (weights s si) = w
  generalize sink si = u
  exact congrArg₂ (fun x y : EReal => x + y) (row_read w b n p e a)
    (congrArg₂ Ideal.pow (scalar_read b n p e a) (congrArg (fun x : EReal => x - t (ix6 b n p e a 0)) (sink_read u b n p e a)))

/-- One key head's result, by element: the attention of its scores over the values of the two blocks. -/
theorem out_apply (s : FVec Ideal S16x16x2x2x128x256 .f32) (v : FVec Ideal S16x16x64x256 .f32) (si : FVec Ideal S2x2 .f32) (b n : Fin 16) (p e : Fin 2) (a : Fin 128) (d : Fin 64) :
    out s v si (ix6 b n p e a d) = att (fun κ => s (ix6 b n p e a κ)) (fun κ => v (ix4 b n d κ)) (si (ix2 p e)) := by
  have h : out s v si (ix6 b n p e a d) = Ideal.div (∑ κ : Fin 256, weights s si (ix6 b n p e a κ) * v (ix4 b n d κ)) (total s si (ix6 b n p e a 0)) := by
    unfold out
    generalize weights s si = w
    generalize total s si = t
    pointwise []
  rw [h, total_apply]
  unfold att
  simp only [weights_apply, mul_comm]

end Cert.RefIdeal.Stages

end
-- ==== Proof.SwaSpec.lean ====
/- What the call's second result holds, element by element, and that the tiles compute it. -/
module

public import proofs.«01_k».proof.Proof.SwaBias

@[expose] public section

set_option maxRecDepth 16384

noncomputable section

namespace Cert.KernelIdeal.Swa

open Cert.KernelIdeal Cert.KernelIdeal.Gen Idealize.ShloMosaic Idealize.ShloMosaic.TcCoe Idealize.SL.Sem

/-- The score of row `r`'s query, of the head of column `c`, against the key at position `κ` of the two blocks up to the row's: the
    product of query and key over the head's 64 dimensions, less the head's slope times the distance; minus infinity before the first
    key and outside the window of 128. -/
def score (x1 : Vec Ideal S8 .f32) (x7 : Vec Ideal S2048x512 .bf16) (x8 : Vec Ideal S2048x256 .bf16) (r : Fin 2048) (c : Fin 512) (κ : Fin 256) : EReal :=
  if h : 128 ≤ r.val / 128 * 128 + κ.val then
    (∑ d : Fin 64, x8 (ix2 ⟨r.val / 128 * 128 + κ.val - 128, by omega⟩ ⟨(c.val / 256 * 2 + c.val / 64 % 2) * 64 + d.val, by omega⟩) *
      x7 (ix2 r ⟨c.val / 64 * 64 + d.val, by omega⟩)) + slope (x1 (ix1 ⟨c.val / 64, by omega⟩)) ((r.val % 128 : ℕ) + 128 - (κ.val : ℤ))
  else ⊥

/-- The value at position `κ` of the two blocks up to row `r`'s, in the dimension of column `c`. -/
def value (x9 : Vec Ideal S16x128x128 .bf16) (r : Fin 2048) (c : Fin 512) (κ : Fin 256) : EReal :=
  if h : κ.val < 128 then
    (if r.val / 128 = 0 then 0 else x9 (ix3 ⟨r.val / 128 - 1, by omega⟩ ⟨c.val / 256 * 64 + c.val % 64, by omega⟩ ⟨κ.val, h⟩))
  else x9 (ix3 ⟨r.val / 128, by omega⟩ ⟨c.val / 256 * 64 + c.val % 64, by omega⟩ ⟨κ.val - 128, by omega⟩)

/-- The value depends on the row's block and the column's value head and dimension. -/
theorem value_eq (x9 : Vec Ideal S16x128x128 .bf16) (r r' : Fin 2048) (c c' : Fin 512) (κ : Fin 256) (h : r.val / 128 = r'.val / 128)
    (h' : c.val / 256 * 64 + c.val % 64 = c'.val / 256 * 64 + c'.val % 64) : value x9 r c κ = value x9 r' c' κ := by
  unfold value
  simp only [h, h']

/-- The attention of one block of 2048 rows. -/
def spec (x1 x2 : Vec Ideal S8 .f32) (x7 : Vec Ideal S2048x512 .bf16) (x8 : Vec Ideal S2048x256 .bf16) (x9 : Vec Ideal S16x128x128 .bf16) :
    Vec Ideal S2048x512 .bf16 := fun y =>
  att (score x1 x7 x8 (y 0) (y 1)) (value x9 (y 0) (y 1)) (x2 (ix1 ⟨(y 1).val / 64, by have := (y 1).isLt; change (y 1).val < 512 at this; omega⟩))

/-- A slope's bias outside the window of distances. -/
theorem slope_out (s : EReal) (d : ℤ) (h : ¬(0 ≤ d ∧ d < 128)) : slope s d = ⊥ := if_neg h

section
variable (arg8 : Memref sig .tc .vmem S2048x512 .bf16) (harg8 : arg8.IsWhole) (arg9 : Memref sig .tc .vmem S2048x256 .bf16)
  (harg9 : arg9.IsWhole) (x7 : Vec Ideal S2048x512 .bf16) (x8 : Vec Ideal S2048x256 .bf16)

/-- A tile's queries, by element. -/
theorem qAt_apply (r o : ℕ) (h) (a : Fin 64) (b : Fin 256) : qAt arg8 harg8 x7 r o h (ix2 a b) =
    x7 (ix2 ⟨r + a.val, by have := h 0; change r + 64 ≤ 2048 at this; omega⟩ ⟨o + b.val, by have := h 1; change o + 256 ≤ 512 at this; omega⟩) := by
  unfold qAt
  rw [View.readAt_eq_ld, Memref.IsWhole.read_unread]
  refine congrArg x7 (funext fun k => Fin.ext ?_)
  fin_cases k
  · show r + 1 * a.val = r + a.val; omega
  · show o + 1 * b.val = o + b.val; omega
/-- 64 keys, by element. -/
theorem kAt64_apply (r o : ℕ) (h) (a : Fin 64) (b : Fin 128) : kAt64 arg9 harg9 x8 r o h (ix2 a b) =
    x8 (ix2 ⟨r + a.val, by have := h 0; change r + 64 ≤ 2048 at this; omega⟩ ⟨o + b.val, by have := h 1; change o + 128 ≤ 256 at this; omega⟩) := by
  unfold kAt64
  rw [View.readAt_eq_ld, Memref.IsWhole.read_unread]
  refine congrArg x8 (funext fun k => Fin.ext ?_)
  fin_cases k
  · show r + 1 * a.val = r + a.val; omega
  · show o + 1 * b.val = o + b.val; omega
/-- 128 keys, by element. -/
theorem kAt128_apply (r o : ℕ) (h) (a : Fin 128) (b : Fin 128) : kAt128 arg9 harg9 x8 r o h (ix2 a b) =
    x8 (ix2 ⟨r + a.val, by have := h 0; change r + 128 ≤ 2048 at this; omega⟩ ⟨o + b.val, by have := h 1; change o + 128 ≤ 256 at this; omega⟩) := by
  unfold kAt128
  rw [View.readAt_eq_ld, Memref.IsWhole.read_unread]
  refine congrArg x8 (funext fun k => Fin.ext ?_)
  fin_cases k
  · show r + 1 * a.val = r + a.val; omega
  · show o + 1 * b.val = o + b.val; omega
/-- 192 keys, by element. -/
theorem kAt192_apply (r o : ℕ) (h) (a : Fin 192) (b : Fin 128) : kAt192 arg9 harg9 x8 r o h (ix2 a b) =
    x8 (ix2 ⟨r + a.val, by have := h 0; change r + 192 ≤ 2048 at this; omega⟩ ⟨o + b.val, by have := h 1; change o + 128 ≤ 256 at this; omega⟩) := by
  unfold kAt192
  rw [View.readAt_eq_ld, Memref.IsWhole.read_unread]
  refine congrArg x8 (funext fun k => Fin.ext ?_)
  fin_cases k
  · show r + 1 * a.val = r + a.val; omega
  · show o + 1 * b.val = o + b.val; omega
end

/-- The scores of a window of keys are the scores of the row, where the window holds every key in reach. -/
theorem win_score (x1 : Vec Ideal S8 .f32) (x7 : Vec Ideal S2048x512 .bf16) (x8 : Vec Ideal S2048x256 .bf16) (r : Fin 2048) (c : Fin 512)
    (n off : ℕ) (f : Fin n → EReal) (hn : off + n ≤ 256)
    (hf : ∀ i : Fin n, f i = score x1 x7 x8 r c ⟨off + i.val, by omega⟩)
    (hout : ∀ κ : ℕ, κ < 256 → ¬(off ≤ κ ∧ κ < off + n) → 128 ≤ r.val / 128 * 128 + κ → ¬(κ ≤ r.val % 128 + 128 ∧ r.val % 128 < κ)) :
    win n off f = score x1 x7 x8 r c := by
  funext κ
  unfold win
  split
  · next h =>
    rw [hf]
    exact congrArg (score x1 x7 x8 r c) (Fin.ext (show off + (κ.val - off) = κ.val by omega))
  · next h =>
    unfold score
    split
    · next h' =>
      have := hout κ.val κ.isLt h h'
      rw [slope_out _ _ (by omega), EReal.add_bot]
    · rfl

/-- The first tile computes the attention of its rows. -/
theorem tile0_spec (arg8 : Memref sig .tc .vmem S2048x512 .bf16) (harg8 : arg8.IsWhole) (arg9 : Memref sig .tc .vmem S2048x256 .bf16)
    (harg9 : arg9.IsWhole) (x1 x2 : Vec Ideal S8 .f32) (x7 : Vec Ideal S2048x512 .bf16) (x8 : Vec Ideal S2048x256 .bf16) (x9 : Vec Ideal S16x128x128 .bf16)
    (j hk R C kr kc : ℕ) (hj : j < 16) (hh : hk < 2) (hjc : j = 0) (hR : R = j * 128) (hC : C = hk * 256) (hkr : kr = 0) (hkc : kc = hk * 128) (hq) (hk')
    (b : Vec Ideal S1x64x256 .f32) (v : Vec Ideal S1x1x80x256 .bf16) (s : FVec Ideal S1x256 .f32)
    (hb : ∀ (i : Fin 64) (q : Fin 256), b (ix3 0 i q) = slope (x1 (ix1 ⟨hk * 4 + q.val / 64, by omega⟩)) ((q.val % 64 : ℕ) + 128 - ((128 + i.val : ℕ) : ℤ)))
    (h1 : ∀ i : Fin 256, v (ix4 0 0 64 i) = 1)
    (hv : ∀ (d : Fin 64) (κ : Fin 256), v (ix4 0 0 ⟨d.val, by omega⟩ κ) = value x9 ⟨j * 128, by omega⟩ ⟨hk * 256 + d.val, by omega⟩ κ)
    (hs : ∀ q : Fin 256, s (ix2 0 q) = x2 (ix1 ⟨hk * 4 + q.val / 64, by omega⟩)) (d : Fin 64) (q : Fin 256) :
    tile0 (qAt arg8 harg8 x7 R C hq) (kAt64 arg9 harg9 x8 kr kc hk') b v s (ix2 d q) =
      spec x1 x2 x7 x8 x9 (ix2 ⟨j * 128 + q.val % 64, by omega⟩ ⟨hk * 256 + q.val / 64 * 64 + d.val, by omega⟩) := by
  rw [tile0_apply _ _ _ _ _ h1]
  refine congr (congr (congrArg att ?_) ?_) ?_
  · refine win_score x1 x7 x8 ⟨j * 128 + q.val % 64, by omega⟩ ⟨hk * 256 + q.val / 64 * 64 + d.val, by omega⟩ 64 128 _ (by omega) ?_ ?_
    · intro i
      have h : 128 ≤ (j * 128 + q.val % 64) / 128 * 128 + (128 + i.val) := by omega
      unfold score
      rw [dif_pos h, hb]
      refine congr (congrArg HAdd.hAdd (Finset.sum_congr rfl fun e _ => ?_)) (congr (congrArg slope ?_) ?_)
      · rw [kAt64_apply, qAt_apply]
        refine congr (congrArg HMul.hMul (congrArg x8 (ix2_eq ?_ ?_))) (congrArg x7 (ix2_eq ?_ ?_)) <;> simp only [] <;> omega
      · exact congrArg (fun k => x1 (ix1 k)) (Fin.ext (show hk * 4 + q.val / 64 = (hk * 256 + q.val / 64 * 64 + d.val) / 64 by omega))
      · simp only []; omega
    · intro κ hκ h h'
      simp only [] at *
      omega
  · funext κ
    rw [hv]
    exact value_eq x9 ⟨j * 128, by omega⟩ ⟨j * 128 + q.val % 64, by omega⟩ ⟨hk * 256 + d.val, by omega⟩ ⟨hk * 256 + q.val / 64 * 64 + d.val, by omega⟩ κ
      (by simp only []; omega) (by simp only []; omega)
  · rw [hs]
    exact congrArg (fun k => x2 (ix1 k)) (Fin.ext (show hk * 4 + q.val / 64 = (hk * 256 + q.val / 64 * 64 + d.val) / 64 by omega))

/-- The second tile computes the attention of its rows. -/
theorem tile1_spec (arg8 : Memref sig .tc .vmem S2048x512 .bf16) (harg8 : arg8.IsWhole) (arg9 : Memref sig .tc .vmem S2048x256 .bf16)
    (harg9 : arg9.IsWhole) (x1 x2 : Vec Ideal S8 .f32) (x7 : Vec Ideal S2048x512 .bf16) (x8 : Vec Ideal S2048x256 .bf16) (x9 : Vec Ideal S16x128x128 .bf16)
    (j hk R C kr kc : ℕ) (hj : j < 16) (hh : hk < 2) (hjc : j = 0) (hR : R = j * 128 + 64) (hC : C = hk * 256) (hkr : kr = 0) (hkc : kc = hk * 128) (hq) (hk')
    (b : Vec Ideal S1x128x256 .f32) (v : Vec Ideal S1x1x80x256 .bf16) (s : FVec Ideal S1x256 .f32)
    (hb : ∀ (i : Fin 128) (q : Fin 256), b (ix3 0 i q) = slope (x1 (ix1 ⟨hk * 4 + q.val / 64, by omega⟩)) ((q.val % 64 : ℕ) + 128 - ((64 + i.val : ℕ) : ℤ)))
    (h1 : ∀ i : Fin 256, v (ix4 0 0 64 i) = 1)
    (hv : ∀ (d : Fin 64) (κ : Fin 256), v (ix4 0 0 ⟨d.val, by omega⟩ κ) = value x9 ⟨j * 128, by omega⟩ ⟨hk * 256 + d.val, by omega⟩ κ)
    (hs : ∀ q : Fin 256, s (ix2 0 q) = x2 (ix1 ⟨hk * 4 + q.val / 64, by omega⟩)) (d : Fin 64) (q : Fin 256) :
    tile1 (qAt arg8 harg8 x7 R C hq) (kAt128 arg9 harg9 x8 kr kc hk') b v s (ix2 d q) =
      spec x1 x2 x7 x8 x9 (ix2 ⟨j * 128 + 64 + q.val % 64, by omega⟩ ⟨hk * 256 + q.val / 64 * 64 + d.val, by omega⟩) := by
  rw [tile1_apply _ _ _ _ _ h1]
  refine congr (congr (congrArg att ?_) ?_) ?_
  · refine win_score x1 x7 x8 ⟨j * 128 + 64 + q.val % 64, by omega⟩ ⟨hk * 256 + q.val / 64 * 64 + d.val, by omega⟩ 128 128 _ (by omega) ?_ ?_
    · intro i
      have h : 128 ≤ (j * 128 + 64 + q.val % 64) / 128 * 128 + (128 + i.val) := by omega
      unfold score
      rw [dif_pos h, hb]
      refine congr (congrArg HAdd.hAdd (Finset.sum_congr rfl fun e _ => ?_)) (congr (congrArg slope ?_) ?_)
      · rw [kAt128_apply, qAt_apply]
        refine congr (congrArg HMul.hMul (congrArg x8 (ix2_eq ?_ ?_))) (congrArg x7 (ix2_eq ?_ ?_)) <;> simp only [] <;> omega
      · exact congrArg (fun k => x1 (ix1 k)) (Fin.ext (show hk * 4 + q.val / 64 = (hk * 256 + q.val / 64 * 64 + d.val) / 64 by omega))
      · simp only []; omega
    · intro κ hκ h h'
      simp only [] at *
      omega
  · funext κ
    rw [hv]
    exact value_eq x9 ⟨j * 128, by omega⟩ ⟨j * 128 + 64 + q.val % 64, by omega⟩ ⟨hk * 256 + d.val, by omega⟩ ⟨hk * 256 + q.val / 64 * 64 + d.val, by omega⟩ κ
      (by simp only []; omega) (by simp only []; omega)
  · rw [hs]
    exact congrArg (fun k => x2 (ix1 k)) (Fin.ext (show hk * 4 + q.val / 64 = (hk * 256 + q.val / 64 * 64 + d.val) / 64 by omega))

/-- An even later tile computes the attention of its rows. -/
theorem tileE_spec (arg8 : Memref sig .tc .vmem S2048x512 .bf16) (harg8 : arg8.IsWhole) (arg9 : Memref sig .tc .vmem S2048x256 .bf16)
    (harg9 : arg9.IsWhole) (x1 x2 : Vec Ideal S8 .f32) (x7 : Vec Ideal S2048x512 .bf16) (x8 : Vec Ideal S2048x256 .bf16) (x9 : Vec Ideal S16x128x128 .bf16)
    (j hk R C kr kc : ℕ) (hj : j < 16) (hh : hk < 2) (hjc : 1 ≤ j) (hR : R = j * 128) (hC : C = hk * 256) (hkr : kr + 128 = j * 128) (hkc : kc = hk * 128) (hq) (hk')
    (b : Vec Ideal S1x192x256 .f32) (v : Vec Ideal S1x1x80x256 .bf16) (s : FVec Ideal S1x256 .f32)
    (hb : ∀ (i : Fin 192) (q : Fin 256), b (ix3 0 i q) = slope (x1 (ix1 ⟨hk * 4 + q.val / 64, by omega⟩)) ((q.val % 64 : ℕ) + 128 - ((0 + i.val : ℕ) : ℤ)))
    (h1 : ∀ i : Fin 256, v (ix4 0 0 64 i) = 1)
    (hv : ∀ (d : Fin 64) (κ : Fin 256), v (ix4 0 0 ⟨d.val, by omega⟩ κ) = value x9 ⟨j * 128, by omega⟩ ⟨hk * 256 + d.val, by omega⟩ κ)
    (hs : ∀ q : Fin 256, s (ix2 0 q) = x2 (ix1 ⟨hk * 4 + q.val / 64, by omega⟩)) (d : Fin 64) (q : Fin 256) :
    tileE (qAt arg8 harg8 x7 R C hq) (kAt192 arg9 harg9 x8 kr kc hk') b v s (ix2 d q) =
      spec x1 x2 x7 x8 x9 (ix2 ⟨j * 128 + q.val % 64, by omega⟩ ⟨hk * 256 + q.val / 64 * 64 + d.val, by omega⟩) := by
  rw [tileE_apply _ _ _ _ _ h1]
  refine congr (congr (congrArg att ?_) ?_) ?_
  · refine win_score x1 x7 x8 ⟨j * 128 + q.val % 64, by omega⟩ ⟨hk * 256 + q.val / 64 * 64 + d.val, by omega⟩ 192 0 _ (by omega) ?_ ?_
    · intro i
      have h : 128 ≤ (j * 128 + q.val % 64) / 128 * 128 + (0 + i.val) := by omega
      unfold score
      rw [dif_pos h, hb]
      refine congr (congrArg HAdd.hAdd (Finset.sum_congr rfl fun e _ => ?_)) (congr (congrArg slope ?_) ?_)
      · rw [kAt192_apply, qAt_apply]
        refine congr (congrArg HMul.hMul (congrArg x8 (ix2_eq ?_ ?_))) (congrArg x7 (ix2_eq ?_ ?_)) <;> simp only [] <;> omega
      · exact congrArg (fun k => x1 (ix1 k)) (Fin.ext (show hk * 4 + q.val / 64 = (hk * 256 + q.val / 64 * 64 + d.val) / 64 by omega))
      · simp only []; omega
    · intro κ hκ h h'
      simp only [] at *
      omega
  · funext κ
    rw [hv]
    exact value_eq x9 ⟨j * 128, by omega⟩ ⟨j * 128 + q.val % 64, by omega⟩ ⟨hk * 256 + d.val, by omega⟩ ⟨hk * 256 + q.val / 64 * 64 + d.val, by omega⟩ κ
      (by simp only []; omega) (by simp only []; omega)
  · rw [hs]
    exact congrArg (fun k => x2 (ix1 k)) (Fin.ext (show hk * 4 + q.val / 64 = (hk * 256 + q.val / 64 * 64 + d.val) / 64 by omega))

/-- An odd later tile computes the attention of its rows. -/
theorem tileO_spec (arg8 : Memref sig .tc .vmem S2048x512 .bf16) (harg8 : arg8.IsWhole) (arg9 : Memref sig .tc .vmem S2048x256 .bf16)
    (harg9 : arg9.IsWhole) (x1 x2 : Vec Ideal S8 .f32) (x7 : Vec Ideal S2048x512 .bf16) (x8 : Vec Ideal S2048x256 .bf16) (x9 : Vec Ideal S16x128x128 .bf16)
    (j hk R C kr kc : ℕ) (hj : j < 16) (hh : hk < 2) (hjc : 1 ≤ j) (hR : R = j * 128 + 64) (hC : C = hk * 256) (hkr : kr + 64 = j * 128) (hkc : kc = hk * 128) (hq) (hk')
    (b : Vec Ideal S1x192x256 .f32) (v : Vec Ideal S1x1x80x256 .bf16) (s : FVec Ideal S1x256 .f32)
    (hb : ∀ (i : Fin 192) (q : Fin 256), b (ix3 0 i q) = slope (x1 (ix1 ⟨hk * 4 + q.val / 64, by omega⟩)) ((q.val % 64 : ℕ) + 128 - ((0 + i.val : ℕ) : ℤ)))
    (h1 : ∀ i : Fin 256, v (ix4 0 0 64 i) = 1)
    (hv : ∀ (d : Fin 64) (κ : Fin 256), v (ix4 0 0 ⟨d.val, by omega⟩ κ) = value x9 ⟨j * 128, by omega⟩ ⟨hk * 256 + d.val, by omega⟩ κ)
    (hs : ∀ q : Fin 256, s (ix2 0 q) = x2 (ix1 ⟨hk * 4 + q.val / 64, by omega⟩)) (d : Fin 64) (q : Fin 256) :
    tileO (qAt arg8 harg8 x7 R C hq) (kAt192 arg9 harg9 x8 kr kc hk') b v s (ix2 d q) =
      spec x1 x2 x7 x8 x9 (ix2 ⟨j * 128 + 64 + q.val % 64, by omega⟩ ⟨hk * 256 + q.val / 64 * 64 + d.val, by omega⟩) := by
  rw [tileO_apply _ _ _ _ _ h1]
  refine congr (congr (congrArg att ?_) ?_) ?_
  · refine win_score x1 x7 x8 ⟨j * 128 + 64 + q.val % 64, by omega⟩ ⟨hk * 256 + q.val / 64 * 64 + d.val, by omega⟩ 192 64 _ (by omega) ?_ ?_
    · intro i
      have h : 128 ≤ (j * 128 + 64 + q.val % 64) / 128 * 128 + (64 + i.val) := by omega
      unfold score
      rw [dif_pos h, hb]
      refine congr (congrArg HAdd.hAdd (Finset.sum_congr rfl fun e _ => ?_)) (congr (congrArg slope ?_) ?_)
      · rw [kAt192_apply, qAt_apply]
        refine congr (congrArg HMul.hMul (congrArg x8 (ix2_eq ?_ ?_))) (congrArg x7 (ix2_eq ?_ ?_)) <;> simp only [] <;> omega
      · exact congrArg (fun k => x1 (ix1 k)) (Fin.ext (show hk * 4 + q.val / 64 = (hk * 256 + q.val / 64 * 64 + d.val) / 64 by omega))
      · simp only []; omega
    · intro κ hκ h h'
      simp only [] at *
      omega
  · funext κ
    rw [hv]
    exact value_eq x9 ⟨j * 128, by omega⟩ ⟨j * 128 + 64 + q.val % 64, by omega⟩ ⟨hk * 256 + d.val, by omega⟩ ⟨hk * 256 + q.val / 64 * 64 + d.val, by omega⟩ κ
      (by simp only []; omega) (by simp only []; omega)
  · rw [hs]
    exact congrArg (fun k => x2 (ix1 k)) (Fin.ext (show hk * 4 + q.val / 64 = (hk * 256 + q.val / 64 * 64 + d.val) / 64 by omega))
/-- A stored block of the first pair is the attention of its rows. -/
theorem put0_spec (G : Vec Ideal S2048x512 .bf16) (j hk R C : ℕ) (hj : j < 16) (hh : hk < 2) (hR : R = j * 128) (hC : C = hk * 256) (e o : Vec Ideal S64x256 .f32)
    (he : ∀ (d : Fin 64) (q : Fin 256), e (ix2 d q) = G (ix2 ⟨j * 128 + q.val % 64, by omega⟩ ⟨hk * 256 + q.val / 64 * 64 + d.val, by omega⟩))
    (ho : ∀ (d : Fin 64) (q : Fin 256), o (ix2 d q) = G (ix2 ⟨j * 128 + 64 + q.val % 64, by omega⟩ ⟨hk * 256 + q.val / 64 * 64 + d.val, by omega⟩))
    (h : ∀ a, (![R, C] : Fin 2 → ℕ) a + S128x128.size a ≤ S2048x512.size a) (x : S128x128.Idx) :
    put0 (truncf .bf16 e bitsLt_bf16_f32) (truncf .bf16 o bitsLt_bf16_f32) x = G ((Rect.unit (s := S2048x512) ![R, C] S128x128.size h).emb x) := by
  subst hR hC
  obtain ⟨r, l, rfl⟩ : ∃ r l : Fin 128, x = ix2 r l := ⟨x 0, x 1, eq_ix2 x⟩
  have hE : (Rect.unit (s := S2048x512) ![j * 128, hk * 256] S128x128.size h).emb (ix2 r l) =
      ix2 ⟨j * 128 + r.val, by omega⟩ ⟨hk * 256 + l.val, by omega⟩ := by
    funext k; apply Fin.ext; fin_cases k
    · show j * 128 + 1 * r.val = j * 128 + r.val; omega
    · show hk * 256 + 1 * l.val = hk * 256 + l.val; omega
  rw [hE, put0_apply]
  split
  · refine (he _ _).trans (congrArg G (ix2_eq ?_ ?_)) <;> simp only [] <;> omega
  · refine (ho _ _).trans (congrArg G (ix2_eq ?_ ?_)) <;> simp only [] <;> omega
/-- A stored block of the second pair is the attention of its rows. -/
theorem put1_spec (G : Vec Ideal S2048x512 .bf16) (j hk R C : ℕ) (hj : j < 16) (hh : hk < 2) (hR : R = j * 128) (hC : C = hk * 256 + 128) (e o : Vec Ideal S64x256 .f32)
    (he : ∀ (d : Fin 64) (q : Fin 256), e (ix2 d q) = G (ix2 ⟨j * 128 + q.val % 64, by omega⟩ ⟨hk * 256 + q.val / 64 * 64 + d.val, by omega⟩))
    (ho : ∀ (d : Fin 64) (q : Fin 256), o (ix2 d q) = G (ix2 ⟨j * 128 + 64 + q.val % 64, by omega⟩ ⟨hk * 256 + q.val / 64 * 64 + d.val, by omega⟩))
    (h : ∀ a, (![R, C] : Fin 2 → ℕ) a + S128x128.size a ≤ S2048x512.size a) (x : S128x128.Idx) :
    put1 (truncf .bf16 e bitsLt_bf16_f32) (truncf .bf16 o bitsLt_bf16_f32) x = G ((Rect.unit (s := S2048x512) ![R, C] S128x128.size h).emb x) := by
  subst hR hC
  obtain ⟨r, l, rfl⟩ : ∃ r l : Fin 128, x = ix2 r l := ⟨x 0, x 1, eq_ix2 x⟩
  have hE : (Rect.unit (s := S2048x512) ![j * 128, hk * 256 + 128] S128x128.size h).emb (ix2 r l) =
      ix2 ⟨j * 128 + r.val, by omega⟩ ⟨hk * 256 + 128 + l.val, by omega⟩ := by
    funext k; apply Fin.ext; fin_cases k
    · show j * 128 + 1 * r.val = j * 128 + r.val; omega
    · show hk * 256 + 128 + 1 * l.val = hk * 256 + 128 + l.val; omega
  rw [hE, put1_apply]
  split
  · refine (he _ _).trans (congrArg G (ix2_eq ?_ ?_)) <;> simp only [] <;> omega
  · refine (ho _ _).trans (congrArg G (ix2_eq ?_ ?_)) <;> simp only [] <;> omega

end Cert.KernelIdeal.Swa

end
end
-- ==== Proof.SwaOut.lean ====
/- Each block that the attention call stores in its second result's block holds, by element, the attention of its rows and
    columns. -/
module

public import proofs.«01_k».proof.Proof.SwaSpec

@[expose] public section

set_option maxRecDepth 16384

noncomputable section

namespace Cert.KernelIdeal.Swa

open Cert.KernelIdeal Cert.KernelIdeal.Gen Idealize.ShloMosaic Idealize.ShloMosaic.TcCoe Idealize.SL.Sem

variable (c : Dev nD) (i : grid0.Coords) (arg2 : Memref sig .tc .smem S8 .f32) (harg2 : arg2.IsWhole) (arg3 : Memref sig .tc .smem S8 .f32)
  (harg3 : arg3.IsWhole) (arg8 : Memref sig .tc .vmem S2048x512 .bf16) (harg8 : arg8.IsWhole) (arg9 : Memref sig .tc .vmem S2048x256 .bf16)
  (harg9 : arg9.IsWhole) (arg10 : Memref sig .tc .vmem S16x128x128 .bf16) (harg10 : arg10.IsWhole)
  (arg17 : Memref sig .tc .vmem S2x192x256 .f32) (arg18 : Memref sig .tc .vmem S2x16x96x256 .bf16) (arg19 : Memref sig .tc .vmem S5x192x256 .f32)
  (x1 : Vec Ideal S8 .f32) (x2 : Vec Ideal S8 .f32) (x7 : Vec Ideal S2048x512 .bf16) (x8 : Vec Ideal S2048x256 .bf16) (x9 : Vec Ideal S16x128x128 .bf16)

/-- Equal indices of three axes. -/
theorem ix3_eq {m n p : ℕ} {a b c d : ℕ} {e f : Fin p} {ha : a < m} {hb : b < n} {hc : c < m} {hd : d < n} (h : a = c) (h' : b = d) (h'' : e = f) :
    ix3 (n0 := m) (n1 := n) (n2 := p) ⟨a, ha⟩ ⟨b, hb⟩ e = ix3 ⟨c, hc⟩ ⟨d, hd⟩ f := by subst h h' h''; rfl

/-- A block's values, as the read of the stored rows, are the two blocks' values. -/
theorem val_spec (arg10 : Memref sig .tc .vmem S16x128x128 .bf16) (harg10 : arg10.IsWhole) (x9 : Vec Ideal S16x128x128 .bf16) (j hk a b o : ℕ) (h) (h')
    (hj : j < 16) (h0 : 1 ≤ j) (hh : hk < 2) (ha : a + 1 = j) (hb : b = j) (ho : o = hk * 64) (d : Fin 64) (κ : Fin 256) :
    pair (val (vRow arg10 harg10 x9 a o h) (vRow arg10 harg10 x9 b o h')) ones (ix4 0 0 ⟨d.val, by omega⟩ κ) =
      value x9 ⟨j * 128, by omega⟩ ⟨hk * 256 + d.val, by omega⟩ κ := by
  subst hb ho
  rw [pair_val _ _ _ d.isLt, val_apply]
  unfold value
  split
  · rw [vRow_apply, if_neg (show ¬b * 128 / 128 = 0 by omega)]
    exact congrArg x9 (ix3_eq (show a = b * 128 / 128 - 1 by omega)
      (show hk * 64 + d.val = (hk * 256 + d.val) / 256 * 64 + (hk * 256 + d.val) % 64 by omega) rfl)
  · rw [vRow_apply]
    exact congrArg x9 (ix3_eq (show b = b * 128 / 128 by omega)
      (show hk * 64 + d.val = (hk * 256 + d.val) / 256 * 64 + (hk * 256 + d.val) % 64 by omega) rfl)
/-- The same of the first block, whose earlier block is zeros. -/
theorem val0_spec (arg10 : Memref sig .tc .vmem S16x128x128 .bf16) (harg10 : arg10.IsWhole) (x9 : Vec Ideal S16x128x128 .bf16) (hk o : ℕ) (h)
    (hh : hk < 2) (ho : o = hk * 64) (d : Fin 64) (κ : Fin 256) :
    pair (val0 (vRow arg10 harg10 x9 0 o h)) ones (ix4 0 0 ⟨d.val, by omega⟩ κ) =
      value x9 ⟨0 * 128, by omega⟩ ⟨hk * 256 + d.val, by omega⟩ κ := by
  subst ho
  rw [pair_val _ _ _ d.isLt, val0_apply]
  unfold value
  split
  · rw [if_pos (show 0 * 128 / 128 = 0 by omega)]
  · rw [vRow_apply]
    exact congrArg x9 (ix3_eq (show 0 = 0 * 128 / 128 by omega)
      (show hk * 64 + d.val = (hk * 256 + d.val) / 256 * 64 + (hk * 256 + d.val) % 64 by omega) rfl)

/-- The stored block of rows 0 and pair 0 of key head 0. -/
theorem sp_0_0_0 (x : S128x128.Idx) : (kernelRun0_A.sl.v1582 (F := Ideal) c i arg2 harg2 arg3 harg3 arg8 harg8 arg9 harg9 arg10 harg10 arg17 arg18 arg19 x1 x2 x7 x8 x9) x =
    spec x1 x2 x7 x8 x9 ((Rect.unit (s := S2048x512) ![0, 0] S128x128.size (by decide)).emb x) := by
  rw [pc_0_0_0]
  exact put0_spec (spec x1 x2 x7 x8 x9) 0 0 0 0 (by decide) (by decide) rfl rfl _ _
    (tile0_spec arg8 harg8 arg9 harg9 x1 x2 x7 x8 x9 0 0 0 0 0 0 (by decide) (by decide) (by decide) rfl rfl rfl rfl _ _ _ _ _
      (fun i q => bias_v271 c arg2 harg2 arg17 x1 i q) (fun i => (congrFun (va_0_0 c arg10 harg10 arg18 x9) _).trans (pair_one _ i))
      (fun d κ => (congrFun (va_0_0 c arg10 harg10 arg18 x9) _).trans (val0_spec arg10 harg10 x9 0 0 _ (by decide) rfl d κ)) (fun q => sink_0 c arg3 harg3 x2 q))
    (tile1_spec arg8 harg8 arg9 harg9 x1 x2 x7 x8 x9 0 0 64 0 0 0 (by decide) (by decide) (by decide) rfl rfl rfl rfl _ _ _ _ _
      (fun i q => bias_v867 c arg2 harg2 arg17 x1 i q) (fun i => (congrFun (va_0_0 c arg10 harg10 arg18 x9) _).trans (pair_one _ i))
      (fun d κ => (congrFun (va_0_0 c arg10 harg10 arg18 x9) _).trans (val0_spec arg10 harg10 x9 0 0 _ (by decide) rfl d κ)) (fun q => sink_0 c arg3 harg3 x2 q)) _ x

/-- The stored block of rows 0 and pair 1 of key head 0. -/
theorem sp_0_0_1 (x : S128x128.Idx) : (kernelRun0_A.sl.v1591 (F := Ideal) c i arg2 harg2 arg3 harg3 arg8 harg8 arg9 harg9 arg10 harg10 arg17 arg18 arg19 x1 x2 x7 x8 x9) x =
    spec x1 x2 x7 x8 x9 ((Rect.unit (s := S2048x512) ![0, 128] S128x128.size (by decide)).emb x) := by
  rw [pc_0_0_1]
  exact put1_spec (spec x1 x2 x7 x8 x9) 0 0 0 128 (by decide) (by decide) rfl rfl _ _
    (tile0_spec arg8 harg8 arg9 harg9 x1 x2 x7 x8 x9 0 0 0 0 0 0 (by decide) (by decide) (by decide) rfl rfl rfl rfl _ _ _ _ _
      (fun i q => bias_v271 c arg2 harg2 arg17 x1 i q) (fun i => (congrFun (va_0_0 c arg10 harg10 arg18 x9) _).trans (pair_one _ i))
      (fun d κ => (congrFun (va_0_0 c arg10 harg10 arg18 x9) _).trans (val0_spec arg10 harg10 x9 0 0 _ (by decide) rfl d κ)) (fun q => sink_0 c arg3 harg3 x2 q))
    (tile1_spec arg8 harg8 arg9 harg9 x1 x2 x7 x8 x9 0 0 64 0 0 0 (by decide) (by decide) (by decide) rfl rfl rfl rfl _ _ _ _ _
      (fun i q => bias_v867 c arg2 harg2 arg17 x1 i q) (fun i => (congrFun (va_0_0 c arg10 harg10 arg18 x9) _).trans (pair_one _ i))
      (fun d κ => (congrFun (va_0_0 c arg10 harg10 arg18 x9) _).trans (val0_spec arg10 harg10 x9 0 0 _ (by decide) rfl d κ)) (fun q => sink_0 c arg3 harg3 x2 q)) _ x

/-- The stored block of rows 0 and pair 0 of key head 1. -/
theorem sp_0_1_0 (x : S128x128.Idx) : (kernelRun0_A.sl.v10579 (F := Ideal) c i arg2 harg2 arg3 harg3 arg8 harg8 arg9 harg9 arg10 harg10 arg17 arg18 arg19 x1 x2 x7 x8 x9) x =
    spec x1 x2 x7 x8 x9 ((Rect.unit (s := S2048x512) ![0, 256] S128x128.size (by decide)).emb x) := by
  rw [pc_0_1_0]
  exact put0_spec (spec x1 x2 x7 x8 x9) 0 1 0 256 (by decide) (by decide) rfl rfl _ _
    (tile0_spec arg8 harg8 arg9 harg9 x1 x2 x7 x8 x9 0 1 0 256 0 128 (by decide) (by decide) (by decide) rfl rfl rfl rfl _ _ _ _ _
      (fun i q => bias_v9163 c arg2 harg2 arg17 x1 i q) (fun i => (congrFun (va_1_0 c arg10 harg10 arg18 x9) _).trans (pair_one _ i))
      (fun d κ => (congrFun (va_1_0 c arg10 harg10 arg18 x9) _).trans (val0_spec arg10 harg10 x9 1 64 _ (by decide) rfl d κ)) (fun q => sink_1 c arg3 harg3 x2 q))
    (tile1_spec arg8 harg8 arg9 harg9 x1 x2 x7 x8 x9 0 1 64 256 0 128 (by decide) (by decide) (by decide) rfl rfl rfl rfl _ _ _ _ _
      (fun i q => bias_v9830 c arg2 harg2 arg17 x1 i q) (fun i => (congrFun (va_1_0 c arg10 harg10 arg18 x9) _).trans (pair_one _ i))
      (fun d κ => (congrFun (va_1_0 c arg10 harg10 arg18 x9) _).trans (val0_spec arg10 harg10 x9 1 64 _ (by decide) rfl d κ)) (fun q => sink_1 c arg3 harg3 x2 q)) _ x

/-- The stored block of rows 0 and pair 1 of key head 1. -/
theorem sp_0_1_1 (x : S128x128.Idx) : (kernelRun0_A.sl.v10588 (F := Ideal) c i arg2 harg2 arg3 harg3 arg8 harg8 arg9 harg9 arg10 harg10 arg17 arg18 arg19 x1 x2 x7 x8 x9) x =
    spec x1 x2 x7 x8 x9 ((Rect.unit (s := S2048x512) ![0, 384] S128x128.size (by decide)).emb x) := by
  rw [pc_0_1_1]
  exact put1_spec (spec x1 x2 x7 x8 x9) 0 1 0 384 (by decide) (by decide) rfl rfl _ _
    (tile0_spec arg8 harg8 arg9 harg9 x1 x2 x7 x8 x9 0 1 0 256 0 128 (by decide) (by decide) (by decide) rfl rfl rfl rfl _ _ _ _ _
      (fun i q => bias_v9163 c arg2 harg2 arg17 x1 i q) (fun i => (congrFun (va_1_0 c arg10 harg10 arg18 x9) _).trans (pair_one _ i))
      (fun d κ => (congrFun (va_1_0 c arg10 harg10 arg18 x9) _).trans (val0_spec arg10 harg10 x9 1 64 _ (by decide) rfl d κ)) (fun q => sink_1 c arg3 harg3 x2 q))
    (tile1_spec arg8 harg8 arg9 harg9 x1 x2 x7 x8 x9 0 1 64 256 0 128 (by decide) (by decide) (by decide) rfl rfl rfl rfl _ _ _ _ _
      (fun i q => bias_v9830 c arg2 harg2 arg17 x1 i q) (fun i => (congrFun (va_1_0 c arg10 harg10 arg18 x9) _).trans (pair_one _ i))
      (fun d κ => (congrFun (va_1_0 c arg10 harg10 arg18 x9) _).trans (val0_spec arg10 harg10 x9 1 64 _ (by decide) rfl d κ)) (fun q => sink_1 c arg3 harg3 x2 q)) _ x

/-- The stored block of rows 1 and pair 0 of key head 0. -/
theorem sp_1_0_0 (x : S128x128.Idx) : (kernelRun0_A.sl.v2026 (F := Ideal) c i arg2 harg2 arg3 harg3 arg8 harg8 arg9 harg9 arg10 harg10 arg17 arg18 arg19 x1 x2 x7 x8 x9) x =
    spec x1 x2 x7 x8 x9 ((Rect.unit (s := S2048x512) ![128, 0] S128x128.size (by decide)).emb x) := by
  rw [pc_1_0_0]
  exact put0_spec (spec x1 x2 x7 x8 x9) 1 0 128 0 (by decide) (by decide) rfl rfl _ _
    (tileE_spec arg8 harg8 arg9 harg9 x1 x2 x7 x8 x9 1 0 128 0 0 0 (by decide) (by decide) (by decide) rfl rfl rfl rfl _ _ _ _ _
      (fun i q => bias_v5257 c arg2 harg2 arg17 x1 i q) (fun i => (congrFun (va_0_1 c arg10 harg10 arg18 x9) _).trans (pair_one _ i))
      (fun d κ => (congrFun (va_0_1 c arg10 harg10 arg18 x9) _).trans (val_spec arg10 harg10 x9 1 0 0 1 0 _ _ (by decide) (by decide) (by decide) rfl rfl rfl d κ)) (fun q => sink_0 c arg3 harg3 x2 q))
    (tileO_spec arg8 harg8 arg9 harg9 x1 x2 x7 x8 x9 1 0 192 0 64 0 (by decide) (by decide) (by decide) rfl rfl rfl rfl _ _ _ _ _
      (fun i q => bias_v5257 c arg2 harg2 arg17 x1 i q) (fun i => (congrFun (va_0_1 c arg10 harg10 arg18 x9) _).trans (pair_one _ i))
      (fun d κ => (congrFun (va_0_1 c arg10 harg10 arg18 x9) _).trans (val_spec arg10 harg10 x9 1 0 0 1 0 _ _ (by decide) (by decide) (by decide) rfl rfl rfl d κ)) (fun q => sink_0 c arg3 harg3 x2 q)) _ x

/-- The stored block of rows 1 and pair 1 of key head 0. -/
theorem sp_1_0_1 (x : S128x128.Idx) : (kernelRun0_A.sl.v2035 (F := Ideal) c i arg2 harg2 arg3 harg3 arg8 harg8 arg9 harg9 arg10 harg10 arg17 arg18 arg19 x1 x2 x7 x8 x9) x =
    spec x1 x2 x7 x8 x9 ((Rect.unit (s := S2048x512) ![128, 128] S128x128.size (by decide)).emb x) := by
  rw [pc_1_0_1]
  exact put1_spec (spec x1 x2 x7 x8 x9) 1 0 128 128 (by decide) (by decide) rfl rfl _ _
    (tileE_spec arg8 harg8 arg9 harg9 x1 x2 x7 x8 x9 1 0 128 0 0 0 (by decide) (by decide) (by decide) rfl rfl rfl rfl _ _ _ _ _
      (fun i q => bias_v5257 c arg2 harg2 arg17 x1 i q) (fun i => (congrFun (va_0_1 c arg10 harg10 arg18 x9) _).trans (pair_one _ i))
      (fun d κ => (congrFun (va_0_1 c arg10 harg10 arg18 x9) _).trans (val_spec arg10 harg10 x9 1 0 0 1 0 _ _ (by decide) (by decide) (by decide) rfl rfl rfl d κ)) (fun q => sink_0 c arg3 harg3 x2 q))
    (tileO_spec arg8 harg8 arg9 harg9 x1 x2 x7 x8 x9 1 0 192 0 64 0 (by decide) (by decide) (by decide) rfl rfl rfl rfl _ _ _ _ _
      (fun i q => bias_v5257 c arg2 harg2 arg17 x1 i q) (fun i => (congrFun (va_0_1 c arg10 harg10 arg18 x9) _).trans (pair_one _ i))
      (fun d κ => (congrFun (va_0_1 c arg10 harg10 arg18 x9) _).trans (val_spec arg10 harg10 x9 1 0 0 1 0 _ _ (by decide) (by decide) (by decide) rfl rfl rfl d κ)) (fun q => sink_0 c arg3 harg3 x2 q)) _ x

/-- The stored block of rows 1 and pair 0 of key head 1. -/
theorem sp_1_1_0 (x : S128x128.Idx) : (kernelRun0_A.sl.v11023 (F := Ideal) c i arg2 harg2 arg3 harg3 arg8 harg8 arg9 harg9 arg10 harg10 arg17 arg18 arg19 x1 x2 x7 x8 x9) x =
    spec x1 x2 x7 x8 x9 ((Rect.unit (s := S2048x512) ![128, 256] S128x128.size (by decide)).emb x) := by
  rw [pc_1_1_0]
  exact put0_spec (spec x1 x2 x7 x8 x9) 1 1 128 256 (by decide) (by decide) rfl rfl _ _
    (tileE_spec arg8 harg8 arg9 harg9 x1 x2 x7 x8 x9 1 1 128 256 0 128 (by decide) (by decide) (by decide) rfl rfl rfl rfl _ _ _ _ _
      (fun i q => bias_v9867 c arg2 harg2 arg17 x1 i q) (fun i => (congrFun (va_1_1 c arg10 harg10 arg18 x9) _).trans (pair_one _ i))
      (fun d κ => (congrFun (va_1_1 c arg10 harg10 arg18 x9) _).trans (val_spec arg10 harg10 x9 1 1 0 1 64 _ _ (by decide) (by decide) (by decide) rfl rfl rfl d κ)) (fun q => sink_1 c arg3 harg3 x2 q))
    (tileO_spec arg8 harg8 arg9 harg9 x1 x2 x7 x8 x9 1 1 192 256 64 128 (by decide) (by decide) (by decide) rfl rfl rfl rfl _ _ _ _ _
      (fun i q => bias_v9867 c arg2 harg2 arg17 x1 i q) (fun i => (congrFun (va_1_1 c arg10 harg10 arg18 x9) _).trans (pair_one _ i))
      (fun d κ => (congrFun (va_1_1 c arg10 harg10 arg18 x9) _).trans (val_spec arg10 harg10 x9 1 1 0 1 64 _ _ (by decide) (by decide) (by decide) rfl rfl rfl d κ)) (fun q => sink_1 c arg3 harg3 x2 q)) _ x

/-- The stored block of rows 1 and pair 1 of key head 1. -/
theorem sp_1_1_1 (x : S128x128.Idx) : (kernelRun0_A.sl.v11032 (F := Ideal) c i arg2 harg2 arg3 harg3 arg8 harg8 arg9 harg9 arg10 harg10 arg17 arg18 arg19 x1 x2 x7 x8 x9) x =
    spec x1 x2 x7 x8 x9 ((Rect.unit (s := S2048x512) ![128, 384] S128x128.size (by decide)).emb x) := by
  rw [pc_1_1_1]
  exact put1_spec (spec x1 x2 x7 x8 x9) 1 1 128 384 (by decide) (by decide) rfl rfl _ _
    (tileE_spec arg8 harg8 arg9 harg9 x1 x2 x7 x8 x9 1 1 128 256 0 128 (by decide) (by decide) (by decide) rfl rfl rfl rfl _ _ _ _ _
      (fun i q => bias_v9867 c arg2 harg2 arg17 x1 i q) (fun i => (congrFun (va_1_1 c arg10 harg10 arg18 x9) _).trans (pair_one _ i))
      (fun d κ => (congrFun (va_1_1 c arg10 harg10 arg18 x9) _).trans (val_spec arg10 harg10 x9 1 1 0 1 64 _ _ (by decide) (by decide) (by decide) rfl rfl rfl d κ)) (fun q => sink_1 c arg3 harg3 x2 q))
    (tileO_spec arg8 harg8 arg9 harg9 x1 x2 x7 x8 x9 1 1 192 256 64 128 (by decide) (by decide) (by decide) rfl rfl rfl rfl _ _ _ _ _
      (fun i q => bias_v9867 c arg2 harg2 arg17 x1 i q) (fun i => (congrFun (va_1_1 c arg10 harg10 arg18 x9) _).trans (pair_one _ i))
      (fun d κ => (congrFun (va_1_1 c arg10 harg10 arg18 x9) _).trans (val_spec arg10 harg10 x9 1 1 0 1 64 _ _ (by decide) (by decide) (by decide) rfl rfl rfl d κ)) (fun q => sink_1 c arg3 harg3 x2 q)) _ x

/-- The stored block of rows 2 and pair 0 of key head 0. -/
theorem sp_2_0_0 (x : S128x128.Idx) : (kernelRun0_A.sl.v2417 (F := Ideal) c i arg2 harg2 arg3 harg3 arg8 harg8 arg9 harg9 arg10 harg10 arg17 arg18 arg19 x1 x2 x7 x8 x9) x =
    spec x1 x2 x7 x8 x9 ((Rect.unit (s := S2048x512) ![256, 0] S128x128.size (by decide)).emb x) := by
  rw [pc_2_0_0]
  exact put0_spec (spec x1 x2 x7 x8 x9) 2 0 256 0 (by decide) (by decide) rfl rfl _ _
    (tileE_spec arg8 harg8 arg9 harg9 x1 x2 x7 x8 x9 2 0 256 0 128 0 (by decide) (by decide) (by decide) rfl rfl rfl rfl _ _ _ _ _
      (fun i q => bias_v5257 c arg2 harg2 arg17 x1 i q) (fun i => (congrFun (va_0_2 c arg10 harg10 arg18 x9) _).trans (pair_one _ i))
      (fun d κ => (congrFun (va_0_2 c arg10 harg10 arg18 x9) _).trans (val_spec arg10 harg10 x9 2 0 1 2 0 _ _ (by decide) (by decide) (by decide) rfl rfl rfl d κ)) (fun q => sink_0 c arg3 harg3 x2 q))
    (tileO_spec arg8 harg8 arg9 harg9 x1 x2 x7 x8 x9 2 0 320 0 192 0 (by decide) (by decide) (by decide) rfl rfl rfl rfl _ _ _ _ _
      (fun i q => bias_v5257 c arg2 harg2 arg17 x1 i q) (fun i => (congrFun (va_0_2 c arg10 harg10 arg18 x9) _).trans (pair_one _ i))
      (fun d κ => (congrFun (va_0_2 c arg10 harg10 arg18 x9) _).trans (val_spec arg10 harg10 x9 2 0 1 2 0 _ _ (by decide) (by decide) (by decide) rfl rfl rfl d κ)) (fun q => sink_0 c arg3 harg3 x2 q)) _ x

/-- The stored block of rows 2 and pair 1 of key head 0. -/
theorem sp_2_0_1 (x : S128x128.Idx) : (kernelRun0_A.sl.v2426 (F := Ideal) c i arg2 harg2 arg3 harg3 arg8 harg8 arg9 harg9 arg10 harg10 arg17 arg18 arg19 x1 x2 x7 x8 x9) x =
    spec x1 x2 x7 x8 x9 ((Rect.unit (s := S2048x512) ![256, 128] S128x128.size (by decide)).emb x) := by
  rw [pc_2_0_1]
  exact put1_spec (spec x1 x2 x7 x8 x9) 2 0 256 128 (by decide) (by decide) rfl rfl _ _
    (tileE_spec arg8 harg8 arg9 harg9 x1 x2 x7 x8 x9 2 0 256 0 128 0 (by decide) (by decide) (by decide) rfl rfl rfl rfl _ _ _ _ _
      (fun i q => bias_v5257 c arg2 harg2 arg17 x1 i q) (fun i => (congrFun (va_0_2 c arg10 harg10 arg18 x9) _).trans (pair_one _ i))
      (fun d κ => (congrFun (va_0_2 c arg10 harg10 arg18 x9) _).trans (val_spec arg10 harg10 x9 2 0 1 2 0 _ _ (by decide) (by decide) (by decide) rfl rfl rfl d κ)) (fun q => sink_0 c arg3 harg3 x2 q))
    (tileO_spec arg8 harg8 arg9 harg9 x1 x2 x7 x8 x9 2 0 320 0 192 0 (by decide) (by decide) (by decide) rfl rfl rfl rfl _ _ _ _ _
      (fun i q => bias_v5257 c arg2 harg2 arg17 x1 i q) (fun i => (congrFun (va_0_2 c arg10 harg10 arg18 x9) _).trans (pair_one _ i))
      (fun d κ => (congrFun (va_0_2 c arg10 harg10 arg18 x9) _).trans (val_spec arg10 harg10 x9 2 0 1 2 0 _ _ (by decide) (by decide) (by decide) rfl rfl rfl d κ)) (fun q => sink_0 c arg3 harg3 x2 q)) _ x

/-- The stored block of rows 2 and pair 0 of key head 1. -/
theorem sp_2_1_0 (x : S128x128.Idx) : (kernelRun0_A.sl.v11414 (F := Ideal) c i arg2 harg2 arg3 harg3 arg8 harg8 arg9 harg9 arg10 harg10 arg17 arg18 arg19 x1 x2 x7 x8 x9) x =
    spec x1 x2 x7 x8 x9 ((Rect.unit (s := S2048x512) ![256, 256] S128x128.size (by decide)).emb x) := by
  rw [pc_2_1_0]
  exact put0_spec (spec x1 x2 x7 x8 x9) 2 1 256 256 (by decide) (by decide) rfl rfl _ _
    (tileE_spec arg8 harg8 arg9 harg9 x1 x2 x7 x8 x9 2 1 256 256 128 128 (by decide) (by decide) (by decide) rfl rfl rfl rfl _ _ _ _ _
      (fun i q => bias_v9867 c arg2 harg2 arg17 x1 i q) (fun i => (congrFun (va_1_2 c arg10 harg10 arg18 x9) _).trans (pair_one _ i))
      (fun d κ => (congrFun (va_1_2 c arg10 harg10 arg18 x9) _).trans (val_spec arg10 harg10 x9 2 1 1 2 64 _ _ (by decide) (by decide) (by decide) rfl rfl rfl d κ)) (fun q => sink_1 c arg3 harg3 x2 q))
    (tileO_spec arg8 harg8 arg9 harg9 x1 x2 x7 x8 x9 2 1 320 256 192 128 (by decide) (by decide) (by decide) rfl rfl rfl rfl _ _ _ _ _
      (fun i q => bias_v9867 c arg2 harg2 arg17 x1 i q) (fun i => (congrFun (va_1_2 c arg10 harg10 arg18 x9) _).trans (pair_one _ i))
      (fun d κ => (congrFun (va_1_2 c arg10 harg10 arg18 x9) _).trans (val_spec arg10 harg10 x9 2 1 1 2 64 _ _ (by decide) (by decide) (by decide) rfl rfl rfl d κ)) (fun q => sink_1 c arg3 harg3 x2 q)) _ x

/-- The stored block of rows 2 and pair 1 of key head 1. -/
theorem sp_2_1_1 (x : S128x128.Idx) : (kernelRun0_A.sl.v11423 (F := Ideal) c i arg2 harg2 arg3 harg3 arg8 harg8 arg9 harg9 arg10 harg10 arg17 arg18 arg19 x1 x2 x7 x8 x9) x =
    spec x1 x2 x7 x8 x9 ((Rect.unit (s := S2048x512) ![256, 384] S128x128.size (by decide)).emb x) := by
  rw [pc_2_1_1]
  exact put1_spec (spec x1 x2 x7 x8 x9) 2 1 256 384 (by decide) (by decide) rfl rfl _ _
    (tileE_spec arg8 harg8 arg9 harg9 x1 x2 x7 x8 x9 2 1 256 256 128 128 (by decide) (by decide) (by decide) rfl rfl rfl rfl _ _ _ _ _
      (fun i q => bias_v9867 c arg2 harg2 arg17 x1 i q) (fun i => (congrFun (va_1_2 c arg10 harg10 arg18 x9) _).trans (pair_one _ i))
      (fun d κ => (congrFun (va_1_2 c arg10 harg10 arg18 x9) _).trans (val_spec arg10 harg10 x9 2 1 1 2 64 _ _ (by decide) (by decide) (by decide) rfl rfl rfl d κ)) (fun q => sink_1 c arg3 harg3 x2 q))
    (tileO_spec arg8 harg8 arg9 harg9 x1 x2 x7 x8 x9 2 1 320 256 192 128 (by decide) (by decide) (by decide) rfl rfl rfl rfl _ _ _ _ _
      (fun i q => bias_v9867 c arg2 harg2 arg17 x1 i q) (fun i => (congrFun (va_1_2 c arg10 harg10 arg18 x9) _).trans (pair_one _ i))
      (fun d κ => (congrFun (va_1_2 c arg10 harg10 arg18 x9) _).trans (val_spec arg10 harg10 x9 2 1 1 2 64 _ _ (by decide) (by decide) (by decide) rfl rfl rfl d κ)) (fun q => sink_1 c arg3 harg3 x2 q)) _ x

/-- The stored block of rows 3 and pair 0 of key head 0. -/
theorem sp_3_0_0 (x : S128x128.Idx) : (kernelRun0_A.sl.v3050 (F := Ideal) c i arg2 harg2 arg3 harg3 arg8 harg8 arg9 harg9 arg10 harg10 arg17 arg18 arg19 x1 x2 x7 x8 x9) x =
    spec x1 x2 x7 x8 x9 ((Rect.unit (s := S2048x512) ![384, 0] S128x128.size (by decide)).emb x) := by
  rw [pc_3_0_0]
  exact put0_spec (spec x1 x2 x7 x8 x9) 3 0 384 0 (by decide) (by decide) rfl rfl _ _
    (tileE_spec arg8 harg8 arg9 harg9 x1 x2 x7 x8 x9 3 0 384 0 256 0 (by decide) (by decide) (by decide) rfl rfl rfl rfl _ _ _ _ _
      (fun i q => bias_v5257 c arg2 harg2 arg17 x1 i q) (fun i => (congrFun (va_0_3 c arg10 harg10 arg18 x9) _).trans (pair_one _ i))
      (fun d κ => (congrFun (va_0_3 c arg10 harg10 arg18 x9) _).trans (val_spec arg10 harg10 x9 3 0 2 3 0 _ _ (by decide) (by decide) (by decide) rfl rfl rfl d κ)) (fun q => sink_0 c arg3 harg3 x2 q))
    (tileO_spec arg8 harg8 arg9 harg9 x1 x2 x7 x8 x9 3 0 448 0 320 0 (by decide) (by decide) (by decide) rfl rfl rfl rfl _ _ _ _ _
      (fun i q => bias_v5257 c arg2 harg2 arg17 x1 i q) (fun i => (congrFun (va_0_3 c arg10 harg10 arg18 x9) _).trans (pair_one _ i))
      (fun d κ => (congrFun (va_0_3 c arg10 harg10 arg18 x9) _).trans (val_spec arg10 harg10 x9 3 0 2 3 0 _ _ (by decide) (by decide) (by decide) rfl rfl rfl d κ)) (fun q => sink_0 c arg3 harg3 x2 q)) _ x

/-- The stored block of rows 3 and pair 1 of key head 0. -/
theorem sp_3_0_1 (x : S128x128.Idx) : (kernelRun0_A.sl.v3059 (F := Ideal) c i arg2 harg2 arg3 harg3 arg8 harg8 arg9 harg9 arg10 harg10 arg17 arg18 arg19 x1 x2 x7 x8 x9) x =
    spec x1 x2 x7 x8 x9 ((Rect.unit (s := S2048x512) ![384, 128] S128x128.size (by decide)).emb x) := by
  rw [pc_3_0_1]
  exact put1_spec (spec x1 x2 x7 x8 x9) 3 0 384 128 (by decide) (by decide) rfl rfl _ _
    (tileE_spec arg8 harg8 arg9 harg9 x1 x2 x7 x8 x9 3 0 384 0 256 0 (by decide) (by decide) (by decide) rfl rfl rfl rfl _ _ _ _ _
      (fun i q => bias_v5257 c arg2 harg2 arg17 x1 i q) (fun i => (congrFun (va_0_3 c arg10 harg10 arg18 x9) _).trans (pair_one _ i))
      (fun d κ => (congrFun (va_0_3 c arg10 harg10 arg18 x9) _).trans (val_spec arg10 harg10 x9 3 0 2 3 0 _ _ (by decide) (by decide) (by decide) rfl rfl rfl d κ)) (fun q => sink_0 c arg3 harg3 x2 q))
    (tileO_spec arg8 harg8 arg9 harg9 x1 x2 x7 x8 x9 3 0 448 0 320 0 (by decide) (by decide) (by decide) rfl rfl rfl rfl _ _ _ _ _
      (fun i q => bias_v5257 c arg2 harg2 arg17 x1 i q) (fun i => (congrFun (va_0_3 c arg10 harg10 arg18 x9) _).trans (pair_one _ i))
      (fun d κ => (congrFun (va_0_3 c arg10 harg10 arg18 x9) _).trans (val_spec arg10 harg10 x9 3 0 2 3 0 _ _ (by decide) (by decide) (by decide) rfl rfl rfl d κ)) (fun q => sink_0 c arg3 harg3 x2 q)) _ x

/-- The stored block of rows 3 and pair 0 of key head 1. -/
theorem sp_3_1_0 (x : S128x128.Idx) : (kernelRun0_A.sl.v12047 (F := Ideal) c i arg2 harg2 arg3 harg3 arg8 harg8 arg9 harg9 arg10 harg10 arg17 arg18 arg19 x1 x2 x7 x8 x9) x =
    spec x1 x2 x7 x8 x9 ((Rect.unit (s := S2048x512) ![384, 256] S128x128.size (by decide)).emb x) := by
  rw [pc_3_1_0]
  exact put0_spec (spec x1 x2 x7 x8 x9) 3 1 384 256 (by decide) (by decide) rfl rfl _ _
    (tileE_spec arg8 harg8 arg9 harg9 x1 x2 x7 x8 x9 3 1 384 256 256 128 (by decide) (by decide) (by decide) rfl rfl rfl rfl _ _ _ _ _
      (fun i q => bias_v9867 c arg2 harg2 arg17 x1 i q) (fun i => (congrFun (va_1_3 c arg10 harg10 arg18 x9) _).trans (pair_one _ i))
      (fun d κ => (congrFun (va_1_3 c arg10 harg10 arg18 x9) _).trans (val_spec arg10 harg10 x9 3 1 2 3 64 _ _ (by decide) (by decide) (by decide) rfl rfl rfl d κ)) (fun q => sink_1 c arg3 harg3 x2 q))
    (tileO_spec arg8 harg8 arg9 harg9 x1 x2 x7 x8 x9 3 1 448 256 320 128 (by decide) (by decide) (by decide) rfl rfl rfl rfl _ _ _ _ _
      (fun i q => bias_v9867 c arg2 harg2 arg17 x1 i q) (fun i => (congrFun (va_1_3 c arg10 harg10 arg18 x9) _).trans (pair_one _ i))
      (fun d κ => (congrFun (va_1_3 c arg10 harg10 arg18 x9) _).trans (val_spec arg10 harg10 x9 3 1 2 3 64 _ _ (by decide) (by decide) (by decide) rfl rfl rfl d κ)) (fun q => sink_1 c arg3 harg3 x2 q)) _ x

/-- The stored block of rows 3 and pair 1 of key head 1. -/
theorem sp_3_1_1 (x : S128x128.Idx) : (kernelRun0_A.sl.v12056 (F := Ideal) c i arg2 harg2 arg3 harg3 arg8 harg8 arg9 harg9 arg10 harg10 arg17 arg18 arg19 x1 x2 x7 x8 x9) x =
    spec x1 x2 x7 x8 x9 ((Rect.unit (s := S2048x512) ![384, 384] S128x128.size (by decide)).emb x) := by
  rw [pc_3_1_1]
  exact put1_spec (spec x1 x2 x7 x8 x9) 3 1 384 384 (by decide) (by decide) rfl rfl _ _
    (tileE_spec arg8 harg8 arg9 harg9 x1 x2 x7 x8 x9 3 1 384 256 256 128 (by decide) (by decide) (by decide) rfl rfl rfl rfl _ _ _ _ _
      (fun i q => bias_v9867 c arg2 harg2 arg17 x1 i q) (fun i => (congrFun (va_1_3 c arg10 harg10 arg18 x9) _).trans (pair_one _ i))
      (fun d κ => (congrFun (va_1_3 c arg10 harg10 arg18 x9) _).trans (val_spec arg10 harg10 x9 3 1 2 3 64 _ _ (by decide) (by decide) (by decide) rfl rfl rfl d κ)) (fun q => sink_1 c arg3 harg3 x2 q))
    (tileO_spec arg8 harg8 arg9 harg9 x1 x2 x7 x8 x9 3 1 448 256 320 128 (by decide) (by decide) (by decide) rfl rfl rfl rfl _ _ _ _ _
      (fun i q => bias_v9867 c arg2 harg2 arg17 x1 i q) (fun i => (congrFun (va_1_3 c arg10 harg10 arg18 x9) _).trans (pair_one _ i))
      (fun d κ => (congrFun (va_1_3 c arg10 harg10 arg18 x9) _).trans (val_spec arg10 harg10 x9 3 1 2 3 64 _ _ (by decide) (by decide) (by decide) rfl rfl rfl d κ)) (fun q => sink_1 c arg3 harg3 x2 q)) _ x

/-- The stored block of rows 4 and pair 0 of key head 0. -/
theorem sp_4_0_0 (x : S128x128.Idx) : (k0_pay497 k0_pay7 (kernelRun0_A.sl.v3102 (F := Ideal) c i arg2 harg2 arg3 harg3 arg8 harg8 arg9 harg9 arg10 harg10 arg17 arg18 arg19 x1 x2 x7 x8 x9) (kernelRun0_A.sl.v3386 (F := Ideal) c i arg2 harg2 arg3 harg3 arg8 harg8 arg9 harg9 arg10 harg10 arg17 arg18 arg19 x1 x2 x7 x8 x9)) x =
    spec x1 x2 x7 x8 x9 ((Rect.unit (s := S2048x512) ![512, 0] S128x128.size (by decide)).emb x) := by
  rw [pc_4_0_0]
  exact put0_spec (spec x1 x2 x7 x8 x9) 4 0 512 0 (by decide) (by decide) rfl rfl _ _
    (tileE_spec arg8 harg8 arg9 harg9 x1 x2 x7 x8 x9 4 0 512 0 384 0 (by decide) (by decide) (by decide) rfl rfl rfl rfl _ _ _ _ _
      (fun i q => bias_v5257 c arg2 harg2 arg17 x1 i q) (fun i => (congrFun (va_0_4 c arg10 harg10 arg18 x9) _).trans (pair_one _ i))
      (fun d κ => (congrFun (va_0_4 c arg10 harg10 arg18 x9) _).trans (val_spec arg10 harg10 x9 4 0 3 4 0 _ _ (by decide) (by decide) (by decide) rfl rfl rfl d κ)) (fun q => sink_0 c arg3 harg3 x2 q))
    (tileO_spec arg8 harg8 arg9 harg9 x1 x2 x7 x8 x9 4 0 576 0 448 0 (by decide) (by decide) (by decide) rfl rfl rfl rfl _ _ _ _ _
      (fun i q => bias_v5257 c arg2 harg2 arg17 x1 i q) (fun i => (congrFun (va_0_4 c arg10 harg10 arg18 x9) _).trans (pair_one _ i))
      (fun d κ => (congrFun (va_0_4 c arg10 harg10 arg18 x9) _).trans (val_spec arg10 harg10 x9 4 0 3 4 0 _ _ (by decide) (by decide) (by decide) rfl rfl rfl d κ)) (fun q => sink_0 c arg3 harg3 x2 q)) _ x

/-- The stored block of rows 4 and pair 1 of key head 0. -/
theorem sp_4_0_1 (x : S128x128.Idx) : (k0_pay498 k0_pay7 (kernelRun0_A.sl.v3102 (F := Ideal) c i arg2 harg2 arg3 harg3 arg8 harg8 arg9 harg9 arg10 harg10 arg17 arg18 arg19 x1 x2 x7 x8 x9) (kernelRun0_A.sl.v3386 (F := Ideal) c i arg2 harg2 arg3 harg3 arg8 harg8 arg9 harg9 arg10 harg10 arg17 arg18 arg19 x1 x2 x7 x8 x9)) x =
    spec x1 x2 x7 x8 x9 ((Rect.unit (s := S2048x512) ![512, 128] S128x128.size (by decide)).emb x) := by
  rw [pc_4_0_1]
  exact put1_spec (spec x1 x2 x7 x8 x9) 4 0 512 128 (by decide) (by decide) rfl rfl _ _
    (tileE_spec arg8 harg8 arg9 harg9 x1 x2 x7 x8 x9 4 0 512 0 384 0 (by decide) (by decide) (by decide) rfl rfl rfl rfl _ _ _ _ _
      (fun i q => bias_v5257 c arg2 harg2 arg17 x1 i q) (fun i => (congrFun (va_0_4 c arg10 harg10 arg18 x9) _).trans (pair_one _ i))
      (fun d κ => (congrFun (va_0_4 c arg10 harg10 arg18 x9) _).trans (val_spec arg10 harg10 x9 4 0 3 4 0 _ _ (by decide) (by decide) (by decide) rfl rfl rfl d κ)) (fun q => sink_0 c arg3 harg3 x2 q))
    (tileO_spec arg8 harg8 arg9 harg9 x1 x2 x7 x8 x9 4 0 576 0 448 0 (by decide) (by decide) (by decide) rfl rfl rfl rfl _ _ _ _ _
      (fun i q => bias_v5257 c arg2 harg2 arg17 x1 i q) (fun i => (congrFun (va_0_4 c arg10 harg10 arg18 x9) _).trans (pair_one _ i))
      (fun d κ => (congrFun (va_0_4 c arg10 harg10 arg18 x9) _).trans (val_spec arg10 harg10 x9 4 0 3 4 0 _ _ (by decide) (by decide) (by decide) rfl rfl rfl d κ)) (fun q => sink_0 c arg3 harg3 x2 q)) _ x

/-- The stored block of rows 4 and pair 0 of key head 1. -/
theorem sp_4_1_0 (x : S128x128.Idx) : (kernelRun0_A.sl.v12393 (F := Ideal) c i arg2 harg2 arg3 harg3 arg8 harg8 arg9 harg9 arg10 harg10 arg17 arg18 arg19 x1 x2 x7 x8 x9) x =
    spec x1 x2 x7 x8 x9 ((Rect.unit (s := S2048x512) ![512, 256] S128x128.size (by decide)).emb x) := by
  rw [pc_4_1_0]
  exact put0_spec (spec x1 x2 x7 x8 x9) 4 1 512 256 (by decide) (by decide) rfl rfl _ _
    (tileE_spec arg8 harg8 arg9 harg9 x1 x2 x7 x8 x9 4 1 512 256 384 128 (by decide) (by decide) (by decide) rfl rfl rfl rfl _ _ _ _ _
      (fun i q => bias_v9867 c arg2 harg2 arg17 x1 i q) (fun i => (congrFun (va_1_4 c arg10 harg10 arg18 x9) _).trans (pair_one _ i))
      (fun d κ => (congrFun (va_1_4 c arg10 harg10 arg18 x9) _).trans (val_spec arg10 harg10 x9 4 1 3 4 64 _ _ (by decide) (by decide) (by decide) rfl rfl rfl d κ)) (fun q => sink_1 c arg3 harg3 x2 q))
    (tileO_spec arg8 harg8 arg9 harg9 x1 x2 x7 x8 x9 4 1 576 256 448 128 (by decide) (by decide) (by decide) rfl rfl rfl rfl _ _ _ _ _
      (fun i q => bias_v9867 c arg2 harg2 arg17 x1 i q) (fun i => (congrFun (va_1_4 c arg10 harg10 arg18 x9) _).trans (pair_one _ i))
      (fun d κ => (congrFun (va_1_4 c arg10 harg10 arg18 x9) _).trans (val_spec arg10 harg10 x9 4 1 3 4 64 _ _ (by decide) (by decide) (by decide) rfl rfl rfl d κ)) (fun q => sink_1 c arg3 harg3 x2 q)) _ x

/-- The stored block of rows 4 and pair 1 of key head 1. -/
theorem sp_4_1_1 (x : S128x128.Idx) : (kernelRun0_A.sl.v12402 (F := Ideal) c i arg2 harg2 arg3 harg3 arg8 harg8 arg9 harg9 arg10 harg10 arg17 arg18 arg19 x1 x2 x7 x8 x9) x =
    spec x1 x2 x7 x8 x9 ((Rect.unit (s := S2048x512) ![512, 384] S128x128.size (by decide)).emb x) := by
  rw [pc_4_1_1]
  exact put1_spec (spec x1 x2 x7 x8 x9) 4 1 512 384 (by decide) (by decide) rfl rfl _ _
    (tileE_spec arg8 harg8 arg9 harg9 x1 x2 x7 x8 x9 4 1 512 256 384 128 (by decide) (by decide) (by decide) rfl rfl rfl rfl _ _ _ _ _
      (fun i q => bias_v9867 c arg2 harg2 arg17 x1 i q) (fun i => (congrFun (va_1_4 c arg10 harg10 arg18 x9) _).trans (pair_one _ i))
      (fun d κ => (congrFun (va_1_4 c arg10 harg10 arg18 x9) _).trans (val_spec arg10 harg10 x9 4 1 3 4 64 _ _ (by decide) (by decide) (by decide) rfl rfl rfl d κ)) (fun q => sink_1 c arg3 harg3 x2 q))
    (tileO_spec arg8 harg8 arg9 harg9 x1 x2 x7 x8 x9 4 1 576 256 448 128 (by decide) (by decide) (by decide) rfl rfl rfl rfl _ _ _ _ _
      (fun i q => bias_v9867 c arg2 harg2 arg17 x1 i q) (fun i => (congrFun (va_1_4 c arg10 harg10 arg18 x9) _).trans (pair_one _ i))
      (fun d κ => (congrFun (va_1_4 c arg10 harg10 arg18 x9) _).trans (val_spec arg10 harg10 x9 4 1 3 4 64 _ _ (by decide) (by decide) (by decide) rfl rfl rfl d κ)) (fun q => sink_1 c arg3 harg3 x2 q)) _ x

/-- The stored block of rows 5 and pair 0 of key head 0. -/
theorem sp_5_0_0 (x : S128x128.Idx) : (kernelRun0_A.sl.v3882 (F := Ideal) c i arg2 harg2 arg3 harg3 arg8 harg8 arg9 harg9 arg10 harg10 arg17 arg18 arg19 x1 x2 x7 x8 x9) x =
    spec x1 x2 x7 x8 x9 ((Rect.unit (s := S2048x512) ![640, 0] S128x128.size (by decide)).emb x) := by
  rw [pc_5_0_0]
  exact put0_spec (spec x1 x2 x7 x8 x9) 5 0 640 0 (by decide) (by decide) rfl rfl _ _
    (tileE_spec arg8 harg8 arg9 harg9 x1 x2 x7 x8 x9 5 0 640 0 512 0 (by decide) (by decide) (by decide) rfl rfl rfl rfl _ _ _ _ _
      (fun i q => bias_v5257 c arg2 harg2 arg17 x1 i q) (fun i => (congrFun (va_0_5 c arg10 harg10 arg18 x9) _).trans (pair_one _ i))
      (fun d κ => (congrFun (va_0_5 c arg10 harg10 arg18 x9) _).trans (val_spec arg10 harg10 x9 5 0 4 5 0 _ _ (by decide) (by decide) (by decide) rfl rfl rfl d κ)) (fun q => sink_0 c arg3 harg3 x2 q))
    (tileO_spec arg8 harg8 arg9 harg9 x1 x2 x7 x8 x9 5 0 704 0 576 0 (by decide) (by decide) (by decide) rfl rfl rfl rfl _ _ _ _ _
      (fun i q => bias_v5257 c arg2 harg2 arg17 x1 i q) (fun i => (congrFun (va_0_5 c arg10 harg10 arg18 x9) _).trans (pair_one _ i))
      (fun d κ => (congrFun (va_0_5 c arg10 harg10 arg18 x9) _).trans (val_spec arg10 harg10 x9 5 0 4 5 0 _ _ (by decide) (by decide) (by decide) rfl rfl rfl d κ)) (fun q => sink_0 c arg3 harg3 x2 q)) _ x

/-- The stored block of rows 5 and pair 1 of key head 0. -/
theorem sp_5_0_1 (x : S128x128.Idx) : (k0_pay559 k0_pay7 (kernelRun0_A.sl.v3873 (F := Ideal) c i arg2 harg2 arg3 harg3 arg8 harg8 arg9 harg9 arg10 harg10 arg17 arg18 arg19 x1 x2 x7 x8 x9) (kernelRun0_A.sl.v3874 (F := Ideal) c i arg2 harg2 arg3 harg3 arg8 harg8 arg9 harg9 arg10 harg10 arg17 arg18 arg19 x1 x2 x7 x8 x9)) x =
    spec x1 x2 x7 x8 x9 ((Rect.unit (s := S2048x512) ![640, 128] S128x128.size (by decide)).emb x) := by
  rw [pc_5_0_1]
  exact put1_spec (spec x1 x2 x7 x8 x9) 5 0 640 128 (by decide) (by decide) rfl rfl _ _
    (tileE_spec arg8 harg8 arg9 harg9 x1 x2 x7 x8 x9 5 0 640 0 512 0 (by decide) (by decide) (by decide) rfl rfl rfl rfl _ _ _ _ _
      (fun i q => bias_v5257 c arg2 harg2 arg17 x1 i q) (fun i => (congrFun (va_0_5 c arg10 harg10 arg18 x9) _).trans (pair_one _ i))
      (fun d κ => (congrFun (va_0_5 c arg10 harg10 arg18 x9) _).trans (val_spec arg10 harg10 x9 5 0 4 5 0 _ _ (by decide) (by decide) (by decide) rfl rfl rfl d κ)) (fun q => sink_0 c arg3 harg3 x2 q))
    (tileO_spec arg8 harg8 arg9 harg9 x1 x2 x7 x8 x9 5 0 704 0 576 0 (by decide) (by decide) (by decide) rfl rfl rfl rfl _ _ _ _ _
      (fun i q => bias_v5257 c arg2 harg2 arg17 x1 i q) (fun i => (congrFun (va_0_5 c arg10 harg10 arg18 x9) _).trans (pair_one _ i))
      (fun d κ => (congrFun (va_0_5 c arg10 harg10 arg18 x9) _).trans (val_spec arg10 harg10 x9 5 0 4 5 0 _ _ (by decide) (by decide) (by decide) rfl rfl rfl d κ)) (fun q => sink_0 c arg3 harg3 x2 q)) _ x

/-- The stored block of rows 5 and pair 0 of key head 1. -/
theorem sp_5_1_0 (x : S128x128.Idx) : (k0_pay1873 k0_pay7 (kernelRun0_A.sl.v12871 (F := Ideal) c i arg2 harg2 arg3 harg3 arg8 harg8 arg9 harg9 arg10 harg10 arg17 arg18 arg19 x1 x2 x7 x8 x9) (kernelRun0_A.sl.v12872 (F := Ideal) c i arg2 harg2 arg3 harg3 arg8 harg8 arg9 harg9 arg10 harg10 arg17 arg18 arg19 x1 x2 x7 x8 x9)) x =
    spec x1 x2 x7 x8 x9 ((Rect.unit (s := S2048x512) ![640, 256] S128x128.size (by decide)).emb x) := by
  rw [pc_5_1_0]
  exact put0_spec (spec x1 x2 x7 x8 x9) 5 1 640 256 (by decide) (by decide) rfl rfl _ _
    (tileE_spec arg8 harg8 arg9 harg9 x1 x2 x7 x8 x9 5 1 640 256 512 128 (by decide) (by decide) (by decide) rfl rfl rfl rfl _ _ _ _ _
      (fun i q => bias_v9867 c arg2 harg2 arg17 x1 i q) (fun i => (congrFun (va_1_5 c arg10 harg10 arg18 x9) _).trans (pair_one _ i))
      (fun d κ => (congrFun (va_1_5 c arg10 harg10 arg18 x9) _).trans (val_spec arg10 harg10 x9 5 1 4 5 64 _ _ (by decide) (by decide) (by decide) rfl rfl rfl d κ)) (fun q => sink_1 c arg3 harg3 x2 q))
    (tileO_spec arg8 harg8 arg9 harg9 x1 x2 x7 x8 x9 5 1 704 256 576 128 (by decide) (by decide) (by decide) rfl rfl rfl rfl _ _ _ _ _
      (fun i q => bias_v9867 c arg2 harg2 arg17 x1 i q) (fun i => (congrFun (va_1_5 c arg10 harg10 arg18 x9) _).trans (pair_one _ i))
      (fun d κ => (congrFun (va_1_5 c arg10 harg10 arg18 x9) _).trans (val_spec arg10 harg10 x9 5 1 4 5 64 _ _ (by decide) (by decide) (by decide) rfl rfl rfl d κ)) (fun q => sink_1 c arg3 harg3 x2 q)) _ x

/-- The stored block of rows 5 and pair 1 of key head 1. -/
theorem sp_5_1_1 (x : S128x128.Idx) : (k0_pay1874 k0_pay7 (kernelRun0_A.sl.v12870 (F := Ideal) c i arg2 harg2 arg3 harg3 arg8 harg8 arg9 harg9 arg10 harg10 arg17 arg18 arg19 x1 x2 x7 x8 x9) (kernelRun0_A.sl.v12871 (F := Ideal) c i arg2 harg2 arg3 harg3 arg8 harg8 arg9 harg9 arg10 harg10 arg17 arg18 arg19 x1 x2 x7 x8 x9)) x =
    spec x1 x2 x7 x8 x9 ((Rect.unit (s := S2048x512) ![640, 384] S128x128.size (by decide)).emb x) := by
  rw [pc_5_1_1]
  exact put1_spec (spec x1 x2 x7 x8 x9) 5 1 640 384 (by decide) (by decide) rfl rfl _ _
    (tileE_spec arg8 harg8 arg9 harg9 x1 x2 x7 x8 x9 5 1 640 256 512 128 (by decide) (by decide) (by decide) rfl rfl rfl rfl _ _ _ _ _
      (fun i q => bias_v9867 c arg2 harg2 arg17 x1 i q) (fun i => (congrFun (va_1_5 c arg10 harg10 arg18 x9) _).trans (pair_one _ i))
      (fun d κ => (congrFun (va_1_5 c arg10 harg10 arg18 x9) _).trans (val_spec arg10 harg10 x9 5 1 4 5 64 _ _ (by decide) (by decide) (by decide) rfl rfl rfl d κ)) (fun q => sink_1 c arg3 harg3 x2 q))
    (tileO_spec arg8 harg8 arg9 harg9 x1 x2 x7 x8 x9 5 1 704 256 576 128 (by decide) (by decide) (by decide) rfl rfl rfl rfl _ _ _ _ _
      (fun i q => bias_v9867 c arg2 harg2 arg17 x1 i q) (fun i => (congrFun (va_1_5 c arg10 harg10 arg18 x9) _).trans (pair_one _ i))
      (fun d κ => (congrFun (va_1_5 c arg10 harg10 arg18 x9) _).trans (val_spec arg10 harg10 x9 5 1 4 5 64 _ _ (by decide) (by decide) (by decide) rfl rfl rfl d κ)) (fun q => sink_1 c arg3 harg3 x2 q)) _ x

/-- The stored block of rows 6 and pair 0 of key head 0. -/
theorem sp_6_0_0 (x : S128x128.Idx) : (k0_pay627 k0_pay7 (kernelRun0_A.sl.v4293 (F := Ideal) c i arg2 harg2 arg3 harg3 arg8 harg8 arg9 harg9 arg10 harg10 arg17 arg18 arg19 x1 x2 x7 x8 x9) (kernelRun0_A.sl.v4294 (F := Ideal) c i arg2 harg2 arg3 harg3 arg8 harg8 arg9 harg9 arg10 harg10 arg17 arg18 arg19 x1 x2 x7 x8 x9) (kernelRun0_A.sl.v4296 (F := Ideal) c i arg2 harg2 arg3 harg3 arg8 harg8 arg9 harg9 arg10 harg10 arg17 arg18 arg19 x1 x2 x7 x8 x9) 64#32) x =
    spec x1 x2 x7 x8 x9 ((Rect.unit (s := S2048x512) ![768, 0] S128x128.size (by decide)).emb x) := by
  rw [pc_6_0_0]
  exact put0_spec (spec x1 x2 x7 x8 x9) 6 0 768 0 (by decide) (by decide) rfl rfl _ _
    (tileE_spec arg8 harg8 arg9 harg9 x1 x2 x7 x8 x9 6 0 768 0 640 0 (by decide) (by decide) (by decide) rfl rfl rfl rfl _ _ _ _ _
      (fun i q => bias_v5257 c arg2 harg2 arg17 x1 i q) (fun i => (congrFun (va_0_6 c arg10 harg10 arg18 x9) _).trans (pair_one _ i))
      (fun d κ => (congrFun (va_0_6 c arg10 harg10 arg18 x9) _).trans (val_spec arg10 harg10 x9 6 0 5 6 0 _ _ (by decide) (by decide) (by decide) rfl rfl rfl d κ)) (fun q => sink_0 c arg3 harg3 x2 q))
    (tileO_spec arg8 harg8 arg9 harg9 x1 x2 x7 x8 x9 6 0 832 0 704 0 (by decide) (by decide) (by decide) rfl rfl rfl rfl _ _ _ _ _
      (fun i q => bias_v5257 c arg2 harg2 arg17 x1 i q) (fun i => (congrFun (va_0_6 c arg10 harg10 arg18 x9) _).trans (pair_one _ i))
      (fun d κ => (congrFun (va_0_6 c arg10 harg10 arg18 x9) _).trans (val_spec arg10 harg10 x9 6 0 5 6 0 _ _ (by decide) (by decide) (by decide) rfl rfl rfl d κ)) (fun q => sink_0 c arg3 harg3 x2 q)) _ x

/-- The stored block of rows 6 and pair 1 of key head 0. -/
theorem sp_6_0_1 (x : S128x128.Idx) : (k0_pay628 k0_pay7 (kernelRun0_A.sl.v4291 (F := Ideal) c i arg2 harg2 arg3 harg3 arg8 harg8 arg9 harg9 arg10 harg10 arg17 arg18 arg19 x1 x2 x7 x8 x9) (kernelRun0_A.sl.v4292 (F := Ideal) c i arg2 harg2 arg3 harg3 arg8 harg8 arg9 harg9 arg10 harg10 arg17 arg18 arg19 x1 x2 x7 x8 x9)) x =
    spec x1 x2 x7 x8 x9 ((Rect.unit (s := S2048x512) ![768, 128] S128x128.size (by decide)).emb x) := by
  rw [pc_6_0_1]
  exact put1_spec (spec x1 x2 x7 x8 x9) 6 0 768 128 (by decide) (by decide) rfl rfl _ _
    (tileE_spec arg8 harg8 arg9 harg9 x1 x2 x7 x8 x9 6 0 768 0 640 0 (by decide) (by decide) (by decide) rfl rfl rfl rfl _ _ _ _ _
      (fun i q => bias_v5257 c arg2 harg2 arg17 x1 i q) (fun i => (congrFun (va_0_6 c arg10 harg10 arg18 x9) _).trans (pair_one _ i))
      (fun d κ => (congrFun (va_0_6 c arg10 harg10 arg18 x9) _).trans (val_spec arg10 harg10 x9 6 0 5 6 0 _ _ (by decide) (by decide) (by decide) rfl rfl rfl d κ)) (fun q => sink_0 c arg3 harg3 x2 q))
    (tileO_spec arg8 harg8 arg9 harg9 x1 x2 x7 x8 x9 6 0 832 0 704 0 (by decide) (by decide) (by decide) rfl rfl rfl rfl _ _ _ _ _
      (fun i q => bias_v5257 c arg2 harg2 arg17 x1 i q) (fun i => (congrFun (va_0_6 c arg10 harg10 arg18 x9) _).trans (pair_one _ i))
      (fun d κ => (congrFun (va_0_6 c arg10 harg10 arg18 x9) _).trans (val_spec arg10 harg10 x9 6 0 5 6 0 _ _ (by decide) (by decide) (by decide) rfl rfl rfl d κ)) (fun q => sink_0 c arg3 harg3 x2 q)) _ x

/-- The stored block of rows 6 and pair 0 of key head 1. -/
theorem sp_6_1_0 (x : S128x128.Idx) : (kernelRun0_A.sl.v13297 (F := Ideal) c i arg2 harg2 arg3 harg3 arg8 harg8 arg9 harg9 arg10 harg10 arg17 arg18 arg19 x1 x2 x7 x8 x9) x =
    spec x1 x2 x7 x8 x9 ((Rect.unit (s := S2048x512) ![768, 256] S128x128.size (by decide)).emb x) := by
  rw [pc_6_1_0]
  exact put0_spec (spec x1 x2 x7 x8 x9) 6 1 768 256 (by decide) (by decide) rfl rfl _ _
    (tileE_spec arg8 harg8 arg9 harg9 x1 x2 x7 x8 x9 6 1 768 256 640 128 (by decide) (by decide) (by decide) rfl rfl rfl rfl _ _ _ _ _
      (fun i q => bias_v9867 c arg2 harg2 arg17 x1 i q) (fun i => (congrFun (va_1_6 c arg10 harg10 arg18 x9) _).trans (pair_one _ i))
      (fun d κ => (congrFun (va_1_6 c arg10 harg10 arg18 x9) _).trans (val_spec arg10 harg10 x9 6 1 5 6 64 _ _ (by decide) (by decide) (by decide) rfl rfl rfl d κ)) (fun q => sink_1 c arg3 harg3 x2 q))
    (tileO_spec arg8 harg8 arg9 harg9 x1 x2 x7 x8 x9 6 1 832 256 704 128 (by decide) (by decide) (by decide) rfl rfl rfl rfl _ _ _ _ _
      (fun i q => bias_v9867 c arg2 harg2 arg17 x1 i q) (fun i => (congrFun (va_1_6 c arg10 harg10 arg18 x9) _).trans (pair_one _ i))
      (fun d κ => (congrFun (va_1_6 c arg10 harg10 arg18 x9) _).trans (val_spec arg10 harg10 x9 6 1 5 6 64 _ _ (by decide) (by decide) (by decide) rfl rfl rfl d κ)) (fun q => sink_1 c arg3 harg3 x2 q)) _ x

/-- The stored block of rows 6 and pair 1 of key head 1. -/
theorem sp_6_1_1 (x : S128x128.Idx) : (kernelRun0_A.sl.v13306 (F := Ideal) c i arg2 harg2 arg3 harg3 arg8 harg8 arg9 harg9 arg10 harg10 arg17 arg18 arg19 x1 x2 x7 x8 x9) x =
    spec x1 x2 x7 x8 x9 ((Rect.unit (s := S2048x512) ![768, 384] S128x128.size (by decide)).emb x) := by
  rw [pc_6_1_1]
  exact put1_spec (spec x1 x2 x7 x8 x9) 6 1 768 384 (by decide) (by decide) rfl rfl _ _
    (tileE_spec arg8 harg8 arg9 harg9 x1 x2 x7 x8 x9 6 1 768 256 640 128 (by decide) (by decide) (by decide) rfl rfl rfl rfl _ _ _ _ _
      (fun i q => bias_v9867 c arg2 harg2 arg17 x1 i q) (fun i => (congrFun (va_1_6 c arg10 harg10 arg18 x9) _).trans (pair_one _ i))
      (fun d κ => (congrFun (va_1_6 c arg10 harg10 arg18 x9) _).trans (val_spec arg10 harg10 x9 6 1 5 6 64 _ _ (by decide) (by decide) (by decide) rfl rfl rfl d κ)) (fun q => sink_1 c arg3 harg3 x2 q))
    (tileO_spec arg8 harg8 arg9 harg9 x1 x2 x7 x8 x9 6 1 832 256 704 128 (by decide) (by decide) (by decide) rfl rfl rfl rfl _ _ _ _ _
      (fun i q => bias_v9867 c arg2 harg2 arg17 x1 i q) (fun i => (congrFun (va_1_6 c arg10 harg10 arg18 x9) _).trans (pair_one _ i))
      (fun d κ => (congrFun (va_1_6 c arg10 harg10 arg18 x9) _).trans (val_spec arg10 harg10 x9 6 1 5 6 64 _ _ (by decide) (by decide) (by decide) rfl rfl rfl d κ)) (fun q => sink_1 c arg3 harg3 x2 q)) _ x

/-- The stored block of rows 7 and pair 0 of key head 0. -/
theorem sp_7_0_0 (x : S128x128.Idx) : (kernelRun0_A.sl.v5198 (F := Ideal) c i arg2 harg2 arg3 harg3 arg8 harg8 arg9 harg9 arg10 harg10 arg17 arg18 arg19 x1 x2 x7 x8 x9) x =
    spec x1 x2 x7 x8 x9 ((Rect.unit (s := S2048x512) ![896, 0] S128x128.size (by decide)).emb x) := by
  rw [pc_7_0_0]
  exact put0_spec (spec x1 x2 x7 x8 x9) 7 0 896 0 (by decide) (by decide) rfl rfl _ _
    (tileE_spec arg8 harg8 arg9 harg9 x1 x2 x7 x8 x9 7 0 896 0 768 0 (by decide) (by decide) (by decide) rfl rfl rfl rfl _ _ _ _ _
      (fun i q => bias_v5257 c arg2 harg2 arg17 x1 i q) (fun i => (congrFun (va_0_7 c arg10 harg10 arg18 x9) _).trans (pair_one _ i))
      (fun d κ => (congrFun (va_0_7 c arg10 harg10 arg18 x9) _).trans (val_spec arg10 harg10 x9 7 0 6 7 0 _ _ (by decide) (by decide) (by decide) rfl rfl rfl d κ)) (fun q => sink_0 c arg3 harg3 x2 q))
    (tileO_spec arg8 harg8 arg9 harg9 x1 x2 x7 x8 x9 7 0 960 0 832 0 (by decide) (by decide) (by decide) rfl rfl rfl rfl _ _ _ _ _
      (fun i q => bias_v5257 c arg2 harg2 arg17 x1 i q) (fun i => (congrFun (va_0_7 c arg10 harg10 arg18 x9) _).trans (pair_one _ i))
      (fun d κ => (congrFun (va_0_7 c arg10 harg10 arg18 x9) _).trans (val_spec arg10 harg10 x9 7 0 6 7 0 _ _ (by decide) (by decide) (by decide) rfl rfl rfl d κ)) (fun q => sink_0 c arg3 harg3 x2 q)) _ x

/-- The stored block of rows 7 and pair 1 of key head 0. -/
theorem sp_7_0_1 (x : S128x128.Idx) : (kernelRun0_A.sl.v5207 (F := Ideal) c i arg2 harg2 arg3 harg3 arg8 harg8 arg9 harg9 arg10 harg10 arg17 arg18 arg19 x1 x2 x7 x8 x9) x =
    spec x1 x2 x7 x8 x9 ((Rect.unit (s := S2048x512) ![896, 128] S128x128.size (by decide)).emb x) := by
  rw [pc_7_0_1]
  exact put1_spec (spec x1 x2 x7 x8 x9) 7 0 896 128 (by decide) (by decide) rfl rfl _ _
    (tileE_spec arg8 harg8 arg9 harg9 x1 x2 x7 x8 x9 7 0 896 0 768 0 (by decide) (by decide) (by decide) rfl rfl rfl rfl _ _ _ _ _
      (fun i q => bias_v5257 c arg2 harg2 arg17 x1 i q) (fun i => (congrFun (va_0_7 c arg10 harg10 arg18 x9) _).trans (pair_one _ i))
      (fun d κ => (congrFun (va_0_7 c arg10 harg10 arg18 x9) _).trans (val_spec arg10 harg10 x9 7 0 6 7 0 _ _ (by decide) (by decide) (by decide) rfl rfl rfl d κ)) (fun q => sink_0 c arg3 harg3 x2 q))
    (tileO_spec arg8 harg8 arg9 harg9 x1 x2 x7 x8 x9 7 0 960 0 832 0 (by decide) (by decide) (by decide) rfl rfl rfl rfl _ _ _ _ _
      (fun i q => bias_v5257 c arg2 harg2 arg17 x1 i q) (fun i => (congrFun (va_0_7 c arg10 harg10 arg18 x9) _).trans (pair_one _ i))
      (fun d κ => (congrFun (va_0_7 c arg10 harg10 arg18 x9) _).trans (val_spec arg10 harg10 x9 7 0 6 7 0 _ _ (by decide) (by decide) (by decide) rfl rfl rfl d κ)) (fun q => sink_0 c arg3 harg3 x2 q)) _ x

/-- The stored block of rows 7 and pair 0 of key head 1. -/
theorem sp_7_1_0 (x : S128x128.Idx) : (kernelRun0_A.sl.v14195 (F := Ideal) c i arg2 harg2 arg3 harg3 arg8 harg8 arg9 harg9 arg10 harg10 arg17 arg18 arg19 x1 x2 x7 x8 x9) x =
    spec x1 x2 x7 x8 x9 ((Rect.unit (s := S2048x512) ![896, 256] S128x128.size (by decide)).emb x) := by
  rw [pc_7_1_0]
  exact put0_spec (spec x1 x2 x7 x8 x9) 7 1 896 256 (by decide) (by decide) rfl rfl _ _
    (tileE_spec arg8 harg8 arg9 harg9 x1 x2 x7 x8 x9 7 1 896 256 768 128 (by decide) (by decide) (by decide) rfl rfl rfl rfl _ _ _ _ _
      (fun i q => bias_v9867 c arg2 harg2 arg17 x1 i q) (fun i => (congrFun (va_1_7 c arg10 harg10 arg18 x9) _).trans (pair_one _ i))
      (fun d κ => (congrFun (va_1_7 c arg10 harg10 arg18 x9) _).trans (val_spec arg10 harg10 x9 7 1 6 7 64 _ _ (by decide) (by decide) (by decide) rfl rfl rfl d κ)) (fun q => sink_1 c arg3 harg3 x2 q))
    (tileO_spec arg8 harg8 arg9 harg9 x1 x2 x7 x8 x9 7 1 960 256 832 128 (by decide) (by decide) (by decide) rfl rfl rfl rfl _ _ _ _ _
      (fun i q => bias_v9867 c arg2 harg2 arg17 x1 i q) (fun i => (congrFun (va_1_7 c arg10 harg10 arg18 x9) _).trans (pair_one _ i))
      (fun d κ => (congrFun (va_1_7 c arg10 harg10 arg18 x9) _).trans (val_spec arg10 harg10 x9 7 1 6 7 64 _ _ (by decide) (by decide) (by decide) rfl rfl rfl d κ)) (fun q => sink_1 c arg3 harg3 x2 q)) _ x

/-- The stored block of rows 7 and pair 1 of key head 1. -/
theorem sp_7_1_1 (x : S128x128.Idx) : (kernelRun0_A.sl.v14204 (F := Ideal) c i arg2 harg2 arg3 harg3 arg8 harg8 arg9 harg9 arg10 harg10 arg17 arg18 arg19 x1 x2 x7 x8 x9) x =
    spec x1 x2 x7 x8 x9 ((Rect.unit (s := S2048x512) ![896, 384] S128x128.size (by decide)).emb x) := by
  rw [pc_7_1_1]
  exact put1_spec (spec x1 x2 x7 x8 x9) 7 1 896 384 (by decide) (by decide) rfl rfl _ _
    (tileE_spec arg8 harg8 arg9 harg9 x1 x2 x7 x8 x9 7 1 896 256 768 128 (by decide) (by decide) (by decide) rfl rfl rfl rfl _ _ _ _ _
      (fun i q => bias_v9867 c arg2 harg2 arg17 x1 i q) (fun i => (congrFun (va_1_7 c arg10 harg10 arg18 x9) _).trans (pair_one _ i))
      (fun d κ => (congrFun (va_1_7 c arg10 harg10 arg18 x9) _).trans (val_spec arg10 harg10 x9 7 1 6 7 64 _ _ (by decide) (by decide) (by decide) rfl rfl rfl d κ)) (fun q => sink_1 c arg3 harg3 x2 q))
    (tileO_spec arg8 harg8 arg9 harg9 x1 x2 x7 x8 x9 7 1 960 256 832 128 (by decide) (by decide) (by decide) rfl rfl rfl rfl _ _ _ _ _
      (fun i q => bias_v9867 c arg2 harg2 arg17 x1 i q) (fun i => (congrFun (va_1_7 c arg10 harg10 arg18 x9) _).trans (pair_one _ i))
      (fun d κ => (congrFun (va_1_7 c arg10 harg10 arg18 x9) _).trans (val_spec arg10 harg10 x9 7 1 6 7 64 _ _ (by decide) (by decide) (by decide) rfl rfl rfl d κ)) (fun q => sink_1 c arg3 harg3 x2 q)) _ x

/-- The stored block of rows 8 and pair 0 of key head 0. -/
theorem sp_8_0_0 (x : S128x128.Idx) : (kernelRun0_A.sl.v5968 (F := Ideal) c i arg2 harg2 arg3 harg3 arg8 harg8 arg9 harg9 arg10 harg10 arg17 arg18 arg19 x1 x2 x7 x8 x9) x =
    spec x1 x2 x7 x8 x9 ((Rect.unit (s := S2048x512) ![1024, 0] S128x128.size (by decide)).emb x) := by
  rw [pc_8_0_0]
  exact put0_spec (spec x1 x2 x7 x8 x9) 8 0 1024 0 (by decide) (by decide) rfl rfl _ _
    (tileE_spec arg8 harg8 arg9 harg9 x1 x2 x7 x8 x9 8 0 1024 0 896 0 (by decide) (by decide) (by decide) rfl rfl rfl rfl _ _ _ _ _
      (fun i q => bias_v5257 c arg2 harg2 arg17 x1 i q) (fun i => (congrFun (va_0_8 c arg10 harg10 arg18 x9) _).trans (pair_one _ i))
      (fun d κ => (congrFun (va_0_8 c arg10 harg10 arg18 x9) _).trans (val_spec arg10 harg10 x9 8 0 7 8 0 _ _ (by decide) (by decide) (by decide) rfl rfl rfl d κ)) (fun q => sink_0 c arg3 harg3 x2 q))
    (tileO_spec arg8 harg8 arg9 harg9 x1 x2 x7 x8 x9 8 0 1088 0 960 0 (by decide) (by decide) (by decide) rfl rfl rfl rfl _ _ _ _ _
      (fun i q => bias_v5257 c arg2 harg2 arg17 x1 i q) (fun i => (congrFun (va_0_8 c arg10 harg10 arg18 x9) _).trans (pair_one _ i))
      (fun d κ => (congrFun (va_0_8 c arg10 harg10 arg18 x9) _).trans (val_spec arg10 harg10 x9 8 0 7 8 0 _ _ (by decide) (by decide) (by decide) rfl rfl rfl d κ)) (fun q => sink_0 c arg3 harg3 x2 q)) _ x

/-- The stored block of rows 8 and pair 1 of key head 0. -/
theorem sp_8_0_1 (x : S128x128.Idx) : (kernelRun0_A.sl.v5977 (F := Ideal) c i arg2 harg2 arg3 harg3 arg8 harg8 arg9 harg9 arg10 harg10 arg17 arg18 arg19 x1 x2 x7 x8 x9) x =
    spec x1 x2 x7 x8 x9 ((Rect.unit (s := S2048x512) ![1024, 128] S128x128.size (by decide)).emb x) := by
  rw [pc_8_0_1]
  exact put1_spec (spec x1 x2 x7 x8 x9) 8 0 1024 128 (by decide) (by decide) rfl rfl _ _
    (tileE_spec arg8 harg8 arg9 harg9 x1 x2 x7 x8 x9 8 0 1024 0 896 0 (by decide) (by decide) (by decide) rfl rfl rfl rfl _ _ _ _ _
      (fun i q => bias_v5257 c arg2 harg2 arg17 x1 i q) (fun i => (congrFun (va_0_8 c arg10 harg10 arg18 x9) _).trans (pair_one _ i))
      (fun d κ => (congrFun (va_0_8 c arg10 harg10 arg18 x9) _).trans (val_spec arg10 harg10 x9 8 0 7 8 0 _ _ (by decide) (by decide) (by decide) rfl rfl rfl d κ)) (fun q => sink_0 c arg3 harg3 x2 q))
    (tileO_spec arg8 harg8 arg9 harg9 x1 x2 x7 x8 x9 8 0 1088 0 960 0 (by decide) (by decide) (by decide) rfl rfl rfl rfl _ _ _ _ _
      (fun i q => bias_v5257 c arg2 harg2 arg17 x1 i q) (fun i => (congrFun (va_0_8 c arg10 harg10 arg18 x9) _).trans (pair_one _ i))
      (fun d κ => (congrFun (va_0_8 c arg10 harg10 arg18 x9) _).trans (val_spec arg10 harg10 x9 8 0 7 8 0 _ _ (by decide) (by decide) (by decide) rfl rfl rfl d κ)) (fun q => sink_0 c arg3 harg3 x2 q)) _ x

/-- The stored block of rows 8 and pair 0 of key head 1. -/
theorem sp_8_1_0 (x : S128x128.Idx) : (kernelRun0_A.sl.v14965 (F := Ideal) c i arg2 harg2 arg3 harg3 arg8 harg8 arg9 harg9 arg10 harg10 arg17 arg18 arg19 x1 x2 x7 x8 x9) x =
    spec x1 x2 x7 x8 x9 ((Rect.unit (s := S2048x512) ![1024, 256] S128x128.size (by decide)).emb x) := by
  rw [pc_8_1_0]
  exact put0_spec (spec x1 x2 x7 x8 x9) 8 1 1024 256 (by decide) (by decide) rfl rfl _ _
    (tileE_spec arg8 harg8 arg9 harg9 x1 x2 x7 x8 x9 8 1 1024 256 896 128 (by decide) (by decide) (by decide) rfl rfl rfl rfl _ _ _ _ _
      (fun i q => bias_v9867 c arg2 harg2 arg17 x1 i q) (fun i => (congrFun (va_1_8 c arg10 harg10 arg18 x9) _).trans (pair_one _ i))
      (fun d κ => (congrFun (va_1_8 c arg10 harg10 arg18 x9) _).trans (val_spec arg10 harg10 x9 8 1 7 8 64 _ _ (by decide) (by decide) (by decide) rfl rfl rfl d κ)) (fun q => sink_1 c arg3 harg3 x2 q))
    (tileO_spec arg8 harg8 arg9 harg9 x1 x2 x7 x8 x9 8 1 1088 256 960 128 (by decide) (by decide) (by decide) rfl rfl rfl rfl _ _ _ _ _
      (fun i q => bias_v9867 c arg2 harg2 arg17 x1 i q) (fun i => (congrFun (va_1_8 c arg10 harg10 arg18 x9) _).trans (pair_one _ i))
      (fun d κ => (congrFun (va_1_8 c arg10 harg10 arg18 x9) _).trans (val_spec arg10 harg10 x9 8 1 7 8 64 _ _ (by decide) (by decide) (by decide) rfl rfl rfl d κ)) (fun q => sink_1 c arg3 harg3 x2 q)) _ x

/-- The stored block of rows 8 and pair 1 of key head 1. -/
theorem sp_8_1_1 (x : S128x128.Idx) : (kernelRun0_A.sl.v14974 (F := Ideal) c i arg2 harg2 arg3 harg3 arg8 harg8 arg9 harg9 arg10 harg10 arg17 arg18 arg19 x1 x2 x7 x8 x9) x =
    spec x1 x2 x7 x8 x9 ((Rect.unit (s := S2048x512) ![1024, 384] S128x128.size (by decide)).emb x) := by
  rw [pc_8_1_1]
  exact put1_spec (spec x1 x2 x7 x8 x9) 8 1 1024 384 (by decide) (by decide) rfl rfl _ _
    (tileE_spec arg8 harg8 arg9 harg9 x1 x2 x7 x8 x9 8 1 1024 256 896 128 (by decide) (by decide) (by decide) rfl rfl rfl rfl _ _ _ _ _
      (fun i q => bias_v9867 c arg2 harg2 arg17 x1 i q) (fun i => (congrFun (va_1_8 c arg10 harg10 arg18 x9) _).trans (pair_one _ i))
      (fun d κ => (congrFun (va_1_8 c arg10 harg10 arg18 x9) _).trans (val_spec arg10 harg10 x9 8 1 7 8 64 _ _ (by decide) (by decide) (by decide) rfl rfl rfl d κ)) (fun q => sink_1 c arg3 harg3 x2 q))
    (tileO_spec arg8 harg8 arg9 harg9 x1 x2 x7 x8 x9 8 1 1088 256 960 128 (by decide) (by decide) (by decide) rfl rfl rfl rfl _ _ _ _ _
      (fun i q => bias_v9867 c arg2 harg2 arg17 x1 i q) (fun i => (congrFun (va_1_8 c arg10 harg10 arg18 x9) _).trans (pair_one _ i))
      (fun d κ => (congrFun (va_1_8 c arg10 harg10 arg18 x9) _).trans (val_spec arg10 harg10 x9 8 1 7 8 64 _ _ (by decide) (by decide) (by decide) rfl rfl rfl d κ)) (fun q => sink_1 c arg3 harg3 x2 q)) _ x

/-- The stored block of rows 9 and pair 0 of key head 0. -/
theorem sp_9_0_0 (x : S128x128.Idx) : (kernelRun0_A.sl.v6412 (F := Ideal) c i arg2 harg2 arg3 harg3 arg8 harg8 arg9 harg9 arg10 harg10 arg17 arg18 arg19 x1 x2 x7 x8 x9) x =
    spec x1 x2 x7 x8 x9 ((Rect.unit (s := S2048x512) ![1152, 0] S128x128.size (by decide)).emb x) := by
  rw [pc_9_0_0]
  exact put0_spec (spec x1 x2 x7 x8 x9) 9 0 1152 0 (by decide) (by decide) rfl rfl _ _
    (tileE_spec arg8 harg8 arg9 harg9 x1 x2 x7 x8 x9 9 0 1152 0 1024 0 (by decide) (by decide) (by decide) rfl rfl rfl rfl _ _ _ _ _
      (fun i q => bias_v5257 c arg2 harg2 arg17 x1 i q) (fun i => (congrFun (va_0_9 c arg10 harg10 arg18 x9) _).trans (pair_one _ i))
      (fun d κ => (congrFun (va_0_9 c arg10 harg10 arg18 x9) _).trans (val_spec arg10 harg10 x9 9 0 8 9 0 _ _ (by decide) (by decide) (by decide) rfl rfl rfl d κ)) (fun q => sink_0 c arg3 harg3 x2 q))
    (tileO_spec arg8 harg8 arg9 harg9 x1 x2 x7 x8 x9 9 0 1216 0 1088 0 (by decide) (by decide) (by decide) rfl rfl rfl rfl _ _ _ _ _
      (fun i q => bias_v5257 c arg2 harg2 arg17 x1 i q) (fun i => (congrFun (va_0_9 c arg10 harg10 arg18 x9) _).trans (pair_one _ i))
      (fun d κ => (congrFun (va_0_9 c arg10 harg10 arg18 x9) _).trans (val_spec arg10 harg10 x9 9 0 8 9 0 _ _ (by decide) (by decide) (by decide) rfl rfl rfl d κ)) (fun q => sink_0 c arg3 harg3 x2 q)) _ x

/-- The stored block of rows 9 and pair 1 of key head 0. -/
theorem sp_9_0_1 (x : S128x128.Idx) : (kernelRun0_A.sl.v6421 (F := Ideal) c i arg2 harg2 arg3 harg3 arg8 harg8 arg9 harg9 arg10 harg10 arg17 arg18 arg19 x1 x2 x7 x8 x9) x =
    spec x1 x2 x7 x8 x9 ((Rect.unit (s := S2048x512) ![1152, 128] S128x128.size (by decide)).emb x) := by
  rw [pc_9_0_1]
  exact put1_spec (spec x1 x2 x7 x8 x9) 9 0 1152 128 (by decide) (by decide) rfl rfl _ _
    (tileE_spec arg8 harg8 arg9 harg9 x1 x2 x7 x8 x9 9 0 1152 0 1024 0 (by decide) (by decide) (by decide) rfl rfl rfl rfl _ _ _ _ _
      (fun i q => bias_v5257 c arg2 harg2 arg17 x1 i q) (fun i => (congrFun (va_0_9 c arg10 harg10 arg18 x9) _).trans (pair_one _ i))
      (fun d κ => (congrFun (va_0_9 c arg10 harg10 arg18 x9) _).trans (val_spec arg10 harg10 x9 9 0 8 9 0 _ _ (by decide) (by decide) (by decide) rfl rfl rfl d κ)) (fun q => sink_0 c arg3 harg3 x2 q))
    (tileO_spec arg8 harg8 arg9 harg9 x1 x2 x7 x8 x9 9 0 1216 0 1088 0 (by decide) (by decide) (by decide) rfl rfl rfl rfl _ _ _ _ _
      (fun i q => bias_v5257 c arg2 harg2 arg17 x1 i q) (fun i => (congrFun (va_0_9 c arg10 harg10 arg18 x9) _).trans (pair_one _ i))
      (fun d κ => (congrFun (va_0_9 c arg10 harg10 arg18 x9) _).trans (val_spec arg10 harg10 x9 9 0 8 9 0 _ _ (by decide) (by decide) (by decide) rfl rfl rfl d κ)) (fun q => sink_0 c arg3 harg3 x2 q)) _ x

/-- The stored block of rows 9 and pair 0 of key head 1. -/
theorem sp_9_1_0 (x : S128x128.Idx) : (kernelRun0_A.sl.v15409 (F := Ideal) c i arg2 harg2 arg3 harg3 arg8 harg8 arg9 harg9 arg10 harg10 arg17 arg18 arg19 x1 x2 x7 x8 x9) x =
    spec x1 x2 x7 x8 x9 ((Rect.unit (s := S2048x512) ![1152, 256] S128x128.size (by decide)).emb x) := by
  rw [pc_9_1_0]
  exact put0_spec (spec x1 x2 x7 x8 x9) 9 1 1152 256 (by decide) (by decide) rfl rfl _ _
    (tileE_spec arg8 harg8 arg9 harg9 x1 x2 x7 x8 x9 9 1 1152 256 1024 128 (by decide) (by decide) (by decide) rfl rfl rfl rfl _ _ _ _ _
      (fun i q => bias_v9867 c arg2 harg2 arg17 x1 i q) (fun i => (congrFun (va_1_9 c arg10 harg10 arg18 x9) _).trans (pair_one _ i))
      (fun d κ => (congrFun (va_1_9 c arg10 harg10 arg18 x9) _).trans (val_spec arg10 harg10 x9 9 1 8 9 64 _ _ (by decide) (by decide) (by decide) rfl rfl rfl d κ)) (fun q => sink_1 c arg3 harg3 x2 q))
    (tileO_spec arg8 harg8 arg9 harg9 x1 x2 x7 x8 x9 9 1 1216 256 1088 128 (by decide) (by decide) (by decide) rfl rfl rfl rfl _ _ _ _ _
      (fun i q => bias_v9867 c arg2 harg2 arg17 x1 i q) (fun i => (congrFun (va_1_9 c arg10 harg10 arg18 x9) _).trans (pair_one _ i))
      (fun d κ => (congrFun (va_1_9 c arg10 harg10 arg18 x9) _).trans (val_spec arg10 harg10 x9 9 1 8 9 64 _ _ (by decide) (by decide) (by decide) rfl rfl rfl d κ)) (fun q => sink_1 c arg3 harg3 x2 q)) _ x

/-- The stored block of rows 9 and pair 1 of key head 1. -/
theorem sp_9_1_1 (x : S128x128.Idx) : (kernelRun0_A.sl.v15418 (F := Ideal) c i arg2 harg2 arg3 harg3 arg8 harg8 arg9 harg9 arg10 harg10 arg17 arg18 arg19 x1 x2 x7 x8 x9) x =
    spec x1 x2 x7 x8 x9 ((Rect.unit (s := S2048x512) ![1152, 384] S128x128.size (by decide)).emb x) := by
  rw [pc_9_1_1]
  exact put1_spec (spec x1 x2 x7 x8 x9) 9 1 1152 384 (by decide) (by decide) rfl rfl _ _
    (tileE_spec arg8 harg8 arg9 harg9 x1 x2 x7 x8 x9 9 1 1152 256 1024 128 (by decide) (by decide) (by decide) rfl rfl rfl rfl _ _ _ _ _
      (fun i q => bias_v9867 c arg2 harg2 arg17 x1 i q) (fun i => (congrFun (va_1_9 c arg10 harg10 arg18 x9) _).trans (pair_one _ i))
      (fun d κ => (congrFun (va_1_9 c arg10 harg10 arg18 x9) _).trans (val_spec arg10 harg10 x9 9 1 8 9 64 _ _ (by decide) (by decide) (by decide) rfl rfl rfl d κ)) (fun q => sink_1 c arg3 harg3 x2 q))
    (tileO_spec arg8 harg8 arg9 harg9 x1 x2 x7 x8 x9 9 1 1216 256 1088 128 (by decide) (by decide) (by decide) rfl rfl rfl rfl _ _ _ _ _
      (fun i q => bias_v9867 c arg2 harg2 arg17 x1 i q) (fun i => (congrFun (va_1_9 c arg10 harg10 arg18 x9) _).trans (pair_one _ i))
      (fun d κ => (congrFun (va_1_9 c arg10 harg10 arg18 x9) _).trans (val_spec arg10 harg10 x9 9 1 8 9 64 _ _ (by decide) (by decide) (by decide) rfl rfl rfl d κ)) (fun q => sink_1 c arg3 harg3 x2 q)) _ x

/-- The stored block of rows 10 and pair 0 of key head 0. -/
theorem sp_10_0_0 (x : S128x128.Idx) : (kernelRun0_A.sl.v6803 (F := Ideal) c i arg2 harg2 arg3 harg3 arg8 harg8 arg9 harg9 arg10 harg10 arg17 arg18 arg19 x1 x2 x7 x8 x9) x =
    spec x1 x2 x7 x8 x9 ((Rect.unit (s := S2048x512) ![1280, 0] S128x128.size (by decide)).emb x) := by
  rw [pc_10_0_0]
  exact put0_spec (spec x1 x2 x7 x8 x9) 10 0 1280 0 (by decide) (by decide) rfl rfl _ _
    (tileE_spec arg8 harg8 arg9 harg9 x1 x2 x7 x8 x9 10 0 1280 0 1152 0 (by decide) (by decide) (by decide) rfl rfl rfl rfl _ _ _ _ _
      (fun i q => bias_v5257 c arg2 harg2 arg17 x1 i q) (fun i => (congrFun (va_0_10 c arg10 harg10 arg18 x9) _).trans (pair_one _ i))
      (fun d κ => (congrFun (va_0_10 c arg10 harg10 arg18 x9) _).trans (val_spec arg10 harg10 x9 10 0 9 10 0 _ _ (by decide) (by decide) (by decide) rfl rfl rfl d κ)) (fun q => sink_0 c arg3 harg3 x2 q))
    (tileO_spec arg8 harg8 arg9 harg9 x1 x2 x7 x8 x9 10 0 1344 0 1216 0 (by decide) (by decide) (by decide) rfl rfl rfl rfl _ _ _ _ _
      (fun i q => bias_v5257 c arg2 harg2 arg17 x1 i q) (fun i => (congrFun (va_0_10 c arg10 harg10 arg18 x9) _).trans (pair_one _ i))
      (fun d κ => (congrFun (va_0_10 c arg10 harg10 arg18 x9) _).trans (val_spec arg10 harg10 x9 10 0 9 10 0 _ _ (by decide) (by decide) (by decide) rfl rfl rfl d κ)) (fun q => sink_0 c arg3 harg3 x2 q)) _ x

/-- The stored block of rows 10 and pair 1 of key head 0. -/
theorem sp_10_0_1 (x : S128x128.Idx) : (kernelRun0_A.sl.v6812 (F := Ideal) c i arg2 harg2 arg3 harg3 arg8 harg8 arg9 harg9 arg10 harg10 arg17 arg18 arg19 x1 x2 x7 x8 x9) x =
    spec x1 x2 x7 x8 x9 ((Rect.unit (s := S2048x512) ![1280, 128] S128x128.size (by decide)).emb x) := by
  rw [pc_10_0_1]
  exact put1_spec (spec x1 x2 x7 x8 x9) 10 0 1280 128 (by decide) (by decide) rfl rfl _ _
    (tileE_spec arg8 harg8 arg9 harg9 x1 x2 x7 x8 x9 10 0 1280 0 1152 0 (by decide) (by decide) (by decide) rfl rfl rfl rfl _ _ _ _ _
      (fun i q => bias_v5257 c arg2 harg2 arg17 x1 i q) (fun i => (congrFun (va_0_10 c arg10 harg10 arg18 x9) _).trans (pair_one _ i))
      (fun d κ => (congrFun (va_0_10 c arg10 harg10 arg18 x9) _).trans (val_spec arg10 harg10 x9 10 0 9 10 0 _ _ (by decide) (by decide) (by decide) rfl rfl rfl d κ)) (fun q => sink_0 c arg3 harg3 x2 q))
    (tileO_spec arg8 harg8 arg9 harg9 x1 x2 x7 x8 x9 10 0 1344 0 1216 0 (by decide) (by decide) (by decide) rfl rfl rfl rfl _ _ _ _ _
      (fun i q => bias_v5257 c arg2 harg2 arg17 x1 i q) (fun i => (congrFun (va_0_10 c arg10 harg10 arg18 x9) _).trans (pair_one _ i))
      (fun d κ => (congrFun (va_0_10 c arg10 harg10 arg18 x9) _).trans (val_spec arg10 harg10 x9 10 0 9 10 0 _ _ (by decide) (by decide) (by decide) rfl rfl rfl d κ)) (fun q => sink_0 c arg3 harg3 x2 q)) _ x

/-- The stored block of rows 10 and pair 0 of key head 1. -/
theorem sp_10_1_0 (x : S128x128.Idx) : (kernelRun0_A.sl.v15800 (F := Ideal) c i arg2 harg2 arg3 harg3 arg8 harg8 arg9 harg9 arg10 harg10 arg17 arg18 arg19 x1 x2 x7 x8 x9) x =
    spec x1 x2 x7 x8 x9 ((Rect.unit (s := S2048x512) ![1280, 256] S128x128.size (by decide)).emb x) := by
  rw [pc_10_1_0]
  exact put0_spec (spec x1 x2 x7 x8 x9) 10 1 1280 256 (by decide) (by decide) rfl rfl _ _
    (tileE_spec arg8 harg8 arg9 harg9 x1 x2 x7 x8 x9 10 1 1280 256 1152 128 (by decide) (by decide) (by decide) rfl rfl rfl rfl _ _ _ _ _
      (fun i q => bias_v9867 c arg2 harg2 arg17 x1 i q) (fun i => (congrFun (va_1_10 c arg10 harg10 arg18 x9) _).trans (pair_one _ i))
      (fun d κ => (congrFun (va_1_10 c arg10 harg10 arg18 x9) _).trans (val_spec arg10 harg10 x9 10 1 9 10 64 _ _ (by decide) (by decide) (by decide) rfl rfl rfl d κ)) (fun q => sink_1 c arg3 harg3 x2 q))
    (tileO_spec arg8 harg8 arg9 harg9 x1 x2 x7 x8 x9 10 1 1344 256 1216 128 (by decide) (by decide) (by decide) rfl rfl rfl rfl _ _ _ _ _
      (fun i q => bias_v9867 c arg2 harg2 arg17 x1 i q) (fun i => (congrFun (va_1_10 c arg10 harg10 arg18 x9) _).trans (pair_one _ i))
      (fun d κ => (congrFun (va_1_10 c arg10 harg10 arg18 x9) _).trans (val_spec arg10 harg10 x9 10 1 9 10 64 _ _ (by decide) (by decide) (by decide) rfl rfl rfl d κ)) (fun q => sink_1 c arg3 harg3 x2 q)) _ x

/-- The stored block of rows 10 and pair 1 of key head 1. -/
theorem sp_10_1_1 (x : S128x128.Idx) : (kernelRun0_A.sl.v15809 (F := Ideal) c i arg2 harg2 arg3 harg3 arg8 harg8 arg9 harg9 arg10 harg10 arg17 arg18 arg19 x1 x2 x7 x8 x9) x =
    spec x1 x2 x7 x8 x9 ((Rect.unit (s := S2048x512) ![1280, 384] S128x128.size (by decide)).emb x) := by
  rw [pc_10_1_1]
  exact put1_spec (spec x1 x2 x7 x8 x9) 10 1 1280 384 (by decide) (by decide) rfl rfl _ _
    (tileE_spec arg8 harg8 arg9 harg9 x1 x2 x7 x8 x9 10 1 1280 256 1152 128 (by decide) (by decide) (by decide) rfl rfl rfl rfl _ _ _ _ _
      (fun i q => bias_v9867 c arg2 harg2 arg17 x1 i q) (fun i => (congrFun (va_1_10 c arg10 harg10 arg18 x9) _).trans (pair_one _ i))
      (fun d κ => (congrFun (va_1_10 c arg10 harg10 arg18 x9) _).trans (val_spec arg10 harg10 x9 10 1 9 10 64 _ _ (by decide) (by decide) (by decide) rfl rfl rfl d κ)) (fun q => sink_1 c arg3 harg3 x2 q))
    (tileO_spec arg8 harg8 arg9 harg9 x1 x2 x7 x8 x9 10 1 1344 256 1216 128 (by decide) (by decide) (by decide) rfl rfl rfl rfl _ _ _ _ _
      (fun i q => bias_v9867 c arg2 harg2 arg17 x1 i q) (fun i => (congrFun (va_1_10 c arg10 harg10 arg18 x9) _).trans (pair_one _ i))
      (fun d κ => (congrFun (va_1_10 c arg10 harg10 arg18 x9) _).trans (val_spec arg10 harg10 x9 10 1 9 10 64 _ _ (by decide) (by decide) (by decide) rfl rfl rfl d κ)) (fun q => sink_1 c arg3 harg3 x2 q)) _ x

/-- The stored block of rows 11 and pair 0 of key head 0. -/
theorem sp_11_0_0 (x : S128x128.Idx) : (kernelRun0_A.sl.v7436 (F := Ideal) c i arg2 harg2 arg3 harg3 arg8 harg8 arg9 harg9 arg10 harg10 arg17 arg18 arg19 x1 x2 x7 x8 x9) x =
    spec x1 x2 x7 x8 x9 ((Rect.unit (s := S2048x512) ![1408, 0] S128x128.size (by decide)).emb x) := by
  rw [pc_11_0_0]
  exact put0_spec (spec x1 x2 x7 x8 x9) 11 0 1408 0 (by decide) (by decide) rfl rfl _ _
    (tileE_spec arg8 harg8 arg9 harg9 x1 x2 x7 x8 x9 11 0 1408 0 1280 0 (by decide) (by decide) (by decide) rfl rfl rfl rfl _ _ _ _ _
      (fun i q => bias_v5257 c arg2 harg2 arg17 x1 i q) (fun i => (congrFun (va_0_11 c arg10 harg10 arg18 x9) _).trans (pair_one _ i))
      (fun d κ => (congrFun (va_0_11 c arg10 harg10 arg18 x9) _).trans (val_spec arg10 harg10 x9 11 0 10 11 0 _ _ (by decide) (by decide) (by decide) rfl rfl rfl d κ)) (fun q => sink_0 c arg3 harg3 x2 q))
    (tileO_spec arg8 harg8 arg9 harg9 x1 x2 x7 x8 x9 11 0 1472 0 1344 0 (by decide) (by decide) (by decide) rfl rfl rfl rfl _ _ _ _ _
      (fun i q => bias_v5257 c arg2 harg2 arg17 x1 i q) (fun i => (congrFun (va_0_11 c arg10 harg10 arg18 x9) _).trans (pair_one _ i))
      (fun d κ => (congrFun (va_0_11 c arg10 harg10 arg18 x9) _).trans (val_spec arg10 harg10 x9 11 0 10 11 0 _ _ (by decide) (by decide) (by decide) rfl rfl rfl d κ)) (fun q => sink_0 c arg3 harg3 x2 q)) _ x

/-- The stored block of rows 11 and pair 1 of key head 0. -/
theorem sp_11_0_1 (x : S128x128.Idx) : (kernelRun0_A.sl.v7445 (F := Ideal) c i arg2 harg2 arg3 harg3 arg8 harg8 arg9 harg9 arg10 harg10 arg17 arg18 arg19 x1 x2 x7 x8 x9) x =
    spec x1 x2 x7 x8 x9 ((Rect.unit (s := S2048x512) ![1408, 128] S128x128.size (by decide)).emb x) := by
  rw [pc_11_0_1]
  exact put1_spec (spec x1 x2 x7 x8 x9) 11 0 1408 128 (by decide) (by decide) rfl rfl _ _
    (tileE_spec arg8 harg8 arg9 harg9 x1 x2 x7 x8 x9 11 0 1408 0 1280 0 (by decide) (by decide) (by decide) rfl rfl rfl rfl _ _ _ _ _
      (fun i q => bias_v5257 c arg2 harg2 arg17 x1 i q) (fun i => (congrFun (va_0_11 c arg10 harg10 arg18 x9) _).trans (pair_one _ i))
      (fun d κ => (congrFun (va_0_11 c arg10 harg10 arg18 x9) _).trans (val_spec arg10 harg10 x9 11 0 10 11 0 _ _ (by decide) (by decide) (by decide) rfl rfl rfl d κ)) (fun q => sink_0 c arg3 harg3 x2 q))
    (tileO_spec arg8 harg8 arg9 harg9 x1 x2 x7 x8 x9 11 0 1472 0 1344 0 (by decide) (by decide) (by decide) rfl rfl rfl rfl _ _ _ _ _
      (fun i q => bias_v5257 c arg2 harg2 arg17 x1 i q) (fun i => (congrFun (va_0_11 c arg10 harg10 arg18 x9) _).trans (pair_one _ i))
      (fun d κ => (congrFun (va_0_11 c arg10 harg10 arg18 x9) _).trans (val_spec arg10 harg10 x9 11 0 10 11 0 _ _ (by decide) (by decide) (by decide) rfl rfl rfl d κ)) (fun q => sink_0 c arg3 harg3 x2 q)) _ x

/-- The stored block of rows 11 and pair 0 of key head 1. -/
theorem sp_11_1_0 (x : S128x128.Idx) : (kernelRun0_A.sl.v16433 (F := Ideal) c i arg2 harg2 arg3 harg3 arg8 harg8 arg9 harg9 arg10 harg10 arg17 arg18 arg19 x1 x2 x7 x8 x9) x =
    spec x1 x2 x7 x8 x9 ((Rect.unit (s := S2048x512) ![1408, 256] S128x128.size (by decide)).emb x) := by
  rw [pc_11_1_0]
  exact put0_spec (spec x1 x2 x7 x8 x9) 11 1 1408 256 (by decide) (by decide) rfl rfl _ _
    (tileE_spec arg8 harg8 arg9 harg9 x1 x2 x7 x8 x9 11 1 1408 256 1280 128 (by decide) (by decide) (by decide) rfl rfl rfl rfl _ _ _ _ _
      (fun i q => bias_v9867 c arg2 harg2 arg17 x1 i q) (fun i => (congrFun (va_1_11 c arg10 harg10 arg18 x9) _).trans (pair_one _ i))
      (fun d κ => (congrFun (va_1_11 c arg10 harg10 arg18 x9) _).trans (val_spec arg10 harg10 x9 11 1 10 11 64 _ _ (by decide) (by decide) (by decide) rfl rfl rfl d κ)) (fun q => sink_1 c arg3 harg3 x2 q))
    (tileO_spec arg8 harg8 arg9 harg9 x1 x2 x7 x8 x9 11 1 1472 256 1344 128 (by decide) (by decide) (by decide) rfl rfl rfl rfl _ _ _ _ _
      (fun i q => bias_v9867 c arg2 harg2 arg17 x1 i q) (fun i => (congrFun (va_1_11 c arg10 harg10 arg18 x9) _).trans (pair_one _ i))
      (fun d κ => (congrFun (va_1_11 c arg10 harg10 arg18 x9) _).trans (val_spec arg10 harg10 x9 11 1 10 11 64 _ _ (by decide) (by decide) (by decide) rfl rfl rfl d κ)) (fun q => sink_1 c arg3 harg3 x2 q)) _ x

/-- The stored block of rows 11 and pair 1 of key head 1. -/
theorem sp_11_1_1 (x : S128x128.Idx) : (kernelRun0_A.sl.v16442 (F := Ideal) c i arg2 harg2 arg3 harg3 arg8 harg8 arg9 harg9 arg10 harg10 arg17 arg18 arg19 x1 x2 x7 x8 x9) x =
    spec x1 x2 x7 x8 x9 ((Rect.unit (s := S2048x512) ![1408, 384] S128x128.size (by decide)).emb x) := by
  rw [pc_11_1_1]
  exact put1_spec (spec x1 x2 x7 x8 x9) 11 1 1408 384 (by decide) (by decide) rfl rfl _ _
    (tileE_spec arg8 harg8 arg9 harg9 x1 x2 x7 x8 x9 11 1 1408 256 1280 128 (by decide) (by decide) (by decide) rfl rfl rfl rfl _ _ _ _ _
      (fun i q => bias_v9867 c arg2 harg2 arg17 x1 i q) (fun i => (congrFun (va_1_11 c arg10 harg10 arg18 x9) _).trans (pair_one _ i))
      (fun d κ => (congrFun (va_1_11 c arg10 harg10 arg18 x9) _).trans (val_spec arg10 harg10 x9 11 1 10 11 64 _ _ (by decide) (by decide) (by decide) rfl rfl rfl d κ)) (fun q => sink_1 c arg3 harg3 x2 q))
    (tileO_spec arg8 harg8 arg9 harg9 x1 x2 x7 x8 x9 11 1 1472 256 1344 128 (by decide) (by decide) (by decide) rfl rfl rfl rfl _ _ _ _ _
      (fun i q => bias_v9867 c arg2 harg2 arg17 x1 i q) (fun i => (congrFun (va_1_11 c arg10 harg10 arg18 x9) _).trans (pair_one _ i))
      (fun d κ => (congrFun (va_1_11 c arg10 harg10 arg18 x9) _).trans (val_spec arg10 harg10 x9 11 1 10 11 64 _ _ (by decide) (by decide) (by decide) rfl rfl rfl d κ)) (fun q => sink_1 c arg3 harg3 x2 q)) _ x

/-- The stored block of rows 12 and pair 0 of key head 0. -/
theorem sp_12_0_0 (x : S128x128.Idx) : (kernelRun0_A.sl.v7782 (F := Ideal) c i arg2 harg2 arg3 harg3 arg8 harg8 arg9 harg9 arg10 harg10 arg17 arg18 arg19 x1 x2 x7 x8 x9) x =
    spec x1 x2 x7 x8 x9 ((Rect.unit (s := S2048x512) ![1536, 0] S128x128.size (by decide)).emb x) := by
  rw [pc_12_0_0]
  exact put0_spec (spec x1 x2 x7 x8 x9) 12 0 1536 0 (by decide) (by decide) rfl rfl _ _
    (tileE_spec arg8 harg8 arg9 harg9 x1 x2 x7 x8 x9 12 0 1536 0 1408 0 (by decide) (by decide) (by decide) rfl rfl rfl rfl _ _ _ _ _
      (fun i q => bias_v5257 c arg2 harg2 arg17 x1 i q) (fun i => (congrFun (va_0_12 c arg10 harg10 arg18 x9) _).trans (pair_one _ i))
      (fun d κ => (congrFun (va_0_12 c arg10 harg10 arg18 x9) _).trans (val_spec arg10 harg10 x9 12 0 11 12 0 _ _ (by decide) (by decide) (by decide) rfl rfl rfl d κ)) (fun q => sink_0 c arg3 harg3 x2 q))
    (tileO_spec arg8 harg8 arg9 harg9 x1 x2 x7 x8 x9 12 0 1600 0 1472 0 (by decide) (by decide) (by decide) rfl rfl rfl rfl _ _ _ _ _
      (fun i q => bias_v5257 c arg2 harg2 arg17 x1 i q) (fun i => (congrFun (va_0_12 c arg10 harg10 arg18 x9) _).trans (pair_one _ i))
      (fun d κ => (congrFun (va_0_12 c arg10 harg10 arg18 x9) _).trans (val_spec arg10 harg10 x9 12 0 11 12 0 _ _ (by decide) (by decide) (by decide) rfl rfl rfl d κ)) (fun q => sink_0 c arg3 harg3 x2 q)) _ x

/-- The stored block of rows 12 and pair 1 of key head 0. -/
theorem sp_12_0_1 (x : S128x128.Idx) : (kernelRun0_A.sl.v7791 (F := Ideal) c i arg2 harg2 arg3 harg3 arg8 harg8 arg9 harg9 arg10 harg10 arg17 arg18 arg19 x1 x2 x7 x8 x9) x =
    spec x1 x2 x7 x8 x9 ((Rect.unit (s := S2048x512) ![1536, 128] S128x128.size (by decide)).emb x) := by
  rw [pc_12_0_1]
  exact put1_spec (spec x1 x2 x7 x8 x9) 12 0 1536 128 (by decide) (by decide) rfl rfl _ _
    (tileE_spec arg8 harg8 arg9 harg9 x1 x2 x7 x8 x9 12 0 1536 0 1408 0 (by decide) (by decide) (by decide) rfl rfl rfl rfl _ _ _ _ _
      (fun i q => bias_v5257 c arg2 harg2 arg17 x1 i q) (fun i => (congrFun (va_0_12 c arg10 harg10 arg18 x9) _).trans (pair_one _ i))
      (fun d κ => (congrFun (va_0_12 c arg10 harg10 arg18 x9) _).trans (val_spec arg10 harg10 x9 12 0 11 12 0 _ _ (by decide) (by decide) (by decide) rfl rfl rfl d κ)) (fun q => sink_0 c arg3 harg3 x2 q))
    (tileO_spec arg8 harg8 arg9 harg9 x1 x2 x7 x8 x9 12 0 1600 0 1472 0 (by decide) (by decide) (by decide) rfl rfl rfl rfl _ _ _ _ _
      (fun i q => bias_v5257 c arg2 harg2 arg17 x1 i q) (fun i => (congrFun (va_0_12 c arg10 harg10 arg18 x9) _).trans (pair_one _ i))
      (fun d κ => (congrFun (va_0_12 c arg10 harg10 arg18 x9) _).trans (val_spec arg10 harg10 x9 12 0 11 12 0 _ _ (by decide) (by decide) (by decide) rfl rfl rfl d κ)) (fun q => sink_0 c arg3 harg3 x2 q)) _ x

/-- The stored block of rows 12 and pair 0 of key head 1. -/
theorem sp_12_1_0 (x : S128x128.Idx) : (kernelRun0_A.sl.v16779 (F := Ideal) c i arg2 harg2 arg3 harg3 arg8 harg8 arg9 harg9 arg10 harg10 arg17 arg18 arg19 x1 x2 x7 x8 x9) x =
    spec x1 x2 x7 x8 x9 ((Rect.unit (s := S2048x512) ![1536, 256] S128x128.size (by decide)).emb x) := by
  rw [pc_12_1_0]
  exact put0_spec (spec x1 x2 x7 x8 x9) 12 1 1536 256 (by decide) (by decide) rfl rfl _ _
    (tileE_spec arg8 harg8 arg9 harg9 x1 x2 x7 x8 x9 12 1 1536 256 1408 128 (by decide) (by decide) (by decide) rfl rfl rfl rfl _ _ _ _ _
      (fun i q => bias_v9867 c arg2 harg2 arg17 x1 i q) (fun i => (congrFun (va_1_12 c arg10 harg10 arg18 x9) _).trans (pair_one _ i))
      (fun d κ => (congrFun (va_1_12 c arg10 harg10 arg18 x9) _).trans (val_spec arg10 harg10 x9 12 1 11 12 64 _ _ (by decide) (by decide) (by decide) rfl rfl rfl d κ)) (fun q => sink_1 c arg3 harg3 x2 q))
    (tileO_spec arg8 harg8 arg9 harg9 x1 x2 x7 x8 x9 12 1 1600 256 1472 128 (by decide) (by decide) (by decide) rfl rfl rfl rfl _ _ _ _ _
      (fun i q => bias_v9867 c arg2 harg2 arg17 x1 i q) (fun i => (congrFun (va_1_12 c arg10 harg10 arg18 x9) _).trans (pair_one _ i))
      (fun d κ => (congrFun (va_1_12 c arg10 harg10 arg18 x9) _).trans (val_spec arg10 harg10 x9 12 1 11 12 64 _ _ (by decide) (by decide) (by decide) rfl rfl rfl d κ)) (fun q => sink_1 c arg3 harg3 x2 q)) _ x

/-- The stored block of rows 12 and pair 1 of key head 1. -/
theorem sp_12_1_1 (x : S128x128.Idx) : (kernelRun0_A.sl.v16788 (F := Ideal) c i arg2 harg2 arg3 harg3 arg8 harg8 arg9 harg9 arg10 harg10 arg17 arg18 arg19 x1 x2 x7 x8 x9) x =
    spec x1 x2 x7 x8 x9 ((Rect.unit (s := S2048x512) ![1536, 384] S128x128.size (by decide)).emb x) := by
  rw [pc_12_1_1]
  exact put1_spec (spec x1 x2 x7 x8 x9) 12 1 1536 384 (by decide) (by decide) rfl rfl _ _
    (tileE_spec arg8 harg8 arg9 harg9 x1 x2 x7 x8 x9 12 1 1536 256 1408 128 (by decide) (by decide) (by decide) rfl rfl rfl rfl _ _ _ _ _
      (fun i q => bias_v9867 c arg2 harg2 arg17 x1 i q) (fun i => (congrFun (va_1_12 c arg10 harg10 arg18 x9) _).trans (pair_one _ i))
      (fun d κ => (congrFun (va_1_12 c arg10 harg10 arg18 x9) _).trans (val_spec arg10 harg10 x9 12 1 11 12 64 _ _ (by decide) (by decide) (by decide) rfl rfl rfl d κ)) (fun q => sink_1 c arg3 harg3 x2 q))
    (tileO_spec arg8 harg8 arg9 harg9 x1 x2 x7 x8 x9 12 1 1600 256 1472 128 (by decide) (by decide) (by decide) rfl rfl rfl rfl _ _ _ _ _
      (fun i q => bias_v9867 c arg2 harg2 arg17 x1 i q) (fun i => (congrFun (va_1_12 c arg10 harg10 arg18 x9) _).trans (pair_one _ i))
      (fun d κ => (congrFun (va_1_12 c arg10 harg10 arg18 x9) _).trans (val_spec arg10 harg10 x9 12 1 11 12 64 _ _ (by decide) (by decide) (by decide) rfl rfl rfl d κ)) (fun q => sink_1 c arg3 harg3 x2 q)) _ x

/-- The stored block of rows 13 and pair 0 of key head 0. -/
theorem sp_13_0_0 (x : S128x128.Idx) : (kernelRun0_A.sl.v8268 (F := Ideal) c i arg2 harg2 arg3 harg3 arg8 harg8 arg9 harg9 arg10 harg10 arg17 arg18 arg19 x1 x2 x7 x8 x9) x =
    spec x1 x2 x7 x8 x9 ((Rect.unit (s := S2048x512) ![1664, 0] S128x128.size (by decide)).emb x) := by
  rw [pc_13_0_0]
  exact put0_spec (spec x1 x2 x7 x8 x9) 13 0 1664 0 (by decide) (by decide) rfl rfl _ _
    (tileE_spec arg8 harg8 arg9 harg9 x1 x2 x7 x8 x9 13 0 1664 0 1536 0 (by decide) (by decide) (by decide) rfl rfl rfl rfl _ _ _ _ _
      (fun i q => bias_v5257 c arg2 harg2 arg17 x1 i q) (fun i => (congrFun (va_0_13 c arg10 harg10 arg18 x9) _).trans (pair_one _ i))
      (fun d κ => (congrFun (va_0_13 c arg10 harg10 arg18 x9) _).trans (val_spec arg10 harg10 x9 13 0 12 13 0 _ _ (by decide) (by decide) (by decide) rfl rfl rfl d κ)) (fun q => sink_0 c arg3 harg3 x2 q))
    (tileO_spec arg8 harg8 arg9 harg9 x1 x2 x7 x8 x9 13 0 1728 0 1600 0 (by decide) (by decide) (by decide) rfl rfl rfl rfl _ _ _ _ _
      (fun i q => bias_v5257 c arg2 harg2 arg17 x1 i q) (fun i => (congrFun (va_0_13 c arg10 harg10 arg18 x9) _).trans (pair_one _ i))
      (fun d κ => (congrFun (va_0_13 c arg10 harg10 arg18 x9) _).trans (val_spec arg10 harg10 x9 13 0 12 13 0 _ _ (by decide) (by decide) (by decide) rfl rfl rfl d κ)) (fun q => sink_0 c arg3 harg3 x2 q)) _ x

/-- The stored block of rows 13 and pair 1 of key head 0. -/
theorem sp_13_0_1 (x : S128x128.Idx) : (kernelRun0_A.sl.v8277 (F := Ideal) c i arg2 harg2 arg3 harg3 arg8 harg8 arg9 harg9 arg10 harg10 arg17 arg18 arg19 x1 x2 x7 x8 x9) x =
    spec x1 x2 x7 x8 x9 ((Rect.unit (s := S2048x512) ![1664, 128] S128x128.size (by decide)).emb x) := by
  rw [pc_13_0_1]
  exact put1_spec (spec x1 x2 x7 x8 x9) 13 0 1664 128 (by decide) (by decide) rfl rfl _ _
    (tileE_spec arg8 harg8 arg9 harg9 x1 x2 x7 x8 x9 13 0 1664 0 1536 0 (by decide) (by decide) (by decide) rfl rfl rfl rfl _ _ _ _ _
      (fun i q => bias_v5257 c arg2 harg2 arg17 x1 i q) (fun i => (congrFun (va_0_13 c arg10 harg10 arg18 x9) _).trans (pair_one _ i))
      (fun d κ => (congrFun (va_0_13 c arg10 harg10 arg18 x9) _).trans (val_spec arg10 harg10 x9 13 0 12 13 0 _ _ (by decide) (by decide) (by decide) rfl rfl rfl d κ)) (fun q => sink_0 c arg3 harg3 x2 q))
    (tileO_spec arg8 harg8 arg9 harg9 x1 x2 x7 x8 x9 13 0 1728 0 1600 0 (by decide) (by decide) (by decide) rfl rfl rfl rfl _ _ _ _ _
      (fun i q => bias_v5257 c arg2 harg2 arg17 x1 i q) (fun i => (congrFun (va_0_13 c arg10 harg10 arg18 x9) _).trans (pair_one _ i))
      (fun d κ => (congrFun (va_0_13 c arg10 harg10 arg18 x9) _).trans (val_spec arg10 harg10 x9 13 0 12 13 0 _ _ (by decide) (by decide) (by decide) rfl rfl rfl d κ)) (fun q => sink_0 c arg3 harg3 x2 q)) _ x

/-- The stored block of rows 13 and pair 0 of key head 1. -/
theorem sp_13_1_0 (x : S128x128.Idx) : (kernelRun0_A.sl.v17265 (F := Ideal) c i arg2 harg2 arg3 harg3 arg8 harg8 arg9 harg9 arg10 harg10 arg17 arg18 arg19 x1 x2 x7 x8 x9) x =
    spec x1 x2 x7 x8 x9 ((Rect.unit (s := S2048x512) ![1664, 256] S128x128.size (by decide)).emb x) := by
  rw [pc_13_1_0]
  exact put0_spec (spec x1 x2 x7 x8 x9) 13 1 1664 256 (by decide) (by decide) rfl rfl _ _
    (tileE_spec arg8 harg8 arg9 harg9 x1 x2 x7 x8 x9 13 1 1664 256 1536 128 (by decide) (by decide) (by decide) rfl rfl rfl rfl _ _ _ _ _
      (fun i q => bias_v9867 c arg2 harg2 arg17 x1 i q) (fun i => (congrFun (va_1_13 c arg10 harg10 arg18 x9) _).trans (pair_one _ i))
      (fun d κ => (congrFun (va_1_13 c arg10 harg10 arg18 x9) _).trans (val_spec arg10 harg10 x9 13 1 12 13 64 _ _ (by decide) (by decide) (by decide) rfl rfl rfl d κ)) (fun q => sink_1 c arg3 harg3 x2 q))
    (tileO_spec arg8 harg8 arg9 harg9 x1 x2 x7 x8 x9 13 1 1728 256 1600 128 (by decide) (by decide) (by decide) rfl rfl rfl rfl _ _ _ _ _
      (fun i q => bias_v9867 c arg2 harg2 arg17 x1 i q) (fun i => (congrFun (va_1_13 c arg10 harg10 arg18 x9) _).trans (pair_one _ i))
      (fun d κ => (congrFun (va_1_13 c arg10 harg10 arg18 x9) _).trans (val_spec arg10 harg10 x9 13 1 12 13 64 _ _ (by decide) (by decide) (by decide) rfl rfl rfl d κ)) (fun q => sink_1 c arg3 harg3 x2 q)) _ x

/-- The stored block of rows 13 and pair 1 of key head 1. -/
theorem sp_13_1_1 (x : S128x128.Idx) : (kernelRun0_A.sl.v17274 (F := Ideal) c i arg2 harg2 arg3 harg3 arg8 harg8 arg9 harg9 arg10 harg10 arg17 arg18 arg19 x1 x2 x7 x8 x9) x =
    spec x1 x2 x7 x8 x9 ((Rect.unit (s := S2048x512) ![1664, 384] S128x128.size (by decide)).emb x) := by
  rw [pc_13_1_1]
  exact put1_spec (spec x1 x2 x7 x8 x9) 13 1 1664 384 (by decide) (by decide) rfl rfl _ _
    (tileE_spec arg8 harg8 arg9 harg9 x1 x2 x7 x8 x9 13 1 1664 256 1536 128 (by decide) (by decide) (by decide) rfl rfl rfl rfl _ _ _ _ _
      (fun i q => bias_v9867 c arg2 harg2 arg17 x1 i q) (fun i => (congrFun (va_1_13 c arg10 harg10 arg18 x9) _).trans (pair_one _ i))
      (fun d κ => (congrFun (va_1_13 c arg10 harg10 arg18 x9) _).trans (val_spec arg10 harg10 x9 13 1 12 13 64 _ _ (by decide) (by decide) (by decide) rfl rfl rfl d κ)) (fun q => sink_1 c arg3 harg3 x2 q))
    (tileO_spec arg8 harg8 arg9 harg9 x1 x2 x7 x8 x9 13 1 1728 256 1600 128 (by decide) (by decide) (by decide) rfl rfl rfl rfl _ _ _ _ _
      (fun i q => bias_v9867 c arg2 harg2 arg17 x1 i q) (fun i => (congrFun (va_1_13 c arg10 harg10 arg18 x9) _).trans (pair_one _ i))
      (fun d κ => (congrFun (va_1_13 c arg10 harg10 arg18 x9) _).trans (val_spec arg10 harg10 x9 13 1 12 13 64 _ _ (by decide) (by decide) (by decide) rfl rfl rfl d κ)) (fun q => sink_1 c arg3 harg3 x2 q)) _ x

/-- The stored block of rows 14 and pair 0 of key head 0. -/
theorem sp_14_0_0 (x : S128x128.Idx) : (kernelRun0_A.sl.v8686 (F := Ideal) c i arg2 harg2 arg3 harg3 arg8 harg8 arg9 harg9 arg10 harg10 arg17 arg18 arg19 x1 x2 x7 x8 x9) x =
    spec x1 x2 x7 x8 x9 ((Rect.unit (s := S2048x512) ![1792, 0] S128x128.size (by decide)).emb x) := by
  rw [pc_14_0_0]
  exact put0_spec (spec x1 x2 x7 x8 x9) 14 0 1792 0 (by decide) (by decide) rfl rfl _ _
    (tileE_spec arg8 harg8 arg9 harg9 x1 x2 x7 x8 x9 14 0 1792 0 1664 0 (by decide) (by decide) (by decide) rfl rfl rfl rfl _ _ _ _ _
      (fun i q => bias_v5257 c arg2 harg2 arg17 x1 i q) (fun i => (congrFun (va_0_14 c arg10 harg10 arg18 x9) _).trans (pair_one _ i))
      (fun d κ => (congrFun (va_0_14 c arg10 harg10 arg18 x9) _).trans (val_spec arg10 harg10 x9 14 0 13 14 0 _ _ (by decide) (by decide) (by decide) rfl rfl rfl d κ)) (fun q => sink_0 c arg3 harg3 x2 q))
    (tileO_spec arg8 harg8 arg9 harg9 x1 x2 x7 x8 x9 14 0 1856 0 1728 0 (by decide) (by decide) (by decide) rfl rfl rfl rfl _ _ _ _ _
      (fun i q => bias_v5257 c arg2 harg2 arg17 x1 i q) (fun i => (congrFun (va_0_14 c arg10 harg10 arg18 x9) _).trans (pair_one _ i))
      (fun d κ => (congrFun (va_0_14 c arg10 harg10 arg18 x9) _).trans (val_spec arg10 harg10 x9 14 0 13 14 0 _ _ (by decide) (by decide) (by decide) rfl rfl rfl d κ)) (fun q => sink_0 c arg3 harg3 x2 q)) _ x

/-- The stored block of rows 14 and pair 1 of key head 0. -/
theorem sp_14_0_1 (x : S128x128.Idx) : (kernelRun0_A.sl.v8695 (F := Ideal) c i arg2 harg2 arg3 harg3 arg8 harg8 arg9 harg9 arg10 harg10 arg17 arg18 arg19 x1 x2 x7 x8 x9) x =
    spec x1 x2 x7 x8 x9 ((Rect.unit (s := S2048x512) ![1792, 128] S128x128.size (by decide)).emb x) := by
  rw [pc_14_0_1]
  exact put1_spec (spec x1 x2 x7 x8 x9) 14 0 1792 128 (by decide) (by decide) rfl rfl _ _
    (tileE_spec arg8 harg8 arg9 harg9 x1 x2 x7 x8 x9 14 0 1792 0 1664 0 (by decide) (by decide) (by decide) rfl rfl rfl rfl _ _ _ _ _
      (fun i q => bias_v5257 c arg2 harg2 arg17 x1 i q) (fun i => (congrFun (va_0_14 c arg10 harg10 arg18 x9) _).trans (pair_one _ i))
      (fun d κ => (congrFun (va_0_14 c arg10 harg10 arg18 x9) _).trans (val_spec arg10 harg10 x9 14 0 13 14 0 _ _ (by decide) (by decide) (by decide) rfl rfl rfl d κ)) (fun q => sink_0 c arg3 harg3 x2 q))
    (tileO_spec arg8 harg8 arg9 harg9 x1 x2 x7 x8 x9 14 0 1856 0 1728 0 (by decide) (by decide) (by decide) rfl rfl rfl rfl _ _ _ _ _
      (fun i q => bias_v5257 c arg2 harg2 arg17 x1 i q) (fun i => (congrFun (va_0_14 c arg10 harg10 arg18 x9) _).trans (pair_one _ i))
      (fun d κ => (congrFun (va_0_14 c arg10 harg10 arg18 x9) _).trans (val_spec arg10 harg10 x9 14 0 13 14 0 _ _ (by decide) (by decide) (by decide) rfl rfl rfl d κ)) (fun q => sink_0 c arg3 harg3 x2 q)) _ x

/-- The stored block of rows 14 and pair 0 of key head 1. -/
theorem sp_14_1_0 (x : S128x128.Idx) : (kernelRun0_A.sl.v17683 (F := Ideal) c i arg2 harg2 arg3 harg3 arg8 harg8 arg9 harg9 arg10 harg10 arg17 arg18 arg19 x1 x2 x7 x8 x9) x =
    spec x1 x2 x7 x8 x9 ((Rect.unit (s := S2048x512) ![1792, 256] S128x128.size (by decide)).emb x) := by
  rw [pc_14_1_0]
  exact put0_spec (spec x1 x2 x7 x8 x9) 14 1 1792 256 (by decide) (by decide) rfl rfl _ _
    (tileE_spec arg8 harg8 arg9 harg9 x1 x2 x7 x8 x9 14 1 1792 256 1664 128 (by decide) (by decide) (by decide) rfl rfl rfl rfl _ _ _ _ _
      (fun i q => bias_v9867 c arg2 harg2 arg17 x1 i q) (fun i => (congrFun (va_1_14 c arg10 harg10 arg18 x9) _).trans (pair_one _ i))
      (fun d κ => (congrFun (va_1_14 c arg10 harg10 arg18 x9) _).trans (val_spec arg10 harg10 x9 14 1 13 14 64 _ _ (by decide) (by decide) (by decide) rfl rfl rfl d κ)) (fun q => sink_1 c arg3 harg3 x2 q))
    (tileO_spec arg8 harg8 arg9 harg9 x1 x2 x7 x8 x9 14 1 1856 256 1728 128 (by decide) (by decide) (by decide) rfl rfl rfl rfl _ _ _ _ _
      (fun i q => bias_v9867 c arg2 harg2 arg17 x1 i q) (fun i => (congrFun (va_1_14 c arg10 harg10 arg18 x9) _).trans (pair_one _ i))
      (fun d κ => (congrFun (va_1_14 c arg10 harg10 arg18 x9) _).trans (val_spec arg10 harg10 x9 14 1 13 14 64 _ _ (by decide) (by decide) (by decide) rfl rfl rfl d κ)) (fun q => sink_1 c arg3 harg3 x2 q)) _ x

/-- The stored block of rows 14 and pair 1 of key head 1. -/
theorem sp_14_1_1 (x : S128x128.Idx) : (kernelRun0_A.sl.v17692 (F := Ideal) c i arg2 harg2 arg3 harg3 arg8 harg8 arg9 harg9 arg10 harg10 arg17 arg18 arg19 x1 x2 x7 x8 x9) x =
    spec x1 x2 x7 x8 x9 ((Rect.unit (s := S2048x512) ![1792, 384] S128x128.size (by decide)).emb x) := by
  rw [pc_14_1_1]
  exact put1_spec (spec x1 x2 x7 x8 x9) 14 1 1792 384 (by decide) (by decide) rfl rfl _ _
    (tileE_spec arg8 harg8 arg9 harg9 x1 x2 x7 x8 x9 14 1 1792 256 1664 128 (by decide) (by decide) (by decide) rfl rfl rfl rfl _ _ _ _ _
      (fun i q => bias_v9867 c arg2 harg2 arg17 x1 i q) (fun i => (congrFun (va_1_14 c arg10 harg10 arg18 x9) _).trans (pair_one _ i))
      (fun d κ => (congrFun (va_1_14 c arg10 harg10 arg18 x9) _).trans (val_spec arg10 harg10 x9 14 1 13 14 64 _ _ (by decide) (by decide) (by decide) rfl rfl rfl d κ)) (fun q => sink_1 c arg3 harg3 x2 q))
    (tileO_spec arg8 harg8 arg9 harg9 x1 x2 x7 x8 x9 14 1 1856 256 1728 128 (by decide) (by decide) (by decide) rfl rfl rfl rfl _ _ _ _ _
      (fun i q => bias_v9867 c arg2 harg2 arg17 x1 i q) (fun i => (congrFun (va_1_14 c arg10 harg10 arg18 x9) _).trans (pair_one _ i))
      (fun d κ => (congrFun (va_1_14 c arg10 harg10 arg18 x9) _).trans (val_spec arg10 harg10 x9 14 1 13 14 64 _ _ (by decide) (by decide) (by decide) rfl rfl rfl d κ)) (fun q => sink_1 c arg3 harg3 x2 q)) _ x

/-- The stored block of rows 15 and pair 0 of key head 0. -/
theorem sp_15_0_0 (x : S128x128.Idx) : (kernelRun0_A.sl.v9808 (F := Ideal) c i arg2 harg2 arg3 harg3 arg8 harg8 arg9 harg9 arg10 harg10 arg17 arg18 arg19 x1 x2 x7 x8 x9) x =
    spec x1 x2 x7 x8 x9 ((Rect.unit (s := S2048x512) ![1920, 0] S128x128.size (by decide)).emb x) := by
  rw [pc_15_0_0]
  exact put0_spec (spec x1 x2 x7 x8 x9) 15 0 1920 0 (by decide) (by decide) rfl rfl _ _
    (tileE_spec arg8 harg8 arg9 harg9 x1 x2 x7 x8 x9 15 0 1920 0 1792 0 (by decide) (by decide) (by decide) rfl rfl rfl rfl _ _ _ _ _
      (fun i q => bias_v5257 c arg2 harg2 arg17 x1 i q) (fun i => (congrFun (va_0_15 c arg10 harg10 arg18 x9) _).trans (pair_one _ i))
      (fun d κ => (congrFun (va_0_15 c arg10 harg10 arg18 x9) _).trans (val_spec arg10 harg10 x9 15 0 14 15 0 _ _ (by decide) (by decide) (by decide) rfl rfl rfl d κ)) (fun q => sink_0 c arg3 harg3 x2 q))
    (tileO_spec arg8 harg8 arg9 harg9 x1 x2 x7 x8 x9 15 0 1984 0 1856 0 (by decide) (by decide) (by decide) rfl rfl rfl rfl _ _ _ _ _
      (fun i q => bias_v5257 c arg2 harg2 arg17 x1 i q) (fun i => (congrFun (vab_0_15 c arg10 harg10 arg18 x9) _).trans (pair_one _ i))
      (fun d κ => (congrFun (vab_0_15 c arg10 harg10 arg18 x9) _).trans (val_spec arg10 harg10 x9 15 0 14 15 0 _ _ (by decide) (by decide) (by decide) rfl rfl rfl d κ)) (fun q => sink_0 c arg3 harg3 x2 q)) _ x

/-- The stored block of rows 15 and pair 1 of key head 0. -/
theorem sp_15_0_1 (x : S128x128.Idx) : (kernelRun0_A.sl.v9817 (F := Ideal) c i arg2 harg2 arg3 harg3 arg8 harg8 arg9 harg9 arg10 harg10 arg17 arg18 arg19 x1 x2 x7 x8 x9) x =
    spec x1 x2 x7 x8 x9 ((Rect.unit (s := S2048x512) ![1920, 128] S128x128.size (by decide)).emb x) := by
  rw [pc_15_0_1]
  exact put1_spec (spec x1 x2 x7 x8 x9) 15 0 1920 128 (by decide) (by decide) rfl rfl _ _
    (tileE_spec arg8 harg8 arg9 harg9 x1 x2 x7 x8 x9 15 0 1920 0 1792 0 (by decide) (by decide) (by decide) rfl rfl rfl rfl _ _ _ _ _
      (fun i q => bias_v5257 c arg2 harg2 arg17 x1 i q) (fun i => (congrFun (va_0_15 c arg10 harg10 arg18 x9) _).trans (pair_one _ i))
      (fun d κ => (congrFun (va_0_15 c arg10 harg10 arg18 x9) _).trans (val_spec arg10 harg10 x9 15 0 14 15 0 _ _ (by decide) (by decide) (by decide) rfl rfl rfl d κ)) (fun q => sink_0 c arg3 harg3 x2 q))
    (tileO_spec arg8 harg8 arg9 harg9 x1 x2 x7 x8 x9 15 0 1984 0 1856 0 (by decide) (by decide) (by decide) rfl rfl rfl rfl _ _ _ _ _
      (fun i q => bias_v5257 c arg2 harg2 arg17 x1 i q) (fun i => (congrFun (vab_0_15 c arg10 harg10 arg18 x9) _).trans (pair_one _ i))
      (fun d κ => (congrFun (vab_0_15 c arg10 harg10 arg18 x9) _).trans (val_spec arg10 harg10 x9 15 0 14 15 0 _ _ (by decide) (by decide) (by decide) rfl rfl rfl d κ)) (fun q => sink_0 c arg3 harg3 x2 q)) _ x

/-- The stored block of rows 15 and pair 0 of key head 1. -/
theorem sp_15_1_0 (x : S128x128.Idx) : (kernelRun0_A.sl.r_525 (F := Ideal) c i arg2 harg2 arg3 harg3 arg8 harg8 arg9 harg9 arg10 harg10 arg17 arg18 arg19 x1 x2 x7 x8 x9) x =
    spec x1 x2 x7 x8 x9 ((Rect.unit (s := S2048x512) ![1920, 256] S128x128.size (by decide)).emb x) := by
  rw [pc_15_1_0]
  exact put0_spec (spec x1 x2 x7 x8 x9) 15 1 1920 256 (by decide) (by decide) rfl rfl _ _
    (tileE_spec arg8 harg8 arg9 harg9 x1 x2 x7 x8 x9 15 1 1920 256 1792 128 (by decide) (by decide) (by decide) rfl rfl rfl rfl _ _ _ _ _
      (fun i q => bias_v9867 c arg2 harg2 arg17 x1 i q) (fun i => (congrFun (va_1_15 c arg10 harg10 arg18 x9) _).trans (pair_one _ i))
      (fun d κ => (congrFun (va_1_15 c arg10 harg10 arg18 x9) _).trans (val_spec arg10 harg10 x9 15 1 14 15 64 _ _ (by decide) (by decide) (by decide) rfl rfl rfl d κ)) (fun q => sink_1 c arg3 harg3 x2 q))
    (tileO_spec arg8 harg8 arg9 harg9 x1 x2 x7 x8 x9 15 1 1984 256 1856 128 (by decide) (by decide) (by decide) rfl rfl rfl rfl _ _ _ _ _
      (fun i q => bias_v9867 c arg2 harg2 arg17 x1 i q) (fun i => (congrFun (va_1_15 c arg10 harg10 arg18 x9) _).trans (pair_one _ i))
      (fun d κ => (congrFun (va_1_15 c arg10 harg10 arg18 x9) _).trans (val_spec arg10 harg10 x9 15 1 14 15 64 _ _ (by decide) (by decide) (by decide) rfl rfl rfl d κ)) (fun q => sink_1 c arg3 harg3 x2 q)) _ x

/-- The stored block of rows 15 and pair 1 of key head 1. -/
theorem sp_15_1_1 (x : S128x128.Idx) : (k0_pay2573 k0_pay7 (kernelRun0_A.sl.r_523 (F := Ideal) c i arg2 harg2 arg3 harg3 arg8 harg8 arg9 harg9 arg10 harg10 arg17 arg18 arg19 x1 x2 x7 x8 x9) (kernelRun0_A.sl.r_524 (F := Ideal) c i arg2 harg2 arg3 harg3 arg8 harg8 arg9 harg9 arg10 harg10 arg17 arg18 arg19 x1 x2 x7 x8 x9)) x =
    spec x1 x2 x7 x8 x9 ((Rect.unit (s := S2048x512) ![1920, 384] S128x128.size (by decide)).emb x) := by
  rw [pc_15_1_1]
  exact put1_spec (spec x1 x2 x7 x8 x9) 15 1 1920 384 (by decide) (by decide) rfl rfl _ _
    (tileE_spec arg8 harg8 arg9 harg9 x1 x2 x7 x8 x9 15 1 1920 256 1792 128 (by decide) (by decide) (by decide) rfl rfl rfl rfl _ _ _ _ _
      (fun i q => bias_v9867 c arg2 harg2 arg17 x1 i q) (fun i => (congrFun (va_1_15 c arg10 harg10 arg18 x9) _).trans (pair_one _ i))
      (fun d κ => (congrFun (va_1_15 c arg10 harg10 arg18 x9) _).trans (val_spec arg10 harg10 x9 15 1 14 15 64 _ _ (by decide) (by decide) (by decide) rfl rfl rfl d κ)) (fun q => sink_1 c arg3 harg3 x2 q))
    (tileO_spec arg8 harg8 arg9 harg9 x1 x2 x7 x8 x9 15 1 1984 256 1856 128 (by decide) (by decide) (by decide) rfl rfl rfl rfl _ _ _ _ _
      (fun i q => bias_v9867 c arg2 harg2 arg17 x1 i q) (fun i => (congrFun (va_1_15 c arg10 harg10 arg18 x9) _).trans (pair_one _ i))
      (fun d κ => (congrFun (va_1_15 c arg10 harg10 arg18 x9) _).trans (val_spec arg10 harg10 x9 15 1 14 15 64 _ _ (by decide) (by decide) (by decide) rfl rfl rfl d κ)) (fun q => sink_1 c arg3 harg3 x2 q)) _ x

end Cert.KernelIdeal.Swa

end
end
-- ==== Proof.SwaBlock.lean ====
/- What one grid point of the attention call leaves in the block of its second result: sliding-window attention of that
    grid point's blocks. -/
module

public import proofs.«01_k».proof.Proof.SwaOut
public import proofs.«01_k».proof.Proof.Gen.KernelIdeal.Frame

@[expose] public section

set_option maxRecDepth 16384

noncomputable section

namespace Cert.KernelIdeal.Swa

open Cert.KernelIdeal Cert.KernelIdeal.Gen Idealize.ShloMosaic Idealize.ShloMosaic.TcCoe Idealize.SL.Sem

/-- What the call's second staging buffer holds after a grid point: the attention of the point's rows. -/
theorem out_spec (c : Dev nD) (i : grid0.Coords) (arg1 : Memref sig .tc .smem S8 .f32) (harg1 : arg1.IsWhole) (arg2 : Memref sig .tc .smem S8 .f32) (harg2 : arg2.IsWhole) (arg3 : Memref sig .tc .smem S8 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S8x512x256 .bf16) (harg6 : arg6.IsWhole) (arg7 : Memref sig .tc .vmem S1x8x512 .f32) (harg7 : arg7.IsWhole) (arg8 : Memref sig .tc .vmem S2048x512 .bf16) (harg8 : arg8.IsWhole) (arg9 : Memref sig .tc .vmem S2048x256 .bf16) (harg9 : arg9.IsWhole) (arg10 : Memref sig .tc .vmem S16x128x128 .bf16) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S8x2048x128 .bf16) (harg13 : arg13.IsWhole) (arg14 : Memref sig .tc .vmem S8x8x96x256 .bf16) (harg14 : arg14.IsWhole) (arg15 : Memref sig .tc .vmem S256x256 .f32) (harg15 : arg15.IsWhole) (arg16 : Memref sig .tc .vmem S5x8x256x256 .f32) (harg16 : arg16.IsWhole) (arg17 : Memref sig .tc .vmem S2x192x256 .f32) (harg17 : arg17.IsWhole) (arg18 : Memref sig .tc .vmem S2x16x96x256 .bf16) (harg18 : arg18.IsWhole) (arg19 : Memref sig .tc .vmem S5x192x256 .f32) (harg19 : arg19.IsWhole)
    (x0 : Vec Ideal S8 .f32) (x1 : Vec Ideal S8 .f32) (x2 : Vec Ideal S8 .f32) (x3 : Vec Ideal S2048x512 .bf16) (x4 : Vec Ideal S2048x512 .bf16) (x5 : Vec Ideal S8x512x256 .bf16) (x6 : Vec Ideal S1x8x512 .f32) (x7 : Vec Ideal S2048x512 .bf16) (x8 : Vec Ideal S2048x256 .bf16) (x9 : Vec Ideal S16x128x128 .bf16) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 = spec x1 x2 x7 x8 x9 := by
  unfold out0_A_11
  rw [View.read_writes_junk_eq_canon]
  funext y
  refine View.canon_apply_of_pieces (spec x1 x2 x7 x8 x9) _ (View.PiecesOf.mem (L := (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9).2.1) (by
    exact ⟨sp_15_1_1 c i arg2 harg2 arg3 harg3 arg8 harg8 arg9 harg9 arg10 harg10 arg17 arg18 arg19 x1 x2 x7 x8 x9,
    sp_15_1_0 c i arg2 harg2 arg3 harg3 arg8 harg8 arg9 harg9 arg10 harg10 arg17 arg18 arg19 x1 x2 x7 x8 x9,
    sp_14_1_1 c i arg2 harg2 arg3 harg3 arg8 harg8 arg9 harg9 arg10 harg10 arg17 arg18 arg19 x1 x2 x7 x8 x9,
    sp_14_1_0 c i arg2 harg2 arg3 harg3 arg8 harg8 arg9 harg9 arg10 harg10 arg17 arg18 arg19 x1 x2 x7 x8 x9,
    sp_13_1_1 c i arg2 harg2 arg3 harg3 arg8 harg8 arg9 harg9 arg10 harg10 arg17 arg18 arg19 x1 x2 x7 x8 x9,
    sp_13_1_0 c i arg2 harg2 arg3 harg3 arg8 harg8 arg9 harg9 arg10 harg10 arg17 arg18 arg19 x1 x2 x7 x8 x9,
    sp_12_1_1 c i arg2 harg2 arg3 harg3 arg8 harg8 arg9 harg9 arg10 harg10 arg17 arg18 arg19 x1 x2 x7 x8 x9,
    sp_12_1_0 c i arg2 harg2 arg3 harg3 arg8 harg8 arg9 harg9 arg10 harg10 arg17 arg18 arg19 x1 x2 x7 x8 x9,
    sp_11_1_1 c i arg2 harg2 arg3 harg3 arg8 harg8 arg9 harg9 arg10 harg10 arg17 arg18 arg19 x1 x2 x7 x8 x9,
    sp_11_1_0 c i arg2 harg2 arg3 harg3 arg8 harg8 arg9 harg9 arg10 harg10 arg17 arg18 arg19 x1 x2 x7 x8 x9,
    sp_10_1_1 c i arg2 harg2 arg3 harg3 arg8 harg8 arg9 harg9 arg10 harg10 arg17 arg18 arg19 x1 x2 x7 x8 x9,
    sp_10_1_0 c i arg2 harg2 arg3 harg3 arg8 harg8 arg9 harg9 arg10 harg10 arg17 arg18 arg19 x1 x2 x7 x8 x9,
    sp_9_1_1 c i arg2 harg2 arg3 harg3 arg8 harg8 arg9 harg9 arg10 harg10 arg17 arg18 arg19 x1 x2 x7 x8 x9,
    sp_9_1_0 c i arg2 harg2 arg3 harg3 arg8 harg8 arg9 harg9 arg10 harg10 arg17 arg18 arg19 x1 x2 x7 x8 x9,
    sp_8_1_1 c i arg2 harg2 arg3 harg3 arg8 harg8 arg9 harg9 arg10 harg10 arg17 arg18 arg19 x1 x2 x7 x8 x9,
    sp_8_1_0 c i arg2 harg2 arg3 harg3 arg8 harg8 arg9 harg9 arg10 harg10 arg17 arg18 arg19 x1 x2 x7 x8 x9,
    sp_7_1_1 c i arg2 harg2 arg3 harg3 arg8 harg8 arg9 harg9 arg10 harg10 arg17 arg18 arg19 x1 x2 x7 x8 x9,
    sp_7_1_0 c i arg2 harg2 arg3 harg3 arg8 harg8 arg9 harg9 arg10 harg10 arg17 arg18 arg19 x1 x2 x7 x8 x9,
    sp_6_1_1 c i arg2 harg2 arg3 harg3 arg8 harg8 arg9 harg9 arg10 harg10 arg17 arg18 arg19 x1 x2 x7 x8 x9,
    sp_6_1_0 c i arg2 harg2 arg3 harg3 arg8 harg8 arg9 harg9 arg10 harg10 arg17 arg18 arg19 x1 x2 x7 x8 x9,
    sp_5_1_1 c i arg2 harg2 arg3 harg3 arg8 harg8 arg9 harg9 arg10 harg10 arg17 arg18 arg19 x1 x2 x7 x8 x9,
    sp_5_1_0 c i arg2 harg2 arg3 harg3 arg8 harg8 arg9 harg9 arg10 harg10 arg17 arg18 arg19 x1 x2 x7 x8 x9,
    sp_4_1_1 c i arg2 harg2 arg3 harg3 arg8 harg8 arg9 harg9 arg10 harg10 arg17 arg18 arg19 x1 x2 x7 x8 x9,
    sp_4_1_0 c i arg2 harg2 arg3 harg3 arg8 harg8 arg9 harg9 arg10 harg10 arg17 arg18 arg19 x1 x2 x7 x8 x9,
    sp_3_1_1 c i arg2 harg2 arg3 harg3 arg8 harg8 arg9 harg9 arg10 harg10 arg17 arg18 arg19 x1 x2 x7 x8 x9,
    sp_3_1_0 c i arg2 harg2 arg3 harg3 arg8 harg8 arg9 harg9 arg10 harg10 arg17 arg18 arg19 x1 x2 x7 x8 x9,
    sp_2_1_1 c i arg2 harg2 arg3 harg3 arg8 harg8 arg9 harg9 arg10 harg10 arg17 arg18 arg19 x1 x2 x7 x8 x9,
    sp_2_1_0 c i arg2 harg2 arg3 harg3 arg8 harg8 arg9 harg9 arg10 harg10 arg17 arg18 arg19 x1 x2 x7 x8 x9,
    sp_1_1_1 c i arg2 harg2 arg3 harg3 arg8 harg8 arg9 harg9 arg10 harg10 arg17 arg18 arg19 x1 x2 x7 x8 x9,
    sp_1_1_0 c i arg2 harg2 arg3 harg3 arg8 harg8 arg9 harg9 arg10 harg10 arg17 arg18 arg19 x1 x2 x7 x8 x9,
    sp_0_1_1 c i arg2 harg2 arg3 harg3 arg8 harg8 arg9 harg9 arg10 harg10 arg17 arg18 arg19 x1 x2 x7 x8 x9,
    sp_0_1_0 c i arg2 harg2 arg3 harg3 arg8 harg8 arg9 harg9 arg10 harg10 arg17 arg18 arg19 x1 x2 x7 x8 x9,
    sp_15_0_1 c i arg2 harg2 arg3 harg3 arg8 harg8 arg9 harg9 arg10 harg10 arg17 arg18 arg19 x1 x2 x7 x8 x9,
    sp_15_0_0 c i arg2 harg2 arg3 harg3 arg8 harg8 arg9 harg9 arg10 harg10 arg17 arg18 arg19 x1 x2 x7 x8 x9,
    sp_14_0_1 c i arg2 harg2 arg3 harg3 arg8 harg8 arg9 harg9 arg10 harg10 arg17 arg18 arg19 x1 x2 x7 x8 x9,
    sp_14_0_0 c i arg2 harg2 arg3 harg3 arg8 harg8 arg9 harg9 arg10 harg10 arg17 arg18 arg19 x1 x2 x7 x8 x9,
    sp_13_0_1 c i arg2 harg2 arg3 harg3 arg8 harg8 arg9 harg9 arg10 harg10 arg17 arg18 arg19 x1 x2 x7 x8 x9,
    sp_13_0_0 c i arg2 harg2 arg3 harg3 arg8 harg8 arg9 harg9 arg10 harg10 arg17 arg18 arg19 x1 x2 x7 x8 x9,
    sp_12_0_1 c i arg2 harg2 arg3 harg3 arg8 harg8 arg9 harg9 arg10 harg10 arg17 arg18 arg19 x1 x2 x7 x8 x9,
    sp_12_0_0 c i arg2 harg2 arg3 harg3 arg8 harg8 arg9 harg9 arg10 harg10 arg17 arg18 arg19 x1 x2 x7 x8 x9,
    sp_11_0_1 c i arg2 harg2 arg3 harg3 arg8 harg8 arg9 harg9 arg10 harg10 arg17 arg18 arg19 x1 x2 x7 x8 x9,
    sp_11_0_0 c i arg2 harg2 arg3 harg3 arg8 harg8 arg9 harg9 arg10 harg10 arg17 arg18 arg19 x1 x2 x7 x8 x9,
    sp_10_0_1 c i arg2 harg2 arg3 harg3 arg8 harg8 arg9 harg9 arg10 harg10 arg17 arg18 arg19 x1 x2 x7 x8 x9,
    sp_10_0_0 c i arg2 harg2 arg3 harg3 arg8 harg8 arg9 harg9 arg10 harg10 arg17 arg18 arg19 x1 x2 x7 x8 x9,
    sp_9_0_1 c i arg2 harg2 arg3 harg3 arg8 harg8 arg9 harg9 arg10 harg10 arg17 arg18 arg19 x1 x2 x7 x8 x9,
    sp_9_0_0 c i arg2 harg2 arg3 harg3 arg8 harg8 arg9 harg9 arg10 harg10 arg17 arg18 arg19 x1 x2 x7 x8 x9,
    sp_8_0_1 c i arg2 harg2 arg3 harg3 arg8 harg8 arg9 harg9 arg10 harg10 arg17 arg18 arg19 x1 x2 x7 x8 x9,
    sp_8_0_0 c i arg2 harg2 arg3 harg3 arg8 harg8 arg9 harg9 arg10 harg10 arg17 arg18 arg19 x1 x2 x7 x8 x9,
    sp_7_0_1 c i arg2 harg2 arg3 harg3 arg8 harg8 arg9 harg9 arg10 harg10 arg17 arg18 arg19 x1 x2 x7 x8 x9,
    sp_7_0_0 c i arg2 harg2 arg3 harg3 arg8 harg8 arg9 harg9 arg10 harg10 arg17 arg18 arg19 x1 x2 x7 x8 x9,
    sp_6_0_1 c i arg2 harg2 arg3 harg3 arg8 harg8 arg9 harg9 arg10 harg10 arg17 arg18 arg19 x1 x2 x7 x8 x9,
    sp_6_0_0 c i arg2 harg2 arg3 harg3 arg8 harg8 arg9 harg9 arg10 harg10 arg17 arg18 arg19 x1 x2 x7 x8 x9,
    sp_5_0_1 c i arg2 harg2 arg3 harg3 arg8 harg8 arg9 harg9 arg10 harg10 arg17 arg18 arg19 x1 x2 x7 x8 x9,
    sp_5_0_0 c i arg2 harg2 arg3 harg3 arg8 harg8 arg9 harg9 arg10 harg10 arg17 arg18 arg19 x1 x2 x7 x8 x9,
    sp_4_0_1 c i arg2 harg2 arg3 harg3 arg8 harg8 arg9 harg9 arg10 harg10 arg17 arg18 arg19 x1 x2 x7 x8 x9,
    sp_4_0_0 c i arg2 harg2 arg3 harg3 arg8 harg8 arg9 harg9 arg10 harg10 arg17 arg18 arg19 x1 x2 x7 x8 x9,
    sp_3_0_1 c i arg2 harg2 arg3 harg3 arg8 harg8 arg9 harg9 arg10 harg10 arg17 arg18 arg19 x1 x2 x7 x8 x9,
    sp_3_0_0 c i arg2 harg2 arg3 harg3 arg8 harg8 arg9 harg9 arg10 harg10 arg17 arg18 arg19 x1 x2 x7 x8 x9,
    sp_2_0_1 c i arg2 harg2 arg3 harg3 arg8 harg8 arg9 harg9 arg10 harg10 arg17 arg18 arg19 x1 x2 x7 x8 x9,
    sp_2_0_0 c i arg2 harg2 arg3 harg3 arg8 harg8 arg9 harg9 arg10 harg10 arg17 arg18 arg19 x1 x2 x7 x8 x9,
    sp_1_0_1 c i arg2 harg2 arg3 harg3 arg8 harg8 arg9 harg9 arg10 harg10 arg17 arg18 arg19 x1 x2 x7 x8 x9,
    sp_1_0_0 c i arg2 harg2 arg3 harg3 arg8 harg8 arg9 harg9 arg10 harg10 arg17 arg18 arg19 x1 x2 x7 x8 x9,
    sp_0_0_1 c i arg2 harg2 arg3 harg3 arg8 harg8 arg9 harg9 arg10 harg10 arg17 arg18 arg19 x1 x2 x7 x8 x9,
    sp_0_0_0 c i arg2 harg2 arg3 harg3 arg8 harg8 arg9 harg9 arg10 harg10 arg17 arg18 arg19 x1 x2 x7 x8 x9, trivial⟩)) y (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 y)

end Cert.KernelIdeal.Swa

end
end
-- ==== Proof.SwaArray.lean ====
/- What the second result array of the attention call holds after the run: sliding-window attention of the arguments. -/
module

public import proofs.«01_k».proof.Proof.SwaBlock
public import proofs.«01_k».proof.Proof.Gen.KernelIdeal.Value
public import Idealize.ShloMosaic.Lib.Pipeline.ValueKit

@[expose] public section

set_option maxRecDepth 16384

noncomputable section

namespace Cert.KernelIdeal.Swa

open Cert.KernelIdeal Cert.KernelIdeal.Gen Idealize.ShloMosaic Idealize.ShloMosaic.TcCoe Idealize.SL.Sem
open Idealize.ShloMosaic.Pipeline (Dat)

/-- The score of key `κ` of the two blocks up to row `r`'s, in the head of column `c`: `⊥` before the first key of the
    row's sequence and outside the window of 128. -/
def scoreAt (t1 : FVec Ideal S8 .f32) (q : FVec Ideal S32768x512 .bf16) (k : FVec Ideal S32768x256 .bf16) (r : Fin 32768) (c : Fin 512) (κ : Fin 256) : EReal :=
  if h : 128 ≤ r.val % 2048 / 128 * 128 + κ.val then
    (∑ d : Fin 64, k (ix2 ⟨r.val / 128 * 128 + κ.val - 128, by omega⟩ ⟨(c.val / 256 * 2 + c.val / 64 % 2) * 64 + d.val, by omega⟩) *
      q (ix2 r ⟨c.val / 64 * 64 + d.val, by omega⟩)) + slope (t1 (ix1 ⟨c.val / 64, by omega⟩)) ((r.val % 128 : ℕ) + 128 - (κ.val : ℤ))
  else ⊥

/-- The value at position `κ` of the two blocks up to row `r`'s, in the dimension of column `c`. -/
def valueAt (v : FVec Ideal S256x128x128 .bf16) (r : Fin 32768) (c : Fin 512) (κ : Fin 256) : EReal :=
  if h : κ.val < 128 then
    (if r.val % 2048 / 128 = 0 then 0 else v (ix3 ⟨r.val / 128 - 1, by omega⟩ ⟨c.val / 256 * 64 + c.val % 64, by omega⟩ ⟨κ.val, h⟩))
  else v (ix3 ⟨r.val / 128, by omega⟩ ⟨c.val / 256 * 64 + c.val % 64, by omega⟩ ⟨κ.val - 128, by omega⟩)

/-- Sliding-window attention with sinks at row `r` and column `c`. -/
def attn (t1 t2 : FVec Ideal S8 .f32) (q : FVec Ideal S32768x512 .bf16) (k : FVec Ideal S32768x256 .bf16) (v : FVec Ideal S256x128x128 .bf16)
    (r : Fin 32768) (c : Fin 512) : EReal :=
  att (scoreAt t1 q k r c) (valueAt v r c) (t2 (ix1 ⟨c.val / 64, by omega⟩))

/-- A grid point's scores are those of its rows. -/
theorem score_at (t1 q k) (x7 : Vec Ideal S2048x512 .bf16) (x8 : Vec Ideal S2048x256 .bf16) (t : ℕ) (ht : t < 16)
    (h7 : ∀ (r : Fin 2048) (l : Fin 512), x7 (ix2 r l) = q (ix2 ⟨t * 2048 + r.val, by omega⟩ l))
    (h8 : ∀ (r : Fin 2048) (l : Fin 256), x8 (ix2 r l) = k (ix2 ⟨t * 2048 + r.val, by omega⟩ l)) (r : Fin 2048) (c : Fin 512) :
    score t1 x7 x8 r c = scoreAt t1 q k ⟨t * 2048 + r.val, by omega⟩ c := by
  funext κ
  unfold score scoreAt
  have e1 : (t * 2048 + r.val) % 2048 / 128 = r.val / 128 := by omega
  have e2 : (t * 2048 + r.val) % 128 = r.val % 128 := by omega
  simp only [e1, e2]
  split
  · next h =>
    congr 1
    refine Finset.sum_congr rfl fun d _ => ?_
    rw [h7, h8]
    congr 3
    refine Fin.ext ?_
    show t * 2048 + (r.val / 128 * 128 + κ.val - 128) = (t * 2048 + r.val) / 128 * 128 + κ.val - 128
    omega
  · rfl

/-- A grid point's values are those of its blocks. -/
theorem value_at (v) (x9 : Vec Ideal S16x128x128 .bf16) (t : ℕ) (ht : t < 16)
    (h9 : ∀ (r : Fin 16) (l l' : Fin 128), x9 (ix3 r l l') = v (ix3 ⟨t * 16 + r.val, by omega⟩ l l')) (r : Fin 2048) (c : Fin 512) :
    value x9 r c = valueAt v ⟨t * 2048 + r.val, by omega⟩ c := by
  funext κ
  unfold value valueAt
  have e1 : (t * 2048 + r.val) % 2048 / 128 = r.val / 128 := by omega
  simp only [e1]
  split
  · split
    · rfl
    · next h h' =>
      rw [h9]
      congr 2
      refine Fin.ext ?_
      show t * 16 + (r.val / 128 - 1) = (t * 2048 + r.val) / 128 - 1
      omega
  · rw [h9]
    congr 2
    refine Fin.ext ?_
    show t * 16 + r.val / 128 = (t * 2048 + r.val) / 128
    omega

variable (m : (ℓ : Loc nD τ sig) → Buf (Elt Ideal) ℓ)

/-- Where the windows stand at grid point `t`: the tables at their start, queries, keys, values and results at block `t`. -/
theorem idx : ∀ t : Fin cfg0.N, t.val < 16 ∧ win0_1.index t = ![0] ∧ win0_2.index t = ![0] ∧ win0_7.index t = ![t.val, 0]
    ∧ win0_8.index t = ![t.val, 0] ∧ win0_9.index t = ![t.val, 0, 0] ∧ win0_11.index t = ![t.val, 0] :=
  (by decide +kernel : ∀ t : Fin grid0.N, _)

/-- The attention of the kernel's argument arrays. -/
def G (m : (ℓ : Loc nD τ sig) → Buf (Elt Ideal) ℓ) (c : Dev nD) : FVec Ideal S32768x512 .bf16 := fun y =>
  attn (m ((c : Thread nD τ).loc main_arg1)) (m ((c : Thread nD τ).loc main_arg2)) (m ((c : Thread nD τ).loc main_arg7)) (m ((c : Thread nD τ).loc main_arg8))
    (m ((c : Thread nD τ).loc main_arg9)) (y 0) (y 1)

/-- The slopes' block is the whole table. -/
theorem table1 (c : Dev nD) (t : Fin cfg0.N) : iblk m c 1 t = m ((c : Thread nD τ).loc main_arg1) := by
  blk_ext! [iblk, V, idx t]

/-- The sinks' block is the whole table. -/
theorem table2 (c : Dev nD) (t : Fin cfg0.N) : iblk m c 2 t = m ((c : Thread nD τ).loc main_arg2) := by
  blk_ext! [iblk, V, idx t]

/-- The queries' block is 2048 rows. -/
theorem rows7 (c : Dev nD) (t : Fin cfg0.N) (r : Fin 2048) (l : Fin 512) :
    iblk m c 7 t (ix2 r l) = m ((c : Thread nD τ).loc main_arg7) (ix2 ⟨t.val * 2048 + r.val, by have := (idx t).1; omega⟩ l) := by
  blk_ext [iblk, V, idx t]

/-- The keys' block is 2048 rows. -/
theorem rows8 (c : Dev nD) (t : Fin cfg0.N) (r : Fin 2048) (l : Fin 256) :
    iblk m c 8 t (ix2 r l) = m ((c : Thread nD τ).loc main_arg8) (ix2 ⟨t.val * 2048 + r.val, by have := (idx t).1; omega⟩ l) := by
  blk_ext [iblk, V, idx t]

/-- The values' block is 16 blocks of 128 positions. -/
theorem rows9 (c : Dev nD) (t : Fin cfg0.N) (r : Fin 16) (l l' : Fin 128) :
    iblk m c 9 t (ix3 r l l') = m ((c : Thread nD τ).loc main_arg9) (ix3 ⟨t.val * 16 + r.val, by have := (idx t).1; omega⟩ l l') := by
  blk_ext [iblk, V, idx t]

/-- The array after the run is the attention of the arguments. -/
theorem final (c : Dev nD) : (dats m 0 c).arrAt 11 (cfgs 0).N = G m c := by
  refine (dats m 0 c).arrAt_eq_of_covers 11 _ (by decide +kernel) fun t _ y => ?_
  have ha : (dats m 0 c).after 11 t = spec (iblk m c 1 t) (iblk m c 2 t) (iblk m c 7 t) (iblk m c 8 t) (iblk m c 9 t) := by
    rw [after0_11]
    simp only [outsAt0]
    rw [out_spec]
  blk_simp
  rw [ha]
  obtain ⟨r, l, rfl⟩ : ∃ (r : Fin 2048) (l : Fin 512), y = ix2 r l := ⟨y 0, y 1, eq_ix2 y⟩
  have ht : t.val < 16 := (idx t).1
  have e : (((View.whole main_v0_1).slice (win0_11.rect t)).emb (ix2 r l)) = (ix2 (⟨t.val * 2048 + r.val, by omega⟩ : Fin 32768) l : S32768x512.Idx) := by
    blk_ext [idx t]
  rw [e, table1 m c t, table2 m c t]
  show att _ _ _ = att _ _ _
  congr 1
  · exact score_at _ _ _ _ _ t.val ht (rows7 m c t) (rows8 m c t) r l
  · exact value_at _ _ t.val ht (rows9 m c t) r l

end Cert.KernelIdeal.Swa

end
-- ==== Proof.SwaRef.lean ====
/- The reference of the second branch's attention: its result at a row and a column is the attention that the kernel's
    result array holds there. -/
module

public import proofs.«01_k».proof.Proof.SwaRes
public import proofs.«01_k».proof.Proof.SwaRefVal
public import proofs.«01_k».proof.Proof.SwaArray

@[expose] public section

set_option maxRecDepth 16384

noncomputable section

namespace Cert.RefIdeal.Stages

open Cert.RefIdeal Cert.RefIdeal.Gen Idealize.ShloMosaic Idealize.ShloMosaic.TcCoe Idealize.SL.Sem
open Cert.KernelIdeal.Swa (att attn scoreAt valueAt)

/-- One key head's result, by element. -/
theorem head_apply (q : FVec Ideal S16x16x128x2x2x64 .f32) (k : FVec Ideal S16x16x128x2x64 .f32) (v : FVec Ideal S16x16x64x128 .f32) (sl si : FVec Ideal S2x2 .f32)
    (b n : Fin 16) (p e : Fin 2) (a : Fin 128) (d : Fin 64) : head q k v sl si (ix6 b n p e a d) =
      att (fun κ => if 128 ≤ n.val * 128 + κ.val then (∑ d : Fin 64, keys k (ix5 b n κ e d) * q (ix6 b n a p e d)) +
          Cert.KernelIdeal.Swa.slope (sl (ix2 p e)) ((a.val : ℤ) + 128 - (κ.val : ℤ)) else ⊥)
        (fun κ => values v (ix4 b n d κ)) (si (ix2 p e)) := by
  unfold head
  rw [out_apply]
  simp only [scores_apply, products_apply]

/-- Equal rows and columns, equal queries. -/
theorem q_congr (q : FVec Ideal S32768x512 .bf16) {r r' : Fin 32768} {l l' : Fin 512} (h : r.val = r'.val) (h' : l.val = l'.val) : q (ix2 r l) = q (ix2 r' l') := by
  rw [Fin.ext h, Fin.ext h']

/-- Equal rows and columns, equal keys. -/
theorem k_congr (k : FVec Ideal S32768x256 .bf16) {r r' : Fin 32768} {l l' : Fin 256} (h : r.val = r'.val) (h' : l.val = l'.val) : k (ix2 r l) = k (ix2 r' l') := by
  rw [Fin.ext h, Fin.ext h']

/-- Equal blocks, rows and columns, equal values. -/
theorem v_congr (v : FVec Ideal S256x128x128 .bf16) {r r' : Fin 256} {l l' w w' : Fin 128} (h : r.val = r'.val) (h' : l.val = l'.val) (h'' : w.val = w'.val) :
    v (ix3 r l w) = v (ix3 r' l' w') := by
  rw [Fin.ext h, Fin.ext h', Fin.ext h'']

/-- Equal heads, equal table entries. -/
theorem t_congr (t : FVec Ideal S8 .f32) {r r' : Fin 8} (h : r.val = r'.val) : t (ix1 r) = t (ix1 r') := by
  rw [Fin.ext h]

/-- One key head's result, of that head's slices of the arguments, is the attention at its rows and columns. -/
theorem head_attn (t1 t2 : FVec Ideal S8 .f32) (q : FVec Ideal S32768x512 .bf16) (k : FVec Ideal S32768x256 .bf16) (v : FVec Ideal S256x128x128 .bf16)
    (q' : FVec Ideal S16x16x128x2x2x64 .f32) (k' : FVec Ideal S16x16x128x2x64 .f32) (v' : FVec Ideal S16x16x64x128 .f32) (sl si : FVec Ideal S2x2 .f32)
    (h : ℕ) (hh : h < 2)
    (hq : ∀ (b n : Fin 16) (a : Fin 128) (p e : Fin 2) (d : Fin 64), q' (ix6 b n a p e d) =
      q (ix2 ⟨b.val * 2048 + n.val * 128 + a.val, by omega⟩ ⟨h * 256 + p.val * 128 + e.val * 64 + d.val, by omega⟩))
    (hk : ∀ (b n : Fin 16) (κ : Fin 128) (e : Fin 2) (d : Fin 64), k' (ix5 b n κ e d) =
      k (ix2 ⟨b.val * 2048 + n.val * 128 + κ.val, by omega⟩ ⟨h * 128 + e.val * 64 + d.val, by omega⟩))
    (hv : ∀ (b n : Fin 16) (d : Fin 64) (κ : Fin 128), v' (ix4 b n d κ) = v (ix3 ⟨b.val * 16 + n.val, by omega⟩ ⟨h * 64 + d.val, by omega⟩ κ))
    (hs : ∀ p e : Fin 2, sl (ix2 p e) = t1 (ix1 ⟨h * 4 + p.val * 2 + e.val, by omega⟩))
    (hi : ∀ p e : Fin 2, si (ix2 p e) = t2 (ix1 ⟨h * 4 + p.val * 2 + e.val, by omega⟩))
    (r : Fin 32768) (c : Fin 512) (hc : c.val / 256 = h) :
    head q' k' v' sl si (ix6 ⟨r.val / 2048, by omega⟩ ⟨r.val / 128 % 16, by omega⟩ ⟨c.val / 128 % 2, by omega⟩ ⟨c.val / 64 % 2, by omega⟩ ⟨r.val % 128, by omega⟩ ⟨c.val % 64, by omega⟩)
      = attn t1 t2 q k v r c := by
  rw [head_apply, hs, hi]
  unfold attn
  have e1 : (fun κ : Fin 256 => if 128 ≤ r.val / 128 % 16 * 128 + κ.val then
      (∑ d : Fin 64, keys k' (ix5 (⟨r.val / 2048, by omega⟩ : Fin 16) (⟨r.val / 128 % 16, by omega⟩ : Fin 16) κ (⟨c.val / 64 % 2, by omega⟩ : Fin 2) d) *
        q' (ix6 (⟨r.val / 2048, by omega⟩ : Fin 16) (⟨r.val / 128 % 16, by omega⟩ : Fin 16) (⟨r.val % 128, by omega⟩ : Fin 128) (⟨c.val / 128 % 2, by omega⟩ : Fin 2) (⟨c.val / 64 % 2, by omega⟩ : Fin 2) d)) +
      Cert.KernelIdeal.Swa.slope (t1 (ix1 (⟨h * 4 + c.val / 128 % 2 * 2 + c.val / 64 % 2, by omega⟩ : Fin 8))) (((r.val % 128 : ℕ) : ℤ) + 128 - (κ.val : ℤ)) else ⊥)
      = scoreAt t1 q k r c := by
    funext κ
    unfold scoreAt
    by_cases hb : 128 ≤ r.val / 128 % 16 * 128 + κ.val
    · rw [if_pos hb, dif_pos (by omega : 128 ≤ r.val % 2048 / 128 * 128 + κ.val)]
      refine congrArg₂ (fun x y : EReal => x + y) (Finset.sum_congr rfl fun d _ => congrArg₂ (fun x y : EReal => x * y) ?_ ?_)
        (congrArg (fun x => Cert.KernelIdeal.Swa.slope x _) (t_congr t1 (by show h * 4 + c.val / 128 % 2 * 2 + c.val / 64 % 2 = c.val / 64; omega)))
      · rw [keys_apply]
        by_cases hl : κ.val < 128
        · rw [dif_pos hl, dif_neg (by show ¬ r.val / 128 % 16 < 1; omega), hk]
          exact k_congr k (by show r.val / 2048 * 2048 + (r.val / 128 % 16 - 1) * 128 + κ.val = r.val / 128 * 128 + κ.val - 128; omega)
            (by show h * 128 + c.val / 64 % 2 * 64 + d.val = (c.val / 256 * 2 + c.val / 64 % 2) * 64 + d.val; omega)
        · rw [dif_neg hl, hk]
          exact k_congr k (by show r.val / 2048 * 2048 + r.val / 128 % 16 * 128 + (κ.val - 128) = r.val / 128 * 128 + κ.val - 128; omega)
            (by show h * 128 + c.val / 64 % 2 * 64 + d.val = (c.val / 256 * 2 + c.val / 64 % 2) * 64 + d.val; omega)
      · rw [hq]
        exact q_congr q (by show r.val / 2048 * 2048 + r.val / 128 % 16 * 128 + r.val % 128 = r.val; omega)
          (by show h * 256 + c.val / 128 % 2 * 128 + c.val / 64 % 2 * 64 + d.val = c.val / 64 * 64 + d.val; omega)
    · rw [if_neg hb, dif_neg (by omega : ¬ 128 ≤ r.val % 2048 / 128 * 128 + κ.val)]
  have e2 : (fun κ : Fin 256 => values v' (ix4 (⟨r.val / 2048, by omega⟩ : Fin 16) (⟨r.val / 128 % 16, by omega⟩ : Fin 16) (⟨c.val % 64, by omega⟩ : Fin 64) κ)) = valueAt v r c := by
    funext κ
    unfold valueAt
    rw [values_apply]
    by_cases hl : κ.val < 128
    · rw [dif_pos hl, dif_pos hl]
      by_cases hb : r.val / 128 % 16 < 1
      · rw [dif_pos hb, if_pos (by omega)]
      · rw [dif_neg hb, if_neg (by omega), hv]
        exact v_congr v (by show r.val / 2048 * 16 + (r.val / 128 % 16 - 1) = r.val / 128 - 1; omega) (by show h * 64 + c.val % 64 = c.val / 256 * 64 + c.val % 64; omega) rfl
    · rw [dif_neg hl, dif_neg hl, hv]
      exact v_congr v (by show r.val / 2048 * 16 + r.val / 128 % 16 = r.val / 128; omega) (by show h * 64 + c.val % 64 = c.val / 256 * 64 + c.val % 64; omega) rfl
  have e3 : t2 (ix1 (⟨h * 4 + c.val / 128 % 2 * 2 + c.val / 64 % 2, by omega⟩ : Fin 8)) = t2 (ix1 ⟨c.val / 64, by omega⟩) :=
    t_congr t2 (by show h * 4 + c.val / 128 % 2 * 2 + c.val / 64 % 2 = c.val / 64; omega)
  exact congr (congrArg₂ att e1 e2) e3

/-- The first key head's attention at its rows and columns. -/
theorem head0_attn (t1 t2 : FVec Ideal S8 .f32) (q : FVec Ideal S32768x512 .bf16) (k : FVec Ideal S32768x256 .bf16) (v : FVec Ideal S256x128x128 .bf16)
    (r : Fin 32768) (c : Fin 512) (hc : c.val / 256 = 0) :
    head0 t1 t2 q k v (ix6 ⟨r.val / 2048, by omega⟩ ⟨r.val / 128 % 16, by omega⟩ ⟨c.val / 128 % 2, by omega⟩ ⟨c.val / 64 % 2, by omega⟩ ⟨r.val % 128, by omega⟩ ⟨c.val % 64, by omega⟩)
      = attn t1 t2 q k v r c := by
  unfold head0
  refine head_attn t1 t2 q k v _ _ _ _ _ 0 (by omega) ?_ ?_ ?_ ?_ ?_ r c hc
  · intro b n a p e d; pointwise [queriesOf]
  · intro b n κ e d; pointwise [keysOf]
  · intro b n d κ; pointwise [valuesOf]
  · intro p e; pointwise [table]
  · intro p e; pointwise [table]

/-- The second key head's attention at its rows and columns. -/
theorem head1_attn (t1 t2 : FVec Ideal S8 .f32) (q : FVec Ideal S32768x512 .bf16) (k : FVec Ideal S32768x256 .bf16) (v : FVec Ideal S256x128x128 .bf16)
    (r : Fin 32768) (c : Fin 512) (hc : c.val / 256 = 1) :
    head1 t1 t2 q k v (ix6 ⟨r.val / 2048, by omega⟩ ⟨r.val / 128 % 16, by omega⟩ ⟨c.val / 128 % 2, by omega⟩ ⟨c.val / 64 % 2, by omega⟩ ⟨r.val % 128, by omega⟩ ⟨c.val % 64, by omega⟩)
      = attn t1 t2 q k v r c := by
  unfold head1
  refine head_attn t1 t2 q k v _ _ _ _ _ 1 (by omega) ?_ ?_ ?_ ?_ ?_ r c hc
  · intro b n a p e d; pointwise [queriesOf]
  · intro b n κ e d; pointwise [keysOf]
  · intro b n d κ; pointwise [valuesOf]
  · intro p e; pointwise [table]
  · intro p e; pointwise [table]

/-- The two heads' results joined, at a row and a column. -/
theorem joined_apply (o0 o1 : FVec Ideal S16x16x2x2x128x64 .f32) (r : Fin 32768) (c : Fin 512) : joined o0 o1 (ix2 r c) =
   if h : c.val / 256 < 1 then o0 (ix6 ⟨r.val / 2048, by omega⟩ ⟨r.val / 128 % 16, by omega⟩ ⟨c.val / 128 % 2, by omega⟩ ⟨c.val / 64 % 2, by omega⟩ ⟨r.val % 128, by omega⟩ ⟨c.val % 64, by omega⟩)
   else o1 (ix6 ⟨r.val / 2048, by omega⟩ ⟨r.val / 128 % 16, by omega⟩ ⟨c.val / 128 % 2, by omega⟩ ⟨c.val / 64 % 2, by omega⟩ ⟨r.val % 128, by omega⟩ ⟨c.val % 64, by omega⟩) := by
  pointwise [joined]

/-- The reference's result is the attention of its arguments. -/
theorem whole_eq (t1 t2 : FVec Ideal S8 .f32) (q : FVec Ideal S32768x512 .bf16) (k : FVec Ideal S32768x256 .bf16) (v : FVec Ideal S256x128x128 .bf16) :
    whole t1 t2 q k v = fun y => attn t1 t2 q k v (y 0) (y 1) := by
  funext y
  obtain ⟨r, c, rfl⟩ : ∃ (r : Fin 32768) (c : Fin 512), y = ix2 r c := ⟨y 0, y 1, eq_ix2 y⟩
  unfold whole
  refine (joined_apply _ _ r c).trans ?_
  by_cases h : c.val / 256 < 1
  · rw [dif_pos h]
    exact head0_attn t1 t2 q k v r c (by omega)
  · rw [dif_neg h]
    exact head1_attn t1 t2 q k v r c (by omega)

end Cert.RefIdeal.Stages

end
-- ==== Proof.MlpRef.lean ====
/- The reference of the merge-and-MLP call, in three named stages over variables: the residual stream after
    the two branches are merged and projected, its normalised form, and the result. -/
module

public import proofs.«01_k».proof.Proof.Gen.RefMlpIdeal.Run
public import Idealize.ShloMosaic.Lib.Pointwise

@[expose] public section

set_option maxRecDepth 16384

noncomputable section

namespace Cert.RefMlpIdeal.Stages

open Cert.RefMlpIdeal Cert.RefMlpIdeal.Gen Idealize.ShloMosaic Idealize.ShloMosaic.TcCoe Idealize.SL.Sem

/-- `1 / (1 + exp (-g))` of one half of the gates' columns, as the reference computes it. -/
def gateA (g : FVec Ideal S32768x2048 .bf16) : FVec Ideal S32768x1024 .f32 :=
  Host.divf (broadcastInDim S32768x1024 ![] bcast_S_S32768x1024 (constant S_ .f32 0x3F800000#32))
    (addf (broadcastInDim S32768x1024 ![] bcast_S_S32768x1024 (constant S_ .f32 0x3F800000#32))
      (Host.exp (Host.negf (extf .f32 (extractStridedSlice S32768x1024 ![0, 0] g slices_S32768x2048_S32768x1024_0_0) bitsLt_bf16_f32))))

/-- The same of the other half: columns 1024 to 2047. -/
def gateB (g : FVec Ideal S32768x2048 .bf16) : FVec Ideal S32768x1024 .f32 :=
  Host.divf (broadcastInDim S32768x1024 ![] bcast_S_S32768x1024 (constant S_ .f32 0x3F800000#32))
    (addf (broadcastInDim S32768x1024 ![] bcast_S_S32768x1024 (constant S_ .f32 0x3F800000#32))
      (Host.exp (Host.negf (extf .f32 (extractStridedSlice S32768x1024 ![0, 1024] g slices_S32768x2048_S32768x1024_0_1024) bitsLt_bf16_f32))))

/-- The residual stream after the attention half: `x + (σ(ga)·(oa Wa) + σ(gb)·(ob Wb)) Wo`. -/
def merged (x : FVec Ideal S32768x1024 .f32) (oa ob : FVec Ideal S32768x512 .bf16) (g : FVec Ideal S32768x2048 .bf16)
    (wa wb : FVec Ideal S512x1024 .bf16) (wo : FVec Ideal S1024x1024 .bf16) : FVec Ideal S32768x1024 .f32 :=
  addf x (Host.dotGeneral dot_S32768x1024_S1024x1024_S32768x1024_1_0_0_1_n_n none
    (addf (mulf (gateA g) (Host.dotGeneral dot_S32768x512_S512x1024_S32768x1024_1_0_0_1_n_n none (extf .f32 oa bitsLt_bf16_f32) (extf .f32 wa bitsLt_bf16_f32)))
      (mulf (gateB g) (Host.dotGeneral dot_S32768x512_S512x1024_S32768x1024_1_0_0_1_n_n none (extf .f32 ob bitsLt_bf16_f32) (extf .f32 wb bitsLt_bf16_f32))))
    (extf .f32 wo bitsLt_bf16_f32))

/-- The RMS norm of a residual stream, with its gain. -/
def normed (s : FVec Ideal S32768x1024 .f32) (gm : FVec Ideal S1x1024 .f32) : FVec Ideal S32768x1024 .f32 :=
  mulf (mulf s (broadcastInDim S32768x1024 ![0, 1] bcast_S32768x1_S32768x1024_0_1
      (Host.rsqrt (addf (Host.divf (broadcastInDim S32768x1 ![0] bcast_S32768_S32768x1_0
          (Host.reduceAdd (mulf s s) (constant S_ .f32 0x00000000#32) reducesTo_S32768x1024_S32768_d1 h_S_))
          (broadcastInDim S32768x1 ![] bcast_S_S32768x1 (constant S_ .f32 0x44800000#32)))
        (broadcastInDim S32768x1 ![] bcast_S_S32768x1 (constant S_ .f32 0x358637BD#32))))))
    (broadcastInDim S32768x1024 ![0, 1] bcast_S1x1024_S32768x1024_0_1 gm)

/-- `max(h Wup, 0)`: the hidden units of the MLP before squaring. -/
def hidden (h : FVec Ideal S32768x1024 .f32) (wup : FVec Ideal S1024x4096 .bf16) : FVec Ideal S32768x4096 .f32 :=
  maximumf (Host.dotGeneral dot_S32768x1024_S1024x4096_S32768x4096_1_0_0_1_n_n none h (extf .f32 wup bitsLt_bf16_f32))
    (broadcastInDim S32768x4096 ![] bcast_S_S32768x4096 (constant S_ .f32 0x00000000#32))

/-- The layer's result from the residual stream `s` and its norm `h`: `s + (max(h Wup, 0))² Wdown`. -/
def result (s h : FVec Ideal S32768x1024 .f32) (wup : FVec Ideal S1024x4096 .bf16) (wdn : FVec Ideal S4096x1024 .bf16) :
    FVec Ideal S32768x1024 .f32 :=
  addf s (Host.dotGeneral dot_S32768x4096_S4096x1024_S32768x1024_1_0_0_1_n_n none
    (mulf (hidden h wup) (hidden h wup)) (extf .f32 wdn bitsLt_bf16_f32))

set_option maxHeartbeats 1000000 in
/-- The reference's result is these stages composed. -/
theorem res_eq (m : (ℓ : Loc nD τ sig) → Buf (Elt Ideal) ℓ) (c : Dev nD) : Value.res_out0 m c
    = let s := merged (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
      result s (normed s (m ((c.tc : Thread nD τ).loc main_arg7))) (m ((c.tc : Thread nD τ).loc main_arg8)) (m ((c.tc : Thread nD τ).loc main_arg9)) := by
  unfold Value.res_out0 Value.res_main_v46
  rfl

end Cert.RefMlpIdeal.Stages

end
-- ==== Proof.MlpBody.lean ====
/- What one block of the merge-and-MLP kernel computes: each stage of the body, read at an element, is the
    reference's stage at the row the block's row stands for. -/
module

public import proofs.«01_k».proof.Proof.Gen.MlpIdeal.Value
public import proofs.«01_k».proof.Proof.MlpRef

@[expose] public section

set_option maxRecDepth 16384

noncomputable section

namespace Cert.MlpIdeal.Block

open Cert.MlpIdeal Cert.MlpIdeal.Gen Idealize.ShloMosaic Idealize.ShloMosaic.TcCoe Idealize.SL.Sem
open Cert.RefMlpIdeal.Stages (gateA gateB merged normed result)

/-- The merged residual stream: row `r` of the block, standing for row `R` of the arrays. -/
theorem merged_at (x : FVec Ideal S32768x1024 .f32) (oa ob : FVec Ideal S32768x512 .bf16) (g : FVec Ideal S32768x2048 .bf16)
    (wa wb : FVec Ideal S512x1024 .bf16) (wo : FVec Ideal S1024x1024 .bf16)
    (xb : FVec Ideal S512x1024 .f32) (oab obb : FVec Ideal S512x512 .bf16) (ga gb : FVec Ideal S512x1024 .bf16)
    (r : Fin 512) (R : Fin 32768)
    (hx : ∀ k : Fin 1024, xb (ix2 r k) = x (ix2 R k)) (ha : ∀ k : Fin 512, oab (ix2 r k) = oa (ix2 R k))
    (hb : ∀ k : Fin 512, obb (ix2 r k) = ob (ix2 R k))
    (hga : ∀ k : Fin 1024, ga (ix2 r k) = g (ix2 R ⟨k, by omega⟩))
    (hgb : ∀ k : Fin 1024, gb (ix2 r k) = g (ix2 R ⟨1024 + k, by omega⟩)) (l : Fin 1024) :
    k0_pay2 (F := Ideal) oab wa obb wb ga gb xb wo (ix2 r l) = merged x oa ob g wa wb wo (ix2 R l) := by
  pointwise [k0_pay2, merged, gateA, gateB, hx, ha, hb, hga, hgb]
  rfl

/-- The normalised stream: row `r` of the block is row `R` of the reference's, if the residual stream is. -/
theorem normed_at (s : FVec Ideal S32768x1024 .f32) (gm : FVec Ideal S1x1024 .f32)
    (xb : FVec Ideal S512x1024 .f32) (oab obb : FVec Ideal S512x512 .bf16) (ga gb : FVec Ideal S512x1024 .bf16)
    (wa wb : FVec Ideal S512x1024 .bf16) (wo : FVec Ideal S1024x1024 .bf16)
    (r : Fin 512) (R : Fin 32768)
    (hs : ∀ l : Fin 1024, k0_pay2 (F := Ideal) oab wa obb wb ga gb xb wo (ix2 r l) = s (ix2 R l)) (l : Fin 1024) :
    k0_pay3 (F := Ideal) oab wa obb wb ga gb xb wo gm (ix2 r l) = normed s gm (ix2 R l) := by
  pointwise [k0_pay3, normed, hs]

/-- The MLP: the four column blocks of the up-projection and row blocks of the down-projection, added one by one,
    are the reference's whole products. -/
theorem result_at (s h : FVec Ideal S32768x1024 .f32) (wup : FVec Ideal S1024x4096 .bf16) (wdn : FVec Ideal S4096x1024 .bf16)
    (sb : FVec Ideal S512x1024 .f32) (hb : FVec Ideal S512x1024 .bf16)
    (u0 d0 u1 d1 u2 d2 u3 d3 : FVec Ideal S1024x1024 .bf16) (r : Fin 512) (R : Fin 32768)
    (hs : ∀ l : Fin 1024, sb (ix2 r l) = s (ix2 R l)) (hh : ∀ l : Fin 1024, hb (ix2 r l) = h (ix2 R l))
    (hu0 : ∀ a b : Fin 1024, u0 (ix2 a b) = wup (ix2 a ⟨b, by omega⟩))
    (hu1 : ∀ a b : Fin 1024, u1 (ix2 a b) = wup (ix2 a ⟨1024 + b, by omega⟩))
    (hu2 : ∀ a b : Fin 1024, u2 (ix2 a b) = wup (ix2 a ⟨2048 + b, by omega⟩))
    (hu3 : ∀ a b : Fin 1024, u3 (ix2 a b) = wup (ix2 a ⟨3072 + b, by omega⟩))
    (hd0 : ∀ a b : Fin 1024, d0 (ix2 a b) = wdn (ix2 ⟨a, by omega⟩ b))
    (hd1 : ∀ a b : Fin 1024, d1 (ix2 a b) = wdn (ix2 ⟨1024 + a, by omega⟩ b))
    (hd2 : ∀ a b : Fin 1024, d2 (ix2 a b) = wdn (ix2 ⟨2048 + a, by omega⟩ b))
    (hd3 : ∀ a b : Fin 1024, d3 (ix2 a b) = wdn (ix2 ⟨3072 + a, by omega⟩ b)) (l : Fin 1024) :
    k0_pay1 (F := Ideal) (k0_pay4 sb hb u0 d0 u1 d1 u2 d2) (k0_pay5 hb u3) d3 (ix2 r l) = result s h wup wdn (ix2 R l) := by
  pointwise [k0_pay1, k0_pay4, k0_pay5, result, Cert.RefMlpIdeal.Stages.hidden, hs, hh, hu0, hu1, hu2, hu3, hd0, hd1, hd2, hd3]
  rw [Fin.sum_univ_tiles 4 1024 rfl]
  simp only [Fin.sum_univ_four, Fin.val_zero, Nat.zero_mul, Nat.zero_add, ← add_assoc]
  rfl

end Cert.MlpIdeal.Block

end
-- ==== Proof.MlpArray.lean ====
/- What the result array of the merge-and-MLP call holds after the run: the reference's stages of the arguments. -/
module

public import proofs.«01_k».proof.Proof.MlpBody
public import Idealize.ShloMosaic.Lib.Pipeline.ValueKit

@[expose] public section

set_option maxRecDepth 16384

noncomputable section

namespace Cert.MlpIdeal.Array

open Cert.MlpIdeal Cert.MlpIdeal.Gen Idealize.ShloMosaic Idealize.ShloMosaic.TcCoe Idealize.SL.Sem
open Idealize.ShloMosaic.Pipeline (Dat)
open Cert.RefMlpIdeal.Stages (merged normed result)
open Cert.MlpIdeal.Block (merged_at normed_at result_at)

variable (m : (ℓ : Loc nD τ sig) → Buf (Elt Ideal) ℓ)

/-- Where the windows stand at grid point `t`: the row windows at block `t`, the weights at their start. -/
theorem idx : ∀ t : Fin cfg0.N, t.val < 64 ∧ win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0] :=
  (by decide +kernel : ∀ t : Fin grid0.N, _)

/-- The reference's stages of the kernel's argument arrays. -/
def G (c : Dev nD) : FVec Ideal S32768x1024 .f32 :=
  let s := merged (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
  result s (normed s (m ((c : Thread nD τ).loc main_arg7))) (m ((c : Thread nD τ).loc main_arg8)) (m ((c : Thread nD τ).loc main_arg9))

/-- Window 4's block is its whole array, at every grid point. -/
theorem whole4 (c : Dev nD) (t : Fin cfg0.N) : iblk m c 4 t = m ((c : Thread nD τ).loc main_arg4) := by
  blk_ext! [iblk, V, idx t]

/-- Window 5's block is its whole array, at every grid point. -/
theorem whole5 (c : Dev nD) (t : Fin cfg0.N) : iblk m c 5 t = m ((c : Thread nD τ).loc main_arg5) := by
  blk_ext! [iblk, V, idx t]

/-- Window 6's block is its whole array, at every grid point. -/
theorem whole6 (c : Dev nD) (t : Fin cfg0.N) : iblk m c 6 t = m ((c : Thread nD τ).loc main_arg6) := by
  blk_ext! [iblk, V, idx t]

/-- Window 7's block is its whole array, at every grid point. -/
theorem whole7 (c : Dev nD) (t : Fin cfg0.N) : iblk m c 7 t = m ((c : Thread nD τ).loc main_arg7) := by
  blk_ext! [iblk, V, idx t]

set_option maxHeartbeats 1000000 in
/-- The array after the run is `G` of the arguments. -/
theorem final (c : Dev nD) : (dats m 0 c).arrAt 10 (cfgs 0).N = G m c := by
  refine (dats m 0 c).arrAt_eq_of_covers 10 _ (by decide +kernel) fun t _ y => ?_
  blk_simp
  rw [after0_10]
  unfold out0_10 k0_pay6
  frame_out
  obtain ⟨r, l, rfl⟩ : ∃ (r : Fin 512) (l : Fin 1024), y = ix2 r l := ⟨y 0, y 1, eq_ix2 y⟩
  have ht : t.val < 64 := (idx t).1
  have e : (((View.whole main_v0).slice (win0_10.rect t)).emb (ix2 r l)) = (ix2 (⟨t.val * 512 + r.val, by omega⟩ : Fin 32768) l : S32768x1024.Idx) := by
    blk_ext [idx t]
  rw [e, whole4 m c t, whole5 m c t, whole6 m c t, whole7 m c t]
  refine result_at _ _ _ _ _ _ _ _ _ _ _ _ _ _ r ⟨t.val * 512 + r.val, by omega⟩ ?_ ?_ ?_ ?_ ?_ ?_ ?_ ?_ ?_ ?_ l
  · intro l'
    refine merged_at _ _ _ _ _ _ _ _ _ _ _ _ r ⟨t.val * 512 + r.val, by omega⟩ ?_ ?_ ?_ ?_ ?_ l'
    all_goals (intro k; pointwise; blk_ext [iblk, V, idx t])
  · intro l'
    refine normed_at _ _ _ _ _ _ _ _ _ _ r ⟨t.val * 512 + r.val, by omega⟩ (fun l'' => ?_) l'
    refine merged_at _ _ _ _ _ _ _ _ _ _ _ _ r ⟨t.val * 512 + r.val, by omega⟩ ?_ ?_ ?_ ?_ ?_ l''
    all_goals (intro k; pointwise; blk_ext [iblk, V, idx t])
  all_goals (intro a b; pointwise; blk_ext [iblk, V, idx t])

end Cert.MlpIdeal.Array

end
-- ==== Proof.lean ====
/- The certificate: the three calls' frames, each program kept by its idealized form, and the results of the input
   projection and of the merge-and-MLP call and the second result of the attention call equal to their references'. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.RefIdeal
public import proofs.«01_k».proof.Proof.Gen.RefIdeal.Run
public import proofs.«01_k».proof.Proof.Gen.Mlp
public import proofs.«01_k».proof.Proof.Gen.Mlp.Frame
public import proofs.«01_k».proof.Proof.Gen.MlpIdeal
public import proofs.«01_k».proof.Proof.Gen.MlpIdeal.Value
public import proofs.«01_k».proof.Proof.Gen.RefMlpIdeal
public import proofs.«01_k».proof.Proof.Gen.RefMlpIdeal.Run
public import proofs.«01_k».proof.Proof.Gen.Inproj
public import proofs.«01_k».proof.Proof.Gen.Inproj.Frame
public import proofs.«01_k».proof.Proof.Gen.InprojIdeal
public import proofs.«01_k».proof.Proof.Gen.InprojIdeal.Value
public import proofs.«01_k».proof.Proof.Gen.RefInIdeal
public import proofs.«01_k».proof.Proof.Gen.RefInIdeal.Run
public import proofs.«01_k».proof.Proof.InClaim
public import proofs.«01_k».proof.Proof.SwaRef
public import proofs.«01_k».proof.Proof.MlpArray
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference of the merge-and-MLP call runs to its end, keeps its arguments and leaves every semaphore at zero. -/
theorem frame_mlp_ref : Cert.quiescent_RefMlpIdeal := fun m ρ _ =>
  (θ_run Cert.RefMlpIdeal.defs _ _).mono (fun r h => ⟨fun c => (h c).2, sem_eq_zero_of_no_sems (by decide) r.2⟩)
    (Cert.RefMlpIdeal.Value.run (F := Ideal) m ρ)

/-- The merge-and-MLP call at the ideal semantics leaves in its result array what the reference leaves in its own,
    for all arguments. -/
theorem algebraic_mlp : Cert.algebraic_MlpIdeal_RefMlpIdeal := by
  intro m ρ m' ρ' _ hagree
  refine ⟨fun c => Cert.MlpIdeal.Array.G m c, ?_, ?_⟩
  · exact (θ_run Cert.MlpIdeal.defs _ _).mono (fun r h c => ⟨(h c).1.trans (Cert.MlpIdeal.Array.final m c), (h c).2⟩)
      (Cert.MlpIdeal.Value.run_blocks m ρ)
  · refine (θ_run Cert.RefMlpIdeal.defs _ _).mono (fun _ h c => ⟨(h c).1.trans ?_, (h c).2⟩)
      (Cert.RefMlpIdeal.Value.run (F := Ideal) m' ρ')
    obtain ⟨h0, h1, h2, h3, h4, h5, h6, h7, h8, h9⟩ := hagree c
    refine (Cert.RefMlpIdeal.Stages.res_eq m' c).trans ?_
    rw [h0, h1, h2, h3, h4, h5, h6, h7, h8, h9]
    rfl

/-- The reference of the attention's second branch runs to its end, keeps its arguments and leaves every semaphore at
    zero. -/
theorem frame_swa_ref : Cert.quiescent_RefIdeal := fun m ρ _ =>
  (θ_run Cert.RefIdeal.defs _ _).mono (fun r h => ⟨fun c => (h c).2, sem_eq_zero_of_no_sems (by decide) r.2⟩)
    (Cert.RefIdeal.Stages.res_whole m ρ)

/-- The idealized attention call is the printed one with the mask's constant named. -/
theorem preserves_swa : Cert.preserves_Kernel_KernelIdeal :=
  IdealRules.named_const.statement Cert.KernelIdeal.κ "mask" .f32 0xF149F2CA#32 ⊥ rfl

/-- The attention call at the ideal semantics leaves in its second result array what the reference leaves in its own,
    for all arguments. -/
theorem algebraic_swa : Cert.algebraic_KernelIdeal_RefIdeal := by
  intro m ρ m' ρ' _ hagree
  refine ⟨fun c => Cert.KernelIdeal.Swa.G m c, ?_, ?_⟩
  · exact (θ_run Cert.KernelIdeal.defs _ _).mono (fun r h c => ⟨(h c).2.1.trans (Cert.KernelIdeal.Swa.final m c), (h c).2.2⟩)
      (Cert.KernelIdeal.Value.run_blocks m ρ)
  · refine (θ_run Cert.RefIdeal.defs _ _).mono (fun _ h c => ⟨(h c).1.trans ?_, (h c).2⟩) (Cert.RefIdeal.Stages.res_whole m' ρ')
    obtain ⟨h0, h1, h2, h3, h4, h5, h6, h7, h8, h9⟩ := hagree c
    refine (Cert.RefIdeal.Stages.whole_eq _ _ _ _ _).trans ?_
    rw [h1, h2, h7, h8, h9]
    rfl

theorem claim : Cert.Claim :=
  ⟨Cert.Kernel.Gen.facts, Cert.KernelIdeal.Gen.facts, Cert.RefIdeal.Gen.facts, Cert.Inproj.Gen.facts, Cert.InprojIdeal.Gen.facts, Cert.RefInIdeal.Gen.facts,
    Cert.Mlp.Gen.facts, Cert.MlpIdeal.Gen.facts, Cert.RefMlpIdeal.Gen.facts,
    fun m ρ _ => Cert.Kernel.Gen.frame m ρ, fun m ρ _ => Cert.KernelIdeal.Gen.frame m ρ, frame_swa_ref,
    fun m ρ _ => Cert.Inproj.Gen.frame m ρ, fun m ρ _ => Cert.InprojIdeal.Gen.frame m ρ, frame_in_ref,
    fun m ρ _ => Cert.Mlp.Gen.frame m ρ, fun m ρ _ => Cert.MlpIdeal.Gen.frame m ρ, frame_mlp_ref,
    preserves_swa, algebraic_swa, trivial, algebraic_in, trivial, algebraic_mlp⟩

end Cert.Proof

end
